-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_and_near [hPre_real_and_near : Cert.Pre_real_and_near.Facts] (m : (ℓ : Loc Cert.KernelIdeal.nD Cert.KernelIdeal.τ Cert.KernelIdeal.sig) → Buf (Elt Ideal) ℓ) : Prop :=
  ∀ c : Dev Cert.KernelIdeal.nD,
    (Cert.Pre_real_and_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_and_near [hPre_real_and_near : Cert.Pre_real_and_near.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_and_near.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_real_and_near [hKernelIdeal : Cert.KernelIdeal.Facts] [hPre_real_and_near : Cert.Pre_real_and_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_and_near m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_real_and_near [hReferenceIdeal : Cert.ReferenceIdeal.Facts] [hPre_real_and_near : Cert.Pre_real_and_near.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_and_near m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_real_and_near [hKernelIdeal : Cert.KernelIdeal.Facts] [hReferenceIdeal : Cert.ReferenceIdeal.Facts] [hPre_real_and_near : Cert.Pre_real_and_near.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_and_near m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_real_and_near : Cert.Pre_real_and_near.Facts),
    quiescent_Kernel (hKernel := hKernel)
    ∧ quiescent_KernelIdeal (hKernelIdeal := hKernelIdeal)
    ∧ quiescent_KernelIdeal_pre_real_and_near (hKernelIdeal := hKernelIdeal) (hPre_real_and_near := hPre_real_and_near)
    ∧ quiescent_ReferenceIdeal (hReferenceIdeal := hReferenceIdeal)
    ∧ quiescent_ReferenceIdeal_pre_real_and_near (hReferenceIdeal := hReferenceIdeal) (hPre_real_and_near := hPre_real_and_near)
    ∧ preserves_Kernel_KernelIdeal
    ∧ algebraic_KernelIdeal_ReferenceIdeal_pre_real_and_near (hKernelIdeal := hKernelIdeal) (hReferenceIdeal := hReferenceIdeal) (hPre_real_and_near := hPre_real_and_near)
-- ==== Pre_real_and_near.lean ====
abbrev S4x1024x512 : Shape := ⟨3, ![4, 1024, 512]⟩
abbrev S4x1024x3 : Shape := ⟨3, ![4, 1024, 3]⟩
abbrev S4x1024x1024 : Shape := ⟨3, ![4, 1024, 1024]⟩
abbrev S512x256 : Shape := ⟨2, ![512, 256]⟩
abbrev S256 : Shape := ⟨1, ![256]⟩
abbrev S512x128 : Shape := ⟨2, ![512, 128]⟩
abbrev S128 : Shape := ⟨1, ![128]⟩
abbrev S_ : Shape := ⟨0, ![]⟩
abbrev S4x1024 : Shape := ⟨2, ![4, 1024]⟩
abbrev S256x128 : Shape := ⟨2, ![256, 128]⟩

class Facts : Prop where
  bcast_S_S4x1024x1024 : S_.BroadcastsInDim S4x1024x1024 (![] : Fin 0 → Fin S4x1024x1024.rank)
  reducesTo_S4x1024x1024_S4x1024_d2 : S4x1024x1024.ReducesTo [2] S4x1024
  h_S_ : 0 < S_.numel
  bcast_S_S256 : S_.BroadcastsInDim S256 (![] : Fin 0 → Fin S256.rank)
  reducesTo_S256_S_d0 : S256.ReducesTo [0] S_
  slices_S512x128_S256x128_256_0 : S512x128.Slices ![256, 0] S256x128
  bcast_S_S256x128 : S_.BroadcastsInDim S256x128 (![] : Fin 0 → Fin S256x128.rank)
  reducesTo_S256x128_S_d0_1 : S256x128.ReducesTo [0, 1] S_
  bcast_S_S4x1024 : S_.BroadcastsInDim S4x1024 (![] : Fin 0 → Fin S4x1024.rank)

variable [Facts]

def fn {F : FTy → Type} [FloatOps F] (main_arg0 : FVec F S4x1024x512 .f32) (main_arg1 : FVec F S4x1024x3 .f32) (main_arg2 : FVec F S4x1024x1024 .f32) (main_arg3 : FVec F S512x256 .f32) (main_arg4 : FVec F S256 .f32) (main_arg5 : FVec F S256 .f32) (main_arg6 : FVec F S256 .f32) (main_arg7 : FVec F S512x128 .f32) (main_arg8 : FVec F S128 .f32) (main_arg9 : FVec F S128 .f32) (main_arg10 : FVec F S128 .f32) : IVec S4x1024 1 :=
  let main_cst : FVec F S_ .f32 := constant S_ .f32 0x3D04B5DD#32
  let main_v0 : FVec F S4x1024x1024 .f32 := broadcastInDim S4x1024x1024 ![] bcast_S_S4x1024x1024 main_cst
  let main_v1 : IVec S4x1024x1024 1 := cmpf .ole main_arg2 main_v0
  let main_c : IVec S_ 1 := constantI S_ 1 0#1
  let main_v2 : IVec S4x1024 1 := (fun x v => Host.reduce IntOp.ori x v reducesTo_S4x1024x1024_S4x1024_d2 h_S_) main_v1 main_c
  let main_v3 : FVec F S256 .f32 := Host.absf main_arg5
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_c_1 : IVec S_ 1 := constantI S_ 1 1#1
  let main_v6 : IVec S_ 1 := (fun x v => Host.reduce IntOp.andi x v reducesTo_S256_S_d0 h_S_) main_v5 main_c_1
  let main_v7 : FVec F S256x128 .f32 := (extractStridedSlice S256x128 ![256, 0] · slices_S512x128_S256x128_256_0) main_arg7
  let main_v8 : FVec F S256x128 .f32 := Host.absf main_v7
  let main_cst_2 : FVec F S_ .f32 := constant S_ .f32 0x7F800000#32
  let main_v9 : FVec F S256x128 .f32 := broadcastInDim S256x128 ![] bcast_S_S256x128 main_cst_2
  let main_v10 : IVec S256x128 1 := cmpf .olt main_v8 main_v9
  let main_c_3 : IVec S_ 1 := constantI S_ 1 1#1
  let main_v11 : IVec S_ 1 := (fun x v => Host.reduce IntOp.andi x v reducesTo_S256x128_S_d0_1 h_S_) main_v10 main_c_3
  let main_v12 : IVec S_ 1 := andi main_v6 main_v11
  let main_v13 : IVec S4x1024 1 := broadcastInDim S4x1024 ![] bcast_S_S4x1024 main_v12
  let main_v14 : IVec S4x1024 1 := andi main_v2 main_v13
  main_v14
-- ==== Kernel.lean ====
abbrev S4x1024x512 : Shape := ⟨3, ![4, 1024, 512]⟩
abbrev S4x1024x3 : Shape := ⟨3, ![4, 1024, 3]⟩
abbrev S4x1024x1024 : Shape := ⟨3, ![4, 1024, 1024]⟩
abbrev S512x256 : Shape := ⟨2, ![512, 256]⟩
abbrev S256 : Shape := ⟨1, ![256]⟩
abbrev S512x128 : Shape := ⟨2, ![512, 128]⟩
abbrev S128 : Shape := ⟨1, ![128]⟩
abbrev S256x128 : Shape := ⟨2, ![256, 128]⟩
abbrev S256x256 : Shape := ⟨2, ![256, 256]⟩
abbrev S_ : Shape := ⟨0, ![]⟩
abbrev S4x1024x256 : Shape := ⟨3, ![4, 1024, 256]⟩
abbrev S1x1024x512 : Shape := ⟨3, ![1, 1024, 512]⟩
abbrev S1x1024x256 : Shape := ⟨3, ![1, 1024, 256]⟩
abbrev S1024x512 : Shape := ⟨2, ![1024, 512]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩
abbrev S4x1024x128 : Shape := ⟨3, ![4, 1024, 128]⟩
abbrev S4096x128 : Shape := ⟨2, ![4096, 128]⟩
abbrev S4096x1024 : Shape := ⟨2, ![4096, 1024]⟩
abbrev S131072x128 : Shape := ⟨2, ![131072, 128]⟩
abbrev S8x1024 : Shape := ⟨2, ![8, 1024]⟩
abbrev S32 : Shape := ⟨1, ![32]⟩
abbrev S16 : Shape := ⟨1, ![16]⟩
abbrev S1x16 : Shape := ⟨2, ![1, 16]⟩
abbrev S16x128 : Shape := ⟨2, ![16, 128]⟩
abbrev S4096x256 : Shape := ⟨2, ![4096, 256]⟩
abbrev S128x128 : Shape := ⟨2, ![128, 128]⟩
abbrev S128x256 : Shape := ⟨2, ![128, 256]⟩
abbrev S128x1x128 : Shape := ⟨3, ![128, 1, 128]⟩
abbrev S128x32x128 : Shape := ⟨3, ![128, 32, 128]⟩
abbrev S128x32 : Shape := ⟨2, ![128, 32]⟩
abbrev S128x32x1 : Shape := ⟨3, ![128, 32, 1]⟩
abbrev S1x1x128 : Shape := ⟨3, ![1, 1, 128]⟩

abbrev nBuf : Table → Nat
  | .hbm => 27
  | .local .tc .vmem => 18
  | .local .scVector .vmem => 5
  | _ => 0

abbrev bufTy : (tb : Table) → Fin (nBuf tb) → BufTy
  | .hbm, ⟨0, _⟩ => ⟨S4x1024x512, .f32⟩
  | .hbm, ⟨1, _⟩ => ⟨S4x1024x3, .f32⟩
  | .hbm, ⟨2, _⟩ => ⟨S4x1024x1024, .f32⟩
  | .hbm, ⟨3, _⟩ => ⟨S512x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S512x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S256x256, .f32⟩
  | .hbm, ⟨15, _⟩ => ⟨S_, .f32⟩
  | .hbm, ⟨16, _⟩ => ⟨S128, .f32⟩
  | .hbm, ⟨17, _⟩ => ⟨S256, .f32⟩
  | .hbm, ⟨18, _⟩ => ⟨S4x1024x256, .f32⟩
  | .hbm, ⟨19, _⟩ => ⟨S4x1024x128, .f32⟩
  | .hbm, ⟨20, _⟩ => ⟨S4096x128, .f32⟩
  | .hbm, ⟨21, _⟩ => ⟨S4x1024x128, .f32⟩
  | .hbm, ⟨22, _⟩ => ⟨S4096x128, .f32⟩
  | .hbm, ⟨23, _⟩ => ⟨S4096x1024, .f32⟩
  | .hbm, ⟨24, _⟩ => ⟨S131072x128, .f32⟩
  | .hbm, ⟨25, _⟩ => ⟨S4096x256, .f32⟩
  | .hbm, ⟨26, _⟩ => ⟨S4x1024x256, .f32⟩
  | .local .tc .vmem, ⟨0, _⟩ => ⟨S1x1024x512, .f32⟩
  | .local .tc .vmem, ⟨1, _⟩ => ⟨S1x1024x512, .f32⟩
  | .local .tc .vmem, ⟨2, _⟩ => ⟨S512x256, .f32⟩
  | .local .tc .vmem, ⟨3, _⟩ => ⟨S256, .f32⟩
  | .local .tc .vmem, ⟨4, _⟩ => ⟨S256, .f32⟩
  | .local .tc .vmem, ⟨5, _⟩ => ⟨S256, .f32⟩
  | .local .tc .vmem, ⟨6, _⟩ => ⟨S256x256, .f32⟩
  | .local .tc .vmem, ⟨7, _⟩ => ⟨S256, .f32⟩
  | .local .tc .vmem, ⟨8, _⟩ => ⟨S1x1024x256, .f32⟩
  | .local .tc .vmem, ⟨9, _⟩ => ⟨S1x1024x256, .f32⟩
  | .local .tc .vmem, ⟨10, _⟩ => ⟨S128x128, .f32⟩
  | .local .tc .vmem, ⟨11, _⟩ => ⟨S128x128, .f32⟩
  | .local .tc .vmem, ⟨12, _⟩ => ⟨S4096x128, .f32⟩
  | .local .tc .vmem, ⟨13, _⟩ => ⟨S4096x128, .f32⟩
  | .local .tc .vmem, ⟨14, _⟩ => ⟨S128, .f32⟩
  | .local .tc .vmem, ⟨15, _⟩ => ⟨S128, .f32⟩
  | .local .tc .vmem, ⟨16, _⟩ => ⟨S128x256, .f32⟩
  | .local .tc .vmem, ⟨17, _⟩ => ⟨S128x256, .f32⟩
  | .local .scVector .vmem, ⟨0, _⟩ => ⟨S8x1024, .f32⟩
  | .local .scVector .vmem, ⟨1, _⟩ => ⟨S256x128, .f32⟩
  | .local .scVector .vmem, ⟨2, _⟩ => ⟨S1024, .i32⟩
  | .local .scVector .vmem, ⟨3, _⟩ => ⟨S32, .i32⟩
  | .local .scVector .vmem, ⟨4, _⟩ => ⟨S256, .i32⟩
  | _, _ => ⟨S4x1024x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v11_scv : Ref sig .scVector := ⟨.hbm, 23, rfl⟩
abbrev main_v10_scv : Ref sig .scVector := ⟨.hbm, 22, rfl⟩
abbrev main_v12_scv : Ref sig .scVector := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_chk1 (v279 : IVec S16 32) : Prop :=
  (∀ a x, ((![v279] : Fin 1 → IVec S16 32) a x).toNat < S1024.size a)
theorem k1_idx1_inb : ∀ (v279 : IVec S16 32) (k1_hw1 : k1_chk1 v279), ∀ a x, ((![v279] : Fin 1 → IVec S16 32) a x).toNat < S1024.size a := fun v279 k1_hw1 => k1_hw1
@[reducible] def k1_t1_loop : Scf.Loop 32 :=
  let c0_i32_8 : BitVec 32 := 0#32
  let c16_i32_9 : BitVec 32 := 16#32
  let v281 : BitVec 32 := Scalar.addi c0_i32_8 c16_i32_9
  let c1_i32_10 : BitVec 32 := 1#32
  ⟨c0_i32_8, v281, c1_i32_10⟩
def k1_off1 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_8 : BitVec 32 := 0#32
  let c1_i32_10 : BitVec 32 := 1#32
  let arg11 : BitVec 32 := Scf.iv c0_i32_8 c1_i32_10 k1_t1
  let c8_i32_12 : BitVec 32 := 8#32
  let v283 : BitVec 32 := Scalar.muli arg11 c8_i32_12
  let v284 : BitVec 32 := Scalar.addi v2 v283
  let c0_i32_4328_r0 : BitVec 32 := 0#32
  ![v284.toNat, 0]

def k1_chk2 (v299 : IVec S16 32) : Prop :=
  (∀ a x, ((![v299] : Fin 1 → IVec S16 32) a x).toNat < S32.size a)
theorem k1_idx2_inb : ∀ (v299 : IVec S16 32) (k1_hw2 : k1_chk2 v299), ∀ a x, ((![v299] : Fin 1 → IVec S16 32) a x).toNat < S32.size a := fun v299 k1_hw2 => k1_hw2

def k1_chk3 (v319 : IVec S16 32) : Prop :=
  (∀ a x, ((![v319] : Fin 1 → IVec S16 32) a x).toNat < S32.size a)
theorem k1_idx3_inb : ∀ (v319 : IVec S16 32) (k1_hw3 : k1_chk3 v319), ∀ a x, ((![v319] : Fin 1 → IVec S16 32) a x).toNat < S32.size a := fun v319 k1_hw3 => k1_hw3

def k1_chk4 (v339 : IVec S16 32) : Prop :=
  (∀ a x, ((![v339] : Fin 1 → IVec S16 32) a x).toNat < S32.size a)
theorem k1_idx4_inb : ∀ (v339 : IVec S16 32) (k1_hw4 : k1_chk4 v339), ∀ a x, ((![v339] : Fin 1 → IVec S16 32) a x).toNat < S32.size a := fun v339 k1_hw4 => k1_hw4

def k1_chk5 (v359 : IVec S16 32) : Prop :=
  (∀ a x, ((![v359] : Fin 1 → IVec S16 32) a x).toNat < S32.size a)
theorem k1_idx5_inb : ∀ (v359 : IVec S16 32) (k1_hw5 : k1_chk5 v359), ∀ a x, ((![v359] : Fin 1 → IVec S16 32) a x).toNat < S32.size a := fun v359 k1_hw5 => k1_hw5

def k1_chk6 (v379 : IVec S16 32) : Prop :=
  (∀ a x, ((![v379] : Fin 1 → IVec S16 32) a x).toNat < S32.size a)
theorem k1_idx6_inb : ∀ (v379 : IVec S16 32) (k1_hw6 : k1_chk6 v379), ∀ a x, ((![v379] : Fin 1 → IVec S16 32) a x).toNat < S32.size a := fun v379 k1_hw6 => k1_hw6

def k1_chk7 (v399 : IVec S16 32) : Prop :=
  (∀ a x, ((![v399] : Fin 1 → IVec S16 32) a x).toNat < S32.size a)
theorem k1_idx7_inb : ∀ (v399 : IVec S16 32) (k1_hw7 : k1_chk7 v399), ∀ a x, ((![v399] : Fin 1 → IVec S16 32) a x).toNat < S32.size a := fun v399 k1_hw7 => k1_hw7

def k1_chk8 (v419 : IVec S16 32) : Prop :=
  (∀ a x, ((![v419] : Fin 1 → IVec S16 32) a x).toNat < S32.size a)
theorem k1_idx8_inb : ∀ (v419 : IVec S16 32) (k1_hw8 : k1_chk8 v419), ∀ a x, ((![v419] : Fin 1 → IVec S16 32) a x).toNat < S32.size a := fun v419 k1_hw8 => k1_hw8

def k1_chk9 (v439 : IVec S16 32) : Prop :=
  (∀ a x, ((![v439] : Fin 1 → IVec S16 32) a x).toNat < S32.size a)
theorem k1_idx9_inb : ∀ (v439 : IVec S16 32) (k1_hw9 : k1_chk9 v439), ∀ a x, ((![v439] : Fin 1 → IVec S16 32) a x).toNat < S32.size a := fun v439 k1_hw9 => k1_hw9

def k1_chk10 (v459 : IVec S16 32) : Prop :=
  (∀ a x, ((![v459] : Fin 1 → IVec S16 32) a x).toNat < S32.size a)
theorem k1_idx10_inb : ∀ (v459 : IVec S16 32) (k1_hw10 : k1_chk10 v459), ∀ a x, ((![v459] : Fin 1 → IVec S16 32) a x).toNat < S32.size a := fun v459 k1_hw10 => k1_hw10

def k1_chk11 (v479 : IVec S16 32) : Prop :=
  (∀ a x, ((![v479] : Fin 1 → IVec S16 32) a x).toNat < S32.size a)
theorem k1_idx11_inb : ∀ (v479 : IVec S16 32) (k1_hw11 : k1_chk11 v479), ∀ a x, ((![v479] : Fin 1 → IVec S16 32) a x).toNat < S32.size a := fun v479 k1_hw11 => k1_hw11

def k1_chk12 (v499 : IVec S16 32) : Prop :=
  (∀ a x, ((![v499] : Fin 1 → IVec S16 32) a x).toNat < S32.size a)
theorem k1_idx12_inb : ∀ (v499 : IVec S16 32) (k1_hw12 : k1_chk12 v499), ∀ a x, ((![v499] : Fin 1 → IVec S16 32) a x).toNat < S32.size a := fun v499 k1_hw12 => k1_hw12

def k1_chk13 (v519 : IVec S16 32) : Prop :=
  (∀ a x, ((![v519] : Fin 1 → IVec S16 32) a x).toNat < S32.size a)
theorem k1_idx13_inb : ∀ (v519 : IVec S16 32) (k1_hw13 : k1_chk13 v519), ∀ a x, ((![v519] : Fin 1 → IVec S16 32) a x).toNat < S32.size a := fun v519 k1_hw13 => k1_hw13

def k1_chk14 (v539 : IVec S16 32) : Prop :=
  (∀ a x, ((![v539] : Fin 1 → IVec S16 32) a x).toNat < S32.size a)
theorem k1_idx14_inb : ∀ (v539 : IVec S16 32) (k1_hw14 : k1_chk14 v539), ∀ a x, ((![v539] : Fin 1 → IVec S16 32) a x).toNat < S32.size a := fun v539 k1_hw14 => k1_hw14

def k1_chk15 (v559 : IVec S16 32) : Prop :=
  (∀ a x, ((![v559] : Fin 1 → IVec S16 32) a x).toNat < S32.size a)
theorem k1_idx15_inb : ∀ (v559 : IVec S16 32) (k1_hw15 : k1_chk15 v559), ∀ a x, ((![v559] : Fin 1 → IVec S16 32) a x).toNat < S32.size a := fun v559 k1_hw15 => k1_hw15

def k1_chk16 (v579 : IVec S16 32) : Prop :=
  (∀ a x, ((![v579] : Fin 1 → IVec S16 32) a x).toNat < S32.size a)
theorem k1_idx16_inb : ∀ (v579 : IVec S16 32) (k1_hw16 : k1_chk16 v579), ∀ a x, ((![v579] : Fin 1 → IVec S16 32) a x).toNat < S32.size a := fun v579 k1_hw16 => k1_hw16

def k1_chk17 (v599 : IVec S16 32) : Prop :=
  (∀ a x, ((![v599] : Fin 1 → IVec S16 32) a x).toNat < S32.size a)
theorem k1_idx17_inb : ∀ (v599 : IVec S16 32) (k1_hw17 : k1_chk17 v599), ∀ a x, ((![v599] : Fin 1 → IVec S16 32) a x).toNat < S32.size a := fun v599 k1_hw17 => k1_hw17

def k1_chk18 (v619 : IVec S16 32) : Prop :=
  (∀ a x, ((![v619] : Fin 1 → IVec S16 32) a x).toNat < S32.size a)
theorem k1_idx18_inb : ∀ (v619 : IVec S16 32) (k1_hw18 : k1_chk18 v619), ∀ a x, ((![v619] : Fin 1 → IVec S16 32) a x).toNat < S32.size a := fun v619 k1_hw18 => k1_hw18

def k1_chk19 (v639 : IVec S16 32) : Prop :=
  (∀ a x, ((![v639] : Fin 1 → IVec S16 32) a x).toNat < S32.size a)
theorem k1_idx19_inb : ∀ (v639 : IVec S16 32) (k1_hw19 : k1_chk19 v639), ∀ a x, ((![v639] : Fin 1 → IVec S16 32) a x).toNat < S32.size a := fun v639 k1_hw19 => k1_hw19

def k1_chk20 (v659 : IVec S16 32) : Prop :=
  (∀ a x, ((![v659] : Fin 1 → IVec S16 32) a x).toNat < S32.size a)
theorem k1_idx20_inb : ∀ (v659 : IVec S16 32) (k1_hw20 : k1_chk20 v659), ∀ a x, ((![v659] : Fin 1 → IVec S16 32) a x).toNat < S32.size a := fun v659 k1_hw20 => k1_hw20

def k1_chk21 (v679 : IVec S16 32) : Prop :=
  (∀ a x, ((![v679] : Fin 1 → IVec S16 32) a x).toNat < S32.size a)
theorem k1_idx21_inb : ∀ (v679 : IVec S16 32) (k1_hw21 : k1_chk21 v679), ∀ a x, ((![v679] : Fin 1 → IVec S16 32) a x).toNat < S32.size a := fun v679 k1_hw21 => k1_hw21

def k1_chk22 (v699 : IVec S16 32) : Prop :=
  (∀ a x, ((![v699] : Fin 1 → IVec S16 32) a x).toNat < S32.size a)
theorem k1_idx22_inb : ∀ (v699 : IVec S16 32) (k1_hw22 : k1_chk22 v699), ∀ a x, ((![v699] : Fin 1 → IVec S16 32) a x).toNat < S32.size a := fun v699 k1_hw22 => k1_hw22

def k1_chk23 (v719 : IVec S16 32) : Prop :=
  (∀ a x, ((![v719] : Fin 1 → IVec S16 32) a x).toNat < S32.size a)
theorem k1_idx23_inb : ∀ (v719 : IVec S16 32) (k1_hw23 : k1_chk23 v719), ∀ a x, ((![v719] : Fin 1 → IVec S16 32) a x).toNat < S32.size a := fun v719 k1_hw23 => k1_hw23

def k1_chk24 (v739 : IVec S16 32) : Prop :=
  (∀ a x, ((![v739] : Fin 1 → IVec S16 32) a x).toNat < S32.size a)
theorem k1_idx24_inb : ∀ (v739 : IVec S16 32) (k1_hw24 : k1_chk24 v739), ∀ a x, ((![v739] : Fin 1 → IVec S16 32) a x).toNat < S32.size a := fun v739 k1_hw24 => k1_hw24

def k1_chk25 (v759 : IVec S16 32) : Prop :=
  (∀ a x, ((![v759] : Fin 1 → IVec S16 32) a x).toNat < S32.size a)
theorem k1_idx25_inb : ∀ (v759 : IVec S16 32) (k1_hw25 : k1_chk25 v759), ∀ a x, ((![v759] : Fin 1 → IVec S16 32) a x).toNat < S32.size a := fun v759 k1_hw25 => k1_hw25

def k1_chk26 (v779 : IVec S16 32) : Prop :=
  (∀ a x, ((![v779] : Fin 1 → IVec S16 32) a x).toNat < S32.size a)
theorem k1_idx26_inb : ∀ (v779 : IVec S16 32) (k1_hw26 : k1_chk26 v779), ∀ a x, ((![v779] : Fin 1 → IVec S16 32) a x).toNat < S32.size a := fun v779 k1_hw26 => k1_hw26

def k1_chk27 (v799 : IVec S16 32) : Prop :=
  (∀ a x, ((![v799] : Fin 1 → IVec S16 32) a x).toNat < S32.size a)
theorem k1_idx27_inb : ∀ (v799 : IVec S16 32) (k1_hw27 : k1_chk27 v799), ∀ a x, ((![v799] : Fin 1 → IVec S16 32) a x).toNat < S32.size a := fun v799 k1_hw27 => k1_hw27

def k1_chk28 (v819 : IVec S16 32) : Prop :=
  (∀ a x, ((![v819] : Fin 1 → IVec S16 32) a x).toNat < S32.size a)
theorem k1_idx28_inb : ∀ (v819 : IVec S16 32) (k1_hw28 : k1_chk28 v819), ∀ a x, ((![v819] : Fin 1 → IVec S16 32) a x).toNat < S32.size a := fun v819 k1_hw28 => k1_hw28

def k1_chk29 (v839 : IVec S16 32) : Prop :=
  (∀ a x, ((![v839] : Fin 1 → IVec S16 32) a x).toNat < S32.size a)
theorem k1_idx29_inb : ∀ (v839 : IVec S16 32) (k1_hw29 : k1_chk29 v839), ∀ a x, ((![v839] : Fin 1 → IVec S16 32) a x).toNat < S32.size a := fun v839 k1_hw29 => k1_hw29

def k1_chk30 (v859 : IVec S16 32) : Prop :=
  (∀ a x, ((![v859] : Fin 1 → IVec S16 32) a x).toNat < S32.size a)
theorem k1_idx30_inb : ∀ (v859 : IVec S16 32) (k1_hw30 : k1_chk30 v859), ∀ a x, ((![v859] : Fin 1 → IVec S16 32) a x).toNat < S32.size a := fun v859 k1_hw30 => k1_hw30

def k1_chk31 (v879 : IVec S16 32) : Prop :=
  (∀ a x, ((![v879] : Fin 1 → IVec S16 32) a x).toNat < S32.size a)
theorem k1_idx31_inb : ∀ (v879 : IVec S16 32) (k1_hw31 : k1_chk31 v879), ∀ a x, ((![v879] : Fin 1 → IVec S16 32) a x).toNat < S32.size a := fun v879 k1_hw31 => k1_hw31

def k1_chk32 (v899 : IVec S16 32) : Prop :=
  (∀ a x, ((![v899] : Fin 1 → IVec S16 32) a x).toNat < S32.size a)
theorem k1_idx32_inb : ∀ (v899 : IVec S16 32) (k1_hw32 : k1_chk32 v899), ∀ a x, ((![v899] : Fin 1 → IVec S16 32) a x).toNat < S32.size a := fun v899 k1_hw32 => k1_hw32

def k1_chk33 (v919 : IVec S16 32) : Prop :=
  (∀ a x, ((![v919] : Fin 1 → IVec S16 32) a x).toNat < S32.size a)
theorem k1_idx33_inb : ∀ (v919 : IVec S16 32) (k1_hw33 : k1_chk33 v919), ∀ a x, ((![v919] : Fin 1 → IVec S16 32) a x).toNat < S32.size a := fun v919 k1_hw33 => k1_hw33

def k1_chk34 (v939 : IVec S16 32) : Prop :=
  (∀ a x, ((![v939] : Fin 1 → IVec S16 32) a x).toNat < S32.size a)
theorem k1_idx34_inb : ∀ (v939 : IVec S16 32) (k1_hw34 : k1_chk34 v939), ∀ a x, ((![v939] : Fin 1 → IVec S16 32) a x).toNat < S32.size a := fun v939 k1_hw34 => k1_hw34

def k1_chk35 (v959 : IVec S16 32) : Prop :=
  (∀ a x, ((![v959] : Fin 1 → IVec S16 32) a x).toNat < S32.size a)
theorem k1_idx35_inb : ∀ (v959 : IVec S16 32) (k1_hw35 : k1_chk35 v959), ∀ a x, ((![v959] : Fin 1 → IVec S16 32) a x).toNat < S32.size a := fun v959 k1_hw35 => k1_hw35

def k1_chk36 (v979 : IVec S16 32) : Prop :=
  (∀ a x, ((![v979] : Fin 1 → IVec S16 32) a x).toNat < S32.size a)
theorem k1_idx36_inb : ∀ (v979 : IVec S16 32) (k1_hw36 : k1_chk36 v979), ∀ a x, ((![v979] : Fin 1 → IVec S16 32) a x).toNat < S32.size a := fun v979 k1_hw36 => k1_hw36

def k1_chk37 (v999 : IVec S16 32) : Prop :=
  (∀ a x, ((![v999] : Fin 1 → IVec S16 32) a x).toNat < S32.size a)
theorem k1_idx37_inb : ∀ (v999 : IVec S16 32) (k1_hw37 : k1_chk37 v999), ∀ a x, ((![v999] : Fin 1 → IVec S16 32) a x).toNat < S32.size a := fun v999 k1_hw37 => k1_hw37

def k1_chk38 (v1019 : IVec S16 32) : Prop :=
  (∀ a x, ((![v1019] : Fin 1 → IVec S16 32) a x).toNat < S32.size a)
theorem k1_idx38_inb : ∀ (v1019 : IVec S16 32) (k1_hw38 : k1_chk38 v1019), ∀ a x, ((![v1019] : Fin 1 → IVec S16 32) a x).toNat < S32.size a := fun v1019 k1_hw38 => k1_hw38

def k1_chk39 (v1039 : IVec S16 32) : Prop :=
  (∀ a x, ((![v1039] : Fin 1 → IVec S16 32) a x).toNat < S32.size a)
theorem k1_idx39_inb : ∀ (v1039 : IVec S16 32) (k1_hw39 : k1_chk39 v1039), ∀ a x, ((![v1039] : Fin 1 → IVec S16 32) a x).toNat < S32.size a := fun v1039 k1_hw39 => k1_hw39

def k1_chk40 (v1059 : IVec S16 32) : Prop :=
  (∀ a x, ((![v1059] : Fin 1 → IVec S16 32) a x).toNat < S32.size a)
theorem k1_idx40_inb : ∀ (v1059 : IVec S16 32) (k1_hw40 : k1_chk40 v1059), ∀ a x, ((![v1059] : Fin 1 → IVec S16 32) a x).toNat < S32.size a := fun v1059 k1_hw40 => k1_hw40

def k1_chk41 (v1079 : IVec S16 32) : Prop :=
  (∀ a x, ((![v1079] : Fin 1 → IVec S16 32) a x).toNat < S32.size a)
theorem k1_idx41_inb : ∀ (v1079 : IVec S16 32) (k1_hw41 : k1_chk41 v1079), ∀ a x, ((![v1079] : Fin 1 → IVec S16 32) a x).toNat < S32.size a := fun v1079 k1_hw41 => k1_hw41

def k1_chk42 (v1099 : IVec S16 32) : Prop :=
  (∀ a x, ((![v1099] : Fin 1 → IVec S16 32) a x).toNat < S32.size a)
theorem k1_idx42_inb : ∀ (v1099 : IVec S16 32) (k1_hw42 : k1_chk42 v1099), ∀ a x, ((![v1099] : Fin 1 → IVec S16 32) a x).toNat < S32.size a := fun v1099 k1_hw42 => k1_hw42

def k1_chk43 (v1119 : IVec S16 32) : Prop :=
  (∀ a x, ((![v1119] : Fin 1 → IVec S16 32) a x).toNat < S32.size a)
theorem k1_idx43_inb : ∀ (v1119 : IVec S16 32) (k1_hw43 : k1_chk43 v1119), ∀ a x, ((![v1119] : Fin 1 → IVec S16 32) a x).toNat < S32.size a := fun v1119 k1_hw43 => k1_hw43

def k1_chk44 (v1139 : IVec S16 32) : Prop :=
  (∀ a x, ((![v1139] : Fin 1 → IVec S16 32) a x).toNat < S32.size a)
theorem k1_idx44_inb : ∀ (v1139 : IVec S16 32) (k1_hw44 : k1_chk44 v1139), ∀ a x, ((![v1139] : Fin 1 → IVec S16 32) a x).toNat < S32.size a := fun v1139 k1_hw44 => k1_hw44

def k1_chk45 (v1159 : IVec S16 32) : Prop :=
  (∀ a x, ((![v1159] : Fin 1 → IVec S16 32) a x).toNat < S32.size a)
theorem k1_idx45_inb : ∀ (v1159 : IVec S16 32) (k1_hw45 : k1_chk45 v1159), ∀ a x, ((![v1159] : Fin 1 → IVec S16 32) a x).toNat < S32.size a := fun v1159 k1_hw45 => k1_hw45

def k1_chk46 (v1179 : IVec S16 32) : Prop :=
  (∀ a x, ((![v1179] : Fin 1 → IVec S16 32) a x).toNat < S32.size a)
theorem k1_idx46_inb : ∀ (v1179 : IVec S16 32) (k1_hw46 : k1_chk46 v1179), ∀ a x, ((![v1179] : Fin 1 → IVec S16 32) a x).toNat < S32.size a := fun v1179 k1_hw46 => k1_hw46

def k1_chk47 (v1199 : IVec S16 32) : Prop :=
  (∀ a x, ((![v1199] : Fin 1 → IVec S16 32) a x).toNat < S32.size a)
theorem k1_idx47_inb : ∀ (v1199 : IVec S16 32) (k1_hw47 : k1_chk47 v1199), ∀ a x, ((![v1199] : Fin 1 → IVec S16 32) a x).toNat < S32.size a := fun v1199 k1_hw47 => k1_hw47

def k1_chk48 (v1219 : IVec S16 32) : Prop :=
  (∀ a x, ((![v1219] : Fin 1 → IVec S16 32) a x).toNat < S32.size a)
theorem k1_idx48_inb : ∀ (v1219 : IVec S16 32) (k1_hw48 : k1_chk48 v1219), ∀ a x, ((![v1219] : Fin 1 → IVec S16 32) a x).toNat < S32.size a := fun v1219 k1_hw48 => k1_hw48

def k1_chk49 (v1239 : IVec S16 32) : Prop :=
  (∀ a x, ((![v1239] : Fin 1 → IVec S16 32) a x).toNat < S32.size a)
theorem k1_idx49_inb : ∀ (v1239 : IVec S16 32) (k1_hw49 : k1_chk49 v1239), ∀ a x, ((![v1239] : Fin 1 → IVec S16 32) a x).toNat < S32.size a := fun v1239 k1_hw49 => k1_hw49

def k1_chk50 (v1259 : IVec S16 32) : Prop :=
  (∀ a x, ((![v1259] : Fin 1 → IVec S16 32) a x).toNat < S32.size a)
theorem k1_idx50_inb : ∀ (v1259 : IVec S16 32) (k1_hw50 : k1_chk50 v1259), ∀ a x, ((![v1259] : Fin 1 → IVec S16 32) a x).toNat < S32.size a := fun v1259 k1_hw50 => k1_hw50

def k1_chk51 (v1279 : IVec S16 32) : Prop :=
  (∀ a x, ((![v1279] : Fin 1 → IVec S16 32) a x).toNat < S32.size a)
theorem k1_idx51_inb : ∀ (v1279 : IVec S16 32) (k1_hw51 : k1_chk51 v1279), ∀ a x, ((![v1279] : Fin 1 → IVec S16 32) a x).toNat < S32.size a := fun v1279 k1_hw51 => k1_hw51

def k1_chk52 (v1299 : IVec S16 32) : Prop :=
  (∀ a x, ((![v1299] : Fin 1 → IVec S16 32) a x).toNat < S32.size a)
theorem k1_idx52_inb : ∀ (v1299 : IVec S16 32) (k1_hw52 : k1_chk52 v1299), ∀ a x, ((![v1299] : Fin 1 → IVec S16 32) a x).toNat < S32.size a := fun v1299 k1_hw52 => k1_hw52

def k1_chk53 (v1319 : IVec S16 32) : Prop :=
  (∀ a x, ((![v1319] : Fin 1 → IVec S16 32) a x).toNat < S32.size a)
theorem k1_idx53_inb : ∀ (v1319 : IVec S16 32) (k1_hw53 : k1_chk53 v1319), ∀ a x, ((![v1319] : Fin 1 → IVec S16 32) a x).toNat < S32.size a := fun v1319 k1_hw53 => k1_hw53

def k1_chk54 (v1339 : IVec S16 32) : Prop :=
  (∀ a x, ((![v1339] : Fin 1 → IVec S16 32) a x).toNat < S32.size a)
theorem k1_idx54_inb : ∀ (v1339 : IVec S16 32) (k1_hw54 : k1_chk54 v1339), ∀ a x, ((![v1339] : Fin 1 → IVec S16 32) a x).toNat < S32.size a := fun v1339 k1_hw54 => k1_hw54

def k1_chk55 (v1359 : IVec S16 32) : Prop :=
  (∀ a x, ((![v1359] : Fin 1 → IVec S16 32) a x).toNat < S32.size a)
theorem k1_idx55_inb : ∀ (v1359 : IVec S16 32) (k1_hw55 : k1_chk55 v1359), ∀ a x, ((![v1359] : Fin 1 → IVec S16 32) a x).toNat < S32.size a := fun v1359 k1_hw55 => k1_hw55

def k1_chk56 (v1379 : IVec S16 32) : Prop :=
  (∀ a x, ((![v1379] : Fin 1 → IVec S16 32) a x).toNat < S32.size a)
theorem k1_idx56_inb : ∀ (v1379 : IVec S16 32) (k1_hw56 : k1_chk56 v1379), ∀ a x, ((![v1379] : Fin 1 → IVec S16 32) a x).toNat < S32.size a := fun v1379 k1_hw56 => k1_hw56

def k1_chk57 (v1399 : IVec S16 32) : Prop :=
  (∀ a x, ((![v1399] : Fin 1 → IVec S16 32) a x).toNat < S32.size a)
theorem k1_idx57_inb : ∀ (v1399 : IVec S16 32) (k1_hw57 : k1_chk57 v1399), ∀ a x, ((![v1399] : Fin 1 → IVec S16 32) a x).toNat < S32.size a := fun v1399 k1_hw57 => k1_hw57

def k1_chk58 (v1419 : IVec S16 32) : Prop :=
  (∀ a x, ((![v1419] : Fin 1 → IVec S16 32) a x).toNat < S32.size a)
theorem k1_idx58_inb : ∀ (v1419 : IVec S16 32) (k1_hw58 : k1_chk58 v1419), ∀ a x, ((![v1419] : Fin 1 → IVec S16 32) a x).toNat < S32.size a := fun v1419 k1_hw58 => k1_hw58

def k1_chk59 (v1439 : IVec S16 32) : Prop :=
  (∀ a x, ((![v1439] : Fin 1 → IVec S16 32) a x).toNat < S32.size a)
theorem k1_idx59_inb : ∀ (v1439 : IVec S16 32) (k1_hw59 : k1_chk59 v1439), ∀ a x, ((![v1439] : Fin 1 → IVec S16 32) a x).toNat < S32.size a := fun v1439 k1_hw59 => k1_hw59

def k1_chk60 (v1459 : IVec S16 32) : Prop :=
  (∀ a x, ((![v1459] : Fin 1 → IVec S16 32) a x).toNat < S32.size a)
theorem k1_idx60_inb : ∀ (v1459 : IVec S16 32) (k1_hw60 : k1_chk60 v1459), ∀ a x, ((![v1459] : Fin 1 → IVec S16 32) a x).toNat < S32.size a := fun v1459 k1_hw60 => k1_hw60

def k1_chk61 (v1479 : IVec S16 32) : Prop :=
  (∀ a x, ((![v1479] : Fin 1 → IVec S16 32) a x).toNat < S32.size a)
theorem k1_idx61_inb : ∀ (v1479 : IVec S16 32) (k1_hw61 : k1_chk61 v1479), ∀ a x, ((![v1479] : Fin 1 → IVec S16 32) a x).toNat < S32.size a := fun v1479 k1_hw61 => k1_hw61

def k1_chk62 (v1499 : IVec S16 32) : Prop :=
  (∀ a x, ((![v1499] : Fin 1 → IVec S16 32) a x).toNat < S32.size a)
theorem k1_idx62_inb : ∀ (v1499 : IVec S16 32) (k1_hw62 : k1_chk62 v1499), ∀ a x, ((![v1499] : Fin 1 → IVec S16 32) a x).toNat < S32.size a := fun v1499 k1_hw62 => k1_hw62

def k1_chk63 (v1519 : IVec S16 32) : Prop :=
  (∀ a x, ((![v1519] : Fin 1 → IVec S16 32) a x).toNat < S32.size a)
theorem k1_idx63_inb : ∀ (v1519 : IVec S16 32) (k1_hw63 : k1_chk63 v1519), ∀ a x, ((![v1519] : Fin 1 → IVec S16 32) a x).toNat < S32.size a := fun v1519 k1_hw63 => k1_hw63

def k1_chk64 (v1539 : IVec S16 32) : Prop :=
  (∀ a x, ((![v1539] : Fin 1 → IVec S16 32) a x).toNat < S32.size a)
theorem k1_idx64_inb : ∀ (v1539 : IVec S16 32) (k1_hw64 : k1_chk64 v1539), ∀ a x, ((![v1539] : Fin 1 → IVec S16 32) a x).toNat < S32.size a := fun v1539 k1_hw64 => k1_hw64

def k1_chk65 (v1559 : IVec S16 32) : Prop :=
  (∀ a x, ((![v1559] : Fin 1 → IVec S16 32) a x).toNat < S32.size a)
theorem k1_idx65_inb : ∀ (v1559 : IVec S16 32) (k1_hw65 : k1_chk65 v1559), ∀ a x, ((![v1559] : Fin 1 → IVec S16 32) a x).toNat < S32.size a := fun v1559 k1_hw65 => k1_hw65

def k1_chk67 (v1570 : IVec S16 32) : Prop :=
  (∀ a x, ((![v1570] : Fin 1 → IVec S16 32) a x).toNat < S32.size a)
theorem k1_idx67_inb : ∀ (v1570 : IVec S16 32) (k1_hw67 : k1_chk67 v1570), ∀ a x, ((![v1570] : Fin 1 → IVec S16 32) a x).toNat < S32.size a := fun v1570 k1_hw67 => k1_hw67

def k1_chk68 (v1584 : IVec S16 32) : Prop :=
  (∀ a x, ((![v1584] : Fin 1 → IVec S16 32) a x).toNat < S32.size a)
theorem k1_idx68_inb : ∀ (v1584 : IVec S16 32) (k1_hw68 : k1_chk68 v1584), ∀ a x, ((![v1584] : Fin 1 → IVec S16 32) a x).toNat < S32.size a := fun v1584 k1_hw68 => k1_hw68

def k1_chk69 (v1611 : IVec S16 32) : Prop :=
  (∀ a x, ((![v1611] : Fin 1 → IVec S16 32) a x).toNat < S32.size a)
theorem k1_idx69_inb : ∀ (v1611 : IVec S16 32) (k1_hw69 : k1_chk69 v1611), ∀ a x, ((![v1611] : Fin 1 → IVec S16 32) a x).toNat < S32.size a := fun v1611 k1_hw69 => k1_hw69

def k1_chk70 (v1631 : IVec S16 32) : Prop :=
  (∀ a x, ((![v1631] : Fin 1 → IVec S16 32) a x).toNat < S32.size a)
theorem k1_idx70_inb : ∀ (v1631 : IVec S16 32) (k1_hw70 : k1_chk70 v1631), ∀ a x, ((![v1631] : Fin 1 → IVec S16 32) a x).toNat < S32.size a := fun v1631 k1_hw70 => k1_hw70

def k1_chk71 (v1651 : IVec S16 32) : Prop :=
  (∀ a x, ((![v1651] : Fin 1 → IVec S16 32) a x).toNat < S32.size a)
theorem k1_idx71_inb : ∀ (v1651 : IVec S16 32) (k1_hw71 : k1_chk71 v1651), ∀ a x, ((![v1651] : Fin 1 → IVec S16 32) a x).toNat < S32.size a := fun v1651 k1_hw71 => k1_hw71

def k1_chk72 (v1671 : IVec S16 32) : Prop :=
  (∀ a x, ((![v1671] : Fin 1 → IVec S16 32) a x).toNat < S32.size a)
theorem k1_idx72_inb : ∀ (v1671 : IVec S16 32) (k1_hw72 : k1_chk72 v1671), ∀ a x, ((![v1671] : Fin 1 → IVec S16 32) a x).toNat < S32.size a := fun v1671 k1_hw72 => k1_hw72

def k1_chk73 (v1691 : IVec S16 32) : Prop :=
  (∀ a x, ((![v1691] : Fin 1 → IVec S16 32) a x).toNat < S32.size a)
theorem k1_idx73_inb : ∀ (v1691 : IVec S16 32) (k1_hw73 : k1_chk73 v1691), ∀ a x, ((![v1691] : Fin 1 → IVec S16 32) a x).toNat < S32.size a := fun v1691 k1_hw73 => k1_hw73

def k1_chk74 (v1711 : IVec S16 32) : Prop :=
  (∀ a x, ((![v1711] : Fin 1 → IVec S16 32) a x).toNat < S32.size a)
theorem k1_idx74_inb : ∀ (v1711 : IVec S16 32) (k1_hw74 : k1_chk74 v1711), ∀ a x, ((![v1711] : Fin 1 → IVec S16 32) a x).toNat < S32.size a := fun v1711 k1_hw74 => k1_hw74

def k1_chk75 (v1731 : IVec S16 32) : Prop :=
  (∀ a x, ((![v1731] : Fin 1 → IVec S16 32) a x).toNat < S32.size a)
theorem k1_idx75_inb : ∀ (v1731 : IVec S16 32) (k1_hw75 : k1_chk75 v1731), ∀ a x, ((![v1731] : Fin 1 → IVec S16 32) a x).toNat < S32.size a := fun v1731 k1_hw75 => k1_hw75

def k1_chk76 (v1751 : IVec S16 32) : Prop :=
  (∀ a x, ((![v1751] : Fin 1 → IVec S16 32) a x).toNat < S32.size a)
theorem k1_idx76_inb : ∀ (v1751 : IVec S16 32) (k1_hw76 : k1_chk76 v1751), ∀ a x, ((![v1751] : Fin 1 → IVec S16 32) a x).toNat < S32.size a := fun v1751 k1_hw76 => k1_hw76

def k1_chk77 (v1771 : IVec S16 32) : Prop :=
  (∀ a x, ((![v1771] : Fin 1 → IVec S16 32) a x).toNat < S32.size a)
theorem k1_idx77_inb : ∀ (v1771 : IVec S16 32) (k1_hw77 : k1_chk77 v1771), ∀ a x, ((![v1771] : Fin 1 → IVec S16 32) a x).toNat < S32.size a := fun v1771 k1_hw77 => k1_hw77

def k1_chk78 (v1791 : IVec S16 32) : Prop :=
  (∀ a x, ((![v1791] : Fin 1 → IVec S16 32) a x).toNat < S32.size a)
theorem k1_idx78_inb : ∀ (v1791 : IVec S16 32) (k1_hw78 : k1_chk78 v1791), ∀ a x, ((![v1791] : Fin 1 → IVec S16 32) a x).toNat < S32.size a := fun v1791 k1_hw78 => k1_hw78

def k1_chk79 (v1811 : IVec S16 32) : Prop :=
  (∀ a x, ((![v1811] : Fin 1 → IVec S16 32) a x).toNat < S32.size a)
theorem k1_idx79_inb : ∀ (v1811 : IVec S16 32) (k1_hw79 : k1_chk79 v1811), ∀ a x, ((![v1811] : Fin 1 → IVec S16 32) a x).toNat < S32.size a := fun v1811 k1_hw79 => k1_hw79

def k1_chk80 (v1831 : IVec S16 32) : Prop :=
  (∀ a x, ((![v1831] : Fin 1 → IVec S16 32) a x).toNat < S32.size a)
theorem k1_idx80_inb : ∀ (v1831 : IVec S16 32) (k1_hw80 : k1_chk80 v1831), ∀ a x, ((![v1831] : Fin 1 → IVec S16 32) a x).toNat < S32.size a := fun v1831 k1_hw80 => k1_hw80

def k1_chk81 (v1851 : IVec S16 32) : Prop :=
  (∀ a x, ((![v1851] : Fin 1 → IVec S16 32) a x).toNat < S32.size a)
theorem k1_idx81_inb : ∀ (v1851 : IVec S16 32) (k1_hw81 : k1_chk81 v1851), ∀ a x, ((![v1851] : Fin 1 → IVec S16 32) a x).toNat < S32.size a := fun v1851 k1_hw81 => k1_hw81

def k1_chk82 (v1871 : IVec S16 32) : Prop :=
  (∀ a x, ((![v1871] : Fin 1 → IVec S16 32) a x).toNat < S32.size a)
theorem k1_idx82_inb : ∀ (v1871 : IVec S16 32) (k1_hw82 : k1_chk82 v1871), ∀ a x, ((![v1871] : Fin 1 → IVec S16 32) a x).toNat < S32.size a := fun v1871 k1_hw82 => k1_hw82

def k1_chk83 (v1891 : IVec S16 32) : Prop :=
  (∀ a x, ((![v1891] : Fin 1 → IVec S16 32) a x).toNat < S32.size a)
theorem k1_idx83_inb : ∀ (v1891 : IVec S16 32) (k1_hw83 : k1_chk83 v1891), ∀ a x, ((![v1891] : Fin 1 → IVec S16 32) a x).toNat < S32.size a := fun v1891 k1_hw83 => k1_hw83

def k1_chk84 (v1911 : IVec S16 32) : Prop :=
  (∀ a x, ((![v1911] : Fin 1 → IVec S16 32) a x).toNat < S32.size a)
theorem k1_idx84_inb : ∀ (v1911 : IVec S16 32) (k1_hw84 : k1_chk84 v1911), ∀ a x, ((![v1911] : Fin 1 → IVec S16 32) a x).toNat < S32.size a := fun v1911 k1_hw84 => k1_hw84

def k1_chk85 (v1931 : IVec S16 32) : Prop :=
  (∀ a x, ((![v1931] : Fin 1 → IVec S16 32) a x).toNat < S32.size a)
theorem k1_idx85_inb : ∀ (v1931 : IVec S16 32) (k1_hw85 : k1_chk85 v1931), ∀ a x, ((![v1931] : Fin 1 → IVec S16 32) a x).toNat < S32.size a := fun v1931 k1_hw85 => k1_hw85

def k1_chk86 (v1951 : IVec S16 32) : Prop :=
  (∀ a x, ((![v1951] : Fin 1 → IVec S16 32) a x).toNat < S32.size a)
theorem k1_idx86_inb : ∀ (v1951 : IVec S16 32) (k1_hw86 : k1_chk86 v1951), ∀ a x, ((![v1951] : Fin 1 → IVec S16 32) a x).toNat < S32.size a := fun v1951 k1_hw86 => k1_hw86

def k1_chk87 (v1971 : IVec S16 32) : Prop :=
  (∀ a x, ((![v1971] : Fin 1 → IVec S16 32) a x).toNat < S32.size a)
theorem k1_idx87_inb : ∀ (v1971 : IVec S16 32) (k1_hw87 : k1_chk87 v1971), ∀ a x, ((![v1971] : Fin 1 → IVec S16 32) a x).toNat < S32.size a := fun v1971 k1_hw87 => k1_hw87

def k1_chk88 (v1991 : IVec S16 32) : Prop :=
  (∀ a x, ((![v1991] : Fin 1 → IVec S16 32) a x).toNat < S32.size a)
theorem k1_idx88_inb : ∀ (v1991 : IVec S16 32) (k1_hw88 : k1_chk88 v1991), ∀ a x, ((![v1991] : Fin 1 → IVec S16 32) a x).toNat < S32.size a := fun v1991 k1_hw88 => k1_hw88

def k1_chk89 (v2011 : IVec S16 32) : Prop :=
  (∀ a x, ((![v2011] : Fin 1 → IVec S16 32) a x).toNat < S32.size a)
theorem k1_idx89_inb : ∀ (v2011 : IVec S16 32) (k1_hw89 : k1_chk89 v2011), ∀ a x, ((![v2011] : Fin 1 → IVec S16 32) a x).toNat < S32.size a := fun v2011 k1_hw89 => k1_hw89

def k1_chk90 (v2031 : IVec S16 32) : Prop :=
  (∀ a x, ((![v2031] : Fin 1 → IVec S16 32) a x).toNat < S32.size a)
theorem k1_idx90_inb : ∀ (v2031 : IVec S16 32) (k1_hw90 : k1_chk90 v2031), ∀ a x, ((![v2031] : Fin 1 → IVec S16 32) a x).toNat < S32.size a := fun v2031 k1_hw90 => k1_hw90

def k1_chk91 (v2051 : IVec S16 32) : Prop :=
  (∀ a x, ((![v2051] : Fin 1 → IVec S16 32) a x).toNat < S32.size a)
theorem k1_idx91_inb : ∀ (v2051 : IVec S16 32) (k1_hw91 : k1_chk91 v2051), ∀ a x, ((![v2051] : Fin 1 → IVec S16 32) a x).toNat < S32.size a := fun v2051 k1_hw91 => k1_hw91

def k1_chk92 (v2071 : IVec S16 32) : Prop :=
  (∀ a x, ((![v2071] : Fin 1 → IVec S16 32) a x).toNat < S32.size a)
theorem k1_idx92_inb : ∀ (v2071 : IVec S16 32) (k1_hw92 : k1_chk92 v2071), ∀ a x, ((![v2071] : Fin 1 → IVec S16 32) a x).toNat < S32.size a := fun v2071 k1_hw92 => k1_hw92

def k1_chk93 (v2091 : IVec S16 32) : Prop :=
  (∀ a x, ((![v2091] : Fin 1 → IVec S16 32) a x).toNat < S32.size a)
theorem k1_idx93_inb : ∀ (v2091 : IVec S16 32) (k1_hw93 : k1_chk93 v2091), ∀ a x, ((![v2091] : Fin 1 → IVec S16 32) a x).toNat < S32.size a := fun v2091 k1_hw93 => k1_hw93

def k1_chk94 (v2111 : IVec S16 32) : Prop :=
  (∀ a x, ((![v2111] : Fin 1 → IVec S16 32) a x).toNat < S32.size a)
theorem k1_idx94_inb : ∀ (v2111 : IVec S16 32) (k1_hw94 : k1_chk94 v2111), ∀ a x, ((![v2111] : Fin 1 → IVec S16 32) a x).toNat < S32.size a := fun v2111 k1_hw94 => k1_hw94

def k1_chk95 (v2131 : IVec S16 32) : Prop :=
  (∀ a x, ((![v2131] : Fin 1 → IVec S16 32) a x).toNat < S32.size a)
theorem k1_idx95_inb : ∀ (v2131 : IVec S16 32) (k1_hw95 : k1_chk95 v2131), ∀ a x, ((![v2131] : Fin 1 → IVec S16 32) a x).toNat < S32.size a := fun v2131 k1_hw95 => k1_hw95

def k1_chk96 (v2151 : IVec S16 32) : Prop :=
  (∀ a x, ((![v2151] : Fin 1 → IVec S16 32) a x).toNat < S32.size a)
theorem k1_idx96_inb : ∀ (v2151 : IVec S16 32) (k1_hw96 : k1_chk96 v2151), ∀ a x, ((![v2151] : Fin 1 → IVec S16 32) a x).toNat < S32.size a := fun v2151 k1_hw96 => k1_hw96

def k1_chk97 (v2171 : IVec S16 32) : Prop :=
  (∀ a x, ((![v2171] : Fin 1 → IVec S16 32) a x).toNat < S32.size a)
theorem k1_idx97_inb : ∀ (v2171 : IVec S16 32) (k1_hw97 : k1_chk97 v2171), ∀ a x, ((![v2171] : Fin 1 → IVec S16 32) a x).toNat < S32.size a := fun v2171 k1_hw97 => k1_hw97

def k1_chk98 (v2191 : IVec S16 32) : Prop :=
  (∀ a x, ((![v2191] : Fin 1 → IVec S16 32) a x).toNat < S32.size a)
theorem k1_idx98_inb : ∀ (v2191 : IVec S16 32) (k1_hw98 : k1_chk98 v2191), ∀ a x, ((![v2191] : Fin 1 → IVec S16 32) a x).toNat < S32.size a := fun v2191 k1_hw98 => k1_hw98

def k1_chk99 (v2211 : IVec S16 32) : Prop :=
  (∀ a x, ((![v2211] : Fin 1 → IVec S16 32) a x).toNat < S32.size a)
theorem k1_idx99_inb : ∀ (v2211 : IVec S16 32) (k1_hw99 : k1_chk99 v2211), ∀ a x, ((![v2211] : Fin 1 → IVec S16 32) a x).toNat < S32.size a := fun v2211 k1_hw99 => k1_hw99

def k1_chk100 (v2231 : IVec S16 32) : Prop :=
  (∀ a x, ((![v2231] : Fin 1 → IVec S16 32) a x).toNat < S32.size a)
theorem k1_idx100_inb : ∀ (v2231 : IVec S16 32) (k1_hw100 : k1_chk100 v2231), ∀ a x, ((![v2231] : Fin 1 → IVec S16 32) a x).toNat < S32.size a := fun v2231 k1_hw100 => k1_hw100

def k1_chk101 (v2251 : IVec S16 32) : Prop :=
  (∀ a x, ((![v2251] : Fin 1 → IVec S16 32) a x).toNat < S32.size a)
theorem k1_idx101_inb : ∀ (v2251 : IVec S16 32) (k1_hw101 : k1_chk101 v2251), ∀ a x, ((![v2251] : Fin 1 → IVec S16 32) a x).toNat < S32.size a := fun v2251 k1_hw101 => k1_hw101

def k1_chk102 (v2271 : IVec S16 32) : Prop :=
  (∀ a x, ((![v2271] : Fin 1 → IVec S16 32) a x).toNat < S32.size a)
theorem k1_idx102_inb : ∀ (v2271 : IVec S16 32) (k1_hw102 : k1_chk102 v2271), ∀ a x, ((![v2271] : Fin 1 → IVec S16 32) a x).toNat < S32.size a := fun v2271 k1_hw102 => k1_hw102

def k1_chk103 (v2291 : IVec S16 32) : Prop :=
  (∀ a x, ((![v2291] : Fin 1 → IVec S16 32) a x).toNat < S32.size a)
theorem k1_idx103_inb : ∀ (v2291 : IVec S16 32) (k1_hw103 : k1_chk103 v2291), ∀ a x, ((![v2291] : Fin 1 → IVec S16 32) a x).toNat < S32.size a := fun v2291 k1_hw103 => k1_hw103

def k1_chk104 (v2311 : IVec S16 32) : Prop :=
  (∀ a x, ((![v2311] : Fin 1 → IVec S16 32) a x).toNat < S32.size a)
theorem k1_idx104_inb : ∀ (v2311 : IVec S16 32) (k1_hw104 : k1_chk104 v2311), ∀ a x, ((![v2311] : Fin 1 → IVec S16 32) a x).toNat < S32.size a := fun v2311 k1_hw104 => k1_hw104

def k1_chk105 (v2331 : IVec S16 32) : Prop :=
  (∀ a x, ((![v2331] : Fin 1 → IVec S16 32) a x).toNat < S32.size a)
theorem k1_idx105_inb : ∀ (v2331 : IVec S16 32) (k1_hw105 : k1_chk105 v2331), ∀ a x, ((![v2331] : Fin 1 → IVec S16 32) a x).toNat < S32.size a := fun v2331 k1_hw105 => k1_hw105

def k1_chk106 (v2351 : IVec S16 32) : Prop :=
  (∀ a x, ((![v2351] : Fin 1 → IVec S16 32) a x).toNat < S32.size a)
theorem k1_idx106_inb : ∀ (v2351 : IVec S16 32) (k1_hw106 : k1_chk106 v2351), ∀ a x, ((![v2351] : Fin 1 → IVec S16 32) a x).toNat < S32.size a := fun v2351 k1_hw106 => k1_hw106

def k1_chk107 (v2371 : IVec S16 32) : Prop :=
  (∀ a x, ((![v2371] : Fin 1 → IVec S16 32) a x).toNat < S32.size a)
theorem k1_idx107_inb : ∀ (v2371 : IVec S16 32) (k1_hw107 : k1_chk107 v2371), ∀ a x, ((![v2371] : Fin 1 → IVec S16 32) a x).toNat < S32.size a := fun v2371 k1_hw107 => k1_hw107

def k1_chk108 (v2391 : IVec S16 32) : Prop :=
  (∀ a x, ((![v2391] : Fin 1 → IVec S16 32) a x).toNat < S32.size a)
theorem k1_idx108_inb : ∀ (v2391 : IVec S16 32) (k1_hw108 : k1_chk108 v2391), ∀ a x, ((![v2391] : Fin 1 → IVec S16 32) a x).toNat < S32.size a := fun v2391 k1_hw108 => k1_hw108

def k1_chk109 (v2411 : IVec S16 32) : Prop :=
  (∀ a x, ((![v2411] : Fin 1 → IVec S16 32) a x).toNat < S32.size a)
theorem k1_idx109_inb : ∀ (v2411 : IVec S16 32) (k1_hw109 : k1_chk109 v2411), ∀ a x, ((![v2411] : Fin 1 → IVec S16 32) a x).toNat < S32.size a := fun v2411 k1_hw109 => k1_hw109

def k1_chk110 (v2431 : IVec S16 32) : Prop :=
  (∀ a x, ((![v2431] : Fin 1 → IVec S16 32) a x).toNat < S32.size a)
theorem k1_idx110_inb : ∀ (v2431 : IVec S16 32) (k1_hw110 : k1_chk110 v2431), ∀ a x, ((![v2431] : Fin 1 → IVec S16 32) a x).toNat < S32.size a := fun v2431 k1_hw110 => k1_hw110

def k1_chk111 (v2451 : IVec S16 32) : Prop :=
  (∀ a x, ((![v2451] : Fin 1 → IVec S16 32) a x).toNat < S32.size a)
theorem k1_idx111_inb : ∀ (v2451 : IVec S16 32) (k1_hw111 : k1_chk111 v2451), ∀ a x, ((![v2451] : Fin 1 → IVec S16 32) a x).toNat < S32.size a := fun v2451 k1_hw111 => k1_hw111

def k1_chk112 (v2471 : IVec S16 32) : Prop :=
  (∀ a x, ((![v2471] : Fin 1 → IVec S16 32) a x).toNat < S32.size a)
theorem k1_idx112_inb : ∀ (v2471 : IVec S16 32) (k1_hw112 : k1_chk112 v2471), ∀ a x, ((![v2471] : Fin 1 → IVec S16 32) a x).toNat < S32.size a := fun v2471 k1_hw112 => k1_hw112

def k1_chk113 (v2491 : IVec S16 32) : Prop :=
  (∀ a x, ((![v2491] : Fin 1 → IVec S16 32) a x).toNat < S32.size a)
theorem k1_idx113_inb : ∀ (v2491 : IVec S16 32) (k1_hw113 : k1_chk113 v2491), ∀ a x, ((![v2491] : Fin 1 → IVec S16 32) a x).toNat < S32.size a := fun v2491 k1_hw113 => k1_hw113

def k1_chk114 (v2511 : IVec S16 32) : Prop :=
  (∀ a x, ((![v2511] : Fin 1 → IVec S16 32) a x).toNat < S32.size a)
theorem k1_idx114_inb : ∀ (v2511 : IVec S16 32) (k1_hw114 : k1_chk114 v2511), ∀ a x, ((![v2511] : Fin 1 → IVec S16 32) a x).toNat < S32.size a := fun v2511 k1_hw114 => k1_hw114

def k1_chk115 (v2531 : IVec S16 32) : Prop :=
  (∀ a x, ((![v2531] : Fin 1 → IVec S16 32) a x).toNat < S32.size a)
theorem k1_idx115_inb : ∀ (v2531 : IVec S16 32) (k1_hw115 : k1_chk115 v2531), ∀ a x, ((![v2531] : Fin 1 → IVec S16 32) a x).toNat < S32.size a := fun v2531 k1_hw115 => k1_hw115

def k1_chk116 (v2551 : IVec S16 32) : Prop :=
  (∀ a x, ((![v2551] : Fin 1 → IVec S16 32) a x).toNat < S32.size a)
theorem k1_idx116_inb : ∀ (v2551 : IVec S16 32) (k1_hw116 : k1_chk116 v2551), ∀ a x, ((![v2551] : Fin 1 → IVec S16 32) a x).toNat < S32.size a := fun v2551 k1_hw116 => k1_hw116

def k1_chk117 (v2571 : IVec S16 32) : Prop :=
  (∀ a x, ((![v2571] : Fin 1 → IVec S16 32) a x).toNat < S32.size a)
theorem k1_idx117_inb : ∀ (v2571 : IVec S16 32) (k1_hw117 : k1_chk117 v2571), ∀ a x, ((![v2571] : Fin 1 → IVec S16 32) a x).toNat < S32.size a := fun v2571 k1_hw117 => k1_hw117

def k1_chk118 (v2591 : IVec S16 32) : Prop :=
  (∀ a x, ((![v2591] : Fin 1 → IVec S16 32) a x).toNat < S32.size a)
theorem k1_idx118_inb : ∀ (v2591 : IVec S16 32) (k1_hw118 : k1_chk118 v2591), ∀ a x, ((![v2591] : Fin 1 → IVec S16 32) a x).toNat < S32.size a := fun v2591 k1_hw118 => k1_hw118

def k1_chk119 (v2611 : IVec S16 32) : Prop :=
  (∀ a x, ((![v2611] : Fin 1 → IVec S16 32) a x).toNat < S32.size a)
theorem k1_idx119_inb : ∀ (v2611 : IVec S16 32) (k1_hw119 : k1_chk119 v2611), ∀ a x, ((![v2611] : Fin 1 → IVec S16 32) a x).toNat < S32.size a := fun v2611 k1_hw119 => k1_hw119

def k1_chk120 (v2631 : IVec S16 32) : Prop :=
  (∀ a x, ((![v2631] : Fin 1 → IVec S16 32) a x).toNat < S32.size a)
theorem k1_idx120_inb : ∀ (v2631 : IVec S16 32) (k1_hw120 : k1_chk120 v2631), ∀ a x, ((![v2631] : Fin 1 → IVec S16 32) a x).toNat < S32.size a := fun v2631 k1_hw120 => k1_hw120

def k1_chk121 (v2651 : IVec S16 32) : Prop :=
  (∀ a x, ((![v2651] : Fin 1 → IVec S16 32) a x).toNat < S32.size a)
theorem k1_idx121_inb : ∀ (v2651 : IVec S16 32) (k1_hw121 : k1_chk121 v2651), ∀ a x, ((![v2651] : Fin 1 → IVec S16 32) a x).toNat < S32.size a := fun v2651 k1_hw121 => k1_hw121

def k1_chk122 (v2671 : IVec S16 32) : Prop :=
  (∀ a x, ((![v2671] : Fin 1 → IVec S16 32) a x).toNat < S32.size a)
theorem k1_idx122_inb : ∀ (v2671 : IVec S16 32) (k1_hw122 : k1_chk122 v2671), ∀ a x, ((![v2671] : Fin 1 → IVec S16 32) a x).toNat < S32.size a := fun v2671 k1_hw122 => k1_hw122

def k1_chk123 (v2691 : IVec S16 32) : Prop :=
  (∀ a x, ((![v2691] : Fin 1 → IVec S16 32) a x).toNat < S32.size a)
theorem k1_idx123_inb : ∀ (v2691 : IVec S16 32) (k1_hw123 : k1_chk123 v2691), ∀ a x, ((![v2691] : Fin 1 → IVec S16 32) a x).toNat < S32.size a := fun v2691 k1_hw123 => k1_hw123

def k1_chk124 (v2711 : IVec S16 32) : Prop :=
  (∀ a x, ((![v2711] : Fin 1 → IVec S16 32) a x).toNat < S32.size a)
theorem k1_idx124_inb : ∀ (v2711 : IVec S16 32) (k1_hw124 : k1_chk124 v2711), ∀ a x, ((![v2711] : Fin 1 → IVec S16 32) a x).toNat < S32.size a := fun v2711 k1_hw124 => k1_hw124

def k1_chk125 (v2731 : IVec S16 32) : Prop :=
  (∀ a x, ((![v2731] : Fin 1 → IVec S16 32) a x).toNat < S32.size a)
theorem k1_idx125_inb : ∀ (v2731 : IVec S16 32) (k1_hw125 : k1_chk125 v2731), ∀ a x, ((![v2731] : Fin 1 → IVec S16 32) a x).toNat < S32.size a := fun v2731 k1_hw125 => k1_hw125

def k1_chk126 (v2751 : IVec S16 32) : Prop :=
  (∀ a x, ((![v2751] : Fin 1 → IVec S16 32) a x).toNat < S32.size a)
theorem k1_idx126_inb : ∀ (v2751 : IVec S16 32) (k1_hw126 : k1_chk126 v2751), ∀ a x, ((![v2751] : Fin 1 → IVec S16 32) a x).toNat < S32.size a := fun v2751 k1_hw126 => k1_hw126

def k1_chk127 (v2771 : IVec S16 32) : Prop :=
  (∀ a x, ((![v2771] : Fin 1 → IVec S16 32) a x).toNat < S32.size a)
theorem k1_idx127_inb : ∀ (v2771 : IVec S16 32) (k1_hw127 : k1_chk127 v2771), ∀ a x, ((![v2771] : Fin 1 → IVec S16 32) a x).toNat < S32.size a := fun v2771 k1_hw127 => k1_hw127

def k1_chk128 (v2791 : IVec S16 32) : Prop :=
  (∀ a x, ((![v2791] : Fin 1 → IVec S16 32) a x).toNat < S32.size a)
theorem k1_idx128_inb : ∀ (v2791 : IVec S16 32) (k1_hw128 : k1_chk128 v2791), ∀ a x, ((![v2791] : Fin 1 → IVec S16 32) a x).toNat < S32.size a := fun v2791 k1_hw128 => k1_hw128

def k1_chk129 (v2811 : IVec S16 32) : Prop :=
  (∀ a x, ((![v2811] : Fin 1 → IVec S16 32) a x).toNat < S32.size a)
theorem k1_idx129_inb : ∀ (v2811 : IVec S16 32) (k1_hw129 : k1_chk129 v2811), ∀ a x, ((![v2811] : Fin 1 → IVec S16 32) a x).toNat < S32.size a := fun v2811 k1_hw129 => k1_hw129

def k1_chk130 (v2831 : IVec S16 32) : Prop :=
  (∀ a x, ((![v2831] : Fin 1 → IVec S16 32) a x).toNat < S32.size a)
theorem k1_idx130_inb : ∀ (v2831 : IVec S16 32) (k1_hw130 : k1_chk130 v2831), ∀ a x, ((![v2831] : Fin 1 → IVec S16 32) a x).toNat < S32.size a := fun v2831 k1_hw130 => k1_hw130

def k1_chk131 (v2851 : IVec S16 32) : Prop :=
  (∀ a x, ((![v2851] : Fin 1 → IVec S16 32) a x).toNat < S32.size a)
theorem k1_idx131_inb : ∀ (v2851 : IVec S16 32) (k1_hw131 : k1_chk131 v2851), ∀ a x, ((![v2851] : Fin 1 → IVec S16 32) a x).toNat < S32.size a := fun v2851 k1_hw131 => k1_hw131

def k1_chk132 (v2871 : IVec S16 32) : Prop :=
  (∀ a x, ((![v2871] : Fin 1 → IVec S16 32) a x).toNat < S32.size a)
theorem k1_idx132_inb : ∀ (v2871 : IVec S16 32) (k1_hw132 : k1_chk132 v2871), ∀ a x, ((![v2871] : Fin 1 → IVec S16 32) a x).toNat < S32.size a := fun v2871 k1_hw132 => k1_hw132

def k1_chk133 (v2882 : IVec S16 32) : Prop :=
  (∀ a x, ((![v2882] : Fin 1 → IVec S16 32) a x).toNat < S32.size a)
theorem k1_idx134_inb : ∀ (v2882 : IVec S16 32) (k1_hw133 : k1_chk133 v2882), ∀ a x, ((![v2882] : Fin 1 → IVec S16 32) a x).toNat < S32.size a := fun v2882 k1_hw133 => k1_hw133

def k1_chk134 (v2896 : IVec S16 32) : Prop :=
  (∀ a x, ((![v2896] : Fin 1 → IVec S16 32) a x).toNat < S32.size a)
theorem k1_idx135_inb : ∀ (v2896 : IVec S16 32) (k1_hw134 : k1_chk134 v2896), ∀ a x, ((![v2896] : Fin 1 → IVec S16 32) a x).toNat < S32.size a := fun v2896 k1_hw134 => k1_hw134

def k1_chk135 (v2923 : IVec S16 32) : Prop :=
  (∀ a x, ((![v2923] : Fin 1 → IVec S16 32) a x).toNat < S32.size a)
theorem k1_idx136_inb : ∀ (v2923 : IVec S16 32) (k1_hw135 : k1_chk135 v2923), ∀ a x, ((![v2923] : Fin 1 → IVec S16 32) a x).toNat < S32.size a := fun v2923 k1_hw135 => k1_hw135

def k1_chk136 (v2943 : IVec S16 32) : Prop :=
  (∀ a x, ((![v2943] : Fin 1 → IVec S16 32) a x).toNat < S32.size a)
theorem k1_idx137_inb : ∀ (v2943 : IVec S16 32) (k1_hw136 : k1_chk136 v2943), ∀ a x, ((![v2943] : Fin 1 → IVec S16 32) a x).toNat < S32.size a := fun v2943 k1_hw136 => k1_hw136

def k1_chk137 (v2963 : IVec S16 32) : Prop :=
  (∀ a x, ((![v2963] : Fin 1 → IVec S16 32) a x).toNat < S32.size a)
theorem k1_idx138_inb : ∀ (v2963 : IVec S16 32) (k1_hw137 : k1_chk137 v2963), ∀ a x, ((![v2963] : Fin 1 → IVec S16 32) a x).toNat < S32.size a := fun v2963 k1_hw137 => k1_hw137

def k1_chk138 (v2983 : IVec S16 32) : Prop :=
  (∀ a x, ((![v2983] : Fin 1 → IVec S16 32) a x).toNat < S32.size a)
theorem k1_idx139_inb : ∀ (v2983 : IVec S16 32) (k1_hw138 : k1_chk138 v2983), ∀ a x, ((![v2983] : Fin 1 → IVec S16 32) a x).toNat < S32.size a := fun v2983 k1_hw138 => k1_hw138

def k1_chk139 (v3003 : IVec S16 32) : Prop :=
  (∀ a x, ((![v3003] : Fin 1 → IVec S16 32) a x).toNat < S32.size a)
theorem k1_idx140_inb : ∀ (v3003 : IVec S16 32) (k1_hw139 : k1_chk139 v3003), ∀ a x, ((![v3003] : Fin 1 → IVec S16 32) a x).toNat < S32.size a := fun v3003 k1_hw139 => k1_hw139

def k1_chk140 (v3023 : IVec S16 32) : Prop :=
  (∀ a x, ((![v3023] : Fin 1 → IVec S16 32) a x).toNat < S32.size a)
theorem k1_idx141_inb : ∀ (v3023 : IVec S16 32) (k1_hw140 : k1_chk140 v3023), ∀ a x, ((![v3023] : Fin 1 → IVec S16 32) a x).toNat < S32.size a := fun v3023 k1_hw140 => k1_hw140

def k1_chk141 (v3043 : IVec S16 32) : Prop :=
  (∀ a x, ((![v3043] : Fin 1 → IVec S16 32) a x).toNat < S32.size a)
theorem k1_idx142_inb : ∀ (v3043 : IVec S16 32) (k1_hw141 : k1_chk141 v3043), ∀ a x, ((![v3043] : Fin 1 → IVec S16 32) a x).toNat < S32.size a := fun v3043 k1_hw141 => k1_hw141

def k1_chk142 (v3063 : IVec S16 32) : Prop :=
  (∀ a x, ((![v3063] : Fin 1 → IVec S16 32) a x).toNat < S32.size a)
theorem k1_idx143_inb : ∀ (v3063 : IVec S16 32) (k1_hw142 : k1_chk142 v3063), ∀ a x, ((![v3063] : Fin 1 → IVec S16 32) a x).toNat < S32.size a := fun v3063 k1_hw142 => k1_hw142

def k1_chk143 (v3083 : IVec S16 32) : Prop :=
  (∀ a x, ((![v3083] : Fin 1 → IVec S16 32) a x).toNat < S32.size a)
theorem k1_idx144_inb : ∀ (v3083 : IVec S16 32) (k1_hw143 : k1_chk143 v3083), ∀ a x, ((![v3083] : Fin 1 → IVec S16 32) a x).toNat < S32.size a := fun v3083 k1_hw143 => k1_hw143

def k1_chk144 (v3103 : IVec S16 32) : Prop :=
  (∀ a x, ((![v3103] : Fin 1 → IVec S16 32) a x).toNat < S32.size a)
theorem k1_idx145_inb : ∀ (v3103 : IVec S16 32) (k1_hw144 : k1_chk144 v3103), ∀ a x, ((![v3103] : Fin 1 → IVec S16 32) a x).toNat < S32.size a := fun v3103 k1_hw144 => k1_hw144

def k1_chk145 (v3123 : IVec S16 32) : Prop :=
  (∀ a x, ((![v3123] : Fin 1 → IVec S16 32) a x).toNat < S32.size a)
theorem k1_idx146_inb : ∀ (v3123 : IVec S16 32) (k1_hw145 : k1_chk145 v3123), ∀ a x, ((![v3123] : Fin 1 → IVec S16 32) a x).toNat < S32.size a := fun v3123 k1_hw145 => k1_hw145

def k1_chk146 (v3143 : IVec S16 32) : Prop :=
  (∀ a x, ((![v3143] : Fin 1 → IVec S16 32) a x).toNat < S32.size a)
theorem k1_idx147_inb : ∀ (v3143 : IVec S16 32) (k1_hw146 : k1_chk146 v3143), ∀ a x, ((![v3143] : Fin 1 → IVec S16 32) a x).toNat < S32.size a := fun v3143 k1_hw146 => k1_hw146

def k1_chk147 (v3163 : IVec S16 32) : Prop :=
  (∀ a x, ((![v3163] : Fin 1 → IVec S16 32) a x).toNat < S32.size a)
theorem k1_idx148_inb : ∀ (v3163 : IVec S16 32) (k1_hw147 : k1_chk147 v3163), ∀ a x, ((![v3163] : Fin 1 → IVec S16 32) a x).toNat < S32.size a := fun v3163 k1_hw147 => k1_hw147

def k1_chk148 (v3183 : IVec S16 32) : Prop :=
  (∀ a x, ((![v3183] : Fin 1 → IVec S16 32) a x).toNat < S32.size a)
theorem k1_idx149_inb : ∀ (v3183 : IVec S16 32) (k1_hw148 : k1_chk148 v3183), ∀ a x, ((![v3183] : Fin 1 → IVec S16 32) a x).toNat < S32.size a := fun v3183 k1_hw148 => k1_hw148

def k1_chk149 (v3203 : IVec S16 32) : Prop :=
  (∀ a x, ((![v3203] : Fin 1 → IVec S16 32) a x).toNat < S32.size a)
theorem k1_idx150_inb : ∀ (v3203 : IVec S16 32) (k1_hw149 : k1_chk149 v3203), ∀ a x, ((![v3203] : Fin 1 → IVec S16 32) a x).toNat < S32.size a := fun v3203 k1_hw149 => k1_hw149

def k1_chk150 (v3223 : IVec S16 32) : Prop :=
  (∀ a x, ((![v3223] : Fin 1 → IVec S16 32) a x).toNat < S32.size a)
theorem k1_idx151_inb : ∀ (v3223 : IVec S16 32) (k1_hw150 : k1_chk150 v3223), ∀ a x, ((![v3223] : Fin 1 → IVec S16 32) a x).toNat < S32.size a := fun v3223 k1_hw150 => k1_hw150

def k1_chk151 (v3243 : IVec S16 32) : Prop :=
  (∀ a x, ((![v3243] : Fin 1 → IVec S16 32) a x).toNat < S32.size a)
theorem k1_idx152_inb : ∀ (v3243 : IVec S16 32) (k1_hw151 : k1_chk151 v3243), ∀ a x, ((![v3243] : Fin 1 → IVec S16 32) a x).toNat < S32.size a := fun v3243 k1_hw151 => k1_hw151

def k1_chk152 (v3263 : IVec S16 32) : Prop :=
  (∀ a x, ((![v3263] : Fin 1 → IVec S16 32) a x).toNat < S32.size a)
theorem k1_idx153_inb : ∀ (v3263 : IVec S16 32) (k1_hw152 : k1_chk152 v3263), ∀ a x, ((![v3263] : Fin 1 → IVec S16 32) a x).toNat < S32.size a := fun v3263 k1_hw152 => k1_hw152

def k1_chk153 (v3283 : IVec S16 32) : Prop :=
  (∀ a x, ((![v3283] : Fin 1 → IVec S16 32) a x).toNat < S32.size a)
theorem k1_idx154_inb : ∀ (v3283 : IVec S16 32) (k1_hw153 : k1_chk153 v3283), ∀ a x, ((![v3283] : Fin 1 → IVec S16 32) a x).toNat < S32.size a := fun v3283 k1_hw153 => k1_hw153

def k1_chk154 (v3303 : IVec S16 32) : Prop :=
  (∀ a x, ((![v3303] : Fin 1 → IVec S16 32) a x).toNat < S32.size a)
theorem k1_idx155_inb : ∀ (v3303 : IVec S16 32) (k1_hw154 : k1_chk154 v3303), ∀ a x, ((![v3303] : Fin 1 → IVec S16 32) a x).toNat < S32.size a := fun v3303 k1_hw154 => k1_hw154

def k1_chk155 (v3323 : IVec S16 32) : Prop :=
  (∀ a x, ((![v3323] : Fin 1 → IVec S16 32) a x).toNat < S32.size a)
theorem k1_idx156_inb : ∀ (v3323 : IVec S16 32) (k1_hw155 : k1_chk155 v3323), ∀ a x, ((![v3323] : Fin 1 → IVec S16 32) a x).toNat < S32.size a := fun v3323 k1_hw155 => k1_hw155

def k1_chk156 (v3343 : IVec S16 32) : Prop :=
  (∀ a x, ((![v3343] : Fin 1 → IVec S16 32) a x).toNat < S32.size a)
theorem k1_idx157_inb : ∀ (v3343 : IVec S16 32) (k1_hw156 : k1_chk156 v3343), ∀ a x, ((![v3343] : Fin 1 → IVec S16 32) a x).toNat < S32.size a := fun v3343 k1_hw156 => k1_hw156

def k1_chk157 (v3363 : IVec S16 32) : Prop :=
  (∀ a x, ((![v3363] : Fin 1 → IVec S16 32) a x).toNat < S32.size a)
theorem k1_idx158_inb : ∀ (v3363 : IVec S16 32) (k1_hw157 : k1_chk157 v3363), ∀ a x, ((![v3363] : Fin 1 → IVec S16 32) a x).toNat < S32.size a := fun v3363 k1_hw157 => k1_hw157

def k1_chk158 (v3383 : IVec S16 32) : Prop :=
  (∀ a x, ((![v3383] : Fin 1 → IVec S16 32) a x).toNat < S32.size a)
theorem k1_idx159_inb : ∀ (v3383 : IVec S16 32) (k1_hw158 : k1_chk158 v3383), ∀ a x, ((![v3383] : Fin 1 → IVec S16 32) a x).toNat < S32.size a := fun v3383 k1_hw158 => k1_hw158

def k1_chk159 (v3403 : IVec S16 32) : Prop :=
  (∀ a x, ((![v3403] : Fin 1 → IVec S16 32) a x).toNat < S32.size a)
theorem k1_idx160_inb : ∀ (v3403 : IVec S16 32) (k1_hw159 : k1_chk159 v3403), ∀ a x, ((![v3403] : Fin 1 → IVec S16 32) a x).toNat < S32.size a := fun v3403 k1_hw159 => k1_hw159

def k1_chk160 (v3423 : IVec S16 32) : Prop :=
  (∀ a x, ((![v3423] : Fin 1 → IVec S16 32) a x).toNat < S32.size a)
theorem k1_idx161_inb : ∀ (v3423 : IVec S16 32) (k1_hw160 : k1_chk160 v3423), ∀ a x, ((![v3423] : Fin 1 → IVec S16 32) a x).toNat < S32.size a := fun v3423 k1_hw160 => k1_hw160

def k1_chk161 (v3443 : IVec S16 32) : Prop :=
  (∀ a x, ((![v3443] : Fin 1 → IVec S16 32) a x).toNat < S32.size a)
theorem k1_idx162_inb : ∀ (v3443 : IVec S16 32) (k1_hw161 : k1_chk161 v3443), ∀ a x, ((![v3443] : Fin 1 → IVec S16 32) a x).toNat < S32.size a := fun v3443 k1_hw161 => k1_hw161

def k1_chk162 (v3463 : IVec S16 32) : Prop :=
  (∀ a x, ((![v3463] : Fin 1 → IVec S16 32) a x).toNat < S32.size a)
theorem k1_idx163_inb : ∀ (v3463 : IVec S16 32) (k1_hw162 : k1_chk162 v3463), ∀ a x, ((![v3463] : Fin 1 → IVec S16 32) a x).toNat < S32.size a := fun v3463 k1_hw162 => k1_hw162

def k1_chk163 (v3483 : IVec S16 32) : Prop :=
  (∀ a x, ((![v3483] : Fin 1 → IVec S16 32) a x).toNat < S32.size a)
theorem k1_idx164_inb : ∀ (v3483 : IVec S16 32) (k1_hw163 : k1_chk163 v3483), ∀ a x, ((![v3483] : Fin 1 → IVec S16 32) a x).toNat < S32.size a := fun v3483 k1_hw163 => k1_hw163

def k1_chk164 (v3503 : IVec S16 32) : Prop :=
  (∀ a x, ((![v3503] : Fin 1 → IVec S16 32) a x).toNat < S32.size a)
theorem k1_idx165_inb : ∀ (v3503 : IVec S16 32) (k1_hw164 : k1_chk164 v3503), ∀ a x, ((![v3503] : Fin 1 → IVec S16 32) a x).toNat < S32.size a := fun v3503 k1_hw164 => k1_hw164

def k1_chk165 (v3523 : IVec S16 32) : Prop :=
  (∀ a x, ((![v3523] : Fin 1 → IVec S16 32) a x).toNat < S32.size a)
theorem k1_idx166_inb : ∀ (v3523 : IVec S16 32) (k1_hw165 : k1_chk165 v3523), ∀ a x, ((![v3523] : Fin 1 → IVec S16 32) a x).toNat < S32.size a := fun v3523 k1_hw165 => k1_hw165

def k1_chk166 (v3543 : IVec S16 32) : Prop :=
  (∀ a x, ((![v3543] : Fin 1 → IVec S16 32) a x).toNat < S32.size a)
theorem k1_idx167_inb : ∀ (v3543 : IVec S16 32) (k1_hw166 : k1_chk166 v3543), ∀ a x, ((![v3543] : Fin 1 → IVec S16 32) a x).toNat < S32.size a := fun v3543 k1_hw166 => k1_hw166

def k1_chk167 (v3563 : IVec S16 32) : Prop :=
  (∀ a x, ((![v3563] : Fin 1 → IVec S16 32) a x).toNat < S32.size a)
theorem k1_idx168_inb : ∀ (v3563 : IVec S16 32) (k1_hw167 : k1_chk167 v3563), ∀ a x, ((![v3563] : Fin 1 → IVec S16 32) a x).toNat < S32.size a := fun v3563 k1_hw167 => k1_hw167

def k1_chk168 (v3583 : IVec S16 32) : Prop :=
  (∀ a x, ((![v3583] : Fin 1 → IVec S16 32) a x).toNat < S32.size a)
theorem k1_idx169_inb : ∀ (v3583 : IVec S16 32) (k1_hw168 : k1_chk168 v3583), ∀ a x, ((![v3583] : Fin 1 → IVec S16 32) a x).toNat < S32.size a := fun v3583 k1_hw168 => k1_hw168

def k1_chk169 (v3603 : IVec S16 32) : Prop :=
  (∀ a x, ((![v3603] : Fin 1 → IVec S16 32) a x).toNat < S32.size a)
theorem k1_idx170_inb : ∀ (v3603 : IVec S16 32) (k1_hw169 : k1_chk169 v3603), ∀ a x, ((![v3603] : Fin 1 → IVec S16 32) a x).toNat < S32.size a := fun v3603 k1_hw169 => k1_hw169

def k1_chk170 (v3623 : IVec S16 32) : Prop :=
  (∀ a x, ((![v3623] : Fin 1 → IVec S16 32) a x).toNat < S32.size a)
theorem k1_idx171_inb : ∀ (v3623 : IVec S16 32) (k1_hw170 : k1_chk170 v3623), ∀ a x, ((![v3623] : Fin 1 → IVec S16 32) a x).toNat < S32.size a := fun v3623 k1_hw170 => k1_hw170

def k1_chk171 (v3643 : IVec S16 32) : Prop :=
  (∀ a x, ((![v3643] : Fin 1 → IVec S16 32) a x).toNat < S32.size a)
theorem k1_idx172_inb : ∀ (v3643 : IVec S16 32) (k1_hw171 : k1_chk171 v3643), ∀ a x, ((![v3643] : Fin 1 → IVec S16 32) a x).toNat < S32.size a := fun v3643 k1_hw171 => k1_hw171

def k1_chk172 (v3663 : IVec S16 32) : Prop :=
  (∀ a x, ((![v3663] : Fin 1 → IVec S16 32) a x).toNat < S32.size a)
theorem k1_idx173_inb : ∀ (v3663 : IVec S16 32) (k1_hw172 : k1_chk172 v3663), ∀ a x, ((![v3663] : Fin 1 → IVec S16 32) a x).toNat < S32.size a := fun v3663 k1_hw172 => k1_hw172

def k1_chk173 (v3683 : IVec S16 32) : Prop :=
  (∀ a x, ((![v3683] : Fin 1 → IVec S16 32) a x).toNat < S32.size a)
theorem k1_idx174_inb : ∀ (v3683 : IVec S16 32) (k1_hw173 : k1_chk173 v3683), ∀ a x, ((![v3683] : Fin 1 → IVec S16 32) a x).toNat < S32.size a := fun v3683 k1_hw173 => k1_hw173

def k1_chk174 (v3703 : IVec S16 32) : Prop :=
  (∀ a x, ((![v3703] : Fin 1 → IVec S16 32) a x).toNat < S32.size a)
theorem k1_idx175_inb : ∀ (v3703 : IVec S16 32) (k1_hw174 : k1_chk174 v3703), ∀ a x, ((![v3703] : Fin 1 → IVec S16 32) a x).toNat < S32.size a := fun v3703 k1_hw174 => k1_hw174

def k1_chk175 (v3723 : IVec S16 32) : Prop :=
  (∀ a x, ((![v3723] : Fin 1 → IVec S16 32) a x).toNat < S32.size a)
theorem k1_idx176_inb : ∀ (v3723 : IVec S16 32) (k1_hw175 : k1_chk175 v3723), ∀ a x, ((![v3723] : Fin 1 → IVec S16 32) a x).toNat < S32.size a := fun v3723 k1_hw175 => k1_hw175

def k1_chk176 (v3743 : IVec S16 32) : Prop :=
  (∀ a x, ((![v3743] : Fin 1 → IVec S16 32) a x).toNat < S32.size a)
theorem k1_idx177_inb : ∀ (v3743 : IVec S16 32) (k1_hw176 : k1_chk176 v3743), ∀ a x, ((![v3743] : Fin 1 → IVec S16 32) a x).toNat < S32.size a := fun v3743 k1_hw176 => k1_hw176

def k1_chk177 (v3763 : IVec S16 32) : Prop :=
  (∀ a x, ((![v3763] : Fin 1 → IVec S16 32) a x).toNat < S32.size a)
theorem k1_idx178_inb : ∀ (v3763 : IVec S16 32) (k1_hw177 : k1_chk177 v3763), ∀ a x, ((![v3763] : Fin 1 → IVec S16 32) a x).toNat < S32.size a := fun v3763 k1_hw177 => k1_hw177

def k1_chk178 (v3783 : IVec S16 32) : Prop :=
  (∀ a x, ((![v3783] : Fin 1 → IVec S16 32) a x).toNat < S32.size a)
theorem k1_idx179_inb : ∀ (v3783 : IVec S16 32) (k1_hw178 : k1_chk178 v3783), ∀ a x, ((![v3783] : Fin 1 → IVec S16 32) a x).toNat < S32.size a := fun v3783 k1_hw178 => k1_hw178

def k1_chk179 (v3803 : IVec S16 32) : Prop :=
  (∀ a x, ((![v3803] : Fin 1 → IVec S16 32) a x).toNat < S32.size a)
theorem k1_idx180_inb : ∀ (v3803 : IVec S16 32) (k1_hw179 : k1_chk179 v3803), ∀ a x, ((![v3803] : Fin 1 → IVec S16 32) a x).toNat < S32.size a := fun v3803 k1_hw179 => k1_hw179

def k1_chk180 (v3823 : IVec S16 32) : Prop :=
  (∀ a x, ((![v3823] : Fin 1 → IVec S16 32) a x).toNat < S32.size a)
theorem k1_idx181_inb : ∀ (v3823 : IVec S16 32) (k1_hw180 : k1_chk180 v3823), ∀ a x, ((![v3823] : Fin 1 → IVec S16 32) a x).toNat < S32.size a := fun v3823 k1_hw180 => k1_hw180

def k1_chk181 (v3843 : IVec S16 32) : Prop :=
  (∀ a x, ((![v3843] : Fin 1 → IVec S16 32) a x).toNat < S32.size a)
theorem k1_idx182_inb : ∀ (v3843 : IVec S16 32) (k1_hw181 : k1_chk181 v3843), ∀ a x, ((![v3843] : Fin 1 → IVec S16 32) a x).toNat < S32.size a := fun v3843 k1_hw181 => k1_hw181

def k1_chk182 (v3863 : IVec S16 32) : Prop :=
  (∀ a x, ((![v3863] : Fin 1 → IVec S16 32) a x).toNat < S32.size a)
theorem k1_idx183_inb : ∀ (v3863 : IVec S16 32) (k1_hw182 : k1_chk182 v3863), ∀ a x, ((![v3863] : Fin 1 → IVec S16 32) a x).toNat < S32.size a := fun v3863 k1_hw182 => k1_hw182

def k1_chk183 (v3883 : IVec S16 32) : Prop :=
  (∀ a x, ((![v3883] : Fin 1 → IVec S16 32) a x).toNat < S32.size a)
theorem k1_idx184_inb : ∀ (v3883 : IVec S16 32) (k1_hw183 : k1_chk183 v3883), ∀ a x, ((![v3883] : Fin 1 → IVec S16 32) a x).toNat < S32.size a := fun v3883 k1_hw183 => k1_hw183

def k1_chk184 (v3903 : IVec S16 32) : Prop :=
  (∀ a x, ((![v3903] : Fin 1 → IVec S16 32) a x).toNat < S32.size a)
theorem k1_idx185_inb : ∀ (v3903 : IVec S16 32) (k1_hw184 : k1_chk184 v3903), ∀ a x, ((![v3903] : Fin 1 → IVec S16 32) a x).toNat < S32.size a := fun v3903 k1_hw184 => k1_hw184

def k1_chk185 (v3923 : IVec S16 32) : Prop :=
  (∀ a x, ((![v3923] : Fin 1 → IVec S16 32) a x).toNat < S32.size a)
theorem k1_idx186_inb : ∀ (v3923 : IVec S16 32) (k1_hw185 : k1_chk185 v3923), ∀ a x, ((![v3923] : Fin 1 → IVec S16 32) a x).toNat < S32.size a := fun v3923 k1_hw185 => k1_hw185

def k1_chk186 (v3943 : IVec S16 32) : Prop :=
  (∀ a x, ((![v3943] : Fin 1 → IVec S16 32) a x).toNat < S32.size a)
theorem k1_idx187_inb : ∀ (v3943 : IVec S16 32) (k1_hw186 : k1_chk186 v3943), ∀ a x, ((![v3943] : Fin 1 → IVec S16 32) a x).toNat < S32.size a := fun v3943 k1_hw186 => k1_hw186

def k1_chk187 (v3963 : IVec S16 32) : Prop :=
  (∀ a x, ((![v3963] : Fin 1 → IVec S16 32) a x).toNat < S32.size a)
theorem k1_idx188_inb : ∀ (v3963 : IVec S16 32) (k1_hw187 : k1_chk187 v3963), ∀ a x, ((![v3963] : Fin 1 → IVec S16 32) a x).toNat < S32.size a := fun v3963 k1_hw187 => k1_hw187

def k1_chk188 (v3983 : IVec S16 32) : Prop :=
  (∀ a x, ((![v3983] : Fin 1 → IVec S16 32) a x).toNat < S32.size a)
theorem k1_idx189_inb : ∀ (v3983 : IVec S16 32) (k1_hw188 : k1_chk188 v3983), ∀ a x, ((![v3983] : Fin 1 → IVec S16 32) a x).toNat < S32.size a := fun v3983 k1_hw188 => k1_hw188

def k1_chk189 (v4003 : IVec S16 32) : Prop :=
  (∀ a x, ((![v4003] : Fin 1 → IVec S16 32) a x).toNat < S32.size a)
theorem k1_idx190_inb : ∀ (v4003 : IVec S16 32) (k1_hw189 : k1_chk189 v4003), ∀ a x, ((![v4003] : Fin 1 → IVec S16 32) a x).toNat < S32.size a := fun v4003 k1_hw189 => k1_hw189

def k1_chk190 (v4023 : IVec S16 32) : Prop :=
  (∀ a x, ((![v4023] : Fin 1 → IVec S16 32) a x).toNat < S32.size a)
theorem k1_idx191_inb : ∀ (v4023 : IVec S16 32) (k1_hw190 : k1_chk190 v4023), ∀ a x, ((![v4023] : Fin 1 → IVec S16 32) a x).toNat < S32.size a := fun v4023 k1_hw190 => k1_hw190

def k1_chk191 (v4043 : IVec S16 32) : Prop :=
  (∀ a x, ((![v4043] : Fin 1 → IVec S16 32) a x).toNat < S32.size a)
theorem k1_idx192_inb : ∀ (v4043 : IVec S16 32) (k1_hw191 : k1_chk191 v4043), ∀ a x, ((![v4043] : Fin 1 → IVec S16 32) a x).toNat < S32.size a := fun v4043 k1_hw191 => k1_hw191

def k1_chk192 (v4063 : IVec S16 32) : Prop :=
  (∀ a x, ((![v4063] : Fin 1 → IVec S16 32) a x).toNat < S32.size a)
theorem k1_idx193_inb : ∀ (v4063 : IVec S16 32) (k1_hw192 : k1_chk192 v4063), ∀ a x, ((![v4063] : Fin 1 → IVec S16 32) a x).toNat < S32.size a := fun v4063 k1_hw192 => k1_hw192

def k1_chk193 (v4083 : IVec S16 32) : Prop :=
  (∀ a x, ((![v4083] : Fin 1 → IVec S16 32) a x).toNat < S32.size a)
theorem k1_idx194_inb : ∀ (v4083 : IVec S16 32) (k1_hw193 : k1_chk193 v4083), ∀ a x, ((![v4083] : Fin 1 → IVec S16 32) a x).toNat < S32.size a := fun v4083 k1_hw193 => k1_hw193

def k1_chk194 (v4103 : IVec S16 32) : Prop :=
  (∀ a x, ((![v4103] : Fin 1 → IVec S16 32) a x).toNat < S32.size a)
theorem k1_idx195_inb : ∀ (v4103 : IVec S16 32) (k1_hw194 : k1_chk194 v4103), ∀ a x, ((![v4103] : Fin 1 → IVec S16 32) a x).toNat < S32.size a := fun v4103 k1_hw194 => k1_hw194

def k1_chk195 (v4123 : IVec S16 32) : Prop :=
  (∀ a x, ((![v4123] : Fin 1 → IVec S16 32) a x).toNat < S32.size a)
theorem k1_idx196_inb : ∀ (v4123 : IVec S16 32) (k1_hw195 : k1_chk195 v4123), ∀ a x, ((![v4123] : Fin 1 → IVec S16 32) a x).toNat < S32.size a := fun v4123 k1_hw195 => k1_hw195

def k1_chk196 (v4143 : IVec S16 32) : Prop :=
  (∀ a x, ((![v4143] : Fin 1 → IVec S16 32) a x).toNat < S32.size a)
theorem k1_idx197_inb : ∀ (v4143 : IVec S16 32) (k1_hw196 : k1_chk196 v4143), ∀ a x, ((![v4143] : Fin 1 → IVec S16 32) a x).toNat < S32.size a := fun v4143 k1_hw196 => k1_hw196

def k1_chk197 (v4163 : IVec S16 32) : Prop :=
  (∀ a x, ((![v4163] : Fin 1 → IVec S16 32) a x).toNat < S32.size a)
theorem k1_idx198_inb : ∀ (v4163 : IVec S16 32) (k1_hw197 : k1_chk197 v4163), ∀ a x, ((![v4163] : Fin 1 → IVec S16 32) a x).toNat < S32.size a := fun v4163 k1_hw197 => k1_hw197

def k1_chk198 (v4183 : IVec S16 32) : Prop :=
  (∀ a x, ((![v4183] : Fin 1 → IVec S16 32) a x).toNat < S32.size a)
theorem k1_idx199_inb : ∀ (v4183 : IVec S16 32) (k1_hw198 : k1_chk198 v4183), ∀ a x, ((![v4183] : Fin 1 → IVec S16 32) a x).toNat < S32.size a := fun v4183 k1_hw198 => k1_hw198

def k1_chk199 (v4194 : IVec S16 32) : Prop :=
  (∀ a x, ((![v4194] : Fin 1 → IVec S16 32) a x).toNat < S32.size a)
theorem k1_idx201_inb : ∀ (v4194 : IVec S16 32) (k1_hw199 : k1_chk199 v4194), ∀ a x, ((![v4194] : Fin 1 → IVec S16 32) a x).toNat < S32.size a := fun v4194 k1_hw199 => k1_hw199

def k1_chk200 (v4208 : IVec S16 32) : Prop :=
  (∀ a x, ((![v4208] : Fin 1 → IVec S16 32) a x).toNat < S32.size a)
theorem k1_idx202_inb : ∀ (v4208 : IVec S16 32) (k1_hw200 : k1_chk200 v4208), ∀ a x, ((![v4208] : Fin 1 → IVec S16 32) a x).toNat < S32.size a := fun v4208 k1_hw200 => k1_hw200

def k1_chk201 (v4235 : IVec S16 32) : Prop :=
  (∀ a x, ((![v4235] : Fin 1 → IVec S16 32) a x).toNat < S32.size a)
theorem k1_idx203_inb : ∀ (v4235 : IVec S16 32) (k1_hw201 : k1_chk201 v4235), ∀ a x, ((![v4235] : Fin 1 → IVec S16 32) a x).toNat < S32.size a := fun v4235 k1_hw201 => k1_hw201

def k1_chk202 (v4255 : IVec S16 32) : Prop :=
  (∀ a x, ((![v4255] : Fin 1 → IVec S16 32) a x).toNat < S32.size a)
theorem k1_idx204_inb : ∀ (v4255 : IVec S16 32) (k1_hw202 : k1_chk202 v4255), ∀ a x, ((![v4255] : Fin 1 → IVec S16 32) a x).toNat < S32.size a := fun v4255 k1_hw202 => k1_hw202

def k1_chk203 (v4275 : IVec S16 32) : Prop :=
  (∀ a x, ((![v4275] : Fin 1 → IVec S16 32) a x).toNat < S32.size a)
theorem k1_idx205_inb : ∀ (v4275 : IVec S16 32) (k1_hw203 : k1_chk203 v4275), ∀ a x, ((![v4275] : Fin 1 → IVec S16 32) a x).toNat < S32.size a := fun v4275 k1_hw203 => k1_hw203

def k1_chk204 (v4295 : IVec S16 32) : Prop :=
  (∀ a x, ((![v4295] : Fin 1 → IVec S16 32) a x).toNat < S32.size a)
theorem k1_idx206_inb : ∀ (v4295 : IVec S16 32) (k1_hw204 : k1_chk204 v4295), ∀ a x, ((![v4295] : Fin 1 → IVec S16 32) a x).toNat < S32.size a := fun v4295 k1_hw204 => k1_hw204

def k1_chk205 (v4315 : IVec S16 32) : Prop :=
  (∀ a x, ((![v4315] : Fin 1 → IVec S16 32) a x).toNat < S32.size a)
theorem k1_idx207_inb : ∀ (v4315 : IVec S16 32) (k1_hw205 : k1_chk205 v4315), ∀ a x, ((![v4315] : Fin 1 → IVec S16 32) a x).toNat < S32.size a := fun v4315 k1_hw205 => k1_hw205

def k1_chk206 (v4335 : IVec S16 32) : Prop :=
  (∀ a x, ((![v4335] : Fin 1 → IVec S16 32) a x).toNat < S32.size a)
theorem k1_idx208_inb : ∀ (v4335 : IVec S16 32) (k1_hw206 : k1_chk206 v4335), ∀ a x, ((![v4335] : Fin 1 → IVec S16 32) a x).toNat < S32.size a := fun v4335 k1_hw206 => k1_hw206

def k1_chk207 (v4355 : IVec S16 32) : Prop :=
  (∀ a x, ((![v4355] : Fin 1 → IVec S16 32) a x).toNat < S32.size a)
theorem k1_idx209_inb : ∀ (v4355 : IVec S16 32) (k1_hw207 : k1_chk207 v4355), ∀ a x, ((![v4355] : Fin 1 → IVec S16 32) a x).toNat < S32.size a := fun v4355 k1_hw207 => k1_hw207

def k1_chk208 (v4375 : IVec S16 32) : Prop :=
  (∀ a x, ((![v4375] : Fin 1 → IVec S16 32) a x).toNat < S32.size a)
theorem k1_idx210_inb : ∀ (v4375 : IVec S16 32) (k1_hw208 : k1_chk208 v4375), ∀ a x, ((![v4375] : Fin 1 → IVec S16 32) a x).toNat < S32.size a := fun v4375 k1_hw208 => k1_hw208

def k1_chk209 (v4395 : IVec S16 32) : Prop :=
  (∀ a x, ((![v4395] : Fin 1 → IVec S16 32) a x).toNat < S32.size a)
theorem k1_idx211_inb : ∀ (v4395 : IVec S16 32) (k1_hw209 : k1_chk209 v4395), ∀ a x, ((![v4395] : Fin 1 → IVec S16 32) a x).toNat < S32.size a := fun v4395 k1_hw209 => k1_hw209

def k1_chk210 (v4415 : IVec S16 32) : Prop :=
  (∀ a x, ((![v4415] : Fin 1 → IVec S16 32) a x).toNat < S32.size a)
theorem k1_idx212_inb : ∀ (v4415 : IVec S16 32) (k1_hw210 : k1_chk210 v4415), ∀ a x, ((![v4415] : Fin 1 → IVec S16 32) a x).toNat < S32.size a := fun v4415 k1_hw210 => k1_hw210

def k1_chk211 (v4435 : IVec S16 32) : Prop :=
  (∀ a x, ((![v4435] : Fin 1 → IVec S16 32) a x).toNat < S32.size a)
theorem k1_idx213_inb : ∀ (v4435 : IVec S16 32) (k1_hw211 : k1_chk211 v4435), ∀ a x, ((![v4435] : Fin 1 → IVec S16 32) a x).toNat < S32.size a := fun v4435 k1_hw211 => k1_hw211

def k1_chk212 (v4455 : IVec S16 32) : Prop :=
  (∀ a x, ((![v4455] : Fin 1 → IVec S16 32) a x).toNat < S32.size a)
theorem k1_idx214_inb : ∀ (v4455 : IVec S16 32) (k1_hw212 : k1_chk212 v4455), ∀ a x, ((![v4455] : Fin 1 → IVec S16 32) a x).toNat < S32.size a := fun v4455 k1_hw212 => k1_hw212

def k1_chk213 (v4475 : IVec S16 32) : Prop :=
  (∀ a x, ((![v4475] : Fin 1 → IVec S16 32) a x).toNat < S32.size a)
theorem k1_idx215_inb : ∀ (v4475 : IVec S16 32) (k1_hw213 : k1_chk213 v4475), ∀ a x, ((![v4475] : Fin 1 → IVec S16 32) a x).toNat < S32.size a := fun v4475 k1_hw213 => k1_hw213

def k1_chk214 (v4495 : IVec S16 32) : Prop :=
  (∀ a x, ((![v4495] : Fin 1 → IVec S16 32) a x).toNat < S32.size a)
theorem k1_idx216_inb : ∀ (v4495 : IVec S16 32) (k1_hw214 : k1_chk214 v4495), ∀ a x, ((![v4495] : Fin 1 → IVec S16 32) a x).toNat < S32.size a := fun v4495 k1_hw214 => k1_hw214

def k1_chk215 (v4515 : IVec S16 32) : Prop :=
  (∀ a x, ((![v4515] : Fin 1 → IVec S16 32) a x).toNat < S32.size a)
theorem k1_idx217_inb : ∀ (v4515 : IVec S16 32) (k1_hw215 : k1_chk215 v4515), ∀ a x, ((![v4515] : Fin 1 → IVec S16 32) a x).toNat < S32.size a := fun v4515 k1_hw215 => k1_hw215

def k1_chk216 (v4535 : IVec S16 32) : Prop :=
  (∀ a x, ((![v4535] : Fin 1 → IVec S16 32) a x).toNat < S32.size a)
theorem k1_idx218_inb : ∀ (v4535 : IVec S16 32) (k1_hw216 : k1_chk216 v4535), ∀ a x, ((![v4535] : Fin 1 → IVec S16 32) a x).toNat < S32.size a := fun v4535 k1_hw216 => k1_hw216

def k1_chk217 (v4555 : IVec S16 32) : Prop :=
  (∀ a x, ((![v4555] : Fin 1 → IVec S16 32) a x).toNat < S32.size a)
theorem k1_idx219_inb : ∀ (v4555 : IVec S16 32) (k1_hw217 : k1_chk217 v4555), ∀ a x, ((![v4555] : Fin 1 → IVec S16 32) a x).toNat < S32.size a := fun v4555 k1_hw217 => k1_hw217

def k1_chk218 (v4575 : IVec S16 32) : Prop :=
  (∀ a x, ((![v4575] : Fin 1 → IVec S16 32) a x).toNat < S32.size a)
theorem k1_idx220_inb : ∀ (v4575 : IVec S16 32) (k1_hw218 : k1_chk218 v4575), ∀ a x, ((![v4575] : Fin 1 → IVec S16 32) a x).toNat < S32.size a := fun v4575 k1_hw218 => k1_hw218

def k1_chk219 (v4595 : IVec S16 32) : Prop :=
  (∀ a x, ((![v4595] : Fin 1 → IVec S16 32) a x).toNat < S32.size a)
theorem k1_idx221_inb : ∀ (v4595 : IVec S16 32) (k1_hw219 : k1_chk219 v4595), ∀ a x, ((![v4595] : Fin 1 → IVec S16 32) a x).toNat < S32.size a := fun v4595 k1_hw219 => k1_hw219

def k1_chk220 (v4615 : IVec S16 32) : Prop :=
  (∀ a x, ((![v4615] : Fin 1 → IVec S16 32) a x).toNat < S32.size a)
theorem k1_idx222_inb : ∀ (v4615 : IVec S16 32) (k1_hw220 : k1_chk220 v4615), ∀ a x, ((![v4615] : Fin 1 → IVec S16 32) a x).toNat < S32.size a := fun v4615 k1_hw220 => k1_hw220

def k1_chk221 (v4635 : IVec S16 32) : Prop :=
  (∀ a x, ((![v4635] : Fin 1 → IVec S16 32) a x).toNat < S32.size a)
theorem k1_idx223_inb : ∀ (v4635 : IVec S16 32) (k1_hw221 : k1_chk221 v4635), ∀ a x, ((![v4635] : Fin 1 → IVec S16 32) a x).toNat < S32.size a := fun v4635 k1_hw221 => k1_hw221

def k1_chk222 (v4655 : IVec S16 32) : Prop :=
  (∀ a x, ((![v4655] : Fin 1 → IVec S16 32) a x).toNat < S32.size a)
theorem k1_idx224_inb : ∀ (v4655 : IVec S16 32) (k1_hw222 : k1_chk222 v4655), ∀ a x, ((![v4655] : Fin 1 → IVec S16 32) a x).toNat < S32.size a := fun v4655 k1_hw222 => k1_hw222

def k1_chk223 (v4675 : IVec S16 32) : Prop :=
  (∀ a x, ((![v4675] : Fin 1 → IVec S16 32) a x).toNat < S32.size a)
theorem k1_idx225_inb : ∀ (v4675 : IVec S16 32) (k1_hw223 : k1_chk223 v4675), ∀ a x, ((![v4675] : Fin 1 → IVec S16 32) a x).toNat < S32.size a := fun v4675 k1_hw223 => k1_hw223

def k1_chk224 (v4695 : IVec S16 32) : Prop :=
  (∀ a x, ((![v4695] : Fin 1 → IVec S16 32) a x).toNat < S32.size a)
theorem k1_idx226_inb : ∀ (v4695 : IVec S16 32) (k1_hw224 : k1_chk224 v4695), ∀ a x, ((![v4695] : Fin 1 → IVec S16 32) a x).toNat < S32.size a := fun v4695 k1_hw224 => k1_hw224

def k1_chk225 (v4715 : IVec S16 32) : Prop :=
  (∀ a x, ((![v4715] : Fin 1 → IVec S16 32) a x).toNat < S32.size a)
theorem k1_idx227_inb : ∀ (v4715 : IVec S16 32) (k1_hw225 : k1_chk225 v4715), ∀ a x, ((![v4715] : Fin 1 → IVec S16 32) a x).toNat < S32.size a := fun v4715 k1_hw225 => k1_hw225

def k1_chk226 (v4735 : IVec S16 32) : Prop :=
  (∀ a x, ((![v4735] : Fin 1 → IVec S16 32) a x).toNat < S32.size a)
theorem k1_idx228_inb : ∀ (v4735 : IVec S16 32) (k1_hw226 : k1_chk226 v4735), ∀ a x, ((![v4735] : Fin 1 → IVec S16 32) a x).toNat < S32.size a := fun v4735 k1_hw226 => k1_hw226

def k1_chk227 (v4755 : IVec S16 32) : Prop :=
  (∀ a x, ((![v4755] : Fin 1 → IVec S16 32) a x).toNat < S32.size a)
theorem k1_idx229_inb : ∀ (v4755 : IVec S16 32) (k1_hw227 : k1_chk227 v4755), ∀ a x, ((![v4755] : Fin 1 → IVec S16 32) a x).toNat < S32.size a := fun v4755 k1_hw227 => k1_hw227

def k1_chk228 (v4775 : IVec S16 32) : Prop :=
  (∀ a x, ((![v4775] : Fin 1 → IVec S16 32) a x).toNat < S32.size a)
theorem k1_idx230_inb : ∀ (v4775 : IVec S16 32) (k1_hw228 : k1_chk228 v4775), ∀ a x, ((![v4775] : Fin 1 → IVec S16 32) a x).toNat < S32.size a := fun v4775 k1_hw228 => k1_hw228

def k1_chk229 (v4795 : IVec S16 32) : Prop :=
  (∀ a x, ((![v4795] : Fin 1 → IVec S16 32) a x).toNat < S32.size a)
theorem k1_idx231_inb : ∀ (v4795 : IVec S16 32) (k1_hw229 : k1_chk229 v4795), ∀ a x, ((![v4795] : Fin 1 → IVec S16 32) a x).toNat < S32.size a := fun v4795 k1_hw229 => k1_hw229

def k1_chk230 (v4815 : IVec S16 32) : Prop :=
  (∀ a x, ((![v4815] : Fin 1 → IVec S16 32) a x).toNat < S32.size a)
theorem k1_idx232_inb : ∀ (v4815 : IVec S16 32) (k1_hw230 : k1_chk230 v4815), ∀ a x, ((![v4815] : Fin 1 → IVec S16 32) a x).toNat < S32.size a := fun v4815 k1_hw230 => k1_hw230

def k1_chk231 (v4835 : IVec S16 32) : Prop :=
  (∀ a x, ((![v4835] : Fin 1 → IVec S16 32) a x).toNat < S32.size a)
theorem k1_idx233_inb : ∀ (v4835 : IVec S16 32) (k1_hw231 : k1_chk231 v4835), ∀ a x, ((![v4835] : Fin 1 → IVec S16 32) a x).toNat < S32.size a := fun v4835 k1_hw231 => k1_hw231

def k1_chk232 (v4855 : IVec S16 32) : Prop :=
  (∀ a x, ((![v4855] : Fin 1 → IVec S16 32) a x).toNat < S32.size a)
theorem k1_idx234_inb : ∀ (v4855 : IVec S16 32) (k1_hw232 : k1_chk232 v4855), ∀ a x, ((![v4855] : Fin 1 → IVec S16 32) a x).toNat < S32.size a := fun v4855 k1_hw232 => k1_hw232

def k1_chk233 (v4875 : IVec S16 32) : Prop :=
  (∀ a x, ((![v4875] : Fin 1 → IVec S16 32) a x).toNat < S32.size a)
theorem k1_idx235_inb : ∀ (v4875 : IVec S16 32) (k1_hw233 : k1_chk233 v4875), ∀ a x, ((![v4875] : Fin 1 → IVec S16 32) a x).toNat < S32.size a := fun v4875 k1_hw233 => k1_hw233

def k1_chk234 (v4895 : IVec S16 32) : Prop :=
  (∀ a x, ((![v4895] : Fin 1 → IVec S16 32) a x).toNat < S32.size a)
theorem k1_idx236_inb : ∀ (v4895 : IVec S16 32) (k1_hw234 : k1_chk234 v4895), ∀ a x, ((![v4895] : Fin 1 → IVec S16 32) a x).toNat < S32.size a := fun v4895 k1_hw234 => k1_hw234

def k1_chk235 (v4915 : IVec S16 32) : Prop :=
  (∀ a x, ((![v4915] : Fin 1 → IVec S16 32) a x).toNat < S32.size a)
theorem k1_idx237_inb : ∀ (v4915 : IVec S16 32) (k1_hw235 : k1_chk235 v4915), ∀ a x, ((![v4915] : Fin 1 → IVec S16 32) a x).toNat < S32.size a := fun v4915 k1_hw235 => k1_hw235

def k1_chk236 (v4935 : IVec S16 32) : Prop :=
  (∀ a x, ((![v4935] : Fin 1 → IVec S16 32) a x).toNat < S32.size a)
theorem k1_idx238_inb : ∀ (v4935 : IVec S16 32) (k1_hw236 : k1_chk236 v4935), ∀ a x, ((![v4935] : Fin 1 → IVec S16 32) a x).toNat < S32.size a := fun v4935 k1_hw236 => k1_hw236

def k1_chk237 (v4955 : IVec S16 32) : Prop :=
  (∀ a x, ((![v4955] : Fin 1 → IVec S16 32) a x).toNat < S32.size a)
theorem k1_idx239_inb : ∀ (v4955 : IVec S16 32) (k1_hw237 : k1_chk237 v4955), ∀ a x, ((![v4955] : Fin 1 → IVec S16 32) a x).toNat < S32.size a := fun v4955 k1_hw237 => k1_hw237

def k1_chk238 (v4975 : IVec S16 32) : Prop :=
  (∀ a x, ((![v4975] : Fin 1 → IVec S16 32) a x).toNat < S32.size a)
theorem k1_idx240_inb : ∀ (v4975 : IVec S16 32) (k1_hw238 : k1_chk238 v4975), ∀ a x, ((![v4975] : Fin 1 → IVec S16 32) a x).toNat < S32.size a := fun v4975 k1_hw238 => k1_hw238

def k1_chk239 (v4995 : IVec S16 32) : Prop :=
  (∀ a x, ((![v4995] : Fin 1 → IVec S16 32) a x).toNat < S32.size a)
theorem k1_idx241_inb : ∀ (v4995 : IVec S16 32) (k1_hw239 : k1_chk239 v4995), ∀ a x, ((![v4995] : Fin 1 → IVec S16 32) a x).toNat < S32.size a := fun v4995 k1_hw239 => k1_hw239

def k1_chk240 (v5015 : IVec S16 32) : Prop :=
  (∀ a x, ((![v5015] : Fin 1 → IVec S16 32) a x).toNat < S32.size a)
theorem k1_idx242_inb : ∀ (v5015 : IVec S16 32) (k1_hw240 : k1_chk240 v5015), ∀ a x, ((![v5015] : Fin 1 → IVec S16 32) a x).toNat < S32.size a := fun v5015 k1_hw240 => k1_hw240

def k1_chk241 (v5035 : IVec S16 32) : Prop :=
  (∀ a x, ((![v5035] : Fin 1 → IVec S16 32) a x).toNat < S32.size a)
theorem k1_idx243_inb : ∀ (v5035 : IVec S16 32) (k1_hw241 : k1_chk241 v5035), ∀ a x, ((![v5035] : Fin 1 → IVec S16 32) a x).toNat < S32.size a := fun v5035 k1_hw241 => k1_hw241

def k1_chk242 (v5055 : IVec S16 32) : Prop :=
  (∀ a x, ((![v5055] : Fin 1 → IVec S16 32) a x).toNat < S32.size a)
theorem k1_idx244_inb : ∀ (v5055 : IVec S16 32) (k1_hw242 : k1_chk242 v5055), ∀ a x, ((![v5055] : Fin 1 → IVec S16 32) a x).toNat < S32.size a := fun v5055 k1_hw242 => k1_hw242

def k1_chk243 (v5075 : IVec S16 32) : Prop :=
  (∀ a x, ((![v5075] : Fin 1 → IVec S16 32) a x).toNat < S32.size a)
theorem k1_idx245_inb : ∀ (v5075 : IVec S16 32) (k1_hw243 : k1_chk243 v5075), ∀ a x, ((![v5075] : Fin 1 → IVec S16 32) a x).toNat < S32.size a := fun v5075 k1_hw243 => k1_hw243

def k1_chk244 (v5095 : IVec S16 32) : Prop :=
  (∀ a x, ((![v5095] : Fin 1 → IVec S16 32) a x).toNat < S32.size a)
theorem k1_idx246_inb : ∀ (v5095 : IVec S16 32) (k1_hw244 : k1_chk244 v5095), ∀ a x, ((![v5095] : Fin 1 → IVec S16 32) a x).toNat < S32.size a := fun v5095 k1_hw244 => k1_hw244

def k1_chk245 (v5115 : IVec S16 32) : Prop :=
  (∀ a x, ((![v5115] : Fin 1 → IVec S16 32) a x).toNat < S32.size a)
theorem k1_idx247_inb : ∀ (v5115 : IVec S16 32) (k1_hw245 : k1_chk245 v5115), ∀ a x, ((![v5115] : Fin 1 → IVec S16 32) a x).toNat < S32.size a := fun v5115 k1_hw245 => k1_hw245

def k1_chk246 (v5135 : IVec S16 32) : Prop :=
  (∀ a x, ((![v5135] : Fin 1 → IVec S16 32) a x).toNat < S32.size a)
theorem k1_idx248_inb : ∀ (v5135 : IVec S16 32) (k1_hw246 : k1_chk246 v5135), ∀ a x, ((![v5135] : Fin 1 → IVec S16 32) a x).toNat < S32.size a := fun v5135 k1_hw246 => k1_hw246

def k1_chk247 (v5155 : IVec S16 32) : Prop :=
  (∀ a x, ((![v5155] : Fin 1 → IVec S16 32) a x).toNat < S32.size a)
theorem k1_idx249_inb : ∀ (v5155 : IVec S16 32) (k1_hw247 : k1_chk247 v5155), ∀ a x, ((![v5155] : Fin 1 → IVec S16 32) a x).toNat < S32.size a := fun v5155 k1_hw247 => k1_hw247

def k1_chk248 (v5175 : IVec S16 32) : Prop :=
  (∀ a x, ((![v5175] : Fin 1 → IVec S16 32) a x).toNat < S32.size a)
theorem k1_idx250_inb : ∀ (v5175 : IVec S16 32) (k1_hw248 : k1_chk248 v5175), ∀ a x, ((![v5175] : Fin 1 → IVec S16 32) a x).toNat < S32.size a := fun v5175 k1_hw248 => k1_hw248

def k1_chk249 (v5195 : IVec S16 32) : Prop :=
  (∀ a x, ((![v5195] : Fin 1 → IVec S16 32) a x).toNat < S32.size a)
theorem k1_idx251_inb : ∀ (v5195 : IVec S16 32) (k1_hw249 : k1_chk249 v5195), ∀ a x, ((![v5195] : Fin 1 → IVec S16 32) a x).toNat < S32.size a := fun v5195 k1_hw249 => k1_hw249

def k1_chk250 (v5215 : IVec S16 32) : Prop :=
  (∀ a x, ((![v5215] : Fin 1 → IVec S16 32) a x).toNat < S32.size a)
theorem k1_idx252_inb : ∀ (v5215 : IVec S16 32) (k1_hw250 : k1_chk250 v5215), ∀ a x, ((![v5215] : Fin 1 → IVec S16 32) a x).toNat < S32.size a := fun v5215 k1_hw250 => k1_hw250

def k1_chk251 (v5235 : IVec S16 32) : Prop :=
  (∀ a x, ((![v5235] : Fin 1 → IVec S16 32) a x).toNat < S32.size a)
theorem k1_idx253_inb : ∀ (v5235 : IVec S16 32) (k1_hw251 : k1_chk251 v5235), ∀ a x, ((![v5235] : Fin 1 → IVec S16 32) a x).toNat < S32.size a := fun v5235 k1_hw251 => k1_hw251

def k1_chk252 (v5255 : IVec S16 32) : Prop :=
  (∀ a x, ((![v5255] : Fin 1 → IVec S16 32) a x).toNat < S32.size a)
theorem k1_idx254_inb : ∀ (v5255 : IVec S16 32) (k1_hw252 : k1_chk252 v5255), ∀ a x, ((![v5255] : Fin 1 → IVec S16 32) a x).toNat < S32.size a := fun v5255 k1_hw252 => k1_hw252

def k1_chk253 (v5275 : IVec S16 32) : Prop :=
  (∀ a x, ((![v5275] : Fin 1 → IVec S16 32) a x).toNat < S32.size a)
theorem k1_idx255_inb : ∀ (v5275 : IVec S16 32) (k1_hw253 : k1_chk253 v5275), ∀ a x, ((![v5275] : Fin 1 → IVec S16 32) a x).toNat < S32.size a := fun v5275 k1_hw253 => k1_hw253

def k1_chk254 (v5295 : IVec S16 32) : Prop :=
  (∀ a x, ((![v5295] : Fin 1 → IVec S16 32) a x).toNat < S32.size a)
theorem k1_idx256_inb : ∀ (v5295 : IVec S16 32) (k1_hw254 : k1_chk254 v5295), ∀ a x, ((![v5295] : Fin 1 → IVec S16 32) a x).toNat < S32.size a := fun v5295 k1_hw254 => k1_hw254

def k1_chk255 (v5315 : IVec S16 32) : Prop :=
  (∀ a x, ((![v5315] : Fin 1 → IVec S16 32) a x).toNat < S32.size a)
theorem k1_idx257_inb : ∀ (v5315 : IVec S16 32) (k1_hw255 : k1_chk255 v5315), ∀ a x, ((![v5315] : Fin 1 → IVec S16 32) a x).toNat < S32.size a := fun v5315 k1_hw255 => k1_hw255

def k1_chk256 (v5335 : IVec S16 32) : Prop :=
  (∀ a x, ((![v5335] : Fin 1 → IVec S16 32) a x).toNat < S32.size a)
theorem k1_idx258_inb : ∀ (v5335 : IVec S16 32) (k1_hw256 : k1_chk256 v5335), ∀ a x, ((![v5335] : Fin 1 → IVec S16 32) a x).toNat < S32.size a := fun v5335 k1_hw256 => k1_hw256

def k1_chk257 (v5355 : IVec S16 32) : Prop :=
  (∀ a x, ((![v5355] : Fin 1 → IVec S16 32) a x).toNat < S32.size a)
theorem k1_idx259_inb : ∀ (v5355 : IVec S16 32) (k1_hw257 : k1_chk257 v5355), ∀ a x, ((![v5355] : Fin 1 → IVec S16 32) a x).toNat < S32.size a := fun v5355 k1_hw257 => k1_hw257

def k1_chk258 (v5375 : IVec S16 32) : Prop :=
  (∀ a x, ((![v5375] : Fin 1 → IVec S16 32) a x).toNat < S32.size a)
theorem k1_idx260_inb : ∀ (v5375 : IVec S16 32) (k1_hw258 : k1_chk258 v5375), ∀ a x, ((![v5375] : Fin 1 → IVec S16 32) a x).toNat < S32.size a := fun v5375 k1_hw258 => k1_hw258

def k1_chk259 (v5395 : IVec S16 32) : Prop :=
  (∀ a x, ((![v5395] : Fin 1 → IVec S16 32) a x).toNat < S32.size a)
theorem k1_idx261_inb : ∀ (v5395 : IVec S16 32) (k1_hw259 : k1_chk259 v5395), ∀ a x, ((![v5395] : Fin 1 → IVec S16 32) a x).toNat < S32.size a := fun v5395 k1_hw259 => k1_hw259

def k1_chk260 (v5415 : IVec S16 32) : Prop :=
  (∀ a x, ((![v5415] : Fin 1 → IVec S16 32) a x).toNat < S32.size a)
theorem k1_idx262_inb : ∀ (v5415 : IVec S16 32) (k1_hw260 : k1_chk260 v5415), ∀ a x, ((![v5415] : Fin 1 → IVec S16 32) a x).toNat < S32.size a := fun v5415 k1_hw260 => k1_hw260

def k1_chk261 (v5435 : IVec S16 32) : Prop :=
  (∀ a x, ((![v5435] : Fin 1 → IVec S16 32) a x).toNat < S32.size a)
theorem k1_idx263_inb : ∀ (v5435 : IVec S16 32) (k1_hw261 : k1_chk261 v5435), ∀ a x, ((![v5435] : Fin 1 → IVec S16 32) a x).toNat < S32.size a := fun v5435 k1_hw261 => k1_hw261

def k1_chk262 (v5455 : IVec S16 32) : Prop :=
  (∀ a x, ((![v5455] : Fin 1 → IVec S16 32) a x).toNat < S32.size a)
theorem k1_idx264_inb : ∀ (v5455 : IVec S16 32) (k1_hw262 : k1_chk262 v5455), ∀ a x, ((![v5455] : Fin 1 → IVec S16 32) a x).toNat < S32.size a := fun v5455 k1_hw262 => k1_hw262

def k1_chk263 (v5475 : IVec S16 32) : Prop :=
  (∀ a x, ((![v5475] : Fin 1 → IVec S16 32) a x).toNat < S32.size a)
theorem k1_idx265_inb : ∀ (v5475 : IVec S16 32) (k1_hw263 : k1_chk263 v5475), ∀ a x, ((![v5475] : Fin 1 → IVec S16 32) a x).toNat < S32.size a := fun v5475 k1_hw263 => k1_hw263

def k1_chk264 (v5495 : IVec S16 32) : Prop :=
  (∀ a x, ((![v5495] : Fin 1 → IVec S16 32) a x).toNat < S32.size a)
theorem k1_idx266_inb : ∀ (v5495 : IVec S16 32) (k1_hw264 : k1_chk264 v5495), ∀ a x, ((![v5495] : Fin 1 → IVec S16 32) a x).toNat < S32.size a := fun v5495 k1_hw264 => k1_hw264

def k1_chk265 (v5506 : IVec S16 32) : Prop :=
  (∀ a x, ((![v5506] : Fin 1 → IVec S16 32) a x).toNat < S32.size a)
theorem k1_idx268_inb : ∀ (v5506 : IVec S16 32) (k1_hw265 : k1_chk265 v5506), ∀ a x, ((![v5506] : Fin 1 → IVec S16 32) a x).toNat < S32.size a := fun v5506 k1_hw265 => k1_hw265

def k1_chk266 (v5520 : IVec S16 32) : Prop :=
  (∀ a x, ((![v5520] : Fin 1 → IVec S16 32) a x).toNat < S32.size a)
theorem k1_idx269_inb : ∀ (v5520 : IVec S16 32) (k1_hw266 : k1_chk266 v5520), ∀ a x, ((![v5520] : Fin 1 → IVec S16 32) a x).toNat < S32.size a := fun v5520 k1_hw266 => k1_hw266

def k1_chk267 (v5547 : IVec S16 32) : Prop :=
  (∀ a x, ((![v5547] : Fin 1 → IVec S16 32) a x).toNat < S32.size a)
theorem k1_idx270_inb : ∀ (v5547 : IVec S16 32) (k1_hw267 : k1_chk267 v5547), ∀ a x, ((![v5547] : Fin 1 → IVec S16 32) a x).toNat < S32.size a := fun v5547 k1_hw267 => k1_hw267

def k1_chk268 (v5567 : IVec S16 32) : Prop :=
  (∀ a x, ((![v5567] : Fin 1 → IVec S16 32) a x).toNat < S32.size a)
theorem k1_idx271_inb : ∀ (v5567 : IVec S16 32) (k1_hw268 : k1_chk268 v5567), ∀ a x, ((![v5567] : Fin 1 → IVec S16 32) a x).toNat < S32.size a := fun v5567 k1_hw268 => k1_hw268

def k1_chk269 (v5587 : IVec S16 32) : Prop :=
  (∀ a x, ((![v5587] : Fin 1 → IVec S16 32) a x).toNat < S32.size a)
theorem k1_idx272_inb : ∀ (v5587 : IVec S16 32) (k1_hw269 : k1_chk269 v5587), ∀ a x, ((![v5587] : Fin 1 → IVec S16 32) a x).toNat < S32.size a := fun v5587 k1_hw269 => k1_hw269

def k1_chk270 (v5607 : IVec S16 32) : Prop :=
  (∀ a x, ((![v5607] : Fin 1 → IVec S16 32) a x).toNat < S32.size a)
theorem k1_idx273_inb : ∀ (v5607 : IVec S16 32) (k1_hw270 : k1_chk270 v5607), ∀ a x, ((![v5607] : Fin 1 → IVec S16 32) a x).toNat < S32.size a := fun v5607 k1_hw270 => k1_hw270

def k1_chk271 (v5627 : IVec S16 32) : Prop :=
  (∀ a x, ((![v5627] : Fin 1 → IVec S16 32) a x).toNat < S32.size a)
theorem k1_idx274_inb : ∀ (v5627 : IVec S16 32) (k1_hw271 : k1_chk271 v5627), ∀ a x, ((![v5627] : Fin 1 → IVec S16 32) a x).toNat < S32.size a := fun v5627 k1_hw271 => k1_hw271

def k1_chk272 (v5647 : IVec S16 32) : Prop :=
  (∀ a x, ((![v5647] : Fin 1 → IVec S16 32) a x).toNat < S32.size a)
theorem k1_idx275_inb : ∀ (v5647 : IVec S16 32) (k1_hw272 : k1_chk272 v5647), ∀ a x, ((![v5647] : Fin 1 → IVec S16 32) a x).toNat < S32.size a := fun v5647 k1_hw272 => k1_hw272

def k1_chk273 (v5667 : IVec S16 32) : Prop :=
  (∀ a x, ((![v5667] : Fin 1 → IVec S16 32) a x).toNat < S32.size a)
theorem k1_idx276_inb : ∀ (v5667 : IVec S16 32) (k1_hw273 : k1_chk273 v5667), ∀ a x, ((![v5667] : Fin 1 → IVec S16 32) a x).toNat < S32.size a := fun v5667 k1_hw273 => k1_hw273

def k1_chk274 (v5687 : IVec S16 32) : Prop :=
  (∀ a x, ((![v5687] : Fin 1 → IVec S16 32) a x).toNat < S32.size a)
theorem k1_idx277_inb : ∀ (v5687 : IVec S16 32) (k1_hw274 : k1_chk274 v5687), ∀ a x, ((![v5687] : Fin 1 → IVec S16 32) a x).toNat < S32.size a := fun v5687 k1_hw274 => k1_hw274

def k1_chk275 (v5707 : IVec S16 32) : Prop :=
  (∀ a x, ((![v5707] : Fin 1 → IVec S16 32) a x).toNat < S32.size a)
theorem k1_idx278_inb : ∀ (v5707 : IVec S16 32) (k1_hw275 : k1_chk275 v5707), ∀ a x, ((![v5707] : Fin 1 → IVec S16 32) a x).toNat < S32.size a := fun v5707 k1_hw275 => k1_hw275

def k1_chk276 (v5727 : IVec S16 32) : Prop :=
  (∀ a x, ((![v5727] : Fin 1 → IVec S16 32) a x).toNat < S32.size a)
theorem k1_idx279_inb : ∀ (v5727 : IVec S16 32) (k1_hw276 : k1_chk276 v5727), ∀ a x, ((![v5727] : Fin 1 → IVec S16 32) a x).toNat < S32.size a := fun v5727 k1_hw276 => k1_hw276

def k1_chk277 (v5747 : IVec S16 32) : Prop :=
  (∀ a x, ((![v5747] : Fin 1 → IVec S16 32) a x).toNat < S32.size a)
theorem k1_idx280_inb : ∀ (v5747 : IVec S16 32) (k1_hw277 : k1_chk277 v5747), ∀ a x, ((![v5747] : Fin 1 → IVec S16 32) a x).toNat < S32.size a := fun v5747 k1_hw277 => k1_hw277

def k1_chk278 (v5767 : IVec S16 32) : Prop :=
  (∀ a x, ((![v5767] : Fin 1 → IVec S16 32) a x).toNat < S32.size a)
theorem k1_idx281_inb : ∀ (v5767 : IVec S16 32) (k1_hw278 : k1_chk278 v5767), ∀ a x, ((![v5767] : Fin 1 → IVec S16 32) a x).toNat < S32.size a := fun v5767 k1_hw278 => k1_hw278

def k1_chk279 (v5787 : IVec S16 32) : Prop :=
  (∀ a x, ((![v5787] : Fin 1 → IVec S16 32) a x).toNat < S32.size a)
theorem k1_idx282_inb : ∀ (v5787 : IVec S16 32) (k1_hw279 : k1_chk279 v5787), ∀ a x, ((![v5787] : Fin 1 → IVec S16 32) a x).toNat < S32.size a := fun v5787 k1_hw279 => k1_hw279

def k1_chk280 (v5807 : IVec S16 32) : Prop :=
  (∀ a x, ((![v5807] : Fin 1 → IVec S16 32) a x).toNat < S32.size a)
theorem k1_idx283_inb : ∀ (v5807 : IVec S16 32) (k1_hw280 : k1_chk280 v5807), ∀ a x, ((![v5807] : Fin 1 → IVec S16 32) a x).toNat < S32.size a := fun v5807 k1_hw280 => k1_hw280

def k1_chk281 (v5827 : IVec S16 32) : Prop :=
  (∀ a x, ((![v5827] : Fin 1 → IVec S16 32) a x).toNat < S32.size a)
theorem k1_idx284_inb : ∀ (v5827 : IVec S16 32) (k1_hw281 : k1_chk281 v5827), ∀ a x, ((![v5827] : Fin 1 → IVec S16 32) a x).toNat < S32.size a := fun v5827 k1_hw281 => k1_hw281

def k1_chk282 (v5847 : IVec S16 32) : Prop :=
  (∀ a x, ((![v5847] : Fin 1 → IVec S16 32) a x).toNat < S32.size a)
theorem k1_idx285_inb : ∀ (v5847 : IVec S16 32) (k1_hw282 : k1_chk282 v5847), ∀ a x, ((![v5847] : Fin 1 → IVec S16 32) a x).toNat < S32.size a := fun v5847 k1_hw282 => k1_hw282

def k1_chk283 (v5867 : IVec S16 32) : Prop :=
  (∀ a x, ((![v5867] : Fin 1 → IVec S16 32) a x).toNat < S32.size a)
theorem k1_idx286_inb : ∀ (v5867 : IVec S16 32) (k1_hw283 : k1_chk283 v5867), ∀ a x, ((![v5867] : Fin 1 → IVec S16 32) a x).toNat < S32.size a := fun v5867 k1_hw283 => k1_hw283

def k1_chk284 (v5887 : IVec S16 32) : Prop :=
  (∀ a x, ((![v5887] : Fin 1 → IVec S16 32) a x).toNat < S32.size a)
theorem k1_idx287_inb : ∀ (v5887 : IVec S16 32) (k1_hw284 : k1_chk284 v5887), ∀ a x, ((![v5887] : Fin 1 → IVec S16 32) a x).toNat < S32.size a := fun v5887 k1_hw284 => k1_hw284

def k1_chk285 (v5907 : IVec S16 32) : Prop :=
  (∀ a x, ((![v5907] : Fin 1 → IVec S16 32) a x).toNat < S32.size a)
theorem k1_idx288_inb : ∀ (v5907 : IVec S16 32) (k1_hw285 : k1_chk285 v5907), ∀ a x, ((![v5907] : Fin 1 → IVec S16 32) a x).toNat < S32.size a := fun v5907 k1_hw285 => k1_hw285

def k1_chk286 (v5927 : IVec S16 32) : Prop :=
  (∀ a x, ((![v5927] : Fin 1 → IVec S16 32) a x).toNat < S32.size a)
theorem k1_idx289_inb : ∀ (v5927 : IVec S16 32) (k1_hw286 : k1_chk286 v5927), ∀ a x, ((![v5927] : Fin 1 → IVec S16 32) a x).toNat < S32.size a := fun v5927 k1_hw286 => k1_hw286

def k1_chk287 (v5947 : IVec S16 32) : Prop :=
  (∀ a x, ((![v5947] : Fin 1 → IVec S16 32) a x).toNat < S32.size a)
theorem k1_idx290_inb : ∀ (v5947 : IVec S16 32) (k1_hw287 : k1_chk287 v5947), ∀ a x, ((![v5947] : Fin 1 → IVec S16 32) a x).toNat < S32.size a := fun v5947 k1_hw287 => k1_hw287

def k1_chk288 (v5967 : IVec S16 32) : Prop :=
  (∀ a x, ((![v5967] : Fin 1 → IVec S16 32) a x).toNat < S32.size a)
theorem k1_idx291_inb : ∀ (v5967 : IVec S16 32) (k1_hw288 : k1_chk288 v5967), ∀ a x, ((![v5967] : Fin 1 → IVec S16 32) a x).toNat < S32.size a := fun v5967 k1_hw288 => k1_hw288

def k1_chk289 (v5987 : IVec S16 32) : Prop :=
  (∀ a x, ((![v5987] : Fin 1 → IVec S16 32) a x).toNat < S32.size a)
theorem k1_idx292_inb : ∀ (v5987 : IVec S16 32) (k1_hw289 : k1_chk289 v5987), ∀ a x, ((![v5987] : Fin 1 → IVec S16 32) a x).toNat < S32.size a := fun v5987 k1_hw289 => k1_hw289

def k1_chk290 (v6007 : IVec S16 32) : Prop :=
  (∀ a x, ((![v6007] : Fin 1 → IVec S16 32) a x).toNat < S32.size a)
theorem k1_idx293_inb : ∀ (v6007 : IVec S16 32) (k1_hw290 : k1_chk290 v6007), ∀ a x, ((![v6007] : Fin 1 → IVec S16 32) a x).toNat < S32.size a := fun v6007 k1_hw290 => k1_hw290

def k1_chk291 (v6027 : IVec S16 32) : Prop :=
  (∀ a x, ((![v6027] : Fin 1 → IVec S16 32) a x).toNat < S32.size a)
theorem k1_idx294_inb : ∀ (v6027 : IVec S16 32) (k1_hw291 : k1_chk291 v6027), ∀ a x, ((![v6027] : Fin 1 → IVec S16 32) a x).toNat < S32.size a := fun v6027 k1_hw291 => k1_hw291

def k1_chk292 (v6047 : IVec S16 32) : Prop :=
  (∀ a x, ((![v6047] : Fin 1 → IVec S16 32) a x).toNat < S32.size a)
theorem k1_idx295_inb : ∀ (v6047 : IVec S16 32) (k1_hw292 : k1_chk292 v6047), ∀ a x, ((![v6047] : Fin 1 → IVec S16 32) a x).toNat < S32.size a := fun v6047 k1_hw292 => k1_hw292

def k1_chk293 (v6067 : IVec S16 32) : Prop :=
  (∀ a x, ((![v6067] : Fin 1 → IVec S16 32) a x).toNat < S32.size a)
theorem k1_idx296_inb : ∀ (v6067 : IVec S16 32) (k1_hw293 : k1_chk293 v6067), ∀ a x, ((![v6067] : Fin 1 → IVec S16 32) a x).toNat < S32.size a := fun v6067 k1_hw293 => k1_hw293

def k1_chk294 (v6087 : IVec S16 32) : Prop :=
  (∀ a x, ((![v6087] : Fin 1 → IVec S16 32) a x).toNat < S32.size a)
theorem k1_idx297_inb : ∀ (v6087 : IVec S16 32) (k1_hw294 : k1_chk294 v6087), ∀ a x, ((![v6087] : Fin 1 → IVec S16 32) a x).toNat < S32.size a := fun v6087 k1_hw294 => k1_hw294

def k1_chk295 (v6107 : IVec S16 32) : Prop :=
  (∀ a x, ((![v6107] : Fin 1 → IVec S16 32) a x).toNat < S32.size a)
theorem k1_idx298_inb : ∀ (v6107 : IVec S16 32) (k1_hw295 : k1_chk295 v6107), ∀ a x, ((![v6107] : Fin 1 → IVec S16 32) a x).toNat < S32.size a := fun v6107 k1_hw295 => k1_hw295

def k1_chk296 (v6127 : IVec S16 32) : Prop :=
  (∀ a x, ((![v6127] : Fin 1 → IVec S16 32) a x).toNat < S32.size a)
theorem k1_idx299_inb : ∀ (v6127 : IVec S16 32) (k1_hw296 : k1_chk296 v6127), ∀ a x, ((![v6127] : Fin 1 → IVec S16 32) a x).toNat < S32.size a := fun v6127 k1_hw296 => k1_hw296

def k1_chk297 (v6147 : IVec S16 32) : Prop :=
  (∀ a x, ((![v6147] : Fin 1 → IVec S16 32) a x).toNat < S32.size a)
theorem k1_idx300_inb : ∀ (v6147 : IVec S16 32) (k1_hw297 : k1_chk297 v6147), ∀ a x, ((![v6147] : Fin 1 → IVec S16 32) a x).toNat < S32.size a := fun v6147 k1_hw297 => k1_hw297

def k1_chk298 (v6167 : IVec S16 32) : Prop :=
  (∀ a x, ((![v6167] : Fin 1 → IVec S16 32) a x).toNat < S32.size a)
theorem k1_idx301_inb : ∀ (v6167 : IVec S16 32) (k1_hw298 : k1_chk298 v6167), ∀ a x, ((![v6167] : Fin 1 → IVec S16 32) a x).toNat < S32.size a := fun v6167 k1_hw298 => k1_hw298

def k1_chk299 (v6187 : IVec S16 32) : Prop :=
  (∀ a x, ((![v6187] : Fin 1 → IVec S16 32) a x).toNat < S32.size a)
theorem k1_idx302_inb : ∀ (v6187 : IVec S16 32) (k1_hw299 : k1_chk299 v6187), ∀ a x, ((![v6187] : Fin 1 → IVec S16 32) a x).toNat < S32.size a := fun v6187 k1_hw299 => k1_hw299

def k1_chk300 (v6207 : IVec S16 32) : Prop :=
  (∀ a x, ((![v6207] : Fin 1 → IVec S16 32) a x).toNat < S32.size a)
theorem k1_idx303_inb : ∀ (v6207 : IVec S16 32) (k1_hw300 : k1_chk300 v6207), ∀ a x, ((![v6207] : Fin 1 → IVec S16 32) a x).toNat < S32.size a := fun v6207 k1_hw300 => k1_hw300

def k1_chk301 (v6227 : IVec S16 32) : Prop :=
  (∀ a x, ((![v6227] : Fin 1 → IVec S16 32) a x).toNat < S32.size a)
theorem k1_idx304_inb : ∀ (v6227 : IVec S16 32) (k1_hw301 : k1_chk301 v6227), ∀ a x, ((![v6227] : Fin 1 → IVec S16 32) a x).toNat < S32.size a := fun v6227 k1_hw301 => k1_hw301

def k1_chk302 (v6247 : IVec S16 32) : Prop :=
  (∀ a x, ((![v6247] : Fin 1 → IVec S16 32) a x).toNat < S32.size a)
theorem k1_idx305_inb : ∀ (v6247 : IVec S16 32) (k1_hw302 : k1_chk302 v6247), ∀ a x, ((![v6247] : Fin 1 → IVec S16 32) a x).toNat < S32.size a := fun v6247 k1_hw302 => k1_hw302

def k1_chk303 (v6267 : IVec S16 32) : Prop :=
  (∀ a x, ((![v6267] : Fin 1 → IVec S16 32) a x).toNat < S32.size a)
theorem k1_idx306_inb : ∀ (v6267 : IVec S16 32) (k1_hw303 : k1_chk303 v6267), ∀ a x, ((![v6267] : Fin 1 → IVec S16 32) a x).toNat < S32.size a := fun v6267 k1_hw303 => k1_hw303

def k1_chk304 (v6287 : IVec S16 32) : Prop :=
  (∀ a x, ((![v6287] : Fin 1 → IVec S16 32) a x).toNat < S32.size a)
theorem k1_idx307_inb : ∀ (v6287 : IVec S16 32) (k1_hw304 : k1_chk304 v6287), ∀ a x, ((![v6287] : Fin 1 → IVec S16 32) a x).toNat < S32.size a := fun v6287 k1_hw304 => k1_hw304

def k1_chk305 (v6307 : IVec S16 32) : Prop :=
  (∀ a x, ((![v6307] : Fin 1 → IVec S16 32) a x).toNat < S32.size a)
theorem k1_idx308_inb : ∀ (v6307 : IVec S16 32) (k1_hw305 : k1_chk305 v6307), ∀ a x, ((![v6307] : Fin 1 → IVec S16 32) a x).toNat < S32.size a := fun v6307 k1_hw305 => k1_hw305

def k1_chk306 (v6327 : IVec S16 32) : Prop :=
  (∀ a x, ((![v6327] : Fin 1 → IVec S16 32) a x).toNat < S32.size a)
theorem k1_idx309_inb : ∀ (v6327 : IVec S16 32) (k1_hw306 : k1_chk306 v6327), ∀ a x, ((![v6327] : Fin 1 → IVec S16 32) a x).toNat < S32.size a := fun v6327 k1_hw306 => k1_hw306

def k1_chk307 (v6347 : IVec S16 32) : Prop :=
  (∀ a x, ((![v6347] : Fin 1 → IVec S16 32) a x).toNat < S32.size a)
theorem k1_idx310_inb : ∀ (v6347 : IVec S16 32) (k1_hw307 : k1_chk307 v6347), ∀ a x, ((![v6347] : Fin 1 → IVec S16 32) a x).toNat < S32.size a := fun v6347 k1_hw307 => k1_hw307

def k1_chk308 (v6367 : IVec S16 32) : Prop :=
  (∀ a x, ((![v6367] : Fin 1 → IVec S16 32) a x).toNat < S32.size a)
theorem k1_idx311_inb : ∀ (v6367 : IVec S16 32) (k1_hw308 : k1_chk308 v6367), ∀ a x, ((![v6367] : Fin 1 → IVec S16 32) a x).toNat < S32.size a := fun v6367 k1_hw308 => k1_hw308

def k1_chk309 (v6387 : IVec S16 32) : Prop :=
  (∀ a x, ((![v6387] : Fin 1 → IVec S16 32) a x).toNat < S32.size a)
theorem k1_idx312_inb : ∀ (v6387 : IVec S16 32) (k1_hw309 : k1_chk309 v6387), ∀ a x, ((![v6387] : Fin 1 → IVec S16 32) a x).toNat < S32.size a := fun v6387 k1_hw309 => k1_hw309

def k1_chk310 (v6407 : IVec S16 32) : Prop :=
  (∀ a x, ((![v6407] : Fin 1 → IVec S16 32) a x).toNat < S32.size a)
theorem k1_idx313_inb : ∀ (v6407 : IVec S16 32) (k1_hw310 : k1_chk310 v6407), ∀ a x, ((![v6407] : Fin 1 → IVec S16 32) a x).toNat < S32.size a := fun v6407 k1_hw310 => k1_hw310

def k1_chk311 (v6427 : IVec S16 32) : Prop :=
  (∀ a x, ((![v6427] : Fin 1 → IVec S16 32) a x).toNat < S32.size a)
theorem k1_idx314_inb : ∀ (v6427 : IVec S16 32) (k1_hw311 : k1_chk311 v6427), ∀ a x, ((![v6427] : Fin 1 → IVec S16 32) a x).toNat < S32.size a := fun v6427 k1_hw311 => k1_hw311

def k1_chk312 (v6447 : IVec S16 32) : Prop :=
  (∀ a x, ((![v6447] : Fin 1 → IVec S16 32) a x).toNat < S32.size a)
theorem k1_idx315_inb : ∀ (v6447 : IVec S16 32) (k1_hw312 : k1_chk312 v6447), ∀ a x, ((![v6447] : Fin 1 → IVec S16 32) a x).toNat < S32.size a := fun v6447 k1_hw312 => k1_hw312

def k1_chk313 (v6467 : IVec S16 32) : Prop :=
  (∀ a x, ((![v6467] : Fin 1 → IVec S16 32) a x).toNat < S32.size a)
theorem k1_idx316_inb : ∀ (v6467 : IVec S16 32) (k1_hw313 : k1_chk313 v6467), ∀ a x, ((![v6467] : Fin 1 → IVec S16 32) a x).toNat < S32.size a := fun v6467 k1_hw313 => k1_hw313

def k1_chk314 (v6487 : IVec S16 32) : Prop :=
  (∀ a x, ((![v6487] : Fin 1 → IVec S16 32) a x).toNat < S32.size a)
theorem k1_idx317_inb : ∀ (v6487 : IVec S16 32) (k1_hw314 : k1_chk314 v6487), ∀ a x, ((![v6487] : Fin 1 → IVec S16 32) a x).toNat < S32.size a := fun v6487 k1_hw314 => k1_hw314

def k1_chk315 (v6507 : IVec S16 32) : Prop :=
  (∀ a x, ((![v6507] : Fin 1 → IVec S16 32) a x).toNat < S32.size a)
theorem k1_idx318_inb : ∀ (v6507 : IVec S16 32) (k1_hw315 : k1_chk315 v6507), ∀ a x, ((![v6507] : Fin 1 → IVec S16 32) a x).toNat < S32.size a := fun v6507 k1_hw315 => k1_hw315

def k1_chk316 (v6527 : IVec S16 32) : Prop :=
  (∀ a x, ((![v6527] : Fin 1 → IVec S16 32) a x).toNat < S32.size a)
theorem k1_idx319_inb : ∀ (v6527 : IVec S16 32) (k1_hw316 : k1_chk316 v6527), ∀ a x, ((![v6527] : Fin 1 → IVec S16 32) a x).toNat < S32.size a := fun v6527 k1_hw316 => k1_hw316

def k1_chk317 (v6547 : IVec S16 32) : Prop :=
  (∀ a x, ((![v6547] : Fin 1 → IVec S16 32) a x).toNat < S32.size a)
theorem k1_idx320_inb : ∀ (v6547 : IVec S16 32) (k1_hw317 : k1_chk317 v6547), ∀ a x, ((![v6547] : Fin 1 → IVec S16 32) a x).toNat < S32.size a := fun v6547 k1_hw317 => k1_hw317

def k1_chk318 (v6567 : IVec S16 32) : Prop :=
  (∀ a x, ((![v6567] : Fin 1 → IVec S16 32) a x).toNat < S32.size a)
theorem k1_idx321_inb : ∀ (v6567 : IVec S16 32) (k1_hw318 : k1_chk318 v6567), ∀ a x, ((![v6567] : Fin 1 → IVec S16 32) a x).toNat < S32.size a := fun v6567 k1_hw318 => k1_hw318

def k1_chk319 (v6587 : IVec S16 32) : Prop :=
  (∀ a x, ((![v6587] : Fin 1 → IVec S16 32) a x).toNat < S32.size a)
theorem k1_idx322_inb : ∀ (v6587 : IVec S16 32) (k1_hw319 : k1_chk319 v6587), ∀ a x, ((![v6587] : Fin 1 → IVec S16 32) a x).toNat < S32.size a := fun v6587 k1_hw319 => k1_hw319

def k1_chk320 (v6607 : IVec S16 32) : Prop :=
  (∀ a x, ((![v6607] : Fin 1 → IVec S16 32) a x).toNat < S32.size a)
theorem k1_idx323_inb : ∀ (v6607 : IVec S16 32) (k1_hw320 : k1_chk320 v6607), ∀ a x, ((![v6607] : Fin 1 → IVec S16 32) a x).toNat < S32.size a := fun v6607 k1_hw320 => k1_hw320

def k1_chk321 (v6627 : IVec S16 32) : Prop :=
  (∀ a x, ((![v6627] : Fin 1 → IVec S16 32) a x).toNat < S32.size a)
theorem k1_idx324_inb : ∀ (v6627 : IVec S16 32) (k1_hw321 : k1_chk321 v6627), ∀ a x, ((![v6627] : Fin 1 → IVec S16 32) a x).toNat < S32.size a := fun v6627 k1_hw321 => k1_hw321

def k1_chk322 (v6647 : IVec S16 32) : Prop :=
  (∀ a x, ((![v6647] : Fin 1 → IVec S16 32) a x).toNat < S32.size a)
theorem k1_idx325_inb : ∀ (v6647 : IVec S16 32) (k1_hw322 : k1_chk322 v6647), ∀ a x, ((![v6647] : Fin 1 → IVec S16 32) a x).toNat < S32.size a := fun v6647 k1_hw322 => k1_hw322

def k1_chk323 (v6667 : IVec S16 32) : Prop :=
  (∀ a x, ((![v6667] : Fin 1 → IVec S16 32) a x).toNat < S32.size a)
theorem k1_idx326_inb : ∀ (v6667 : IVec S16 32) (k1_hw323 : k1_chk323 v6667), ∀ a x, ((![v6667] : Fin 1 → IVec S16 32) a x).toNat < S32.size a := fun v6667 k1_hw323 => k1_hw323

def k1_chk324 (v6687 : IVec S16 32) : Prop :=
  (∀ a x, ((![v6687] : Fin 1 → IVec S16 32) a x).toNat < S32.size a)
theorem k1_idx327_inb : ∀ (v6687 : IVec S16 32) (k1_hw324 : k1_chk324 v6687), ∀ a x, ((![v6687] : Fin 1 → IVec S16 32) a x).toNat < S32.size a := fun v6687 k1_hw324 => k1_hw324

def k1_chk325 (v6707 : IVec S16 32) : Prop :=
  (∀ a x, ((![v6707] : Fin 1 → IVec S16 32) a x).toNat < S32.size a)
theorem k1_idx328_inb : ∀ (v6707 : IVec S16 32) (k1_hw325 : k1_chk325 v6707), ∀ a x, ((![v6707] : Fin 1 → IVec S16 32) a x).toNat < S32.size a := fun v6707 k1_hw325 => k1_hw325

def k1_chk326 (v6727 : IVec S16 32) : Prop :=
  (∀ a x, ((![v6727] : Fin 1 → IVec S16 32) a x).toNat < S32.size a)
theorem k1_idx329_inb : ∀ (v6727 : IVec S16 32) (k1_hw326 : k1_chk326 v6727), ∀ a x, ((![v6727] : Fin 1 → IVec S16 32) a x).toNat < S32.size a := fun v6727 k1_hw326 => k1_hw326

def k1_chk327 (v6747 : IVec S16 32) : Prop :=
  (∀ a x, ((![v6747] : Fin 1 → IVec S16 32) a x).toNat < S32.size a)
theorem k1_idx330_inb : ∀ (v6747 : IVec S16 32) (k1_hw327 : k1_chk327 v6747), ∀ a x, ((![v6747] : Fin 1 → IVec S16 32) a x).toNat < S32.size a := fun v6747 k1_hw327 => k1_hw327

def k1_chk328 (v6767 : IVec S16 32) : Prop :=
  (∀ a x, ((![v6767] : Fin 1 → IVec S16 32) a x).toNat < S32.size a)
theorem k1_idx331_inb : ∀ (v6767 : IVec S16 32) (k1_hw328 : k1_chk328 v6767), ∀ a x, ((![v6767] : Fin 1 → IVec S16 32) a x).toNat < S32.size a := fun v6767 k1_hw328 => k1_hw328

def k1_chk329 (v6787 : IVec S16 32) : Prop :=
  (∀ a x, ((![v6787] : Fin 1 → IVec S16 32) a x).toNat < S32.size a)
theorem k1_idx332_inb : ∀ (v6787 : IVec S16 32) (k1_hw329 : k1_chk329 v6787), ∀ a x, ((![v6787] : Fin 1 → IVec S16 32) a x).toNat < S32.size a := fun v6787 k1_hw329 => k1_hw329

def k1_chk330 (v6807 : IVec S16 32) : Prop :=
  (∀ a x, ((![v6807] : Fin 1 → IVec S16 32) a x).toNat < S32.size a)
theorem k1_idx333_inb : ∀ (v6807 : IVec S16 32) (k1_hw330 : k1_chk330 v6807), ∀ a x, ((![v6807] : Fin 1 → IVec S16 32) a x).toNat < S32.size a := fun v6807 k1_hw330 => k1_hw330

def k1_chk331 (v6818 : IVec S16 32) : Prop :=
  (∀ a x, ((![v6818] : Fin 1 → IVec S16 32) a x).toNat < S32.size a)
theorem k1_idx335_inb : ∀ (v6818 : IVec S16 32) (k1_hw331 : k1_chk331 v6818), ∀ a x, ((![v6818] : Fin 1 → IVec S16 32) a x).toNat < S32.size a := fun v6818 k1_hw331 => k1_hw331

def k1_chk332 (v6832 : IVec S16 32) : Prop :=
  (∀ a x, ((![v6832] : Fin 1 → IVec S16 32) a x).toNat < S32.size a)
theorem k1_idx336_inb : ∀ (v6832 : IVec S16 32) (k1_hw332 : k1_chk332 v6832), ∀ a x, ((![v6832] : Fin 1 → IVec S16 32) a x).toNat < S32.size a := fun v6832 k1_hw332 => k1_hw332

def k1_chk333 (v6859 : IVec S16 32) : Prop :=
  (∀ a x, ((![v6859] : Fin 1 → IVec S16 32) a x).toNat < S32.size a)
theorem k1_idx337_inb : ∀ (v6859 : IVec S16 32) (k1_hw333 : k1_chk333 v6859), ∀ a x, ((![v6859] : Fin 1 → IVec S16 32) a x).toNat < S32.size a := fun v6859 k1_hw333 => k1_hw333

def k1_chk334 (v6879 : IVec S16 32) : Prop :=
  (∀ a x, ((![v6879] : Fin 1 → IVec S16 32) a x).toNat < S32.size a)
theorem k1_idx338_inb : ∀ (v6879 : IVec S16 32) (k1_hw334 : k1_chk334 v6879), ∀ a x, ((![v6879] : Fin 1 → IVec S16 32) a x).toNat < S32.size a := fun v6879 k1_hw334 => k1_hw334

def k1_chk335 (v6899 : IVec S16 32) : Prop :=
  (∀ a x, ((![v6899] : Fin 1 → IVec S16 32) a x).toNat < S32.size a)
theorem k1_idx339_inb : ∀ (v6899 : IVec S16 32) (k1_hw335 : k1_chk335 v6899), ∀ a x, ((![v6899] : Fin 1 → IVec S16 32) a x).toNat < S32.size a := fun v6899 k1_hw335 => k1_hw335

def k1_chk336 (v6919 : IVec S16 32) : Prop :=
  (∀ a x, ((![v6919] : Fin 1 → IVec S16 32) a x).toNat < S32.size a)
theorem k1_idx340_inb : ∀ (v6919 : IVec S16 32) (k1_hw336 : k1_chk336 v6919), ∀ a x, ((![v6919] : Fin 1 → IVec S16 32) a x).toNat < S32.size a := fun v6919 k1_hw336 => k1_hw336

def k1_chk337 (v6939 : IVec S16 32) : Prop :=
  (∀ a x, ((![v6939] : Fin 1 → IVec S16 32) a x).toNat < S32.size a)
theorem k1_idx341_inb : ∀ (v6939 : IVec S16 32) (k1_hw337 : k1_chk337 v6939), ∀ a x, ((![v6939] : Fin 1 → IVec S16 32) a x).toNat < S32.size a := fun v6939 k1_hw337 => k1_hw337

def k1_chk338 (v6959 : IVec S16 32) : Prop :=
  (∀ a x, ((![v6959] : Fin 1 → IVec S16 32) a x).toNat < S32.size a)
theorem k1_idx342_inb : ∀ (v6959 : IVec S16 32) (k1_hw338 : k1_chk338 v6959), ∀ a x, ((![v6959] : Fin 1 → IVec S16 32) a x).toNat < S32.size a := fun v6959 k1_hw338 => k1_hw338

def k1_chk339 (v6979 : IVec S16 32) : Prop :=
  (∀ a x, ((![v6979] : Fin 1 → IVec S16 32) a x).toNat < S32.size a)
theorem k1_idx343_inb : ∀ (v6979 : IVec S16 32) (k1_hw339 : k1_chk339 v6979), ∀ a x, ((![v6979] : Fin 1 → IVec S16 32) a x).toNat < S32.size a := fun v6979 k1_hw339 => k1_hw339

def k1_chk340 (v6999 : IVec S16 32) : Prop :=
  (∀ a x, ((![v6999] : Fin 1 → IVec S16 32) a x).toNat < S32.size a)
theorem k1_idx344_inb : ∀ (v6999 : IVec S16 32) (k1_hw340 : k1_chk340 v6999), ∀ a x, ((![v6999] : Fin 1 → IVec S16 32) a x).toNat < S32.size a := fun v6999 k1_hw340 => k1_hw340

def k1_chk341 (v7019 : IVec S16 32) : Prop :=
  (∀ a x, ((![v7019] : Fin 1 → IVec S16 32) a x).toNat < S32.size a)
theorem k1_idx345_inb : ∀ (v7019 : IVec S16 32) (k1_hw341 : k1_chk341 v7019), ∀ a x, ((![v7019] : Fin 1 → IVec S16 32) a x).toNat < S32.size a := fun v7019 k1_hw341 => k1_hw341

def k1_chk342 (v7039 : IVec S16 32) : Prop :=
  (∀ a x, ((![v7039] : Fin 1 → IVec S16 32) a x).toNat < S32.size a)
theorem k1_idx346_inb : ∀ (v7039 : IVec S16 32) (k1_hw342 : k1_chk342 v7039), ∀ a x, ((![v7039] : Fin 1 → IVec S16 32) a x).toNat < S32.size a := fun v7039 k1_hw342 => k1_hw342

def k1_chk343 (v7059 : IVec S16 32) : Prop :=
  (∀ a x, ((![v7059] : Fin 1 → IVec S16 32) a x).toNat < S32.size a)
theorem k1_idx347_inb : ∀ (v7059 : IVec S16 32) (k1_hw343 : k1_chk343 v7059), ∀ a x, ((![v7059] : Fin 1 → IVec S16 32) a x).toNat < S32.size a := fun v7059 k1_hw343 => k1_hw343

def k1_chk344 (v7079 : IVec S16 32) : Prop :=
  (∀ a x, ((![v7079] : Fin 1 → IVec S16 32) a x).toNat < S32.size a)
theorem k1_idx348_inb : ∀ (v7079 : IVec S16 32) (k1_hw344 : k1_chk344 v7079), ∀ a x, ((![v7079] : Fin 1 → IVec S16 32) a x).toNat < S32.size a := fun v7079 k1_hw344 => k1_hw344

def k1_chk345 (v7099 : IVec S16 32) : Prop :=
  (∀ a x, ((![v7099] : Fin 1 → IVec S16 32) a x).toNat < S32.size a)
theorem k1_idx349_inb : ∀ (v7099 : IVec S16 32) (k1_hw345 : k1_chk345 v7099), ∀ a x, ((![v7099] : Fin 1 → IVec S16 32) a x).toNat < S32.size a := fun v7099 k1_hw345 => k1_hw345

def k1_chk346 (v7119 : IVec S16 32) : Prop :=
  (∀ a x, ((![v7119] : Fin 1 → IVec S16 32) a x).toNat < S32.size a)
theorem k1_idx350_inb : ∀ (v7119 : IVec S16 32) (k1_hw346 : k1_chk346 v7119), ∀ a x, ((![v7119] : Fin 1 → IVec S16 32) a x).toNat < S32.size a := fun v7119 k1_hw346 => k1_hw346

def k1_chk347 (v7139 : IVec S16 32) : Prop :=
  (∀ a x, ((![v7139] : Fin 1 → IVec S16 32) a x).toNat < S32.size a)
theorem k1_idx351_inb : ∀ (v7139 : IVec S16 32) (k1_hw347 : k1_chk347 v7139), ∀ a x, ((![v7139] : Fin 1 → IVec S16 32) a x).toNat < S32.size a := fun v7139 k1_hw347 => k1_hw347

def k1_chk348 (v7159 : IVec S16 32) : Prop :=
  (∀ a x, ((![v7159] : Fin 1 → IVec S16 32) a x).toNat < S32.size a)
theorem k1_idx352_inb : ∀ (v7159 : IVec S16 32) (k1_hw348 : k1_chk348 v7159), ∀ a x, ((![v7159] : Fin 1 → IVec S16 32) a x).toNat < S32.size a := fun v7159 k1_hw348 => k1_hw348

def k1_chk349 (v7179 : IVec S16 32) : Prop :=
  (∀ a x, ((![v7179] : Fin 1 → IVec S16 32) a x).toNat < S32.size a)
theorem k1_idx353_inb : ∀ (v7179 : IVec S16 32) (k1_hw349 : k1_chk349 v7179), ∀ a x, ((![v7179] : Fin 1 → IVec S16 32) a x).toNat < S32.size a := fun v7179 k1_hw349 => k1_hw349

def k1_chk350 (v7199 : IVec S16 32) : Prop :=
  (∀ a x, ((![v7199] : Fin 1 → IVec S16 32) a x).toNat < S32.size a)
theorem k1_idx354_inb : ∀ (v7199 : IVec S16 32) (k1_hw350 : k1_chk350 v7199), ∀ a x, ((![v7199] : Fin 1 → IVec S16 32) a x).toNat < S32.size a := fun v7199 k1_hw350 => k1_hw350

def k1_chk351 (v7219 : IVec S16 32) : Prop :=
  (∀ a x, ((![v7219] : Fin 1 → IVec S16 32) a x).toNat < S32.size a)
theorem k1_idx355_inb : ∀ (v7219 : IVec S16 32) (k1_hw351 : k1_chk351 v7219), ∀ a x, ((![v7219] : Fin 1 → IVec S16 32) a x).toNat < S32.size a := fun v7219 k1_hw351 => k1_hw351

def k1_chk352 (v7239 : IVec S16 32) : Prop :=
  (∀ a x, ((![v7239] : Fin 1 → IVec S16 32) a x).toNat < S32.size a)
theorem k1_idx356_inb : ∀ (v7239 : IVec S16 32) (k1_hw352 : k1_chk352 v7239), ∀ a x, ((![v7239] : Fin 1 → IVec S16 32) a x).toNat < S32.size a := fun v7239 k1_hw352 => k1_hw352

def k1_chk353 (v7259 : IVec S16 32) : Prop :=
  (∀ a x, ((![v7259] : Fin 1 → IVec S16 32) a x).toNat < S32.size a)
theorem k1_idx357_inb : ∀ (v7259 : IVec S16 32) (k1_hw353 : k1_chk353 v7259), ∀ a x, ((![v7259] : Fin 1 → IVec S16 32) a x).toNat < S32.size a := fun v7259 k1_hw353 => k1_hw353

def k1_chk354 (v7279 : IVec S16 32) : Prop :=
  (∀ a x, ((![v7279] : Fin 1 → IVec S16 32) a x).toNat < S32.size a)
theorem k1_idx358_inb : ∀ (v7279 : IVec S16 32) (k1_hw354 : k1_chk354 v7279), ∀ a x, ((![v7279] : Fin 1 → IVec S16 32) a x).toNat < S32.size a := fun v7279 k1_hw354 => k1_hw354

def k1_chk355 (v7299 : IVec S16 32) : Prop :=
  (∀ a x, ((![v7299] : Fin 1 → IVec S16 32) a x).toNat < S32.size a)
theorem k1_idx359_inb : ∀ (v7299 : IVec S16 32) (k1_hw355 : k1_chk355 v7299), ∀ a x, ((![v7299] : Fin 1 → IVec S16 32) a x).toNat < S32.size a := fun v7299 k1_hw355 => k1_hw355

def k1_chk356 (v7319 : IVec S16 32) : Prop :=
  (∀ a x, ((![v7319] : Fin 1 → IVec S16 32) a x).toNat < S32.size a)
theorem k1_idx360_inb : ∀ (v7319 : IVec S16 32) (k1_hw356 : k1_chk356 v7319), ∀ a x, ((![v7319] : Fin 1 → IVec S16 32) a x).toNat < S32.size a := fun v7319 k1_hw356 => k1_hw356

def k1_chk357 (v7339 : IVec S16 32) : Prop :=
  (∀ a x, ((![v7339] : Fin 1 → IVec S16 32) a x).toNat < S32.size a)
theorem k1_idx361_inb : ∀ (v7339 : IVec S16 32) (k1_hw357 : k1_chk357 v7339), ∀ a x, ((![v7339] : Fin 1 → IVec S16 32) a x).toNat < S32.size a := fun v7339 k1_hw357 => k1_hw357

def k1_chk358 (v7359 : IVec S16 32) : Prop :=
  (∀ a x, ((![v7359] : Fin 1 → IVec S16 32) a x).toNat < S32.size a)
theorem k1_idx362_inb : ∀ (v7359 : IVec S16 32) (k1_hw358 : k1_chk358 v7359), ∀ a x, ((![v7359] : Fin 1 → IVec S16 32) a x).toNat < S32.size a := fun v7359 k1_hw358 => k1_hw358

def k1_chk359 (v7379 : IVec S16 32) : Prop :=
  (∀ a x, ((![v7379] : Fin 1 → IVec S16 32) a x).toNat < S32.size a)
theorem k1_idx363_inb : ∀ (v7379 : IVec S16 32) (k1_hw359 : k1_chk359 v7379), ∀ a x, ((![v7379] : Fin 1 → IVec S16 32) a x).toNat < S32.size a := fun v7379 k1_hw359 => k1_hw359

def k1_chk360 (v7399 : IVec S16 32) : Prop :=
  (∀ a x, ((![v7399] : Fin 1 → IVec S16 32) a x).toNat < S32.size a)
theorem k1_idx364_inb : ∀ (v7399 : IVec S16 32) (k1_hw360 : k1_chk360 v7399), ∀ a x, ((![v7399] : Fin 1 → IVec S16 32) a x).toNat < S32.size a := fun v7399 k1_hw360 => k1_hw360

def k1_chk361 (v7419 : IVec S16 32) : Prop :=
  (∀ a x, ((![v7419] : Fin 1 → IVec S16 32) a x).toNat < S32.size a)
theorem k1_idx365_inb : ∀ (v7419 : IVec S16 32) (k1_hw361 : k1_chk361 v7419), ∀ a x, ((![v7419] : Fin 1 → IVec S16 32) a x).toNat < S32.size a := fun v7419 k1_hw361 => k1_hw361

def k1_chk362 (v7439 : IVec S16 32) : Prop :=
  (∀ a x, ((![v7439] : Fin 1 → IVec S16 32) a x).toNat < S32.size a)
theorem k1_idx366_inb : ∀ (v7439 : IVec S16 32) (k1_hw362 : k1_chk362 v7439), ∀ a x, ((![v7439] : Fin 1 → IVec S16 32) a x).toNat < S32.size a := fun v7439 k1_hw362 => k1_hw362

def k1_chk363 (v7459 : IVec S16 32) : Prop :=
  (∀ a x, ((![v7459] : Fin 1 → IVec S16 32) a x).toNat < S32.size a)
theorem k1_idx367_inb : ∀ (v7459 : IVec S16 32) (k1_hw363 : k1_chk363 v7459), ∀ a x, ((![v7459] : Fin 1 → IVec S16 32) a x).toNat < S32.size a := fun v7459 k1_hw363 => k1_hw363

def k1_chk364 (v7479 : IVec S16 32) : Prop :=
  (∀ a x, ((![v7479] : Fin 1 → IVec S16 32) a x).toNat < S32.size a)
theorem k1_idx368_inb : ∀ (v7479 : IVec S16 32) (k1_hw364 : k1_chk364 v7479), ∀ a x, ((![v7479] : Fin 1 → IVec S16 32) a x).toNat < S32.size a := fun v7479 k1_hw364 => k1_hw364

def k1_chk365 (v7499 : IVec S16 32) : Prop :=
  (∀ a x, ((![v7499] : Fin 1 → IVec S16 32) a x).toNat < S32.size a)
theorem k1_idx369_inb : ∀ (v7499 : IVec S16 32) (k1_hw365 : k1_chk365 v7499), ∀ a x, ((![v7499] : Fin 1 → IVec S16 32) a x).toNat < S32.size a := fun v7499 k1_hw365 => k1_hw365

def k1_chk366 (v7519 : IVec S16 32) : Prop :=
  (∀ a x, ((![v7519] : Fin 1 → IVec S16 32) a x).toNat < S32.size a)
theorem k1_idx370_inb : ∀ (v7519 : IVec S16 32) (k1_hw366 : k1_chk366 v7519), ∀ a x, ((![v7519] : Fin 1 → IVec S16 32) a x).toNat < S32.size a := fun v7519 k1_hw366 => k1_hw366

def k1_chk367 (v7539 : IVec S16 32) : Prop :=
  (∀ a x, ((![v7539] : Fin 1 → IVec S16 32) a x).toNat < S32.size a)
theorem k1_idx371_inb : ∀ (v7539 : IVec S16 32) (k1_hw367 : k1_chk367 v7539), ∀ a x, ((![v7539] : Fin 1 → IVec S16 32) a x).toNat < S32.size a := fun v7539 k1_hw367 => k1_hw367

def k1_chk368 (v7559 : IVec S16 32) : Prop :=
  (∀ a x, ((![v7559] : Fin 1 → IVec S16 32) a x).toNat < S32.size a)
theorem k1_idx372_inb : ∀ (v7559 : IVec S16 32) (k1_hw368 : k1_chk368 v7559), ∀ a x, ((![v7559] : Fin 1 → IVec S16 32) a x).toNat < S32.size a := fun v7559 k1_hw368 => k1_hw368

def k1_chk369 (v7579 : IVec S16 32) : Prop :=
  (∀ a x, ((![v7579] : Fin 1 → IVec S16 32) a x).toNat < S32.size a)
theorem k1_idx373_inb : ∀ (v7579 : IVec S16 32) (k1_hw369 : k1_chk369 v7579), ∀ a x, ((![v7579] : Fin 1 → IVec S16 32) a x).toNat < S32.size a := fun v7579 k1_hw369 => k1_hw369

def k1_chk370 (v7599 : IVec S16 32) : Prop :=
  (∀ a x, ((![v7599] : Fin 1 → IVec S16 32) a x).toNat < S32.size a)
theorem k1_idx374_inb : ∀ (v7599 : IVec S16 32) (k1_hw370 : k1_chk370 v7599), ∀ a x, ((![v7599] : Fin 1 → IVec S16 32) a x).toNat < S32.size a := fun v7599 k1_hw370 => k1_hw370

def k1_chk371 (v7619 : IVec S16 32) : Prop :=
  (∀ a x, ((![v7619] : Fin 1 → IVec S16 32) a x).toNat < S32.size a)
theorem k1_idx375_inb : ∀ (v7619 : IVec S16 32) (k1_hw371 : k1_chk371 v7619), ∀ a x, ((![v7619] : Fin 1 → IVec S16 32) a x).toNat < S32.size a := fun v7619 k1_hw371 => k1_hw371

def k1_chk372 (v7639 : IVec S16 32) : Prop :=
  (∀ a x, ((![v7639] : Fin 1 → IVec S16 32) a x).toNat < S32.size a)
theorem k1_idx376_inb : ∀ (v7639 : IVec S16 32) (k1_hw372 : k1_chk372 v7639), ∀ a x, ((![v7639] : Fin 1 → IVec S16 32) a x).toNat < S32.size a := fun v7639 k1_hw372 => k1_hw372

def k1_chk373 (v7659 : IVec S16 32) : Prop :=
  (∀ a x, ((![v7659] : Fin 1 → IVec S16 32) a x).toNat < S32.size a)
theorem k1_idx377_inb : ∀ (v7659 : IVec S16 32) (k1_hw373 : k1_chk373 v7659), ∀ a x, ((![v7659] : Fin 1 → IVec S16 32) a x).toNat < S32.size a := fun v7659 k1_hw373 => k1_hw373

def k1_chk374 (v7679 : IVec S16 32) : Prop :=
  (∀ a x, ((![v7679] : Fin 1 → IVec S16 32) a x).toNat < S32.size a)
theorem k1_idx378_inb : ∀ (v7679 : IVec S16 32) (k1_hw374 : k1_chk374 v7679), ∀ a x, ((![v7679] : Fin 1 → IVec S16 32) a x).toNat < S32.size a := fun v7679 k1_hw374 => k1_hw374

def k1_chk375 (v7699 : IVec S16 32) : Prop :=
  (∀ a x, ((![v7699] : Fin 1 → IVec S16 32) a x).toNat < S32.size a)
theorem k1_idx379_inb : ∀ (v7699 : IVec S16 32) (k1_hw375 : k1_chk375 v7699), ∀ a x, ((![v7699] : Fin 1 → IVec S16 32) a x).toNat < S32.size a := fun v7699 k1_hw375 => k1_hw375

def k1_chk376 (v7719 : IVec S16 32) : Prop :=
  (∀ a x, ((![v7719] : Fin 1 → IVec S16 32) a x).toNat < S32.size a)
theorem k1_idx380_inb : ∀ (v7719 : IVec S16 32) (k1_hw376 : k1_chk376 v7719), ∀ a x, ((![v7719] : Fin 1 → IVec S16 32) a x).toNat < S32.size a := fun v7719 k1_hw376 => k1_hw376

def k1_chk377 (v7739 : IVec S16 32) : Prop :=
  (∀ a x, ((![v7739] : Fin 1 → IVec S16 32) a x).toNat < S32.size a)
theorem k1_idx381_inb : ∀ (v7739 : IVec S16 32) (k1_hw377 : k1_chk377 v7739), ∀ a x, ((![v7739] : Fin 1 → IVec S16 32) a x).toNat < S32.size a := fun v7739 k1_hw377 => k1_hw377

def k1_chk378 (v7759 : IVec S16 32) : Prop :=
  (∀ a x, ((![v7759] : Fin 1 → IVec S16 32) a x).toNat < S32.size a)
theorem k1_idx382_inb : ∀ (v7759 : IVec S16 32) (k1_hw378 : k1_chk378 v7759), ∀ a x, ((![v7759] : Fin 1 → IVec S16 32) a x).toNat < S32.size a := fun v7759 k1_hw378 => k1_hw378

def k1_chk379 (v7779 : IVec S16 32) : Prop :=
  (∀ a x, ((![v7779] : Fin 1 → IVec S16 32) a x).toNat < S32.size a)
theorem k1_idx383_inb : ∀ (v7779 : IVec S16 32) (k1_hw379 : k1_chk379 v7779), ∀ a x, ((![v7779] : Fin 1 → IVec S16 32) a x).toNat < S32.size a := fun v7779 k1_hw379 => k1_hw379

def k1_chk380 (v7799 : IVec S16 32) : Prop :=
  (∀ a x, ((![v7799] : Fin 1 → IVec S16 32) a x).toNat < S32.size a)
theorem k1_idx384_inb : ∀ (v7799 : IVec S16 32) (k1_hw380 : k1_chk380 v7799), ∀ a x, ((![v7799] : Fin 1 → IVec S16 32) a x).toNat < S32.size a := fun v7799 k1_hw380 => k1_hw380

def k1_chk381 (v7819 : IVec S16 32) : Prop :=
  (∀ a x, ((![v7819] : Fin 1 → IVec S16 32) a x).toNat < S32.size a)
theorem k1_idx385_inb : ∀ (v7819 : IVec S16 32) (k1_hw381 : k1_chk381 v7819), ∀ a x, ((![v7819] : Fin 1 → IVec S16 32) a x).toNat < S32.size a := fun v7819 k1_hw381 => k1_hw381

def k1_chk382 (v7839 : IVec S16 32) : Prop :=
  (∀ a x, ((![v7839] : Fin 1 → IVec S16 32) a x).toNat < S32.size a)
theorem k1_idx386_inb : ∀ (v7839 : IVec S16 32) (k1_hw382 : k1_chk382 v7839), ∀ a x, ((![v7839] : Fin 1 → IVec S16 32) a x).toNat < S32.size a := fun v7839 k1_hw382 => k1_hw382

def k1_chk383 (v7859 : IVec S16 32) : Prop :=
  (∀ a x, ((![v7859] : Fin 1 → IVec S16 32) a x).toNat < S32.size a)
theorem k1_idx387_inb : ∀ (v7859 : IVec S16 32) (k1_hw383 : k1_chk383 v7859), ∀ a x, ((![v7859] : Fin 1 → IVec S16 32) a x).toNat < S32.size a := fun v7859 k1_hw383 => k1_hw383

def k1_chk384 (v7879 : IVec S16 32) : Prop :=
  (∀ a x, ((![v7879] : Fin 1 → IVec S16 32) a x).toNat < S32.size a)
theorem k1_idx388_inb : ∀ (v7879 : IVec S16 32) (k1_hw384 : k1_chk384 v7879), ∀ a x, ((![v7879] : Fin 1 → IVec S16 32) a x).toNat < S32.size a := fun v7879 k1_hw384 => k1_hw384

def k1_chk385 (v7899 : IVec S16 32) : Prop :=
  (∀ a x, ((![v7899] : Fin 1 → IVec S16 32) a x).toNat < S32.size a)
theorem k1_idx389_inb : ∀ (v7899 : IVec S16 32) (k1_hw385 : k1_chk385 v7899), ∀ a x, ((![v7899] : Fin 1 → IVec S16 32) a x).toNat < S32.size a := fun v7899 k1_hw385 => k1_hw385

def k1_chk386 (v7919 : IVec S16 32) : Prop :=
  (∀ a x, ((![v7919] : Fin 1 → IVec S16 32) a x).toNat < S32.size a)
theorem k1_idx390_inb : ∀ (v7919 : IVec S16 32) (k1_hw386 : k1_chk386 v7919), ∀ a x, ((![v7919] : Fin 1 → IVec S16 32) a x).toNat < S32.size a := fun v7919 k1_hw386 => k1_hw386

def k1_chk387 (v7939 : IVec S16 32) : Prop :=
  (∀ a x, ((![v7939] : Fin 1 → IVec S16 32) a x).toNat < S32.size a)
theorem k1_idx391_inb : ∀ (v7939 : IVec S16 32) (k1_hw387 : k1_chk387 v7939), ∀ a x, ((![v7939] : Fin 1 → IVec S16 32) a x).toNat < S32.size a := fun v7939 k1_hw387 => k1_hw387

def k1_chk388 (v7959 : IVec S16 32) : Prop :=
  (∀ a x, ((![v7959] : Fin 1 → IVec S16 32) a x).toNat < S32.size a)
theorem k1_idx392_inb : ∀ (v7959 : IVec S16 32) (k1_hw388 : k1_chk388 v7959), ∀ a x, ((![v7959] : Fin 1 → IVec S16 32) a x).toNat < S32.size a := fun v7959 k1_hw388 => k1_hw388

def k1_chk389 (v7979 : IVec S16 32) : Prop :=
  (∀ a x, ((![v7979] : Fin 1 → IVec S16 32) a x).toNat < S32.size a)
theorem k1_idx393_inb : ∀ (v7979 : IVec S16 32) (k1_hw389 : k1_chk389 v7979), ∀ a x, ((![v7979] : Fin 1 → IVec S16 32) a x).toNat < S32.size a := fun v7979 k1_hw389 => k1_hw389

def k1_chk390 (v7999 : IVec S16 32) : Prop :=
  (∀ a x, ((![v7999] : Fin 1 → IVec S16 32) a x).toNat < S32.size a)
theorem k1_idx394_inb : ∀ (v7999 : IVec S16 32) (k1_hw390 : k1_chk390 v7999), ∀ a x, ((![v7999] : Fin 1 → IVec S16 32) a x).toNat < S32.size a := fun v7999 k1_hw390 => k1_hw390

def k1_chk391 (v8019 : IVec S16 32) : Prop :=
  (∀ a x, ((![v8019] : Fin 1 → IVec S16 32) a x).toNat < S32.size a)
theorem k1_idx395_inb : ∀ (v8019 : IVec S16 32) (k1_hw391 : k1_chk391 v8019), ∀ a x, ((![v8019] : Fin 1 → IVec S16 32) a x).toNat < S32.size a := fun v8019 k1_hw391 => k1_hw391

def k1_chk392 (v8039 : IVec S16 32) : Prop :=
  (∀ a x, ((![v8039] : Fin 1 → IVec S16 32) a x).toNat < S32.size a)
theorem k1_idx396_inb : ∀ (v8039 : IVec S16 32) (k1_hw392 : k1_chk392 v8039), ∀ a x, ((![v8039] : Fin 1 → IVec S16 32) a x).toNat < S32.size a := fun v8039 k1_hw392 => k1_hw392

def k1_chk393 (v8059 : IVec S16 32) : Prop :=
  (∀ a x, ((![v8059] : Fin 1 → IVec S16 32) a x).toNat < S32.size a)
theorem k1_idx397_inb : ∀ (v8059 : IVec S16 32) (k1_hw393 : k1_chk393 v8059), ∀ a x, ((![v8059] : Fin 1 → IVec S16 32) a x).toNat < S32.size a := fun v8059 k1_hw393 => k1_hw393

def k1_chk394 (v8079 : IVec S16 32) : Prop :=
  (∀ a x, ((![v8079] : Fin 1 → IVec S16 32) a x).toNat < S32.size a)
theorem k1_idx398_inb : ∀ (v8079 : IVec S16 32) (k1_hw394 : k1_chk394 v8079), ∀ a x, ((![v8079] : Fin 1 → IVec S16 32) a x).toNat < S32.size a := fun v8079 k1_hw394 => k1_hw394

def k1_chk395 (v8099 : IVec S16 32) : Prop :=
  (∀ a x, ((![v8099] : Fin 1 → IVec S16 32) a x).toNat < S32.size a)
theorem k1_idx399_inb : ∀ (v8099 : IVec S16 32) (k1_hw395 : k1_chk395 v8099), ∀ a x, ((![v8099] : Fin 1 → IVec S16 32) a x).toNat < S32.size a := fun v8099 k1_hw395 => k1_hw395

def k1_chk396 (v8119 : IVec S16 32) : Prop :=
  (∀ a x, ((![v8119] : Fin 1 → IVec S16 32) a x).toNat < S32.size a)
theorem k1_idx400_inb : ∀ (v8119 : IVec S16 32) (k1_hw396 : k1_chk396 v8119), ∀ a x, ((![v8119] : Fin 1 → IVec S16 32) a x).toNat < S32.size a := fun v8119 k1_hw396 => k1_hw396

def k1_chk397 (v8130 : IVec S16 32) : Prop :=
  (∀ a x, ((![v8130] : Fin 1 → IVec S16 32) a x).toNat < S32.size a)
theorem k1_idx402_inb : ∀ (v8130 : IVec S16 32) (k1_hw397 : k1_chk397 v8130), ∀ a x, ((![v8130] : Fin 1 → IVec S16 32) a x).toNat < S32.size a := fun v8130 k1_hw397 => k1_hw397

def k1_chk398 (v8144 : IVec S16 32) : Prop :=
  (∀ a x, ((![v8144] : Fin 1 → IVec S16 32) a x).toNat < S32.size a)
theorem k1_idx403_inb : ∀ (v8144 : IVec S16 32) (k1_hw398 : k1_chk398 v8144), ∀ a x, ((![v8144] : Fin 1 → IVec S16 32) a x).toNat < S32.size a := fun v8144 k1_hw398 => k1_hw398

def k1_chk399 (v8171 : IVec S16 32) : Prop :=
  (∀ a x, ((![v8171] : Fin 1 → IVec S16 32) a x).toNat < S32.size a)
theorem k1_idx404_inb : ∀ (v8171 : IVec S16 32) (k1_hw399 : k1_chk399 v8171), ∀ a x, ((![v8171] : Fin 1 → IVec S16 32) a x).toNat < S32.size a := fun v8171 k1_hw399 => k1_hw399

def k1_chk400 (v8191 : IVec S16 32) : Prop :=
  (∀ a x, ((![v8191] : Fin 1 → IVec S16 32) a x).toNat < S32.size a)
theorem k1_idx405_inb : ∀ (v8191 : IVec S16 32) (k1_hw400 : k1_chk400 v8191), ∀ a x, ((![v8191] : Fin 1 → IVec S16 32) a x).toNat < S32.size a := fun v8191 k1_hw400 => k1_hw400

def k1_chk401 (v8211 : IVec S16 32) : Prop :=
  (∀ a x, ((![v8211] : Fin 1 → IVec S16 32) a x).toNat < S32.size a)
theorem k1_idx406_inb : ∀ (v8211 : IVec S16 32) (k1_hw401 : k1_chk401 v8211), ∀ a x, ((![v8211] : Fin 1 → IVec S16 32) a x).toNat < S32.size a := fun v8211 k1_hw401 => k1_hw401

def k1_chk402 (v8231 : IVec S16 32) : Prop :=
  (∀ a x, ((![v8231] : Fin 1 → IVec S16 32) a x).toNat < S32.size a)
theorem k1_idx407_inb : ∀ (v8231 : IVec S16 32) (k1_hw402 : k1_chk402 v8231), ∀ a x, ((![v8231] : Fin 1 → IVec S16 32) a x).toNat < S32.size a := fun v8231 k1_hw402 => k1_hw402

def k1_chk403 (v8251 : IVec S16 32) : Prop :=
  (∀ a x, ((![v8251] : Fin 1 → IVec S16 32) a x).toNat < S32.size a)
theorem k1_idx408_inb : ∀ (v8251 : IVec S16 32) (k1_hw403 : k1_chk403 v8251), ∀ a x, ((![v8251] : Fin 1 → IVec S16 32) a x).toNat < S32.size a := fun v8251 k1_hw403 => k1_hw403

def k1_chk404 (v8271 : IVec S16 32) : Prop :=
  (∀ a x, ((![v8271] : Fin 1 → IVec S16 32) a x).toNat < S32.size a)
theorem k1_idx409_inb : ∀ (v8271 : IVec S16 32) (k1_hw404 : k1_chk404 v8271), ∀ a x, ((![v8271] : Fin 1 → IVec S16 32) a x).toNat < S32.size a := fun v8271 k1_hw404 => k1_hw404

def k1_chk405 (v8291 : IVec S16 32) : Prop :=
  (∀ a x, ((![v8291] : Fin 1 → IVec S16 32) a x).toNat < S32.size a)
theorem k1_idx410_inb : ∀ (v8291 : IVec S16 32) (k1_hw405 : k1_chk405 v8291), ∀ a x, ((![v8291] : Fin 1 → IVec S16 32) a x).toNat < S32.size a := fun v8291 k1_hw405 => k1_hw405

def k1_chk406 (v8311 : IVec S16 32) : Prop :=
  (∀ a x, ((![v8311] : Fin 1 → IVec S16 32) a x).toNat < S32.size a)
theorem k1_idx411_inb : ∀ (v8311 : IVec S16 32) (k1_hw406 : k1_chk406 v8311), ∀ a x, ((![v8311] : Fin 1 → IVec S16 32) a x).toNat < S32.size a := fun v8311 k1_hw406 => k1_hw406

def k1_chk407 (v8331 : IVec S16 32) : Prop :=
  (∀ a x, ((![v8331] : Fin 1 → IVec S16 32) a x).toNat < S32.size a)
theorem k1_idx412_inb : ∀ (v8331 : IVec S16 32) (k1_hw407 : k1_chk407 v8331), ∀ a x, ((![v8331] : Fin 1 → IVec S16 32) a x).toNat < S32.size a := fun v8331 k1_hw407 => k1_hw407

def k1_chk408 (v8351 : IVec S16 32) : Prop :=
  (∀ a x, ((![v8351] : Fin 1 → IVec S16 32) a x).toNat < S32.size a)
theorem k1_idx413_inb : ∀ (v8351 : IVec S16 32) (k1_hw408 : k1_chk408 v8351), ∀ a x, ((![v8351] : Fin 1 → IVec S16 32) a x).toNat < S32.size a := fun v8351 k1_hw408 => k1_hw408

def k1_chk409 (v8371 : IVec S16 32) : Prop :=
  (∀ a x, ((![v8371] : Fin 1 → IVec S16 32) a x).toNat < S32.size a)
theorem k1_idx414_inb : ∀ (v8371 : IVec S16 32) (k1_hw409 : k1_chk409 v8371), ∀ a x, ((![v8371] : Fin 1 → IVec S16 32) a x).toNat < S32.size a := fun v8371 k1_hw409 => k1_hw409

def k1_chk410 (v8391 : IVec S16 32) : Prop :=
  (∀ a x, ((![v8391] : Fin 1 → IVec S16 32) a x).toNat < S32.size a)
theorem k1_idx415_inb : ∀ (v8391 : IVec S16 32) (k1_hw410 : k1_chk410 v8391), ∀ a x, ((![v8391] : Fin 1 → IVec S16 32) a x).toNat < S32.size a := fun v8391 k1_hw410 => k1_hw410

def k1_chk411 (v8411 : IVec S16 32) : Prop :=
  (∀ a x, ((![v8411] : Fin 1 → IVec S16 32) a x).toNat < S32.size a)
theorem k1_idx416_inb : ∀ (v8411 : IVec S16 32) (k1_hw411 : k1_chk411 v8411), ∀ a x, ((![v8411] : Fin 1 → IVec S16 32) a x).toNat < S32.size a := fun v8411 k1_hw411 => k1_hw411

def k1_chk412 (v8431 : IVec S16 32) : Prop :=
  (∀ a x, ((![v8431] : Fin 1 → IVec S16 32) a x).toNat < S32.size a)
theorem k1_idx417_inb : ∀ (v8431 : IVec S16 32) (k1_hw412 : k1_chk412 v8431), ∀ a x, ((![v8431] : Fin 1 → IVec S16 32) a x).toNat < S32.size a := fun v8431 k1_hw412 => k1_hw412

def k1_chk413 (v8451 : IVec S16 32) : Prop :=
  (∀ a x, ((![v8451] : Fin 1 → IVec S16 32) a x).toNat < S32.size a)
theorem k1_idx418_inb : ∀ (v8451 : IVec S16 32) (k1_hw413 : k1_chk413 v8451), ∀ a x, ((![v8451] : Fin 1 → IVec S16 32) a x).toNat < S32.size a := fun v8451 k1_hw413 => k1_hw413

def k1_chk414 (v8471 : IVec S16 32) : Prop :=
  (∀ a x, ((![v8471] : Fin 1 → IVec S16 32) a x).toNat < S32.size a)
theorem k1_idx419_inb : ∀ (v8471 : IVec S16 32) (k1_hw414 : k1_chk414 v8471), ∀ a x, ((![v8471] : Fin 1 → IVec S16 32) a x).toNat < S32.size a := fun v8471 k1_hw414 => k1_hw414

def k1_chk415 (v8491 : IVec S16 32) : Prop :=
  (∀ a x, ((![v8491] : Fin 1 → IVec S16 32) a x).toNat < S32.size a)
theorem k1_idx420_inb : ∀ (v8491 : IVec S16 32) (k1_hw415 : k1_chk415 v8491), ∀ a x, ((![v8491] : Fin 1 → IVec S16 32) a x).toNat < S32.size a := fun v8491 k1_hw415 => k1_hw415

def k1_chk416 (v8511 : IVec S16 32) : Prop :=
  (∀ a x, ((![v8511] : Fin 1 → IVec S16 32) a x).toNat < S32.size a)
theorem k1_idx421_inb : ∀ (v8511 : IVec S16 32) (k1_hw416 : k1_chk416 v8511), ∀ a x, ((![v8511] : Fin 1 → IVec S16 32) a x).toNat < S32.size a := fun v8511 k1_hw416 => k1_hw416

def k1_chk417 (v8531 : IVec S16 32) : Prop :=
  (∀ a x, ((![v8531] : Fin 1 → IVec S16 32) a x).toNat < S32.size a)
theorem k1_idx422_inb : ∀ (v8531 : IVec S16 32) (k1_hw417 : k1_chk417 v8531), ∀ a x, ((![v8531] : Fin 1 → IVec S16 32) a x).toNat < S32.size a := fun v8531 k1_hw417 => k1_hw417

def k1_chk418 (v8551 : IVec S16 32) : Prop :=
  (∀ a x, ((![v8551] : Fin 1 → IVec S16 32) a x).toNat < S32.size a)
theorem k1_idx423_inb : ∀ (v8551 : IVec S16 32) (k1_hw418 : k1_chk418 v8551), ∀ a x, ((![v8551] : Fin 1 → IVec S16 32) a x).toNat < S32.size a := fun v8551 k1_hw418 => k1_hw418

def k1_chk419 (v8571 : IVec S16 32) : Prop :=
  (∀ a x, ((![v8571] : Fin 1 → IVec S16 32) a x).toNat < S32.size a)
theorem k1_idx424_inb : ∀ (v8571 : IVec S16 32) (k1_hw419 : k1_chk419 v8571), ∀ a x, ((![v8571] : Fin 1 → IVec S16 32) a x).toNat < S32.size a := fun v8571 k1_hw419 => k1_hw419

def k1_chk420 (v8591 : IVec S16 32) : Prop :=
  (∀ a x, ((![v8591] : Fin 1 → IVec S16 32) a x).toNat < S32.size a)
theorem k1_idx425_inb : ∀ (v8591 : IVec S16 32) (k1_hw420 : k1_chk420 v8591), ∀ a x, ((![v8591] : Fin 1 → IVec S16 32) a x).toNat < S32.size a := fun v8591 k1_hw420 => k1_hw420

def k1_chk421 (v8611 : IVec S16 32) : Prop :=
  (∀ a x, ((![v8611] : Fin 1 → IVec S16 32) a x).toNat < S32.size a)
theorem k1_idx426_inb : ∀ (v8611 : IVec S16 32) (k1_hw421 : k1_chk421 v8611), ∀ a x, ((![v8611] : Fin 1 → IVec S16 32) a x).toNat < S32.size a := fun v8611 k1_hw421 => k1_hw421

def k1_chk422 (v8631 : IVec S16 32) : Prop :=
  (∀ a x, ((![v8631] : Fin 1 → IVec S16 32) a x).toNat < S32.size a)
theorem k1_idx427_inb : ∀ (v8631 : IVec S16 32) (k1_hw422 : k1_chk422 v8631), ∀ a x, ((![v8631] : Fin 1 → IVec S16 32) a x).toNat < S32.size a := fun v8631 k1_hw422 => k1_hw422

def k1_chk423 (v8651 : IVec S16 32) : Prop :=
  (∀ a x, ((![v8651] : Fin 1 → IVec S16 32) a x).toNat < S32.size a)
theorem k1_idx428_inb : ∀ (v8651 : IVec S16 32) (k1_hw423 : k1_chk423 v8651), ∀ a x, ((![v8651] : Fin 1 → IVec S16 32) a x).toNat < S32.size a := fun v8651 k1_hw423 => k1_hw423

def k1_chk424 (v8671 : IVec S16 32) : Prop :=
  (∀ a x, ((![v8671] : Fin 1 → IVec S16 32) a x).toNat < S32.size a)
theorem k1_idx429_inb : ∀ (v8671 : IVec S16 32) (k1_hw424 : k1_chk424 v8671), ∀ a x, ((![v8671] : Fin 1 → IVec S16 32) a x).toNat < S32.size a := fun v8671 k1_hw424 => k1_hw424

def k1_chk425 (v8691 : IVec S16 32) : Prop :=
  (∀ a x, ((![v8691] : Fin 1 → IVec S16 32) a x).toNat < S32.size a)
theorem k1_idx430_inb : ∀ (v8691 : IVec S16 32) (k1_hw425 : k1_chk425 v8691), ∀ a x, ((![v8691] : Fin 1 → IVec S16 32) a x).toNat < S32.size a := fun v8691 k1_hw425 => k1_hw425

def k1_chk426 (v8711 : IVec S16 32) : Prop :=
  (∀ a x, ((![v8711] : Fin 1 → IVec S16 32) a x).toNat < S32.size a)
theorem k1_idx431_inb : ∀ (v8711 : IVec S16 32) (k1_hw426 : k1_chk426 v8711), ∀ a x, ((![v8711] : Fin 1 → IVec S16 32) a x).toNat < S32.size a := fun v8711 k1_hw426 => k1_hw426

def k1_chk427 (v8731 : IVec S16 32) : Prop :=
  (∀ a x, ((![v8731] : Fin 1 → IVec S16 32) a x).toNat < S32.size a)
theorem k1_idx432_inb : ∀ (v8731 : IVec S16 32) (k1_hw427 : k1_chk427 v8731), ∀ a x, ((![v8731] : Fin 1 → IVec S16 32) a x).toNat < S32.size a := fun v8731 k1_hw427 => k1_hw427

def k1_chk428 (v8751 : IVec S16 32) : Prop :=
  (∀ a x, ((![v8751] : Fin 1 → IVec S16 32) a x).toNat < S32.size a)
theorem k1_idx433_inb : ∀ (v8751 : IVec S16 32) (k1_hw428 : k1_chk428 v8751), ∀ a x, ((![v8751] : Fin 1 → IVec S16 32) a x).toNat < S32.size a := fun v8751 k1_hw428 => k1_hw428

def k1_chk429 (v8771 : IVec S16 32) : Prop :=
  (∀ a x, ((![v8771] : Fin 1 → IVec S16 32) a x).toNat < S32.size a)
theorem k1_idx434_inb : ∀ (v8771 : IVec S16 32) (k1_hw429 : k1_chk429 v8771), ∀ a x, ((![v8771] : Fin 1 → IVec S16 32) a x).toNat < S32.size a := fun v8771 k1_hw429 => k1_hw429

def k1_chk430 (v8791 : IVec S16 32) : Prop :=
  (∀ a x, ((![v8791] : Fin 1 → IVec S16 32) a x).toNat < S32.size a)
theorem k1_idx435_inb : ∀ (v8791 : IVec S16 32) (k1_hw430 : k1_chk430 v8791), ∀ a x, ((![v8791] : Fin 1 → IVec S16 32) a x).toNat < S32.size a := fun v8791 k1_hw430 => k1_hw430

def k1_chk431 (v8811 : IVec S16 32) : Prop :=
  (∀ a x, ((![v8811] : Fin 1 → IVec S16 32) a x).toNat < S32.size a)
theorem k1_idx436_inb : ∀ (v8811 : IVec S16 32) (k1_hw431 : k1_chk431 v8811), ∀ a x, ((![v8811] : Fin 1 → IVec S16 32) a x).toNat < S32.size a := fun v8811 k1_hw431 => k1_hw431

def k1_chk432 (v8831 : IVec S16 32) : Prop :=
  (∀ a x, ((![v8831] : Fin 1 → IVec S16 32) a x).toNat < S32.size a)
theorem k1_idx437_inb : ∀ (v8831 : IVec S16 32) (k1_hw432 : k1_chk432 v8831), ∀ a x, ((![v8831] : Fin 1 → IVec S16 32) a x).toNat < S32.size a := fun v8831 k1_hw432 => k1_hw432

def k1_chk433 (v8851 : IVec S16 32) : Prop :=
  (∀ a x, ((![v8851] : Fin 1 → IVec S16 32) a x).toNat < S32.size a)
theorem k1_idx438_inb : ∀ (v8851 : IVec S16 32) (k1_hw433 : k1_chk433 v8851), ∀ a x, ((![v8851] : Fin 1 → IVec S16 32) a x).toNat < S32.size a := fun v8851 k1_hw433 => k1_hw433

def k1_chk434 (v8871 : IVec S16 32) : Prop :=
  (∀ a x, ((![v8871] : Fin 1 → IVec S16 32) a x).toNat < S32.size a)
theorem k1_idx439_inb : ∀ (v8871 : IVec S16 32) (k1_hw434 : k1_chk434 v8871), ∀ a x, ((![v8871] : Fin 1 → IVec S16 32) a x).toNat < S32.size a := fun v8871 k1_hw434 => k1_hw434

def k1_chk435 (v8891 : IVec S16 32) : Prop :=
  (∀ a x, ((![v8891] : Fin 1 → IVec S16 32) a x).toNat < S32.size a)
theorem k1_idx440_inb : ∀ (v8891 : IVec S16 32) (k1_hw435 : k1_chk435 v8891), ∀ a x, ((![v8891] : Fin 1 → IVec S16 32) a x).toNat < S32.size a := fun v8891 k1_hw435 => k1_hw435

def k1_chk436 (v8911 : IVec S16 32) : Prop :=
  (∀ a x, ((![v8911] : Fin 1 → IVec S16 32) a x).toNat < S32.size a)
theorem k1_idx441_inb : ∀ (v8911 : IVec S16 32) (k1_hw436 : k1_chk436 v8911), ∀ a x, ((![v8911] : Fin 1 → IVec S16 32) a x).toNat < S32.size a := fun v8911 k1_hw436 => k1_hw436

def k1_chk437 (v8931 : IVec S16 32) : Prop :=
  (∀ a x, ((![v8931] : Fin 1 → IVec S16 32) a x).toNat < S32.size a)
theorem k1_idx442_inb : ∀ (v8931 : IVec S16 32) (k1_hw437 : k1_chk437 v8931), ∀ a x, ((![v8931] : Fin 1 → IVec S16 32) a x).toNat < S32.size a := fun v8931 k1_hw437 => k1_hw437

def k1_chk438 (v8951 : IVec S16 32) : Prop :=
  (∀ a x, ((![v8951] : Fin 1 → IVec S16 32) a x).toNat < S32.size a)
theorem k1_idx443_inb : ∀ (v8951 : IVec S16 32) (k1_hw438 : k1_chk438 v8951), ∀ a x, ((![v8951] : Fin 1 → IVec S16 32) a x).toNat < S32.size a := fun v8951 k1_hw438 => k1_hw438

def k1_chk439 (v8971 : IVec S16 32) : Prop :=
  (∀ a x, ((![v8971] : Fin 1 → IVec S16 32) a x).toNat < S32.size a)
theorem k1_idx444_inb : ∀ (v8971 : IVec S16 32) (k1_hw439 : k1_chk439 v8971), ∀ a x, ((![v8971] : Fin 1 → IVec S16 32) a x).toNat < S32.size a := fun v8971 k1_hw439 => k1_hw439

def k1_chk440 (v8991 : IVec S16 32) : Prop :=
  (∀ a x, ((![v8991] : Fin 1 → IVec S16 32) a x).toNat < S32.size a)
theorem k1_idx445_inb : ∀ (v8991 : IVec S16 32) (k1_hw440 : k1_chk440 v8991), ∀ a x, ((![v8991] : Fin 1 → IVec S16 32) a x).toNat < S32.size a := fun v8991 k1_hw440 => k1_hw440

def k1_chk441 (v9011 : IVec S16 32) : Prop :=
  (∀ a x, ((![v9011] : Fin 1 → IVec S16 32) a x).toNat < S32.size a)
theorem k1_idx446_inb : ∀ (v9011 : IVec S16 32) (k1_hw441 : k1_chk441 v9011), ∀ a x, ((![v9011] : Fin 1 → IVec S16 32) a x).toNat < S32.size a := fun v9011 k1_hw441 => k1_hw441

def k1_chk442 (v9031 : IVec S16 32) : Prop :=
  (∀ a x, ((![v9031] : Fin 1 → IVec S16 32) a x).toNat < S32.size a)
theorem k1_idx447_inb : ∀ (v9031 : IVec S16 32) (k1_hw442 : k1_chk442 v9031), ∀ a x, ((![v9031] : Fin 1 → IVec S16 32) a x).toNat < S32.size a := fun v9031 k1_hw442 => k1_hw442

def k1_chk443 (v9051 : IVec S16 32) : Prop :=
  (∀ a x, ((![v9051] : Fin 1 → IVec S16 32) a x).toNat < S32.size a)
theorem k1_idx448_inb : ∀ (v9051 : IVec S16 32) (k1_hw443 : k1_chk443 v9051), ∀ a x, ((![v9051] : Fin 1 → IVec S16 32) a x).toNat < S32.size a := fun v9051 k1_hw443 => k1_hw443

def k1_chk444 (v9071 : IVec S16 32) : Prop :=
  (∀ a x, ((![v9071] : Fin 1 → IVec S16 32) a x).toNat < S32.size a)
theorem k1_idx449_inb : ∀ (v9071 : IVec S16 32) (k1_hw444 : k1_chk444 v9071), ∀ a x, ((![v9071] : Fin 1 → IVec S16 32) a x).toNat < S32.size a := fun v9071 k1_hw444 => k1_hw444

def k1_chk445 (v9091 : IVec S16 32) : Prop :=
  (∀ a x, ((![v9091] : Fin 1 → IVec S16 32) a x).toNat < S32.size a)
theorem k1_idx450_inb : ∀ (v9091 : IVec S16 32) (k1_hw445 : k1_chk445 v9091), ∀ a x, ((![v9091] : Fin 1 → IVec S16 32) a x).toNat < S32.size a := fun v9091 k1_hw445 => k1_hw445

def k1_chk446 (v9111 : IVec S16 32) : Prop :=
  (∀ a x, ((![v9111] : Fin 1 → IVec S16 32) a x).toNat < S32.size a)
theorem k1_idx451_inb : ∀ (v9111 : IVec S16 32) (k1_hw446 : k1_chk446 v9111), ∀ a x, ((![v9111] : Fin 1 → IVec S16 32) a x).toNat < S32.size a := fun v9111 k1_hw446 => k1_hw446

def k1_chk447 (v9131 : IVec S16 32) : Prop :=
  (∀ a x, ((![v9131] : Fin 1 → IVec S16 32) a x).toNat < S32.size a)
theorem k1_idx452_inb : ∀ (v9131 : IVec S16 32) (k1_hw447 : k1_chk447 v9131), ∀ a x, ((![v9131] : Fin 1 → IVec S16 32) a x).toNat < S32.size a := fun v9131 k1_hw447 => k1_hw447

def k1_chk448 (v9151 : IVec S16 32) : Prop :=
  (∀ a x, ((![v9151] : Fin 1 → IVec S16 32) a x).toNat < S32.size a)
theorem k1_idx453_inb : ∀ (v9151 : IVec S16 32) (k1_hw448 : k1_chk448 v9151), ∀ a x, ((![v9151] : Fin 1 → IVec S16 32) a x).toNat < S32.size a := fun v9151 k1_hw448 => k1_hw448

def k1_chk449 (v9171 : IVec S16 32) : Prop :=
  (∀ a x, ((![v9171] : Fin 1 → IVec S16 32) a x).toNat < S32.size a)
theorem k1_idx454_inb : ∀ (v9171 : IVec S16 32) (k1_hw449 : k1_chk449 v9171), ∀ a x, ((![v9171] : Fin 1 → IVec S16 32) a x).toNat < S32.size a := fun v9171 k1_hw449 => k1_hw449

def k1_chk450 (v9191 : IVec S16 32) : Prop :=
  (∀ a x, ((![v9191] : Fin 1 → IVec S16 32) a x).toNat < S32.size a)
theorem k1_idx455_inb : ∀ (v9191 : IVec S16 32) (k1_hw450 : k1_chk450 v9191), ∀ a x, ((![v9191] : Fin 1 → IVec S16 32) a x).toNat < S32.size a := fun v9191 k1_hw450 => k1_hw450

def k1_chk451 (v9211 : IVec S16 32) : Prop :=
  (∀ a x, ((![v9211] : Fin 1 → IVec S16 32) a x).toNat < S32.size a)
theorem k1_idx456_inb : ∀ (v9211 : IVec S16 32) (k1_hw451 : k1_chk451 v9211), ∀ a x, ((![v9211] : Fin 1 → IVec S16 32) a x).toNat < S32.size a := fun v9211 k1_hw451 => k1_hw451

def k1_chk452 (v9231 : IVec S16 32) : Prop :=
  (∀ a x, ((![v9231] : Fin 1 → IVec S16 32) a x).toNat < S32.size a)
theorem k1_idx457_inb : ∀ (v9231 : IVec S16 32) (k1_hw452 : k1_chk452 v9231), ∀ a x, ((![v9231] : Fin 1 → IVec S16 32) a x).toNat < S32.size a := fun v9231 k1_hw452 => k1_hw452

def k1_chk453 (v9251 : IVec S16 32) : Prop :=
  (∀ a x, ((![v9251] : Fin 1 → IVec S16 32) a x).toNat < S32.size a)
theorem k1_idx458_inb : ∀ (v9251 : IVec S16 32) (k1_hw453 : k1_chk453 v9251), ∀ a x, ((![v9251] : Fin 1 → IVec S16 32) a x).toNat < S32.size a := fun v9251 k1_hw453 => k1_hw453

def k1_chk454 (v9271 : IVec S16 32) : Prop :=
  (∀ a x, ((![v9271] : Fin 1 → IVec S16 32) a x).toNat < S32.size a)
theorem k1_idx459_inb : ∀ (v9271 : IVec S16 32) (k1_hw454 : k1_chk454 v9271), ∀ a x, ((![v9271] : Fin 1 → IVec S16 32) a x).toNat < S32.size a := fun v9271 k1_hw454 => k1_hw454

def k1_chk455 (v9291 : IVec S16 32) : Prop :=
  (∀ a x, ((![v9291] : Fin 1 → IVec S16 32) a x).toNat < S32.size a)
theorem k1_idx460_inb : ∀ (v9291 : IVec S16 32) (k1_hw455 : k1_chk455 v9291), ∀ a x, ((![v9291] : Fin 1 → IVec S16 32) a x).toNat < S32.size a := fun v9291 k1_hw455 => k1_hw455

def k1_chk456 (v9311 : IVec S16 32) : Prop :=
  (∀ a x, ((![v9311] : Fin 1 → IVec S16 32) a x).toNat < S32.size a)
theorem k1_idx461_inb : ∀ (v9311 : IVec S16 32) (k1_hw456 : k1_chk456 v9311), ∀ a x, ((![v9311] : Fin 1 → IVec S16 32) a x).toNat < S32.size a := fun v9311 k1_hw456 => k1_hw456

def k1_chk457 (v9331 : IVec S16 32) : Prop :=
  (∀ a x, ((![v9331] : Fin 1 → IVec S16 32) a x).toNat < S32.size a)
theorem k1_idx462_inb : ∀ (v9331 : IVec S16 32) (k1_hw457 : k1_chk457 v9331), ∀ a x, ((![v9331] : Fin 1 → IVec S16 32) a x).toNat < S32.size a := fun v9331 k1_hw457 => k1_hw457

def k1_chk458 (v9351 : IVec S16 32) : Prop :=
  (∀ a x, ((![v9351] : Fin 1 → IVec S16 32) a x).toNat < S32.size a)
theorem k1_idx463_inb : ∀ (v9351 : IVec S16 32) (k1_hw458 : k1_chk458 v9351), ∀ a x, ((![v9351] : Fin 1 → IVec S16 32) a x).toNat < S32.size a := fun v9351 k1_hw458 => k1_hw458

def k1_chk459 (v9371 : IVec S16 32) : Prop :=
  (∀ a x, ((![v9371] : Fin 1 → IVec S16 32) a x).toNat < S32.size a)
theorem k1_idx464_inb : ∀ (v9371 : IVec S16 32) (k1_hw459 : k1_chk459 v9371), ∀ a x, ((![v9371] : Fin 1 → IVec S16 32) a x).toNat < S32.size a := fun v9371 k1_hw459 => k1_hw459

def k1_chk460 (v9391 : IVec S16 32) : Prop :=
  (∀ a x, ((![v9391] : Fin 1 → IVec S16 32) a x).toNat < S32.size a)
theorem k1_idx465_inb : ∀ (v9391 : IVec S16 32) (k1_hw460 : k1_chk460 v9391), ∀ a x, ((![v9391] : Fin 1 → IVec S16 32) a x).toNat < S32.size a := fun v9391 k1_hw460 => k1_hw460

def k1_chk461 (v9411 : IVec S16 32) : Prop :=
  (∀ a x, ((![v9411] : Fin 1 → IVec S16 32) a x).toNat < S32.size a)
theorem k1_idx466_inb : ∀ (v9411 : IVec S16 32) (k1_hw461 : k1_chk461 v9411), ∀ a x, ((![v9411] : Fin 1 → IVec S16 32) a x).toNat < S32.size a := fun v9411 k1_hw461 => k1_hw461

def k1_chk462 (v9431 : IVec S16 32) : Prop :=
  (∀ a x, ((![v9431] : Fin 1 → IVec S16 32) a x).toNat < S32.size a)
theorem k1_idx467_inb : ∀ (v9431 : IVec S16 32) (k1_hw462 : k1_chk462 v9431), ∀ a x, ((![v9431] : Fin 1 → IVec S16 32) a x).toNat < S32.size a := fun v9431 k1_hw462 => k1_hw462

def k1_chk463 (v9442 : IVec S16 32) : Prop :=
  (∀ a x, ((![v9442] : Fin 1 → IVec S16 32) a x).toNat < S32.size a)
theorem k1_idx469_inb : ∀ (v9442 : IVec S16 32) (k1_hw463 : k1_chk463 v9442), ∀ a x, ((![v9442] : Fin 1 → IVec S16 32) a x).toNat < S32.size a := fun v9442 k1_hw463 => k1_hw463

def k1_chk464 (v9456 : IVec S16 32) : Prop :=
  (∀ a x, ((![v9456] : Fin 1 → IVec S16 32) a x).toNat < S32.size a)
theorem k1_idx470_inb : ∀ (v9456 : IVec S16 32) (k1_hw464 : k1_chk464 v9456), ∀ a x, ((![v9456] : Fin 1 → IVec S16 32) a x).toNat < S32.size a := fun v9456 k1_hw464 => k1_hw464

def k1_chk465 (v9483 : IVec S16 32) : Prop :=
  (∀ a x, ((![v9483] : Fin 1 → IVec S16 32) a x).toNat < S32.size a)
theorem k1_idx471_inb : ∀ (v9483 : IVec S16 32) (k1_hw465 : k1_chk465 v9483), ∀ a x, ((![v9483] : Fin 1 → IVec S16 32) a x).toNat < S32.size a := fun v9483 k1_hw465 => k1_hw465

def k1_chk466 (v9503 : IVec S16 32) : Prop :=
  (∀ a x, ((![v9503] : Fin 1 → IVec S16 32) a x).toNat < S32.size a)
theorem k1_idx472_inb : ∀ (v9503 : IVec S16 32) (k1_hw466 : k1_chk466 v9503), ∀ a x, ((![v9503] : Fin 1 → IVec S16 32) a x).toNat < S32.size a := fun v9503 k1_hw466 => k1_hw466

def k1_chk467 (v9523 : IVec S16 32) : Prop :=
  (∀ a x, ((![v9523] : Fin 1 → IVec S16 32) a x).toNat < S32.size a)
theorem k1_idx473_inb : ∀ (v9523 : IVec S16 32) (k1_hw467 : k1_chk467 v9523), ∀ a x, ((![v9523] : Fin 1 → IVec S16 32) a x).toNat < S32.size a := fun v9523 k1_hw467 => k1_hw467

def k1_chk468 (v9543 : IVec S16 32) : Prop :=
  (∀ a x, ((![v9543] : Fin 1 → IVec S16 32) a x).toNat < S32.size a)
theorem k1_idx474_inb : ∀ (v9543 : IVec S16 32) (k1_hw468 : k1_chk468 v9543), ∀ a x, ((![v9543] : Fin 1 → IVec S16 32) a x).toNat < S32.size a := fun v9543 k1_hw468 => k1_hw468

def k1_chk469 (v9563 : IVec S16 32) : Prop :=
  (∀ a x, ((![v9563] : Fin 1 → IVec S16 32) a x).toNat < S32.size a)
theorem k1_idx475_inb : ∀ (v9563 : IVec S16 32) (k1_hw469 : k1_chk469 v9563), ∀ a x, ((![v9563] : Fin 1 → IVec S16 32) a x).toNat < S32.size a := fun v9563 k1_hw469 => k1_hw469

def k1_chk470 (v9583 : IVec S16 32) : Prop :=
  (∀ a x, ((![v9583] : Fin 1 → IVec S16 32) a x).toNat < S32.size a)
theorem k1_idx476_inb : ∀ (v9583 : IVec S16 32) (k1_hw470 : k1_chk470 v9583), ∀ a x, ((![v9583] : Fin 1 → IVec S16 32) a x).toNat < S32.size a := fun v9583 k1_hw470 => k1_hw470

def k1_chk471 (v9603 : IVec S16 32) : Prop :=
  (∀ a x, ((![v9603] : Fin 1 → IVec S16 32) a x).toNat < S32.size a)
theorem k1_idx477_inb : ∀ (v9603 : IVec S16 32) (k1_hw471 : k1_chk471 v9603), ∀ a x, ((![v9603] : Fin 1 → IVec S16 32) a x).toNat < S32.size a := fun v9603 k1_hw471 => k1_hw471

def k1_chk472 (v9623 : IVec S16 32) : Prop :=
  (∀ a x, ((![v9623] : Fin 1 → IVec S16 32) a x).toNat < S32.size a)
theorem k1_idx478_inb : ∀ (v9623 : IVec S16 32) (k1_hw472 : k1_chk472 v9623), ∀ a x, ((![v9623] : Fin 1 → IVec S16 32) a x).toNat < S32.size a := fun v9623 k1_hw472 => k1_hw472

def k1_chk473 (v9643 : IVec S16 32) : Prop :=
  (∀ a x, ((![v9643] : Fin 1 → IVec S16 32) a x).toNat < S32.size a)
theorem k1_idx479_inb : ∀ (v9643 : IVec S16 32) (k1_hw473 : k1_chk473 v9643), ∀ a x, ((![v9643] : Fin 1 → IVec S16 32) a x).toNat < S32.size a := fun v9643 k1_hw473 => k1_hw473

def k1_chk474 (v9663 : IVec S16 32) : Prop :=
  (∀ a x, ((![v9663] : Fin 1 → IVec S16 32) a x).toNat < S32.size a)
theorem k1_idx480_inb : ∀ (v9663 : IVec S16 32) (k1_hw474 : k1_chk474 v9663), ∀ a x, ((![v9663] : Fin 1 → IVec S16 32) a x).toNat < S32.size a := fun v9663 k1_hw474 => k1_hw474

def k1_chk475 (v9683 : IVec S16 32) : Prop :=
  (∀ a x, ((![v9683] : Fin 1 → IVec S16 32) a x).toNat < S32.size a)
theorem k1_idx481_inb : ∀ (v9683 : IVec S16 32) (k1_hw475 : k1_chk475 v9683), ∀ a x, ((![v9683] : Fin 1 → IVec S16 32) a x).toNat < S32.size a := fun v9683 k1_hw475 => k1_hw475

def k1_chk476 (v9703 : IVec S16 32) : Prop :=
  (∀ a x, ((![v9703] : Fin 1 → IVec S16 32) a x).toNat < S32.size a)
theorem k1_idx482_inb : ∀ (v9703 : IVec S16 32) (k1_hw476 : k1_chk476 v9703), ∀ a x, ((![v9703] : Fin 1 → IVec S16 32) a x).toNat < S32.size a := fun v9703 k1_hw476 => k1_hw476

def k1_chk477 (v9723 : IVec S16 32) : Prop :=
  (∀ a x, ((![v9723] : Fin 1 → IVec S16 32) a x).toNat < S32.size a)
theorem k1_idx483_inb : ∀ (v9723 : IVec S16 32) (k1_hw477 : k1_chk477 v9723), ∀ a x, ((![v9723] : Fin 1 → IVec S16 32) a x).toNat < S32.size a := fun v9723 k1_hw477 => k1_hw477

def k1_chk478 (v9743 : IVec S16 32) : Prop :=
  (∀ a x, ((![v9743] : Fin 1 → IVec S16 32) a x).toNat < S32.size a)
theorem k1_idx484_inb : ∀ (v9743 : IVec S16 32) (k1_hw478 : k1_chk478 v9743), ∀ a x, ((![v9743] : Fin 1 → IVec S16 32) a x).toNat < S32.size a := fun v9743 k1_hw478 => k1_hw478

def k1_chk479 (v9763 : IVec S16 32) : Prop :=
  (∀ a x, ((![v9763] : Fin 1 → IVec S16 32) a x).toNat < S32.size a)
theorem k1_idx485_inb : ∀ (v9763 : IVec S16 32) (k1_hw479 : k1_chk479 v9763), ∀ a x, ((![v9763] : Fin 1 → IVec S16 32) a x).toNat < S32.size a := fun v9763 k1_hw479 => k1_hw479

def k1_chk480 (v9783 : IVec S16 32) : Prop :=
  (∀ a x, ((![v9783] : Fin 1 → IVec S16 32) a x).toNat < S32.size a)
theorem k1_idx486_inb : ∀ (v9783 : IVec S16 32) (k1_hw480 : k1_chk480 v9783), ∀ a x, ((![v9783] : Fin 1 → IVec S16 32) a x).toNat < S32.size a := fun v9783 k1_hw480 => k1_hw480

def k1_chk481 (v9803 : IVec S16 32) : Prop :=
  (∀ a x, ((![v9803] : Fin 1 → IVec S16 32) a x).toNat < S32.size a)
theorem k1_idx487_inb : ∀ (v9803 : IVec S16 32) (k1_hw481 : k1_chk481 v9803), ∀ a x, ((![v9803] : Fin 1 → IVec S16 32) a x).toNat < S32.size a := fun v9803 k1_hw481 => k1_hw481

def k1_chk482 (v9823 : IVec S16 32) : Prop :=
  (∀ a x, ((![v9823] : Fin 1 → IVec S16 32) a x).toNat < S32.size a)
theorem k1_idx488_inb : ∀ (v9823 : IVec S16 32) (k1_hw482 : k1_chk482 v9823), ∀ a x, ((![v9823] : Fin 1 → IVec S16 32) a x).toNat < S32.size a := fun v9823 k1_hw482 => k1_hw482

def k1_chk483 (v9843 : IVec S16 32) : Prop :=
  (∀ a x, ((![v9843] : Fin 1 → IVec S16 32) a x).toNat < S32.size a)
theorem k1_idx489_inb : ∀ (v9843 : IVec S16 32) (k1_hw483 : k1_chk483 v9843), ∀ a x, ((![v9843] : Fin 1 → IVec S16 32) a x).toNat < S32.size a := fun v9843 k1_hw483 => k1_hw483

def k1_chk484 (v9863 : IVec S16 32) : Prop :=
  (∀ a x, ((![v9863] : Fin 1 → IVec S16 32) a x).toNat < S32.size a)
theorem k1_idx490_inb : ∀ (v9863 : IVec S16 32) (k1_hw484 : k1_chk484 v9863), ∀ a x, ((![v9863] : Fin 1 → IVec S16 32) a x).toNat < S32.size a := fun v9863 k1_hw484 => k1_hw484

def k1_chk485 (v9883 : IVec S16 32) : Prop :=
  (∀ a x, ((![v9883] : Fin 1 → IVec S16 32) a x).toNat < S32.size a)
theorem k1_idx491_inb : ∀ (v9883 : IVec S16 32) (k1_hw485 : k1_chk485 v9883), ∀ a x, ((![v9883] : Fin 1 → IVec S16 32) a x).toNat < S32.size a := fun v9883 k1_hw485 => k1_hw485

def k1_chk486 (v9903 : IVec S16 32) : Prop :=
  (∀ a x, ((![v9903] : Fin 1 → IVec S16 32) a x).toNat < S32.size a)
theorem k1_idx492_inb : ∀ (v9903 : IVec S16 32) (k1_hw486 : k1_chk486 v9903), ∀ a x, ((![v9903] : Fin 1 → IVec S16 32) a x).toNat < S32.size a := fun v9903 k1_hw486 => k1_hw486

def k1_chk487 (v9923 : IVec S16 32) : Prop :=
  (∀ a x, ((![v9923] : Fin 1 → IVec S16 32) a x).toNat < S32.size a)
theorem k1_idx493_inb : ∀ (v9923 : IVec S16 32) (k1_hw487 : k1_chk487 v9923), ∀ a x, ((![v9923] : Fin 1 → IVec S16 32) a x).toNat < S32.size a := fun v9923 k1_hw487 => k1_hw487

def k1_chk488 (v9943 : IVec S16 32) : Prop :=
  (∀ a x, ((![v9943] : Fin 1 → IVec S16 32) a x).toNat < S32.size a)
theorem k1_idx494_inb : ∀ (v9943 : IVec S16 32) (k1_hw488 : k1_chk488 v9943), ∀ a x, ((![v9943] : Fin 1 → IVec S16 32) a x).toNat < S32.size a := fun v9943 k1_hw488 => k1_hw488

def k1_chk489 (v9963 : IVec S16 32) : Prop :=
  (∀ a x, ((![v9963] : Fin 1 → IVec S16 32) a x).toNat < S32.size a)
theorem k1_idx495_inb : ∀ (v9963 : IVec S16 32) (k1_hw489 : k1_chk489 v9963), ∀ a x, ((![v9963] : Fin 1 → IVec S16 32) a x).toNat < S32.size a := fun v9963 k1_hw489 => k1_hw489

def k1_chk490 (v9983 : IVec S16 32) : Prop :=
  (∀ a x, ((![v9983] : Fin 1 → IVec S16 32) a x).toNat < S32.size a)
theorem k1_idx496_inb : ∀ (v9983 : IVec S16 32) (k1_hw490 : k1_chk490 v9983), ∀ a x, ((![v9983] : Fin 1 → IVec S16 32) a x).toNat < S32.size a := fun v9983 k1_hw490 => k1_hw490

def k1_chk491 (v10003 : IVec S16 32) : Prop :=
  (∀ a x, ((![v10003] : Fin 1 → IVec S16 32) a x).toNat < S32.size a)
theorem k1_idx497_inb : ∀ (v10003 : IVec S16 32) (k1_hw491 : k1_chk491 v10003), ∀ a x, ((![v10003] : Fin 1 → IVec S16 32) a x).toNat < S32.size a := fun v10003 k1_hw491 => k1_hw491

def k1_chk492 (v10023 : IVec S16 32) : Prop :=
  (∀ a x, ((![v10023] : Fin 1 → IVec S16 32) a x).toNat < S32.size a)
theorem k1_idx498_inb : ∀ (v10023 : IVec S16 32) (k1_hw492 : k1_chk492 v10023), ∀ a x, ((![v10023] : Fin 1 → IVec S16 32) a x).toNat < S32.size a := fun v10023 k1_hw492 => k1_hw492

def k1_chk493 (v10043 : IVec S16 32) : Prop :=
  (∀ a x, ((![v10043] : Fin 1 → IVec S16 32) a x).toNat < S32.size a)
theorem k1_idx499_inb : ∀ (v10043 : IVec S16 32) (k1_hw493 : k1_chk493 v10043), ∀ a x, ((![v10043] : Fin 1 → IVec S16 32) a x).toNat < S32.size a := fun v10043 k1_hw493 => k1_hw493

def k1_chk494 (v10063 : IVec S16 32) : Prop :=
  (∀ a x, ((![v10063] : Fin 1 → IVec S16 32) a x).toNat < S32.size a)
theorem k1_idx500_inb : ∀ (v10063 : IVec S16 32) (k1_hw494 : k1_chk494 v10063), ∀ a x, ((![v10063] : Fin 1 → IVec S16 32) a x).toNat < S32.size a := fun v10063 k1_hw494 => k1_hw494

def k1_chk495 (v10083 : IVec S16 32) : Prop :=
  (∀ a x, ((![v10083] : Fin 1 → IVec S16 32) a x).toNat < S32.size a)
theorem k1_idx501_inb : ∀ (v10083 : IVec S16 32) (k1_hw495 : k1_chk495 v10083), ∀ a x, ((![v10083] : Fin 1 → IVec S16 32) a x).toNat < S32.size a := fun v10083 k1_hw495 => k1_hw495

def k1_chk496 (v10103 : IVec S16 32) : Prop :=
  (∀ a x, ((![v10103] : Fin 1 → IVec S16 32) a x).toNat < S32.size a)
theorem k1_idx502_inb : ∀ (v10103 : IVec S16 32) (k1_hw496 : k1_chk496 v10103), ∀ a x, ((![v10103] : Fin 1 → IVec S16 32) a x).toNat < S32.size a := fun v10103 k1_hw496 => k1_hw496

def k1_chk497 (v10123 : IVec S16 32) : Prop :=
  (∀ a x, ((![v10123] : Fin 1 → IVec S16 32) a x).toNat < S32.size a)
theorem k1_idx503_inb : ∀ (v10123 : IVec S16 32) (k1_hw497 : k1_chk497 v10123), ∀ a x, ((![v10123] : Fin 1 → IVec S16 32) a x).toNat < S32.size a := fun v10123 k1_hw497 => k1_hw497

def k1_chk498 (v10143 : IVec S16 32) : Prop :=
  (∀ a x, ((![v10143] : Fin 1 → IVec S16 32) a x).toNat < S32.size a)
theorem k1_idx504_inb : ∀ (v10143 : IVec S16 32) (k1_hw498 : k1_chk498 v10143), ∀ a x, ((![v10143] : Fin 1 → IVec S16 32) a x).toNat < S32.size a := fun v10143 k1_hw498 => k1_hw498

def k1_chk499 (v10163 : IVec S16 32) : Prop :=
  (∀ a x, ((![v10163] : Fin 1 → IVec S16 32) a x).toNat < S32.size a)
theorem k1_idx505_inb : ∀ (v10163 : IVec S16 32) (k1_hw499 : k1_chk499 v10163), ∀ a x, ((![v10163] : Fin 1 → IVec S16 32) a x).toNat < S32.size a := fun v10163 k1_hw499 => k1_hw499

def k1_chk500 (v10183 : IVec S16 32) : Prop :=
  (∀ a x, ((![v10183] : Fin 1 → IVec S16 32) a x).toNat < S32.size a)
theorem k1_idx506_inb : ∀ (v10183 : IVec S16 32) (k1_hw500 : k1_chk500 v10183), ∀ a x, ((![v10183] : Fin 1 → IVec S16 32) a x).toNat < S32.size a := fun v10183 k1_hw500 => k1_hw500

def k1_chk501 (v10203 : IVec S16 32) : Prop :=
  (∀ a x, ((![v10203] : Fin 1 → IVec S16 32) a x).toNat < S32.size a)
theorem k1_idx507_inb : ∀ (v10203 : IVec S16 32) (k1_hw501 : k1_chk501 v10203), ∀ a x, ((![v10203] : Fin 1 → IVec S16 32) a x).toNat < S32.size a := fun v10203 k1_hw501 => k1_hw501

def k1_chk502 (v10223 : IVec S16 32) : Prop :=
  (∀ a x, ((![v10223] : Fin 1 → IVec S16 32) a x).toNat < S32.size a)
theorem k1_idx508_inb : ∀ (v10223 : IVec S16 32) (k1_hw502 : k1_chk502 v10223), ∀ a x, ((![v10223] : Fin 1 → IVec S16 32) a x).toNat < S32.size a := fun v10223 k1_hw502 => k1_hw502

def k1_chk503 (v10243 : IVec S16 32) : Prop :=
  (∀ a x, ((![v10243] : Fin 1 → IVec S16 32) a x).toNat < S32.size a)
theorem k1_idx509_inb : ∀ (v10243 : IVec S16 32) (k1_hw503 : k1_chk503 v10243), ∀ a x, ((![v10243] : Fin 1 → IVec S16 32) a x).toNat < S32.size a := fun v10243 k1_hw503 => k1_hw503

def k1_chk504 (v10263 : IVec S16 32) : Prop :=
  (∀ a x, ((![v10263] : Fin 1 → IVec S16 32) a x).toNat < S32.size a)
theorem k1_idx510_inb : ∀ (v10263 : IVec S16 32) (k1_hw504 : k1_chk504 v10263), ∀ a x, ((![v10263] : Fin 1 → IVec S16 32) a x).toNat < S32.size a := fun v10263 k1_hw504 => k1_hw504

def k1_chk505 (v10283 : IVec S16 32) : Prop :=
  (∀ a x, ((![v10283] : Fin 1 → IVec S16 32) a x).toNat < S32.size a)
theorem k1_idx511_inb : ∀ (v10283 : IVec S16 32) (k1_hw505 : k1_chk505 v10283), ∀ a x, ((![v10283] : Fin 1 → IVec S16 32) a x).toNat < S32.size a := fun v10283 k1_hw505 => k1_hw505

def k1_chk506 (v10303 : IVec S16 32) : Prop :=
  (∀ a x, ((![v10303] : Fin 1 → IVec S16 32) a x).toNat < S32.size a)
theorem k1_idx512_inb : ∀ (v10303 : IVec S16 32) (k1_hw506 : k1_chk506 v10303), ∀ a x, ((![v10303] : Fin 1 → IVec S16 32) a x).toNat < S32.size a := fun v10303 k1_hw506 => k1_hw506

def k1_chk507 (v10323 : IVec S16 32) : Prop :=
  (∀ a x, ((![v10323] : Fin 1 → IVec S16 32) a x).toNat < S32.size a)
theorem k1_idx513_inb : ∀ (v10323 : IVec S16 32) (k1_hw507 : k1_chk507 v10323), ∀ a x, ((![v10323] : Fin 1 → IVec S16 32) a x).toNat < S32.size a := fun v10323 k1_hw507 => k1_hw507

def k1_chk508 (v10343 : IVec S16 32) : Prop :=
  (∀ a x, ((![v10343] : Fin 1 → IVec S16 32) a x).toNat < S32.size a)
theorem k1_idx514_inb : ∀ (v10343 : IVec S16 32) (k1_hw508 : k1_chk508 v10343), ∀ a x, ((![v10343] : Fin 1 → IVec S16 32) a x).toNat < S32.size a := fun v10343 k1_hw508 => k1_hw508

def k1_chk509 (v10363 : IVec S16 32) : Prop :=
  (∀ a x, ((![v10363] : Fin 1 → IVec S16 32) a x).toNat < S32.size a)
theorem k1_idx515_inb : ∀ (v10363 : IVec S16 32) (k1_hw509 : k1_chk509 v10363), ∀ a x, ((![v10363] : Fin 1 → IVec S16 32) a x).toNat < S32.size a := fun v10363 k1_hw509 => k1_hw509

def k1_chk510 (v10383 : IVec S16 32) : Prop :=
  (∀ a x, ((![v10383] : Fin 1 → IVec S16 32) a x).toNat < S32.size a)
theorem k1_idx516_inb : ∀ (v10383 : IVec S16 32) (k1_hw510 : k1_chk510 v10383), ∀ a x, ((![v10383] : Fin 1 → IVec S16 32) a x).toNat < S32.size a := fun v10383 k1_hw510 => k1_hw510

def k1_chk511 (v10403 : IVec S16 32) : Prop :=
  (∀ a x, ((![v10403] : Fin 1 → IVec S16 32) a x).toNat < S32.size a)
theorem k1_idx517_inb : ∀ (v10403 : IVec S16 32) (k1_hw511 : k1_chk511 v10403), ∀ a x, ((![v10403] : Fin 1 → IVec S16 32) a x).toNat < S32.size a := fun v10403 k1_hw511 => k1_hw511

def k1_chk512 (v10423 : IVec S16 32) : Prop :=
  (∀ a x, ((![v10423] : Fin 1 → IVec S16 32) a x).toNat < S32.size a)
theorem k1_idx518_inb : ∀ (v10423 : IVec S16 32) (k1_hw512 : k1_chk512 v10423), ∀ a x, ((![v10423] : Fin 1 → IVec S16 32) a x).toNat < S32.size a := fun v10423 k1_hw512 => k1_hw512

def k1_chk513 (v10443 : IVec S16 32) : Prop :=
  (∀ a x, ((![v10443] : Fin 1 → IVec S16 32) a x).toNat < S32.size a)
theorem k1_idx519_inb : ∀ (v10443 : IVec S16 32) (k1_hw513 : k1_chk513 v10443), ∀ a x, ((![v10443] : Fin 1 → IVec S16 32) a x).toNat < S32.size a := fun v10443 k1_hw513 => k1_hw513

def k1_chk514 (v10463 : IVec S16 32) : Prop :=
  (∀ a x, ((![v10463] : Fin 1 → IVec S16 32) a x).toNat < S32.size a)
theorem k1_idx520_inb : ∀ (v10463 : IVec S16 32) (k1_hw514 : k1_chk514 v10463), ∀ a x, ((![v10463] : Fin 1 → IVec S16 32) a x).toNat < S32.size a := fun v10463 k1_hw514 => k1_hw514

def k1_chk515 (v10483 : IVec S16 32) : Prop :=
  (∀ a x, ((![v10483] : Fin 1 → IVec S16 32) a x).toNat < S32.size a)
theorem k1_idx521_inb : ∀ (v10483 : IVec S16 32) (k1_hw515 : k1_chk515 v10483), ∀ a x, ((![v10483] : Fin 1 → IVec S16 32) a x).toNat < S32.size a := fun v10483 k1_hw515 => k1_hw515

def k1_chk516 (v10503 : IVec S16 32) : Prop :=
  (∀ a x, ((![v10503] : Fin 1 → IVec S16 32) a x).toNat < S32.size a)
theorem k1_idx522_inb : ∀ (v10503 : IVec S16 32) (k1_hw516 : k1_chk516 v10503), ∀ a x, ((![v10503] : Fin 1 → IVec S16 32) a x).toNat < S32.size a := fun v10503 k1_hw516 => k1_hw516

def k1_chk517 (v10523 : IVec S16 32) : Prop :=
  (∀ a x, ((![v10523] : Fin 1 → IVec S16 32) a x).toNat < S32.size a)
theorem k1_idx523_inb : ∀ (v10523 : IVec S16 32) (k1_hw517 : k1_chk517 v10523), ∀ a x, ((![v10523] : Fin 1 → IVec S16 32) a x).toNat < S32.size a := fun v10523 k1_hw517 => k1_hw517

def k1_chk518 (v10543 : IVec S16 32) : Prop :=
  (∀ a x, ((![v10543] : Fin 1 → IVec S16 32) a x).toNat < S32.size a)
theorem k1_idx524_inb : ∀ (v10543 : IVec S16 32) (k1_hw518 : k1_chk518 v10543), ∀ a x, ((![v10543] : Fin 1 → IVec S16 32) a x).toNat < S32.size a := fun v10543 k1_hw518 => k1_hw518

def k1_chk519 (v10563 : IVec S16 32) : Prop :=
  (∀ a x, ((![v10563] : Fin 1 → IVec S16 32) a x).toNat < S32.size a)
theorem k1_idx525_inb : ∀ (v10563 : IVec S16 32) (k1_hw519 : k1_chk519 v10563), ∀ a x, ((![v10563] : Fin 1 → IVec S16 32) a x).toNat < S32.size a := fun v10563 k1_hw519 => k1_hw519

def k1_chk520 (v10583 : IVec S16 32) : Prop :=
  (∀ a x, ((![v10583] : Fin 1 → IVec S16 32) a x).toNat < S32.size a)
theorem k1_idx526_inb : ∀ (v10583 : IVec S16 32) (k1_hw520 : k1_chk520 v10583), ∀ a x, ((![v10583] : Fin 1 → IVec S16 32) a x).toNat < S32.size a := fun v10583 k1_hw520 => k1_hw520

def k1_chk521 (v10603 : IVec S16 32) : Prop :=
  (∀ a x, ((![v10603] : Fin 1 → IVec S16 32) a x).toNat < S32.size a)
theorem k1_idx527_inb : ∀ (v10603 : IVec S16 32) (k1_hw521 : k1_chk521 v10603), ∀ a x, ((![v10603] : Fin 1 → IVec S16 32) a x).toNat < S32.size a := fun v10603 k1_hw521 => k1_hw521

def k1_chk522 (v10623 : IVec S16 32) : Prop :=
  (∀ a x, ((![v10623] : Fin 1 → IVec S16 32) a x).toNat < S32.size a)
theorem k1_idx528_inb : ∀ (v10623 : IVec S16 32) (k1_hw522 : k1_chk522 v10623), ∀ a x, ((![v10623] : Fin 1 → IVec S16 32) a x).toNat < S32.size a := fun v10623 k1_hw522 => k1_hw522

def k1_chk523 (v10643 : IVec S16 32) : Prop :=
  (∀ a x, ((![v10643] : Fin 1 → IVec S16 32) a x).toNat < S32.size a)
theorem k1_idx529_inb : ∀ (v10643 : IVec S16 32) (k1_hw523 : k1_chk523 v10643), ∀ a x, ((![v10643] : Fin 1 → IVec S16 32) a x).toNat < S32.size a := fun v10643 k1_hw523 => k1_hw523

def k1_chk524 (v10663 : IVec S16 32) : Prop :=
  (∀ a x, ((![v10663] : Fin 1 → IVec S16 32) a x).toNat < S32.size a)
theorem k1_idx530_inb : ∀ (v10663 : IVec S16 32) (k1_hw524 : k1_chk524 v10663), ∀ a x, ((![v10663] : Fin 1 → IVec S16 32) a x).toNat < S32.size a := fun v10663 k1_hw524 => k1_hw524

def k1_chk525 (v10683 : IVec S16 32) : Prop :=
  (∀ a x, ((![v10683] : Fin 1 → IVec S16 32) a x).toNat < S32.size a)
theorem k1_idx531_inb : ∀ (v10683 : IVec S16 32) (k1_hw525 : k1_chk525 v10683), ∀ a x, ((![v10683] : Fin 1 → IVec S16 32) a x).toNat < S32.size a := fun v10683 k1_hw525 => k1_hw525

def k1_chk526 (v10703 : IVec S16 32) : Prop :=
  (∀ a x, ((![v10703] : Fin 1 → IVec S16 32) a x).toNat < S32.size a)
theorem k1_idx532_inb : ∀ (v10703 : IVec S16 32) (k1_hw526 : k1_chk526 v10703), ∀ a x, ((![v10703] : Fin 1 → IVec S16 32) a x).toNat < S32.size a := fun v10703 k1_hw526 => k1_hw526

def k1_chk527 (v10723 : IVec S16 32) : Prop :=
  (∀ a x, ((![v10723] : Fin 1 → IVec S16 32) a x).toNat < S32.size a)
theorem k1_idx533_inb : ∀ (v10723 : IVec S16 32) (k1_hw527 : k1_chk527 v10723), ∀ a x, ((![v10723] : Fin 1 → IVec S16 32) a x).toNat < S32.size a := fun v10723 k1_hw527 => k1_hw527

def k1_chk528 (v10743 : IVec S16 32) : Prop :=
  (∀ a x, ((![v10743] : Fin 1 → IVec S16 32) a x).toNat < S32.size a)
theorem k1_idx534_inb : ∀ (v10743 : IVec S16 32) (k1_hw528 : k1_chk528 v10743), ∀ a x, ((![v10743] : Fin 1 → IVec S16 32) a x).toNat < S32.size a := fun v10743 k1_hw528 => k1_hw528

def k1_chk66 (v278 : IVec S16 32) : Prop :=
  (∀ a x, ((![v278] : Fin 1 → IVec S16 32) a x).toNat < S32.size a) ∧
  (∀ a x, ((![v278] : Fin 1 → IVec S16 32) a x).toNat < S32.size a) ∧
  (∀ a x, ((![v278] : Fin 1 → IVec S16 32) a x).toNat < S32.size a) ∧
  (∀ a x, ((![v278] : Fin 1 → IVec S16 32) a x).toNat < S32.size a) ∧
  (∀ a x, ((![v278] : Fin 1 → IVec S16 32) a x).toNat < S32.size a) ∧
  (∀ a x, ((![v278] : Fin 1 → IVec S16 32) a x).toNat < S32.size a) ∧
  (∀ a x, ((![v278] : Fin 1 → IVec S16 32) a x).toNat < S32.size a) ∧
  (∀ a x, ((![v278] : Fin 1 → IVec S16 32) a x).toNat < S32.size a)
theorem k1_idx66_inb : ∀ (v278 : IVec S16 32) (k1_hw66 : k1_chk66 v278), ∀ a x, ((![v278] : Fin 1 → IVec S16 32) a x).toNat < S32.size a := fun v278 k1_hw66 => k1_hw66.1
theorem k1_idx133_inb : ∀ (v278 : IVec S16 32) (k1_hw66 : k1_chk66 v278), ∀ a x, ((![v278] : Fin 1 → IVec S16 32) a x).toNat < S32.size a := fun v278 k1_hw66 => k1_hw66.2.1
theorem k1_idx200_inb : ∀ (v278 : IVec S16 32) (k1_hw66 : k1_chk66 v278), ∀ a x, ((![v278] : Fin 1 → IVec S16 32) a x).toNat < S32.size a := fun v278 k1_hw66 => k1_hw66.2.2.1
theorem k1_idx267_inb : ∀ (v278 : IVec S16 32) (k1_hw66 : k1_chk66 v278), ∀ a x, ((![v278] : Fin 1 → IVec S16 32) a x).toNat < S32.size a := fun v278 k1_hw66 => k1_hw66.2.2.2.1
theorem k1_idx334_inb : ∀ (v278 : IVec S16 32) (k1_hw66 : k1_chk66 v278), ∀ a x, ((![v278] : Fin 1 → IVec S16 32) a x).toNat < S32.size a := fun v278 k1_hw66 => k1_hw66.2.2.2.2.1
theorem k1_idx401_inb : ∀ (v278 : IVec S16 32) (k1_hw66 : k1_chk66 v278), ∀ a x, ((![v278] : Fin 1 → IVec S16 32) a x).toNat < S32.size a := fun v278 k1_hw66 => k1_hw66.2.2.2.2.2.1
theorem k1_idx468_inb : ∀ (v278 : IVec S16 32) (k1_hw66 : k1_chk66 v278), ∀ a x, ((![v278] : Fin 1 → IVec S16 32) a x).toNat < S32.size a := fun v278 k1_hw66 => k1_hw66.2.2.2.2.2.2.1
theorem k1_idx535_inb : ∀ (v278 : IVec S16 32) (k1_hw66 : k1_chk66 v278), ∀ a x, ((![v278] : Fin 1 → IVec S16 32) a x).toNat < S32.size a := fun v278 k1_hw66 => k1_hw66.2.2.2.2.2.2.2

def k1_chk529 (v10754 : IVec S16 32) : Prop :=
  (∀ a x, ((![v10754] : Fin 1 → IVec S16 32) a x).toNat < S32.size a)
theorem k1_idx536_inb : ∀ (v10754 : IVec S16 32) (k1_hw529 : k1_chk529 v10754), ∀ a x, ((![v10754] : Fin 1 → IVec S16 32) a x).toNat < S32.size a := fun v10754 k1_hw529 => k1_hw529

def k1_chk530 (v10768 : IVec S16 32) : Prop :=
  (∀ a x, ((![v10768] : Fin 1 → IVec S16 32) a x).toNat < S32.size a)
theorem k1_idx537_inb : ∀ (v10768 : IVec S16 32) (k1_hw530 : k1_chk530 v10768), ∀ a x, ((![v10768] : Fin 1 → IVec S16 32) a x).toNat < S32.size a := fun v10768 k1_hw530 => k1_hw530
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_8 : BitVec 32 := 0#32
  let c1_i32_10 : BitVec 32 := 1#32
  let arg11 : BitVec 32 := Scf.iv c0_i32_8 c1_i32_10 k1_t1
  let c8_i32_4325 : BitVec 32 := 8#32
  let v10829 : BitVec 32 := Scalar.muli arg11 c8_i32_4325
  let v10830 : BitVec 32 := Scalar.addi v2 v10829
  let c32_i32_4326 : BitVec 32 := 32#32
  let v10831 : BitVec 32 := Scalar.muli v10830 c32_i32_4326
  let c0_i32_4328_r1 : BitVec 32 := 0#32
  ![v10831.toNat, 0]
abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x512 : Shape := ⟨3, ![4, 1024, 512]⟩
abbrev S4x1024x3 : Shape := ⟨3, ![4, 1024, 3]⟩
abbrev S4x1024x1024 : Shape := ⟨3, ![4, 1024, 1024]⟩
abbrev S512x256 : Shape := ⟨2, ![512, 256]⟩
abbrev S256 : Shape := ⟨1, ![256]⟩
abbrev S512x128 : Shape := ⟨2, ![512, 128]⟩
abbrev S128 : Shape := ⟨1, ![128]⟩
abbrev S4x1024x256 : Shape := ⟨3, ![4, 1024, 256]⟩
abbrev S1x1x256 : Shape := ⟨3, ![1, 1, 256]⟩
abbrev S_ : Shape := ⟨0, ![]⟩
abbrev S4x1024 : Shape := ⟨2, ![4, 1024]⟩
abbrev S4x1024x1 : Shape := ⟨3, ![4, 1024, 1]⟩
abbrev S1024 : Shape := ⟨1, ![1024]⟩
abbrev S1x1x1024 : Shape := ⟨3, ![1, 1, 1024]⟩
abbrev S4x1024x32 : Shape := ⟨3, ![4, 1024, 32]⟩
abbrev S4x1024x32x1 : Shape := ⟨4, ![4, 1024, 32, 1]⟩
abbrev S1 : Shape := ⟨1, ![1]⟩
abbrev S1x1x1x1 : Shape := ⟨4, ![1, 1, 1, 1]⟩
abbrev S4x1024x32x256 : Shape := ⟨4, ![4, 1024, 32, 256]⟩
abbrev S4x1024x1x256 : Shape := ⟨4, ![4, 1024, 1, 256]⟩
abbrev S4x1024x32x512 : Shape := ⟨4, ![4, 1024, 32, 512]⟩
abbrev S4x1024x32x128 : Shape := ⟨4, ![4, 1024, 32, 128]⟩
abbrev S1x1x1x128 : Shape := ⟨4, ![1, 1, 1, 128]⟩
abbrev S4x1024x128 : Shape := ⟨3, ![4, 1024, 128]⟩

abbrev nBuf : Space → Nat
  | .hbm => 138
  | .vmem => 0
  | .smem => 0
  | _ => 0

abbrev hbmTy0_0 (i : Nat) : BufTy := match i % 128 with
  | 0 => ⟨S4x1024x512, .f32⟩
  | 1 => ⟨S4x1024x3, .f32⟩
  | 2 => ⟨S4x1024x1024, .f32⟩
  | 3 => ⟨S512x256, .f32⟩
  | 4 => ⟨S256, .f32⟩
  | 5 => ⟨S256, .f32⟩
  | 6 => ⟨S256, .f32⟩
  | 7 => ⟨S512x128, .f32⟩
  | 8 => ⟨S128, .f32⟩
  | 9 => ⟨S128, .f32⟩
  | 10 => ⟨S128, .f32⟩
  | 11 => ⟨S4x1024x256, .f32⟩
  | 12 => ⟨S1x1x256, .f32⟩
  | 13 => ⟨S4x1024x256, .f32⟩
  | 14 => ⟨S4x1024x256, .f32⟩
  | 15 => ⟨S_, .f32⟩
  | 16 => ⟨S4x1024, .f32⟩
  | 17 => ⟨S4x1024x1, .f32⟩
  | 18 => ⟨S_, .f32⟩
  | 19 => ⟨S4x1024x1, .f32⟩
  | 20 => ⟨S4x1024x1, .f32⟩
  | 21 => ⟨S4x1024x256, .f32⟩
  | 22 => ⟨S4x1024x256, .f32⟩
  | 23 => ⟨S4x1024x256, .f32⟩
  | 24 => ⟨S_, .f32⟩
  | 25 => ⟨S4x1024, .f32⟩
  | 26 => ⟨S4x1024x1, .f32⟩
  | 27 => ⟨S_, .f32⟩
  | 28 => ⟨S4x1024x1, .f32⟩
  | 29 => ⟨S4x1024x1, .f32⟩
  | 30 => ⟨S4x1024x256, .f32⟩
  | 31 => ⟨S4x1024x256, .f32⟩
  | 32 => ⟨S_, .f32⟩
  | 33 => ⟨S4x1024x1, .f32⟩
  | 34 => ⟨S4x1024x1, .f32⟩
  | 35 => ⟨S4x1024x1, .f32⟩
  | 36 => ⟨S4x1024x256, .f32⟩
  | 37 => ⟨S4x1024x256, .f32⟩
  | 38 => ⟨S1x1x256, .f32⟩
  | 39 => ⟨S4x1024x256, .f32⟩
  | 40 => ⟨S4x1024x256, .f32⟩
  | 41 => ⟨S1x1x256, .f32⟩
  | 42 => ⟨S4x1024x256, .f32⟩
  | 43 => ⟨S4x1024x256, .f32⟩
  | 44 => ⟨S_, .f32⟩
  | 45 => ⟨S4x1024x256, .f32⟩
  | 46 => ⟨S4x1024x256, .f32⟩
  | 47 => ⟨S1024, .i32⟩
  | 48 => ⟨S1x1x1024, .i32⟩
  | 49 => ⟨S4x1024x1024, .i32⟩
  | 50 => ⟨S_, .f32⟩
  | 51 => ⟨S4x1024x1024, .f32⟩
  | 52 => ⟨S4x1024x1024, .i1⟩
  | 53 => ⟨S_, .i32⟩
  | 54 => ⟨S_, .i32⟩
  | 55 => ⟨S4x1024x1024, .i32⟩
  | 56 => ⟨S4x1024x1024, .i32⟩
  | 57 => ⟨S4x1024x1024, .i32⟩
  | 58 => ⟨S4x1024x32, .i32⟩
  | 59 => ⟨S4x1024x1, .i32⟩
  | 60 => ⟨S_, .i32⟩
  | 61 => ⟨S4x1024x32, .i32⟩
  | 62 => ⟨S4x1024x32, .i1⟩
  | 63 => ⟨S4x1024x32, .i32⟩
  | 64 => ⟨S4x1024x32, .i32⟩
  | 65 => ⟨S_, .i32⟩
  | 66 => ⟨S4x1024x32, .i32⟩
  | 67 => ⟨S4x1024x32, .i1⟩
  | 68 => ⟨S_, .i32⟩
  | 69 => ⟨S4x1024x32, .i32⟩
  | 70 => ⟨S4x1024x32, .i32⟩
  | 71 => ⟨S4x1024x32, .i32⟩
  | 72 => ⟨S4x1024x32x1, .i32⟩
  | 73 => ⟨S1, .i32⟩
  | 74 => ⟨S_, .i32⟩
  | 75 => ⟨S4x1024x32x1, .i32⟩
  | 76 => ⟨S4x1024x32x1, .i1⟩
  | 77 => ⟨S1x1x1x1, .i32⟩
  | 78 => ⟨S4x1024x32x1, .i32⟩
  | 79 => ⟨S4x1024x32x1, .i1⟩
  | 80 => ⟨S4x1024x32x1, .i1⟩
  | 81 => ⟨S_, .i1⟩
  | 82 => ⟨S4x1024x32, .i1⟩
  | 83 => ⟨S4x1024x32x256, .f32⟩
  | 84 => ⟨S4x1024x32x256, .i1⟩
  | 85 => ⟨S_, .f32⟩
  | 86 => ⟨S4x1024x32x256, .f32⟩
  | 87 => ⟨S4x1024x32x256, .f32⟩
  | 88 => ⟨S4x1024x1x256, .f32⟩
  | 89 => ⟨S4x1024x32x256, .f32⟩
  | 90 => ⟨S4x1024x32x256, .f32⟩
  | 91 => ⟨S4x1024x1x256, .f32⟩
  | 92 => ⟨S4x1024x32x256, .f32⟩
  | 93 => ⟨S4x1024x32x512, .f32⟩
  | 94 => ⟨S4x1024x32x128, .f32⟩
  | 95 => ⟨S1x1x1x128, .f32⟩
  | 96 => ⟨S4x1024x32x128, .f32⟩
  | 97 => ⟨S4x1024x32x128, .f32⟩
  | 98 => ⟨S_, .f32⟩
  | 99 => ⟨S4x1024x32, .f32⟩
  | 100 => ⟨S4x1024x32x1, .f32⟩
  | 101 => ⟨S_, .f32⟩
  | 102 => ⟨S4x1024x32x1, .f32⟩
  | 103 => ⟨S4x1024x32x1, .f32⟩
  | 104 => ⟨S4x1024x32x128, .f32⟩
  | 105 => ⟨S4x1024x32x128, .f32⟩
  | 106 => ⟨S4x1024x32x128, .f32⟩
  | 107 => ⟨S_, .f32⟩
  | 108 => ⟨S4x1024x32, .f32⟩
  | 109 => ⟨S4x1024x32x1, .f32⟩
  | 110 => ⟨S_, .f32⟩
  | 111 => ⟨S4x1024x32x1, .f32⟩
  | 112 => ⟨S4x1024x32x1, .f32⟩
  | 113 => ⟨S4x1024x32x128, .f32⟩
  | 114 => ⟨S4x1024x32x128, .f32⟩
  | 115 => ⟨S_, .f32⟩
  | 116 => ⟨S4x1024x32x1, .f32⟩
  | 117 => ⟨S4x1024x32x1, .f32⟩
  | 118 => ⟨S4x1024x32x1, .f32⟩
  | 119 => ⟨S4x1024x32x128, .f32⟩
  | 120 => ⟨S4x1024x32x128, .f32⟩
  | 121 => ⟨S1x1x1x128, .f32⟩
  | 122 => ⟨S4x1024x32x128, .f32⟩
  | 123 => ⟨S4x1024x32x128, .f32⟩
  | 124 => ⟨S1x1x1x128, .f32⟩
  | 125 => ⟨S4x1024x32x128, .f32⟩
  | 126 => ⟨S4x1024x32x128, .f32⟩
  | 127 => ⟨S_, .f32⟩
  | _ => ⟨S4x1024x512, .f32⟩

abbrev hbmTy0_1 (i : Nat) : BufTy := match i % 128 with
  | 0 => ⟨S4x1024x32x128, .f32⟩
  | 1 => ⟨S4x1024x32x128, .f32⟩
  | 2 => ⟨S_, .f32⟩
  | 3 => ⟨S4x1024x128, .f32⟩
  | 4 => ⟨S_, .f32⟩
  | 5 => ⟨S4x1024x128, .f32⟩
  | 6 => ⟨S4x1024x128, .f32⟩
  | 7 => ⟨S_, .f32⟩
  | 8 => ⟨S4x1024x128, .f32⟩
  | 9 => ⟨S4x1024x256, .f32⟩
  | _ => ⟨S4x1024x512, .f32⟩

abbrev hbmTy (i : Nat) : BufTy := match i / 128 with
  | 0 => hbmTy0_0 i
  | 1 => hbmTy0_1 i
  | _ => ⟨S4x1024x512, .f32⟩

abbrev bufTy : (tb : Table) → Fin (tcTables nBuf tb) → BufTy
  | .hbm, ⟨i, _⟩ => hbmTy i
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_call1_v0 : Ref sig .tc := ⟨.hbm, 54, rfl⟩
abbrev main_call1_v1 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call4_c : Ref sig .tc := ⟨.hbm, 65, rfl⟩
abbrev main_call4_v0 : Ref sig .tc := ⟨.hbm, 66, rfl⟩
abbrev main_call4_v1 : Ref sig .tc := ⟨.hbm, 67, rfl⟩
abbrev main_call4_c_0 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_c_1 : Ref sig .tc := ⟨.hbm, 73, rfl⟩
abbrev main_call4_c_2 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_c_3 : Ref sig .tc := ⟨.hbm, 81, rfl⟩
abbrev main_call4_v12 : Ref sig .tc := ⟨.hbm, 82, rfl⟩
abbrev main_call4_v13 : Ref sig .tc := ⟨.hbm, 83, rfl⟩
abbrev main_call4_v14 : Ref sig .tc := ⟨.hbm, 84, rfl⟩
abbrev main_call4_cst : Ref sig .tc := ⟨.hbm, 85, rfl⟩
abbrev main_call4_v15 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_6 : Ref sig .tc := ⟨.hbm, 98, rfl⟩
abbrev main_v53 : Ref sig .tc := ⟨.hbm, 99, rfl⟩
abbrev main_v54 : Ref sig .tc := ⟨.hbm, 100, rfl⟩
abbrev main_cst_7 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_8 : Ref sig .tc := ⟨.hbm, 107, rfl⟩
abbrev main_v60 : Ref sig .tc := ⟨.hbm, 108, rfl⟩
abbrev main_v61 : Ref sig .tc := ⟨.hbm, 109, rfl⟩
abbrev main_cst_9 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_10 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_call5_cst : Ref sig .tc := ⟨.hbm, 127, rfl⟩
abbrev main_call5_v0 : Ref sig .tc := ⟨.hbm, 128, rfl⟩
abbrev main_v77 : Ref sig .tc := ⟨.hbm, 129, rfl⟩
abbrev main_cst_11 : Ref sig .tc := ⟨.hbm, 130, rfl⟩
abbrev main_v78 : Ref sig .tc := ⟨.hbm, 131, rfl⟩
abbrev main_cst_12 : Ref sig .tc := ⟨.hbm, 132, rfl⟩
abbrev main_v79 : Ref sig .tc := ⟨.hbm, 133, rfl⟩
abbrev main_v80 : Ref sig .tc := ⟨.hbm, 134, rfl⟩
abbrev main_cst_13 : Ref sig .tc := ⟨.hbm, 135, rfl⟩
abbrev main_v81 : Ref sig .tc := ⟨.hbm, 136, rfl⟩
abbrev main_v82 : Ref sig .tc := ⟨.hbm, 137, rfl⟩

abbrev nD : Nat := 1
abbrev τ : Topo := Topo.v7x

variable {F : FTy → Type} [FloatOps F]
-- ==== Proof.Model.lean ====
/- The SparseCore body of the kernel as a short recursive program: what one chunk of sixteen distances does, what one
   query point does, what one block of eight points does. The printed body is this program, by unfolding. -/
module

public import proofs.«01_k».proof.Proof.Gen.KernelIdeal

@[expose] public section

noncomputable section

namespace Cert.Query

open Cert.KernelIdeal
open Cert.KernelIdeal.Facts₀ Cert.KernelIdeal.Facts
open Idealize.ShloMosaic Idealize.SL.Sem

variable {F : FTy → Type} [FloatOps F]

/-- A program of one vector subcore. -/
abbrev Tile (i : grid1.Coords) := Prog (TpuEff nD τ sig (Elt F) Λ₀ (.scVector ((i 0).castLE hcore1) ((i 1).castLE hsub1)))

theorem inb_dis (p : Fin 8) (c : Fin 64) : ∀ a, (![p.val, 16 * c.val] : Fin 2 → Nat) a + S1x16.size a ≤ S8x1024.size a := by
  intro a
  match a with
  | ⟨0, _⟩ => have := p.isLt; show p.val + 1 ≤ 8; omega
  | ⟨1, _⟩ => have := c.isLt; show 16 * c.val + 16 ≤ 1024; omega

theorem inb_gidx (c : Fin 64) : ∀ a, (![16 * c.val] : Fin 1 → Nat) a + S16.size a ≤ S1024.size a := by
  intro a
  match a with
  | ⟨0, _⟩ => have := c.isLt; show 16 * c.val + 16 ≤ 1024; omega

/-- Which of the sixteen distances are within the radius. -/
def inBall (dl : Vec F S1x16 .f32) : IVec S16 1 :=
  cmpf .ole (shapeCast S16 dl shapeCasts_S1x16_S16 : Vec F S16 .f32) (broadcast S16 (Scalar.ofBits .f32 0x3D04B5DD#32 : F .f32) : FVec F S16 .f32)

/-- A lane's bit as a word. -/
def cnt (m : IVec S16 1) : IVec S16 32 := extui 32 m natLt_1_32

/-- Where each lane would be written: the running count, exclusive of the lane. -/
def rank (off : IVec S16 32) (m : IVec S16 1) : IVec S16 32 := subi (addi off (scan .sum (cnt m))) (cnt m)

/-- The lanes that are written. -/
def keep (off : IVec S16 32) (m : IVec S16 1) : IVec S16 1 := andi m (cmpi .slt (rank off m) (broadcast S16 32#32))

/-- Where they are written, every lane's position made a position of the list. -/
def slot (off : IVec S16 32) (m : IVec S16 1) : IVec S16 32 := minsi (rank off m) (broadcast S16 31#32)

/-- The running count after the chunk. -/
def bump (off : IVec S16 32) (m : IVec S16 1) : IVec S16 32 := addi off (broadcast S16 (extractAt ![15] (scan .sum (cnt m)) inpos_S16_p15))

section
variable (i : grid1.Coords)
  (arg2 : Memref sig .scVector .hbm S4096x1024 .f32) (harg2 : arg2.IsWhole) (arg3 : Memref sig .scVector .hbm S4096x128 .f32) (harg3 : arg3.IsWhole)
  (arg4 : Memref sig .scVector .hbm S131072x128 .f32) (harg4 : arg4.IsWhole) (arg5 : Memref sig .scVector .vmem S8x1024 .f32) (harg5 : arg5.IsWhole)
  (arg6 : Memref sig .scVector .vmem S256x128 .f32) (harg6 : arg6.IsWhole) (arg7 : Memref sig .scVector .vmem S1024 .i32) (harg7 : arg7.IsWhole)
  (arg8 : Memref sig .scVector .vmem S32 .i32) (harg8 : arg8.IsWhole) (arg9 : Memref sig .scVector .vmem S256 .i32) (harg9 : arg9.IsWhole)
  (arg10 r0 r1 : DmaSems sig S_)

/-- One chunk of sixteen candidates: those within the radius are appended to the list. -/
def chunk (p : Fin 8) (c : Fin 64) (off : IVec S16 32) : Tile (F := F) i (IVec S16 32) := do
  let dl : Vec F S1x16 .f32 ← Prog.lift (.load arg5 (Rect.unit (s := S8x1024) ![p.val, 16 * c.val] S1x16.size (inb_dis p c)).toLoadRect (View.loadsAt_vmem h_S1x16))
  have hw : k1_chk2 (slot off (inBall dl)) := (← Prog.lift (TpuEff.assume (k1_chk2 (slot off (inBall dl))) (k1_chk2.dec (slot off (inBall dl))))).down
  let g : Vec F S16 .i32 ← Prog.lift (.load arg7 (Rect.unit (s := S1024) ![16 * c.val] S16.size (inb_gidx c)).toLoadRect (View.loadsAt_vmem h_S16))
  SparseCore.vectorStoreIdx arg8 ![slot off (inBall dl)] g (keep off (inBall dl)) false (k1_idx2_inb _ hw) (View.stores_vmem_bits_univ h_S32 rfl)
  pure (bump off (inBall dl))

/-- The chunks from `c` on. -/
def chunks (p : Fin 8) : (n c : ℕ) → (c + n = 64) → IVec S16 32 → Tile (F := F) i (IVec S16 32)
  | 0, _, _, off => .ret off
  | n + 1, c, h, off => do
    let off' ← chunk i arg5 arg7 arg8 p ⟨c, by omega⟩ off
    chunks p n (c + 1) (by omega) off'

/-- The fill of the candidates' row numbers, chunk by chunk. -/
def fillFrom (b : BitVec 32) : (n c : ℕ) → (c + n = 64) → Tile (F := F) i PUnit
  | 0, _, _ => .ret ⟨⟩
  | n + 1, c, h => do
    let _ : Vec F S16 .i32 ← Prog.lift (.load arg7 (Rect.unit (s := S1024) ![16 * (⟨c, by omega⟩ : Fin 64).val] S16.size (inb_gidx ⟨c, by omega⟩)).toLoadRect (View.loadsAt_vmem h_S16))
    Prog.lift (.store arg7 (Rect.unit (s := S1024) ![16 * (⟨c, by omega⟩ : Fin 64).val] S16.size (inb_gidx ⟨c, by omega⟩)) (addi (iota .scVector S16 32 [0] iota_S16_d0_w32_scVector) (broadcast S16 (Scalar.addi b (BitVec.ofNat 32 (16 * c))))) Finset.univ (View.stores_vmem_bits_univ h_S16 rfl) (.inl rfl))
    fillFrom b n (c + 1) (by omega)

/-- The rows picked, sixteen at a time: the list's entry while there is one, its first after. -/
def pick (ki kc first g : IVec S16 32) : IVec S16 32 :=
  addi (muli g (extui 32 (cmpi .slt ki kc) natLt_1_32)) (muli first (subi (broadcast S16 1#32) (extui 32 (cmpi .slt ki kc) natLt_1_32)))

theorem inb_half (p : Fin 8) (h : Fin 2) : ∀ a, (![32 * p.val + 16 * h.val] : Fin 1 → Nat) a + S16.size a ≤ S256.size a := by
  intro a
  match a with
  | ⟨0, _⟩ => have := p.isLt; have := h.isLt; show 32 * p.val + 16 * h.val + 16 ≤ 256; omega

theorem inb_rows (p : Fin 8) (h : Fin 2) : ∀ a, (![32 * p.val + 16 * h.val, 0] : Fin 2 → Nat) a + S16x128.size a ≤ S256x128.size a := by
  intro a
  match a with
  | ⟨0, _⟩ => have := p.isLt; have := h.isLt; show 32 * p.val + 16 * h.val + 16 ≤ 256; omega
  | ⟨1, _⟩ => show 0 + 128 ≤ 128; omega

/-- The sixteen entries of the index buffer that half `h` of point `p` writes. -/
abbrev idxPart (p : Fin 8) (h : Fin 2) : Memref sig .scVector .vmem S16 .i32 :=
  arg9.slice (Rect.unit (s := S256) ![32 * p.val + 16 * h.val] S16.size (inb_half p h)) (fun _ => rfl)
/-- The sixteen rows of the row buffer that half `h` of point `p` fetches. -/
abbrev rowPart (p : Fin 8) (h : Fin 2) : Memref sig .scVector .vmem S16x128 .f32 :=
  arg6.slice (Rect.unit (s := S256x128) ![32 * p.val + 16 * h.val, 0] S16x128.size (inb_rows p h)) (fun _ => rfl)
/-- The whole table. -/
abbrev table : Memref sig .scVector .hbm S4096x128 .f32 :=
  arg3.slice (Rect.unit (s := S4096x128) ![0, 0] S4096x128.size inb_S4096x128_S4096x128_0_0) (fun _ => rfl)

/-- One half of a point's thirty-two neighbours: their rows chosen and the fetch of them started. -/
def half (p : Fin 8) (h : Fin 2) (kc first : IVec S16 32) : Tile (F := F) i PUnit := do
  let ki : IVec S16 32 := addi (iota .scVector S16 32 [0] iota_S16_d0_w32_scVector) (broadcast S16 (BitVec.ofNat 32 (16 * h.val)))
  have hw : k1_chk2 ki := (← Prog.lift (TpuEff.assume (k1_chk2 ki) (k1_chk2.dec ki))).down
  let g : Vec F S16 .i32 ← SparseCore.vectorLoadIdx arg8 ![ki] (k1_idx2_inb _ hw) (View.loads_vmem h_S32)
  let _ : Vec F S16 .i32 ← Prog.lift (.load arg9 (Rect.unit (s := S256) ![32 * p.val + 16 * h.val] S16.size (inb_half p h)).toLoadRect (View.loadsAt_vmem h_S16))
  Prog.lift (.store arg9 (Rect.unit (s := S256) ![32 * p.val + 16 * h.val] S16.size (inb_half p h)) (pick ki kc first g) Finset.univ (View.stores_vmem_bits_univ h_S16 rfl) (.inl rfl))
  SparseCore.enqueueIndirectGather rfl (table arg3) (rowPart arg6 p h) gathers_S4096x128_S16x128 (idxPart arg9 p h) rfl arg10.sem (View.wordExact_bits rfl) rfl (Or.inl rfl)

/-- One query point: its list emptied to the last candidate, filled chunk by chunk, and its two halves fetched. -/
def point (sent zero : IVec S16 32) (hz : k1_chk2 zero) (p : Fin 8) : Tile (F := F) i PUnit := do
  let _ : Vec F S16 .i32 ← Prog.lift (.load arg8 (Rect.unit (s := S32) ![0] S16.size inb_S32_S16_0).toLoadRect (View.loadsAt_vmem h_S16))
  Prog.lift (.store arg8 (Rect.unit (s := S32) ![0] S16.size inb_S32_S16_0) sent Finset.univ (View.stores_vmem_bits_univ h_S16 rfl) (.inl rfl))
  let off ← chunks i arg5 arg7 arg8 p 64 0 rfl zero
  let kc : IVec S16 32 := minsi off (broadcast S16 32#32)
  let first : Vec F S16 .i32 ← SparseCore.vectorLoadIdx arg8 ![zero] (k1_idx2_inb _ hz) (View.loads_vmem h_S32)
  half i arg3 arg6 arg8 arg9 arg10 p 0 kc first
  half i arg3 arg6 arg8 arg9 arg10 p 1 kc first

/-- The points from `p` on. -/
def points (sent zero : IVec S16 32) (hz : k1_chk2 zero) : (n p : ℕ) → (p + n = 8) → Tile (F := F) i PUnit
  | 0, _, _ => .ret ⟨⟩
  | n + 1, p, h => do
    point i arg3 arg5 arg6 arg7 arg8 arg9 arg10 sent zero hz ⟨p, by omega⟩
    points sent zero hz n (p + 1) (by omega)

/-- The waits for the fetches from the `j`-th on. -/
def waits : (n j : ℕ) → (j + n = 16) → Tile (F := F) i PUnit
  | 0, _, _ => .ret ⟨⟩
  | n + 1, j, h => do
    SparseCore.waitIndirectGather arg10.sem (table arg3) (rowPart arg6 ⟨j / 2, by omega⟩ ⟨j % 2, by omega⟩) (View.wordExact_bits rfl) (View.wordExact_bits rfl)
    waits n (j + 1) (by omega)

/-- One block of eight points. -/
def block (sent zero : IVec S16 32) (hz : k1_chk2 zero) (t : Fin k1_t1_loop.trips) : Tile (F := F) i (BitVec 32) := do
  Prog.lift (.enqueueDma (arg2.slice (Rect.unit (s := S4096x1024) (k1_off1 i t) S8x1024.size (k1_off1_inb i t)) (fun _ => rfl)) (.here arg5) (.dma r0.sem) (View.wordExact_bits rfl) harg5.wordExact ⟨Or.inl rfl, trivial⟩)
  Prog.lift (.waitDma2 r0.sem (arg2.slice (Rect.unit (s := S4096x1024) (k1_off1 i t) S8x1024.size (k1_off1_inb i t)) (fun _ => rfl)) arg5 (View.wordExact_bits rfl) harg5.wordExact)
  points i arg3 arg5 arg6 arg7 arg8 arg9 arg10 sent zero hz 8 0 rfl
  waits i arg3 arg6 arg10 16 0 rfl
  Prog.lift (.enqueueDma arg6 (.here (arg4.slice (Rect.unit (s := S131072x128) (k1_off2 i t) S256x128.size (k1_off2_inb i t)) (fun _ => rfl))) (.dma r1.sem) harg6.wordExact (View.wordExact_bits rfl) ⟨Or.inl rfl, trivial⟩)
  Prog.lift (.waitDma2 r1.sem arg6 (arg4.slice (Rect.unit (s := S131072x128) (k1_off2 i t) S256x128.size (k1_off2_inb i t)) (fun _ => rfl)) harg6.wordExact (View.wordExact_bits rfl))
  pure 0#32

/-- The subcore's number among the thirty-two. -/
def wid32 : BitVec 32 := Scalar.addi (Scalar.muli (BitVec.ofNat 32 (i 1).val) 2#32) (BitVec.ofNat 32 (i 0).val)

/-- The first row of the subcore's batch: the batch is the subcore's number divided by eight, rounded down. -/
def bbase32 : BitVec 32 :=
  Scalar.muli (Scalar.select
    (Scalar.andi
      (Scalar.cmpi .ne (Scalar.subi (Scalar.extui (Scalar.cmpi .sgt (wid32 i) 0#32)) (Scalar.extui (Scalar.cmpi .slt (wid32 i) 0#32)))
        (Scalar.subi (Scalar.extui (Scalar.cmpi .sgt 8#32 0#32)) (Scalar.extui (Scalar.cmpi .slt 8#32 0#32))))
      (Scalar.cmpi .ne (Scalar.remsi (wid32 i) 8#32) 0#32))
    (Scalar.subi (Scalar.divsi (wid32 i) 8#32) 1#32) (Scalar.divsi (wid32 i) 8#32)) 1024#32

/-- The whole body of a vector subcore. -/
def body : Tile (F := F) i PUnit := do
  fillFrom i arg7 (bbase32 i) 64 0 rfl
  let zero : IVec S16 32 := broadcast S16 0#32
  have hz : k1_chk66 zero := (← Prog.lift (TpuEff.assume (k1_chk66 zero) (k1_chk66.dec zero))).down
  let last : IVec S16 32 := broadcast S16 1023#32
  have hl : k1_chk1 last := (← Prog.lift (TpuEff.assume (k1_chk1 last) (k1_chk1.dec last))).down
  let sent : Vec F S16 .i32 ← SparseCore.vectorLoadIdx arg7 ![last] (k1_idx1_inb _ hl) (View.loads_vmem h_S1024)
  let _ ← Scf.Loop.for k1_t1_loop k1_t1_ok 0#32 fun t _ => block i arg2 arg3 arg4 arg5 harg5 arg6 harg6 arg7 arg8 arg9 arg10 r0 r1 sent zero (k1_idx66_inb _ hz) t
  pure ⟨⟩

end

end Cert.Query
-- ==== Proof.Setup.lean ====
/- The program as the launch theorem sees it, and the buffers of a vector subcore. -/
module

public import proofs.«01_k».proof.Proof.Model
public import Idealize.ShloMosaic.Lib.SparseCore.Quiescent
public import Idealize.ShloMosaic.Lib.SparseCore.Ops
public import Idealize.ShloMosaic.Lib.SparseCore.Stream
public import Idealize.ShloMosaic.Lib.Pipeline.Kit

@[expose] public section

noncomputable section

namespace Cert.Query

open Cert.KernelIdeal
open Cert.KernelIdeal.Facts₀ Cert.KernelIdeal.Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the pipelines' rounds and the transfers' counters. -/
abbrev UH : Type := URounds (GSem nD τ sig) ℕ
abbrev UP : Type := URounds (GSem nD τ sig) Unit
abbrev UU : Type := UH × UP × Counters
abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

abbrev cV (L : grid1.Coords) : Fin τ.nSC := (L 0).castLE hcore1
abbrev jV (L : grid1.Coords) : Fin τ.nSub := (L 1).castLE hsub1
/-- The vector subcore at coordinates `L` of device `d`. -/
abbrev tile (d : Dev nD) (L : grid1.Coords) : Thread nD τ := V d (cV L) (jV L)

/-- The buffers as the body's memrefs. -/
abbrev disM : Memref sig .scVector .hbm S4096x1024 .f32 := Memref.whole main_v11_scv
abbrev tabM : Memref sig .scVector .hbm S4096x128 .f32 := Memref.whole main_v10_scv
abbrev outM : Memref sig .scVector .hbm S131072x128 .f32 := Memref.whole main_v12_scv
abbrev blkM : Memref sig .scVector .vmem S8x1024 .f32 := Memref.whole cc1_scratch0
abbrev rowM : Memref sig .scVector .vmem S256x128 .f32 := Memref.whole cc1_scratch1
abbrev canM : Memref sig .scVector .vmem S1024 .i32 := Memref.whole cc1_scratch2
abbrev lstM : Memref sig .scVector .vmem S32 .i32 := Memref.whole cc1_scratch3
abbrev finM : Memref sig .scVector .vmem S256 .i32 := Memref.whole cc1_scratch4

/-- The element at row `p`, column `k` of a matrix. -/
def cell {a b : ℕ} (p : Fin a) (k : Fin b) : (⟨2, ![a, b]⟩ : Shape).Idx := fun
  | ⟨0, _⟩ => p
  | ⟨1, _⟩ => k

theorem eq_cell {a b : ℕ} (x : (⟨2, ![a, b]⟩ : Shape).Idx) : x = cell (a := a) (b := b) (x 0) (x 1) := by
  funext i
  match i with
  | ⟨0, _⟩ => rfl
  | ⟨1, _⟩ => rfl

variable [FloatOps F]

/-- The squared radius. -/
def radius : F .f32 := Scalar.ofBits .f32 0x3D04B5DD#32

/-- Candidate `k` is within the radius, by a row of distances. -/
def near (D : Fin 1024 → F .f32) (k : ℕ) : Prop := ∃ h : k < 1024, FloatOps.cmpf .ole (D ⟨k, h⟩) (radius (F := F)) = 1#1

instance near_decidable (D : Fin 1024 → F .f32) : DecidablePred (near D) := fun _ => by unfold near; infer_instance

end Cert.Query
-- ==== Proof.Pool.lean ====
/- What the last TensorCore call computes for a block of 128 rows, and its body's triple. -/
module

public import proofs.«01_k».proof.Proof.Setup
public import proofs.«01_k».proof.Proof.Gen.KernelIdeal.Launch
public import Idealize.ShloMosaic.Lib.Tactic
public import Idealize.ShloMosaic.Lib.VecWindow
public import Idealize.ShloMosaic.Lib.Pipeline.Value

@[expose] public section

noncomputable section

namespace Cert.Query

open Cert.KernelIdeal
open Cert.KernelIdeal.Facts₀ Cert.KernelIdeal.Facts
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A TensorCore memref's buffer held whole at `f`. -/
abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦{fullShare} f

omit [FloatOps F] in
/-- A whole memref owned at contents `X` is its buffer held at something that reads as `X`. -/
theorem owns_of_whole (c : Dev nD) {sp : Space} {s : Shape} {e : EltTy} (M : Memref sig .tc sp s e) (h : M.IsWhole) (X : s.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The differences of the rows and their neighbours. -/
def diffOf (z : FVec F S128x128 .f32) (g : FVec F S4096x128 .f32) : FVec F S128x32x128 .f32 :=
  subf (broadcastTo S128x32x128 (shapeCast S128x1x128 z shapeCasts_S128x128_S128x1x128) broadcasts_S128x1x128_S128x32x128)
    (shapeCast S128x32x128 g shapeCasts_S4096x128_S128x32x128)

/-- The mean over the last axis, kept as an axis of extent one. -/
def mean32 (x : FVec F S128x32x128 .f32) : FVec F S128x32x1 .f32 :=
  divf (shapeCast S128x32x1 (multiReduction .add [2] S128x32 x 0x00000000#32 reduces_S128x32x128_S128x32 (.inl rfl) rfl) shapeCasts_S128x32_S128x32x1)
    (broadcast S128x32x1 (Scalar.ofBits .f32 0x43000000#32))

/-- The values less their mean. -/
def centred32 (x : FVec F S128x32x128 .f32) : FVec F S128x32x128 .f32 :=
  subf x (broadcastTo S128x32x128 (mean32 x) broadcasts_S128x32x1_S128x32x128)

/-- The layer norm over the last axis, then the greater of it and zero. -/
def normed32 (x : FVec F S128x32x128 .f32) (g be : FVec F S128 .f32) : FVec F S128x32x128 .f32 :=
  maximumf
    (addf
      (mulf
        (mulf (centred32 x)
          (broadcastTo S128x32x128
            (rsqrt (addf (mean32 (mulf (centred32 x) (centred32 x))) (broadcast S128x32x1 (Scalar.ofBits .f32 0x3727C5AC#32))))
            broadcasts_S128x32x1_S128x32x128))
        (broadcastTo S128x32x128 (shapeCast S1x1x128 g shapeCasts_S128_S1x1x128) broadcasts_S1x1x128_S128x32x128))
      (broadcastTo S128x32x128 (shapeCast S1x1x128 be shapeCasts_S128_S1x1x128) broadcasts_S1x1x128_S128x32x128))
    (broadcast S128x32x128 (Scalar.ofBits .f32 0x00000000#32))

/-- The mean and the greatest over the neighbours, side by side. -/
def poolOf (z : FVec F S128x128 .f32) (g : FVec F S4096x128 .f32) (g2 be2 : FVec F S128 .f32) : FVec F S128x256 .f32 :=
  concatenate S128x256 1
    [⟨S128x128, divf (multiReduction .add [1] S128x128 (normed32 (diffOf z g) g2 be2) 0x00000000#32 reduces_S128x32x128_S128x128 (.inl rfl) rfl)
        (broadcast S128x128 (Scalar.ofBits .f32 0x42000000#32))⟩,
      ⟨S128x128, multiReduction .maximumf [1] S128x128 (normed32 (diffOf z g) g2 be2) 0xFF800000#32 reduces_S128x32x128_S128x128 (.inl rfl) rfl⟩]
    concatenates_S128x128_S128x128_S128x256_d1

/-- The body reads its four operands and leaves `poolOf` of them in the result's buffer. -/
theorem poolRun (c : Dev nD) (i : grid2.Coords) (M1 : Memref sig .tc .vmem S128x128 .f32) (h1 : M1.IsWhole) (M2 : Memref sig .tc .vmem S4096x128 .f32) (h2 : M2.IsWhole)
    (M3 : Memref sig .tc .vmem S128 .f32) (h3 : M3.IsWhole) (M4 : Memref sig .tc .vmem S128 .f32) (h4 : M4.IsWhole)
    (M5 : Memref sig .tc .vmem S128x256 .f32) (h5 : M5.IsWhole)
    (f1 : Bf (F := F) c M1) (f2 : Bf (F := F) c M2) (f3 : Bf (F := F) c M3) (f4 : Bf (F := F) c M4) (f5 : Bf (F := F) c M5) (E : Set ℕ) (Q : PUnit → sProp 𝕄) :
    iprop(pt c M1 f1 ∗ pt c M2 f2 ∗ pt c M3 f3 ∗ pt c M4 f4 ∗ pt c M5 f5 ∗
        ((pt c M1 f1 ∗ pt c M2 f2 ∗ pt c M3 f3 ∗ pt c M4 f4 ∗
          ∃ f : Bf (F := F) c M5, ⌜M5.view.read (Elt F) f = poolOf (M1.view.read (Elt F) f1) (M2.view.read (Elt F) f2) (M3.view.read (Elt F) f3) (M4.view.read (Elt F) f4)⌝ ∗ pt c M5 f)
          -∗ Q ⟨⟩))
      ⊢ wp frame (wpE (defs₀ (F := F)) Variants.none c none) E (cc2__k3_body i M1 h1 M2 h2 M3 h3 M4 h4 M5 h5) Q := by
  iintro ⟨H1, H2, H3, H4, H5, Hk⟩
  sl_exec!
  sl_step
  have e1 : shapeCast S128x128 (M1.view.readAt (Elt F) (Rect.unit (s := S128x128) ![0, 0] S128x128.size inb_S128x128_S128x128_0_0).toLoadRect f1) shapeCasts_S128x128_S128x128
      = M1.view.read (Elt F) f1 := (shapeCast_self _ _).trans (View.readAt_full M1.view f1 _)
  have e2 : shapeCast S4096x128 (M2.view.readAt (Elt F) (Rect.unit (s := S4096x128) ![0, 0] S4096x128.size inb_S4096x128_S4096x128_0_0).toLoadRect f2) shapeCasts_S4096x128_S4096x128
      = M2.view.read (Elt F) f2 := (shapeCast_self _ _).trans (View.readAt_full M2.view f2 _)
  have e3 := View.readAt_full M3.view f3 inb_S128_S128_0
  have e4 := View.readAt_full M4.view f4 inb_S128_S128_0
  iapply Hk
  isplitl [H1]; · iexact H1
  isplitl [H2]; · iexact H2
  isplitl [H3]; · iexact H3
  isplitl [H4]; · iexact H4
  iexists _
  isplitr; swap; · iexact H5
  ipureintro
  exact (View.read_writes_full M5.view _ _ _ _).trans (congr (congr (congr (congrArg poolOf e1) e2) e3) e4)

/-- The same with the buffers owned at the contents read. -/
theorem poolOwns (c : Dev nD) (i : grid2.Coords) (M1 : Memref sig .tc .vmem S128x128 .f32) (h1 : M1.IsWhole) (M2 : Memref sig .tc .vmem S4096x128 .f32) (h2 : M2.IsWhole)
    (M3 : Memref sig .tc .vmem S128 .f32) (h3 : M3.IsWhole) (M4 : Memref sig .tc .vmem S128 .f32) (h4 : M4.IsWhole)
    (M5 : Memref sig .tc .vmem S128x256 .f32) (h5 : M5.IsWhole)
    (x1 : FVec F S128x128 .f32) (x2 : FVec F S4096x128 .f32) (x3 x4 : FVec F S128 .f32) (E : Set ℕ) (Q : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ (∃ d, owns (c : Thread nD τ) M5 fullShare d) ∗
        ((owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare (poolOf x1 x2 x3 x4)) -∗ Q ⟨⟩))
      ⊢ wp frame (wpE (defs₀ (F := F)) Variants.none c none) E (cc2__k3_body i M1 h1 M2 h2 M3 h3 M4 h4 M5 h5) Q := by
  rw [owns_of_whole c M1 h1, owns_of_whole c M2 h2, owns_of_whole c M3 h3, owns_of_whole c M4 h4, owns_of_whole c M5 h5]
  iintro ⟨⟨%f1, %e1, H1⟩, ⟨%f2, %e2, H2⟩, ⟨%f3, %e3, H3⟩, ⟨%f4, %e4, H4⟩, ⟨%d, Hd⟩, Hk⟩
  ihave Hd' := (BIBase.Entails.of_eq (owns_of_whole c M5 h5 d)) $$ Hd
  icases Hd' with ⟨%f5, -, H5⟩
  subst e1 e2 e3 e4
  iapply (poolRun c i M1 h1 M2 h2 M3 h3 M4 h4 M5 h5 f1 f2 f3 f4 f5 E Q)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexact H5

end Cert.Query

end
-- ==== Proof.Embed.lean ====
/- What the first TensorCore call computes for one batch, and its body's triple. -/
module

public import proofs.«01_k».proof.Proof.Pool
public import proofs.«01_k».proof.Proof.Gen.KernelIdeal.Launch
public import Idealize.ShloMosaic.Lib.Tactic
public import Idealize.ShloMosaic.Lib.VecWindow
public import Idealize.ShloMosaic.Lib.Pipeline.Value

@[expose] public section

noncomputable section

namespace Cert.Query

open Cert.KernelIdeal
open Cert.KernelIdeal.Facts₀ Cert.KernelIdeal.Facts
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The linear layer: the features by the weights, and the bias. -/
def denseOf (f : FVec F S1x1024x512 .f32) (w : FVec F S512x256 .f32) (b : FVec F S256 .f32) : FVec F S1024x256 .f32 :=
  addf (matmul dot_S1024x512_S512x256_S1024x256_1_0_0_1_n_n (some .fp32) (shapeCast S1024x512 f shapeCasts_S1x1024x512_S1024x512) w (constant S1024x256 .f32 0x00000000#32))
    (broadcastTo S1024x256 (shapeCast S1x256 b shapeCasts_S256_S1x256) broadcasts_S1x256_S1024x256)

/-- The mean over the last axis, kept as an axis of extent one. -/
def mean256 (x : FVec F S1024x256 .f32) : FVec F S1024x1 .f32 :=
  divf (shapeCast S1024x1 (multiReduction .add [1] S1024 x 0x00000000#32 reduces_S1024x256_S1024 (.inl rfl) rfl) shapeCasts_S1024_S1024x1)
    (broadcast S1024x1 (Scalar.ofBits .f32 0x43800000#32))

/-- The values less their mean. -/
def centred256 (x : FVec F S1024x256 .f32) : FVec F S1024x256 .f32 :=
  subf x (broadcastTo S1024x256 (mean256 x) broadcasts_S1024x1_S1024x256)

/-- The layer norm over the last axis, then the greater of it and zero. -/
def normed256 (x : FVec F S1024x256 .f32) (g be : FVec F S256 .f32) : FVec F S1024x256 .f32 :=
  maximumf
    (addf
      (mulf
        (mulf (centred256 x)
          (broadcastTo S1024x256
            (rsqrt (addf (mean256 (mulf (centred256 x) (centred256 x))) (broadcast S1024x1 (Scalar.ofBits .f32 0x3727C5AC#32))))
            broadcasts_S1024x1_S1024x256))
        (broadcastTo S1024x256 (shapeCast S1x256 g shapeCasts_S256_S1x256) broadcasts_S1x256_S1024x256))
      (broadcastTo S1024x256 (shapeCast S1x256 be shapeCasts_S256_S1x256) broadcasts_S1x256_S1024x256))
    (broadcast S1024x256 (Scalar.ofBits .f32 0x00000000#32))

/-- The two products of one batch, side by side, with their bias. -/
def embedOf (f : FVec F S1x1024x512 .f32) (w : FVec F S512x256 .f32) (b g be : FVec F S256 .f32) (wzy : FVec F S256x256 .f32) (bzy : FVec F S256 .f32) : FVec F S1x1024x256 .f32 :=
  shapeCast S1x1024x256
    (addf (matmul dot_S1024x256_S256x256_S1024x256_1_0_0_1_n_n (some .fp32) (normed256 (denseOf f w b) g be) wzy (constant S1024x256 .f32 0x00000000#32))
      (broadcastTo S1024x256 (shapeCast S1x256 bzy shapeCasts_S256_S1x256) broadcasts_S1x256_S1024x256))
    shapeCasts_S1024x256_S1x1024x256

/-- The body reads its seven operands and leaves `embedOf` of them in the result's buffer. -/
theorem embedRun (c : Dev nD) (i : grid0.Coords) (M1 : Memref sig .tc .vmem S1x1024x512 .f32) (h1 : M1.IsWhole) (M2 : Memref sig .tc .vmem S512x256 .f32) (h2 : M2.IsWhole)
    (M3 : Memref sig .tc .vmem S256 .f32) (h3 : M3.IsWhole) (M4 : Memref sig .tc .vmem S256 .f32) (h4 : M4.IsWhole) (M5 : Memref sig .tc .vmem S256 .f32) (h5 : M5.IsWhole)
    (M6 : Memref sig .tc .vmem S256x256 .f32) (h6 : M6.IsWhole) (M7 : Memref sig .tc .vmem S256 .f32) (h7 : M7.IsWhole)
    (M8 : Memref sig .tc .vmem S1x1024x256 .f32) (h8 : M8.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7)
    (f8 : Bf (F := F) c M8) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗
        ((pt c M1 f1 ∗ pt c M2 f2 ∗ pt c M3 f3 ∗ pt c M4 f4 ∗ pt c M5 f5 ∗ pt c M6 f6 ∗ pt c M7 f7 ∗
          ∃ f : Bf (F := F) c M8, ⌜M8.view.read (Elt F) f = embedOf (M1.view.read (Elt F) f1) (M2.view.read (Elt F) f2) (M3.view.read (Elt F) f3) (M4.view.read (Elt F) f4)
            (M5.view.read (Elt F) f5) (M6.view.read (Elt F) f6) (M7.view.read (Elt F) f7)⌝ ∗ pt c M8 f)
          -∗ Q ⟨⟩))
      ⊢ wp frame (wpE (defs₀ (F := F)) Variants.none c none) E (cc0__k1_body i M1 h1 M2 h2 M3 h3 M4 h4 M5 h5 M6 h6 M7 h7 M8 h8) Q := by
  iintro ⟨H1, H2, H3, H4, H5, H6, H7, H8, Hk⟩
  sl_exec!
  sl_step
  have e1 := View.readAt_full M1.view f1 inb_S1x1024x512_S1x1024x512_0_0_0
  have e2 := View.readAt_full M2.view f2 inb_S512x256_S512x256_0_0
  have e3 := View.readAt_full M3.view f3 inb_S256_S256_0
  have e4 := View.readAt_full M4.view f4 inb_S256_S256_0
  have e5 := View.readAt_full M5.view f5 inb_S256_S256_0
  have e6 : shapeCast S256x256 (M6.view.readAt (Elt F) (Rect.unit (s := S256x256) ![0, 0] S256x256.size inb_S256x256_S256x256_0_0).toLoadRect f6) shapeCasts_S256x256_S256x256
      = M6.view.read (Elt F) f6 := (shapeCast_self _ _).trans (View.readAt_full M6.view f6 _)
  have e7 : shapeCast S256 (M7.view.readAt (Elt F) (Rect.unit (s := S256) ![0] S256.size inb_S256_S256_0).toLoadRect f7) shapeCasts_S256_S256
      = M7.view.read (Elt F) f7 := (shapeCast_self _ _).trans (View.readAt_full M7.view f7 _)
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _
  isplitr; swap; · iexact H8
  ipureintro
  exact (View.read_writes_full M8.view _ _ _ _).trans
    (congr (congr (congr (congr (congr (congr (congrArg embedOf e1) e2) e3) e4) e5) e6) e7)

/-- The same with the buffers owned at the contents read. -/
theorem embedOwns (c : Dev nD) (i : grid0.Coords) (M1 : Memref sig .tc .vmem S1x1024x512 .f32) (h1 : M1.IsWhole) (M2 : Memref sig .tc .vmem S512x256 .f32) (h2 : M2.IsWhole) (M3 : Memref sig .tc .vmem S256 .f32) (h3 : M3.IsWhole) (M4 : Memref sig .tc .vmem S256 .f32) (h4 : M4.IsWhole) (M5 : Memref sig .tc .vmem S256 .f32) (h5 : M5.IsWhole) (M6 : Memref sig .tc .vmem S256x256 .f32) (h6 : M6.IsWhole) (M7 : Memref sig .tc .vmem S256 .f32) (h7 : M7.IsWhole) (M8 : Memref sig .tc .vmem S1x1024x256 .f32) (h8 : M8.IsWhole)
    (x1 : FVec F S1x1024x512 .f32) (x2 : FVec F S512x256 .f32) (x3 : FVec F S256 .f32) (x4 : FVec F S256 .f32) (x5 : FVec F S256 .f32) (x6 : FVec F S256x256 .f32) (x7 : FVec F S256 .f32) (E : Set ℕ) (Q : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ (∃ d, owns (c : Thread nD τ) M8 fullShare d) ∗
        ((owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare (embedOf x1 x2 x3 x4 x5 x6 x7)) -∗ Q ⟨⟩))
      ⊢ wp frame (wpE (defs₀ (F := F)) Variants.none c none) E (cc0__k1_body i M1 h1 M2 h2 M3 h3 M4 h4 M5 h5 M6 h6 M7 h7 M8 h8) Q := by
  rw [owns_of_whole c M1 h1, owns_of_whole c M2 h2, owns_of_whole c M3 h3, owns_of_whole c M4 h4, owns_of_whole c M5 h5, owns_of_whole c M6 h6, owns_of_whole c M7 h7, owns_of_whole c M8 h8]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d, Hd⟩, Hk⟩
  ihave Hd' := (BIBase.Entails.of_eq (owns_of_whole c M8 h8 d)) $$ Hd
  icases Hd' with ⟨%f8, -, H8⟩
  subst e1 e2 e3 e4 e5 e6 e7
  iapply (embedRun c i M1 h1 M2 h2 M3 h3 M4 h4 M5 h5 M6 h6 M7 h7 M8 h8 f1 f2 f3 f4 f5 f6 f7 f8 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  iexact H8

end Cert.Query

end
-- ==== Proof.Regions.lean ====
/- The two TensorCore calls as regions of @main: their proof data and what they are entered from and leave. -/
module

public import proofs.«01_k».proof.Proof.Embed
public import proofs.«01_k».proof.Proof.Gen.KernelIdeal.Points
public import Idealize.ShloMosaic.Lib.Pipeline.RegionArrays

@[expose] public section

noncomputable section

namespace Cert.Query

open Cert.KernelIdeal Cert.KernelIdeal.Gen
open Idealize.ShloMosaic
open Idealize.ShloMosaic.TcCoe
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The contents of a device's buffers, by the TensorCore's references. -/
abbrev Vals : Type := (b : Ref sig .tc) → b.ty.Contents (Elt F)

/-- The waits recorded before a region lie below the level `8 * n`. -/
def early (c : Dev nD) (n : ℕ) : Set (SemLoc sig × HIx 1) := {p | (K (F := F)).lev ((c : Thread nD τ), p.1) p.2 ≤ 8 * n}

/-- The block of operand 0 that point `t` works on. -/
abbrev blk0_0 (v : Vals (F := F)) (t : Fin cfg0.N) : (cfg0.win 0).block.Idx → Elt F (cfg0.win 0).elt :=
  ((cfg0.win 0).blk t).view.read (Elt F) (v (Pipeline.arrRef spec0 0))

/-- The block of operand 1 that point `t` works on. -/
abbrev blk0_1 (v : Vals (F := F)) (t : Fin cfg0.N) : (cfg0.win 1).block.Idx → Elt F (cfg0.win 1).elt :=
  ((cfg0.win 1).blk t).view.read (Elt F) (v (Pipeline.arrRef spec0 1))

/-- The block of operand 2 that point `t` works on. -/
abbrev blk0_2 (v : Vals (F := F)) (t : Fin cfg0.N) : (cfg0.win 2).block.Idx → Elt F (cfg0.win 2).elt :=
  ((cfg0.win 2).blk t).view.read (Elt F) (v (Pipeline.arrRef spec0 2))

/-- The block of operand 3 that point `t` works on. -/
abbrev blk0_3 (v : Vals (F := F)) (t : Fin cfg0.N) : (cfg0.win 3).block.Idx → Elt F (cfg0.win 3).elt :=
  ((cfg0.win 3).blk t).view.read (Elt F) (v (Pipeline.arrRef spec0 3))

/-- The block of operand 4 that point `t` works on. -/
abbrev blk0_4 (v : Vals (F := F)) (t : Fin cfg0.N) : (cfg0.win 4).block.Idx → Elt F (cfg0.win 4).elt :=
  ((cfg0.win 4).blk t).view.read (Elt F) (v (Pipeline.arrRef spec0 4))

/-- The block of operand 5 that point `t` works on. -/
abbrev blk0_5 (v : Vals (F := F)) (t : Fin cfg0.N) : (cfg0.win 5).block.Idx → Elt F (cfg0.win 5).elt :=
  ((cfg0.win 5).blk t).view.read (Elt F) (v (Pipeline.arrRef spec0 5))

/-- The block of operand 6 that point `t` works on. -/
abbrev blk0_6 (v : Vals (F := F)) (t : Fin cfg0.N) : (cfg0.win 6).block.Idx → Elt F (cfg0.win 6).elt :=
  ((cfg0.win 6).blk t).view.read (Elt F) (v (Pipeline.arrRef spec0 6))

/-- The call's proof data: the inputs' blocks are kept, the result's is computed from them. -/
def dat0 (v : Vals (F := F)) (c : Dev nD) : Dat τ (Elt F) (HIx 1) ℕ UU ℕ cfg0 c where
  A w := v (Pipeline.arrRef spec0 w)
  after w t := match w with
    | ⟨0, _⟩ => blk0_0 v t
    | ⟨1, _⟩ => blk0_1 v t
    | ⟨2, _⟩ => blk0_2 v t
    | ⟨3, _⟩ => blk0_3 v t
    | ⟨4, _⟩ => blk0_4 v t
    | ⟨5, _⟩ => blk0_5 v t
    | ⟨6, _⟩ => blk0_6 v t
    | ⟨7, _⟩ => embedOf (blk0_0 v t) (blk0_1 v t) (blk0_2 v t) (blk0_3 v t) (blk0_4 v t) (blk0_5 v t) (blk0_6 v t)
  Φ _ := Pipeline.scopedRest (Ix := HIx 1) (Name := ℕ) (U := UU) (Lvl := ℕ) (Val := Elt F) spec0 c
  q _ := fullShare
  owed _ := (K (F := F)).Otc c 0
  recorded _ := early (F := F) c 0

theorem before0_0 (v : Vals (F := F)) (c : Dev nD) (t : Fin cfg0.N) (d : (cfg0.win 0).block.Idx → Elt F (cfg0.win 0).elt) : (dat0 v c).before 0 t d = blk0_0 v t := by
  rw [Dat.before_fetched _ _ _ (fetch0_0 t)]; unfold Dat.fetched Dat.blockOf; dsimp only [dat0]; rfl

theorem before0_1 (v : Vals (F := F)) (c : Dev nD) (t : Fin cfg0.N) (d : (cfg0.win 1).block.Idx → Elt F (cfg0.win 1).elt) : (dat0 v c).before 1 t d = blk0_1 v t := by
  by_cases h : (cfg0.win 1).fetch t = true
  · rw [Dat.before_fetched _ _ _ h]; unfold Dat.fetched Dat.blockOf; dsimp only [dat0]; rfl
  · rw [Dat.before_unfetched_in _ _ rfl _ (Bool.eq_false_iff.mpr h) fun _ => rfl]; unfold Dat.kept; dsimp only [dat0]; rfl

theorem before0_2 (v : Vals (F := F)) (c : Dev nD) (t : Fin cfg0.N) (d : (cfg0.win 2).block.Idx → Elt F (cfg0.win 2).elt) : (dat0 v c).before 2 t d = blk0_2 v t := by
  by_cases h : (cfg0.win 2).fetch t = true
  · rw [Dat.before_fetched _ _ _ h]; unfold Dat.fetched Dat.blockOf; dsimp only [dat0]; rfl
  · rw [Dat.before_unfetched_in _ _ rfl _ (Bool.eq_false_iff.mpr h) fun _ => rfl]; unfold Dat.kept; dsimp only [dat0]; rfl

theorem before0_3 (v : Vals (F := F)) (c : Dev nD) (t : Fin cfg0.N) (d : (cfg0.win 3).block.Idx → Elt F (cfg0.win 3).elt) : (dat0 v c).before 3 t d = blk0_3 v t := by
  by_cases h : (cfg0.win 3).fetch t = true
  · rw [Dat.before_fetched _ _ _ h]; unfold Dat.fetched Dat.blockOf; dsimp only [dat0]; rfl
  · rw [Dat.before_unfetched_in _ _ rfl _ (Bool.eq_false_iff.mpr h) fun _ => rfl]; unfold Dat.kept; dsimp only [dat0]; rfl

theorem before0_4 (v : Vals (F := F)) (c : Dev nD) (t : Fin cfg0.N) (d : (cfg0.win 4).block.Idx → Elt F (cfg0.win 4).elt) : (dat0 v c).before 4 t d = blk0_4 v t := by
  by_cases h : (cfg0.win 4).fetch t = true
  · rw [Dat.before_fetched _ _ _ h]; unfold Dat.fetched Dat.blockOf; dsimp only [dat0]; rfl
  · rw [Dat.before_unfetched_in _ _ rfl _ (Bool.eq_false_iff.mpr h) fun _ => rfl]; unfold Dat.kept; dsimp only [dat0]; rfl

theorem before0_5 (v : Vals (F := F)) (c : Dev nD) (t : Fin cfg0.N) (d : (cfg0.win 5).block.Idx → Elt F (cfg0.win 5).elt) : (dat0 v c).before 5 t d = blk0_5 v t := by
  by_cases h : (cfg0.win 5).fetch t = true
  · rw [Dat.before_fetched _ _ _ h]; unfold Dat.fetched Dat.blockOf; dsimp only [dat0]; rfl
  · rw [Dat.before_unfetched_in _ _ rfl _ (Bool.eq_false_iff.mpr h) fun _ => rfl]; unfold Dat.kept; dsimp only [dat0]; rfl

theorem before0_6 (v : Vals (F := F)) (c : Dev nD) (t : Fin cfg0.N) (d : (cfg0.win 6).block.Idx → Elt F (cfg0.win 6).elt) : (dat0 v c).before 6 t d = blk0_6 v t := by
  by_cases h : (cfg0.win 6).fetch t = true
  · rw [Dat.before_fetched _ _ _ h]; unfold Dat.fetched Dat.blockOf; dsimp only [dat0]; rfl
  · rw [Dat.before_unfetched_in _ _ rfl _ (Bool.eq_false_iff.mpr h) fun _ => rfl]; unfold Dat.kept; dsimp only [dat0]; rfl

/-- The body's obligation at every point. -/
theorem obligation0 (v : Vals (F := F)) (c : Dev nD) : BodyObligation (dat0 v c) (defs₀ (F := F)) Variants.none none Set.univ := fun t => by
  rw [bigSep_W0, bigSep_W0]
  rw [show (dat0 v c).Φ t.succ = (dat0 v c).Φ t.castSucc from rfl,
    show (dat0 v c).owesAt none t.succ = (dat0 v c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before0_0]
  rw [before0_1]
  rw [before0_2]
  rw [before0_3]
  rw [before0_4]
  rw [before0_5]
  rw [before0_6]
  iapply (embedOwns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (blk0_0 v t) (blk0_1 v t) (blk0_2 v t) (blk0_3 v t) (blk0_4 v t) (blk0_5 v t) (blk0_6 v t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The block of operand 0 that point `t` works on. -/
abbrev blk2_0 (v : Vals (F := F)) (t : Fin cfg2.N) : (cfg2.win 0).block.Idx → Elt F (cfg2.win 0).elt :=
  ((cfg2.win 0).blk t).view.read (Elt F) (v (Pipeline.arrRef spec2 0))

/-- The block of operand 1 that point `t` works on. -/
abbrev blk2_1 (v : Vals (F := F)) (t : Fin cfg2.N) : (cfg2.win 1).block.Idx → Elt F (cfg2.win 1).elt :=
  ((cfg2.win 1).blk t).view.read (Elt F) (v (Pipeline.arrRef spec2 1))

/-- The block of operand 2 that point `t` works on. -/
abbrev blk2_2 (v : Vals (F := F)) (t : Fin cfg2.N) : (cfg2.win 2).block.Idx → Elt F (cfg2.win 2).elt :=
  ((cfg2.win 2).blk t).view.read (Elt F) (v (Pipeline.arrRef spec2 2))

/-- The block of operand 3 that point `t` works on. -/
abbrev blk2_3 (v : Vals (F := F)) (t : Fin cfg2.N) : (cfg2.win 3).block.Idx → Elt F (cfg2.win 3).elt :=
  ((cfg2.win 3).blk t).view.read (Elt F) (v (Pipeline.arrRef spec2 3))

/-- The call's proof data: the inputs' blocks are kept, the result's is computed from them. -/
def dat2 (v : Vals (F := F)) (c : Dev nD) : Dat τ (Elt F) (HIx 1) ℕ UU ℕ cfg2 c where
  A w := v (Pipeline.arrRef spec2 w)
  after w t := match w with
    | ⟨0, _⟩ => blk2_0 v t
    | ⟨1, _⟩ => blk2_1 v t
    | ⟨2, _⟩ => blk2_2 v t
    | ⟨3, _⟩ => blk2_3 v t
    | ⟨4, _⟩ => poolOf (blk2_0 v t) (blk2_1 v t) (blk2_2 v t) (blk2_3 v t)
  Φ _ := Pipeline.scopedRest (Ix := HIx 1) (Name := ℕ) (U := UU) (Lvl := ℕ) (Val := Elt F) spec2 c
  q _ := fullShare
  owed _ := (K (F := F)).Otc c 1
  recorded _ := early (F := F) c 1

theorem before2_0 (v : Vals (F := F)) (c : Dev nD) (t : Fin cfg2.N) (d : (cfg2.win 0).block.Idx → Elt F (cfg2.win 0).elt) : (dat2 v c).before 0 t d = blk2_0 v t := by
  rw [Dat.before_fetched _ _ _ (fetch2_0 t)]; unfold Dat.fetched Dat.blockOf; dsimp only [dat2]; rfl

theorem before2_1 (v : Vals (F := F)) (c : Dev nD) (t : Fin cfg2.N) (d : (cfg2.win 1).block.Idx → Elt F (cfg2.win 1).elt) : (dat2 v c).before 1 t d = blk2_1 v t := by
  rw [Dat.before_fetched _ _ _ (fetch2_1 t)]; unfold Dat.fetched Dat.blockOf; dsimp only [dat2]; rfl

theorem before2_2 (v : Vals (F := F)) (c : Dev nD) (t : Fin cfg2.N) (d : (cfg2.win 2).block.Idx → Elt F (cfg2.win 2).elt) : (dat2 v c).before 2 t d = blk2_2 v t := by
  by_cases h : (cfg2.win 2).fetch t = true
  · rw [Dat.before_fetched _ _ _ h]; unfold Dat.fetched Dat.blockOf; dsimp only [dat2]; rfl
  · rw [Dat.before_unfetched_in _ _ rfl _ (Bool.eq_false_iff.mpr h) fun _ => rfl]; unfold Dat.kept; dsimp only [dat2]; rfl

theorem before2_3 (v : Vals (F := F)) (c : Dev nD) (t : Fin cfg2.N) (d : (cfg2.win 3).block.Idx → Elt F (cfg2.win 3).elt) : (dat2 v c).before 3 t d = blk2_3 v t := by
  by_cases h : (cfg2.win 3).fetch t = true
  · rw [Dat.before_fetched _ _ _ h]; unfold Dat.fetched Dat.blockOf; dsimp only [dat2]; rfl
  · rw [Dat.before_unfetched_in _ _ rfl _ (Bool.eq_false_iff.mpr h) fun _ => rfl]; unfold Dat.kept; dsimp only [dat2]; rfl

/-- The body's obligation at every point. -/
theorem obligation2 (v : Vals (F := F)) (c : Dev nD) : BodyObligation (dat2 v c) (defs₀ (F := F)) Variants.none none Set.univ := fun t => by
  rw [bigSep_W2, bigSep_W2]
  rw [show (dat2 v c).Φ t.succ = (dat2 v c).Φ t.castSucc from rfl,
    show (dat2 v c).owesAt none t.succ = (dat2 v c).owesAt none t.castSucc from rfl]
  iintro ⟨HΦ, Howes, ⟨%d0, H0⟩, ⟨%d1, H1⟩, ⟨%d2, H2⟩, ⟨%d3, H3⟩, ⟨%d4, H4⟩⟩
  rw [before2_0]
  rw [before2_1]
  rw [before2_2]
  rw [before2_3]
  iapply (poolOwns c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4))
    (blk2_0 v t) (blk2_1 v t) (blk2_2 v t) (blk2_3 v t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

end Cert.Query

end
-- ==== Proof.Segments.lean ====
/- The two TensorCore calls as regions over the device's buffers. -/
module

public import proofs.«01_k».proof.Proof.Regions
public import Idealize.ShloMosaic.Lib.Pipeline.RegionsLoop

@[expose] public section

noncomputable section

namespace Cert.Query

open Cert.KernelIdeal Cert.KernelIdeal.Gen
open Idealize.ShloMosaic
open Idealize.ShloMosaic.TcCoe
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- No pipeline prefetches a table. -/
abbrev adm : (p : Fin 2) → (pcfgs (F := F) p).Adm := fun p => (cfgs p).toPCfg_adm

/-- The proof data of the two calls, entered at `v` and at `v'`. -/
def pdats (v v' : Dev nD → Vals (F := F)) : (p : Fin 2) → (c : Dev nD) → Dat τ (Elt F) (HIx 1) ℕ UU ℕ (Pipeline.pin (pcfgs (F := F)) adm p) c
  | ⟨0, _⟩ => fun c => dat0 (v c) c
  | ⟨1, _⟩ => fun c => dat2 (v' c) c

/-- What the TensorCore owes before call `n`, with its waits so far. -/
abbrev debt (c : Dev nD) (n : ℕ) : sProp 𝕄 :=
  iprop(∃ W, ⌜(K (F := F)).WBelow (c : Thread nD τ) W (8 * n)⌝ ∗ owes (c : Thread nD τ) ((K (F := F)).Otc c n) W)

/-- The TensorCore owes at the handshakes' indices only. -/
theorem Otc_plain (c : Dev nD) (n : ℕ) (g : GSem nD τ sig) : (K (F := F)).Otc c n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun i _ => (tallyAt_apply _ _ _ _ _).trans (if_neg fun h => nomatch h.2)
  · rfl

set_option backward.isDefEq.respectTransparency.types false in
/-- The region of call 0: entered with the unscoped buffers at `v`, left with the result's array as the write-backs leave it. -/
def reg0 (v v' vp : Dev nD → Vals (F := F)) (hout : ∀ c, vp c main_v6 = (pdats v v' 0 c).arrAt 7 cfg0.N)
    (hne : ∀ c (b : Ref sig .tc), b ≠ main_v6 → vp c b = v c b) :
    Pipeline.RegionSeg (pcfgs (F := F)) adm (pdats v v') none defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (obligation0 (v c) c).loose
  hwaits c := Pipeline.cellsWaits_intro (Pipeline.pin (pcfgs (F := F)) adm) (pdats v v') none 0 c fun w s t =>
    (K (F := F)).mayWait_none _ (Otc_plain c 0)
  pre c := iprop(unscopedBufs c (v c) ∗ debt c 0)
  post c := iprop(unscopedBufs c (vp c) ∗ debt c 0)
  X _ := BI.emp
  Y _ := BI.emp
  Z c := Pipeline.unscopedRest (Ix := HIx 1) (Name := ℕ) (U := UU) (Lvl := ℕ) spec0 c (v c)
  hentry c := by
    rw [Pipeline.ownSems0_none]
    have hsplit := Pipeline.arrays_of_unscopedBufs (p := 0) (pcfgs (F := F)) adm (pdats v v') launch0.win launch0.arr_whole c
      ((pdats v v' 0 c).share_full fun _ => rfl) (v c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats v v' 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats v v' 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats v v') ((pdats v v' 0 c).share_full fun _ => rfl) (v c) (vp c) ((pdats v v' 0 c).arrAt · cfg0.N)
      (fun w => by
        fin_cases w
        · exact ((pdats v v' 0 c).arrAt_in 0 rfl _).trans (hne c main_arg0 (by decide)).symm
        · exact ((pdats v v' 0 c).arrAt_in 1 rfl _).trans (hne c main_arg3 (by decide)).symm
        · exact ((pdats v v' 0 c).arrAt_in 2 rfl _).trans (hne c main_arg4 (by decide)).symm
        · exact ((pdats v v' 0 c).arrAt_in 3 rfl _).trans (hne c main_arg5 (by decide)).symm
        · exact ((pdats v v' 0 c).arrAt_in 4 rfl _).trans (hne c main_arg6 (by decide)).symm
        · exact ((pdats v v' 0 c).arrAt_in 5 rfl _).trans (hne c main_v3 (by decide)).symm
        · exact ((pdats v v' 0 c).arrAt_in 6 rfl _).trans (hne c main_v5 (by decide)).symm
        · exact (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · subst h; exact Nat.zero_le _
    iexact HO

set_option backward.isDefEq.respectTransparency.types false in
/-- The region of call 2: entered with the unscoped buffers at `v'`, left with the result's array as the write-backs leave it. -/
def reg2 (v v' vp : Dev nD → Vals (F := F)) (hout : ∀ c, vp c main_v13 = (pdats v v' 1 c).arrAt 4 cfg2.N)
    (hne : ∀ c (b : Ref sig .tc), b ≠ main_v13 → vp c b = v' c b) :
    Pipeline.RegionSeg (pcfgs (F := F)) adm (pdats v v') none defs₀ Variants.none (K (F := F)).L (K (F := F)).lev 1 where
  win := launch2.win.to₀
  block_pos := launch2.block_pos
  stage_whole := launch2.stage_whole
  K := PEmpty
  osem k := k.elim
  ho := Pipeline.OwnSemFacts.none _
  hbody c := (obligation2 (v' c) c).loose
  hwaits c := Pipeline.cellsWaits_intro (Pipeline.pin (pcfgs (F := F)) adm) (pdats v v') none 1 c fun w s t =>
    (K (F := F)).mayWait_none _ (Otc_plain c 1)
  pre c := iprop(unscopedBufs c (v' c) ∗ debt c 1)
  post c := iprop(unscopedBufs c (vp c) ∗ debt c 1)
  X _ := BI.emp
  Y _ := BI.emp
  Z c := Pipeline.unscopedRest (Ix := HIx 1) (Name := ℕ) (U := UU) (Lvl := ℕ) spec2 c (v' c)
  hentry c := by
    rw [Pipeline.ownSems0_none]
    have hsplit := Pipeline.arrays_of_unscopedBufs (p := 1) (pcfgs (F := F)) adm (pdats v v') launch2.win launch2.arr_whole c
      ((pdats v v' 1 c).share_full fun _ => rfl) (v' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats v v' 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats v v' 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats v v') ((pdats v v' 1 c).share_full fun _ => rfl) (v' c) (vp c) ((pdats v v' 1 c).arrAt · cfg2.N)
      (fun w => by
        fin_cases w
        · exact ((pdats v v' 1 c).arrAt_in 0 rfl _).trans (hne c main_v8 (by decide)).symm
        · exact ((pdats v v' 1 c).arrAt_in 1 rfl _).trans (hne c main_v12 (by decide)).symm
        · exact ((pdats v v' 1 c).arrAt_in 2 rfl _).trans (hne c main_arg9 (by decide)).symm
        · exact ((pdats v v' 1 c).arrAt_in 3 rfl _).trans (hne c main_arg10 (by decide)).symm
        · exact (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · subst h; exact Nat.zero_le _
    iexact HO

end Cert.Query

end
-- ==== Proof.Words.lean ====
/- What the word arithmetic of one query computes: running counts of the candidates within the radius, the list they
   are appended to, and the thirty-two entries picked from it. -/
module

public import proofs.«01_k».proof.Proof.Model
public import Mathlib.Data.Nat.Count

@[expose] public section

noncomputable section

namespace Cert.Query

open Cert.KernelIdeal
open Cert.KernelIdeal.Facts₀ Cert.KernelIdeal.Facts
open Idealize.ShloMosaic Idealize.SL.Sem

/-! ## An indexed store, lane by lane -/

section StoreIdx

variable {F : FTy → Type} [FloatOps F] {s : Shape} {e : EltTy} {d : Fin 1 → Nat}

/-- An element that no written lane names keeps its value. -/
theorem storeIdx_of_none (f : Vec F s e) (idxs : Fin s.rank → IVec ⟨1, d⟩ 32) (v : Vec F ⟨1, d⟩ e) (mask : IVec ⟨1, d⟩ 1)
    (h : ∀ a x, (idxs a x).toNat < s.size a) (j : s.Idx)
    (hj : ∀ k : Fin (d 0), mask (Shape.ofLane k) = 1 → ¬ ∀ a, (j a).val = (idxs a (Shape.ofLane k)).toNat) :
    storeIdx f idxs v mask false h j = f j := by
  unfold storeIdx
  generalize List.finRange (d 0) = l
  induction l generalizing f with
  | nil => rfl
  | cons k l ih =>
    rw [List.foldl_cons, ih]
    dsimp only
    split
    · next hm => exact if_neg (hj k hm)
    · rfl

/-- An element that some written lane names, all such lanes carrying one value, has that value. -/
theorem storeIdx_of_some (f : Vec F s e) (idxs : Fin s.rank → IVec ⟨1, d⟩ 32) (v : Vec F ⟨1, d⟩ e) (mask : IVec ⟨1, d⟩ 1)
    (h : ∀ a x, (idxs a x).toNat < s.size a) (j : s.Idx) (y : Elt F e) (k₀ : Fin (d 0))
    (hm₀ : mask (Shape.ofLane k₀) = 1) (hk₀ : ∀ a, (j a).val = (idxs a (Shape.ofLane k₀)).toNat)
    (hy : ∀ k : Fin (d 0), mask (Shape.ofLane k) = 1 → (∀ a, (j a).val = (idxs a (Shape.ofLane k)).toNat) → v (Shape.ofLane k) = y) :
    storeIdx f idxs v mask false h j = y := by
  unfold storeIdx
  have hmem : f j = y ∨ k₀ ∈ List.finRange (d 0) := .inr (List.mem_finRange k₀)
  generalize List.finRange (d 0) = l at hmem ⊢
  induction l generalizing f with
  | nil => exact hmem.resolve_right List.not_mem_nil
  | cons k l ih =>
    rw [List.foldl_cons]
    refine ih _ ?_
    by_cases hkk : k₀ ∈ l
    · exact .inr hkk
    left
    dsimp only
    by_cases hm : mask (Shape.ofLane k) = 1
    · rw [if_pos hm]
      by_cases hc : ∀ a, (j a).val = (idxs a (Shape.ofLane k)).toNat
      · rw [if_pos (show ∀ a, (j a).val = (idxAt idxs h (Shape.ofLane k) a).val from hc)]
        exact hy k hm hc
      · rw [if_neg (show ¬ ∀ a, (j a).val = (idxAt idxs h (Shape.ofLane k) a).val from hc)]
        rcases hmem with hf | hf
        · exact hf
        · rcases List.mem_cons.mp hf with rfl | h'
          · exact absurd hk₀ hc
          · exact absurd h' hkk
    · rw [if_neg hm]
      rcases hmem with hf | hf
      · exact hf
      · rcases List.mem_cons.mp hf with rfl | h'
        · exact absurd hm₀ hm
        · exact absurd h' hkk

end StoreIdx

/-! ## The running count -/

/-- Lane `j` of a sixteen-lane vector. -/
abbrev lane (j : Fin 16) : S16.Idx := Shape.ofLane (d := ![16]) j

theorem lane_zero_val (j : Fin 16) : ((lane j) 0).val = j.val := rfl

theorem eq_lane (x : S16.Idx) : x = lane (x 0) := by
  funext a
  match a with
  | ⟨0, _⟩ => rfl

theorem bit_cases (x : BitVec 1) : x = 0 ∨ x = 1 := by revert x; decide

theorem scan_first (v : IVec S16 32) : scan (d := ![16]) .sum v (lane 0) = v (lane 0) := by
  unfold scan
  dsimp only
  rw [show ((List.finRange ((![16] : Fin 1 → Nat) 0)).filter fun k => decide (0 < k.val ∧ k.val ≤ ((lane 0) 0).val)) = [] from by decide]
  rfl

theorem scan_next (v : IVec S16 32) (j : Fin 15) :
    scan (d := ![16]) .sum v (lane j.succ) = scan (d := ![16]) .sum v (lane j.castSucc) + v (lane j.succ) := by
  have h : ((List.finRange 16).filter fun k => decide (0 < k.val ∧ k.val ≤ j.val + 1))
      = ((List.finRange 16).filter fun k => decide (0 < k.val ∧ k.val ≤ j.val)) ++ [j.succ] := by revert j; decide
  have key : ∀ l l' : List (Fin 16), l = l' ++ [j.succ] →
      List.foldl (fun r k => r + v (lane k)) (v (lane 0)) l = List.foldl (fun r k => r + v (lane k)) (v (lane 0)) l' + v (lane j.succ) := by
    intro l l' hl
    rw [hl, List.foldl_append]
    rfl
  exact key _ _ h

/-- The running sum of the lanes' bits is a count. -/
theorem scan_count (m : IVec S16 1) (q : ℕ → Prop) [DecidablePred q] (hq : ∀ j : Fin 16, m (lane j) = 1 ↔ q j.val) (j : Fin 16) :
    scan (d := ![16]) .sum (cnt m) (lane j) = BitVec.ofNat 32 (Nat.count q (j.val + 1)) := by
  have hbit : ∀ j : Fin 16, cnt m (lane j) = BitVec.ofNat 32 (if q j.val then 1 else 0) := fun j => by
    rcases bit_cases (m (lane j)) with h | h
    · rw [if_neg (fun hc => by rw [(hq j).mpr hc] at h; exact absurd h (by decide))]
      show (m (lane j)).setWidth 32 = _
      rw [h]; rfl
    · rw [if_pos ((hq j).mp h)]
      show (m (lane j)).setWidth 32 = _
      rw [h]; rfl
  obtain ⟨n, hn⟩ := j
  induction n with
  | zero =>
    rw [show (⟨0, hn⟩ : Fin 16) = 0 from rfl, scan_first, hbit]
    show _ = BitVec.ofNat 32 (Nat.count q (0 + 1))
    have h0 : Nat.count q (0 + 1) = Nat.count q 0 + if q 0 then 1 else 0 := Nat.count_succ q 0
    rw [h0, Nat.count_zero, Nat.zero_add]
    rfl
  | succ n ih =>
    have h := scan_next (cnt m) ⟨n, by omega⟩
    rw [show (⟨n + 1, hn⟩ : Fin 16) = (⟨n, by omega⟩ : Fin 15).succ from rfl, h,
      show (⟨n, by omega⟩ : Fin 15).castSucc = (⟨n, by omega⟩ : Fin 16) from rfl, ih (by omega), hbit, ← BitVec.ofNat_add]
    show _ = BitVec.ofNat 32 (Nat.count q ((n + 1) + 1))
    have h1 : Nat.count q ((n + 1) + 1) = Nat.count q (n + 1) + if q (n + 1) then 1 else 0 := Nat.count_succ q (n + 1)
    rw [h1]
    rfl

section Chunk

variable (p : ℕ → Prop) [DecidablePred p]

/-- The running count of the true candidates before `n`, in every lane. -/
def offAt (n : ℕ) : IVec S16 32 := broadcast S16 (BitVec.ofNat 32 (Nat.count p n))

variable (m : IVec S16 1) (c : ℕ) (hc : c < 64) (hm : ∀ j : Fin 16, m (lane j) = 1 ↔ p (16 * c + j.val))

theorem count_le_self (n : ℕ) : Nat.count p n ≤ n := by
  have := Nat.count_le (p := p) (n := n); exact this

theorem count_split (c j : ℕ) : Nat.count p (16 * c + j) = Nat.count p (16 * c) + Nat.count (fun k => p (16 * c + k)) j :=
  Nat.count_add p _ _

include hm in
theorem rank_lane (j : Fin 16) : rank (offAt p (16 * c)) m (lane j) = BitVec.ofNat 32 (Nat.count p (16 * c + j.val)) := by
  have h1 := scan_count m (fun k => p (16 * c + k)) hm j
  have hbit : cnt m (lane j) = BitVec.ofNat 32 (if p (16 * c + j.val) then 1 else 0) := by
    rcases bit_cases (m (lane j)) with h | h
    · rw [if_neg (fun hc => by rw [(hm j).mpr hc] at h; exact absurd h (by decide))]
      show (m (lane j)).setWidth 32 = _
      rw [h]; rfl
    · rw [if_pos ((hm j).mp h)]
      show (m (lane j)).setWidth 32 = _
      rw [h]; rfl
  show BitVec.ofNat 32 (Nat.count p (16 * c)) + scan (d := ![16]) .sum (cnt m) (lane j) - cnt m (lane j) = _
  rw [h1, hbit, count_split, Nat.count_succ, BitVec.ofNat_add, BitVec.ofNat_add, ← BitVec.add_assoc, BitVec.add_sub_cancel, ← BitVec.ofNat_add]

include hm in
theorem bump_eq : bump (offAt p (16 * c)) m = offAt p (16 * (c + 1)) := by
  have h1 : scan (d := ![16]) .sum (cnt m) (lane 15) = BitVec.ofNat 32 (Nat.count (fun k => p (16 * c + k)) 16) :=
    scan_count m (fun k => p (16 * c + k)) hm 15
  have h2 : extractAt ![15] (scan (d := ![16]) .sum (cnt m)) inpos_S16_p15 = scan (d := ![16]) .sum (cnt m) (lane 15) := by
    unfold extractAt
    exact congrArg _ (eq_lane _)
  have h3 : Nat.count p (16 * (c + 1)) = Nat.count p (16 * c) + Nat.count (fun k => p (16 * c + k)) 16 := by
    rw [show 16 * (c + 1) = 16 * c + 16 by omega, count_split]
  unfold bump offAt
  rw [h2, h1, h3, BitVec.ofNat_add]
  rfl

theorem slt_small (a b : ℕ) (ha : a < 2 ^ 31) (hb : b < 2 ^ 31) : (BitVec.ofNat 32 a).slt (BitVec.ofNat 32 b) = decide (a < b) := by
  rw [BitVec.slt_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem minsi_small (a b : ℕ) (ha : a < 2 ^ 31) (hb : b < 2 ^ 31) :
    IntOp.minsi (BitVec.ofNat 32 a) (BitVec.ofNat 32 b) = BitVec.ofNat 32 (min a b) := by
  unfold IntOp.minsi
  rw [slt_small a b ha hb]
  by_cases h : a < b
  · rw [if_pos (by simpa using h), Nat.min_eq_left h.le]
  · rw [if_neg (by simpa using h), Nat.min_eq_right (by omega)]

theorem cmpi_slt_small (a b : ℕ) (ha : a < 2 ^ 31) (hb : b < 2 ^ 31) :
    IntOp.cmpi .slt (BitVec.ofNat 32 a) (BitVec.ofNat 32 b) = if a < b then 1 else 0 := by
  show BitVec.ofBool ((BitVec.ofNat 32 a).slt (BitVec.ofNat 32 b)) = _
  rw [slt_small a b ha hb]
  by_cases h : a < b
  · rw [if_pos h, decide_eq_true h]; rfl
  · rw [if_neg h, decide_eq_false h]; rfl

include hm hc in
theorem slot_lane (j : Fin 16) : slot (offAt p (16 * c)) m (lane j) = BitVec.ofNat 32 (min (Nat.count p (16 * c + j.val)) 31) := by
  have hle := count_le_self p (16 * c + j.val)
  have := j.isLt
  show IntOp.minsi (rank (offAt p (16 * c)) m (lane j)) (31#32) = _
  rw [rank_lane p m c hm j, minsi_small _ 31 (by omega) (by omega)]

include hm hc in
theorem slot_toNat (j : Fin 16) : (slot (offAt p (16 * c)) m (lane j)).toNat = min (Nat.count p (16 * c + j.val)) 31 := by
  rw [slot_lane p m c hc hm j, BitVec.toNat_ofNat, Nat.mod_eq_of_lt (by omega)]

include hm hc in
theorem keep_lane (j : Fin 16) : keep (offAt p (16 * c)) m (lane j) = 1 ↔ p (16 * c + j.val) ∧ Nat.count p (16 * c + j.val) < 32 := by
  have hle := count_le_self p (16 * c + j.val)
  have := j.isLt
  have h1 : keep (offAt p (16 * c)) m (lane j) = m (lane j) &&& (if Nat.count p (16 * c + j.val) < 32 then 1 else 0) := by
    show m (lane j) &&& IntOp.cmpi .slt (rank (offAt p (16 * c)) m (lane j)) (32#32) = _
    rw [rank_lane p m c hm j, cmpi_slt_small _ 32 (by omega) (by omega)]
  rw [h1, ← hm j]
  by_cases h : Nat.count p (16 * c + j.val) < 32
  · rw [if_pos h]
    rcases bit_cases (m (lane j)) with h2 | h2 <;> rw [h2] <;> simp [h]
  · rw [if_neg h]
    rcases bit_cases (m (lane j)) with h2 | h2 <;> rw [h2] <;> simp [h]

include hm hc in
/-- Every lane's position is one of the list's. -/
theorem slot_inb : k1_chk2 (slot (offAt p (16 * c)) m) := by
  rw [k1_chk2.eq_1]
  intro a x
  match a with
  | ⟨0, _⟩ =>
    show (slot (offAt p (16 * c)) m x).toNat < 32
    obtain ⟨j, rfl⟩ : ∃ j : Fin 16, x = lane j := ⟨x 0, eq_lane x⟩
    rw [slot_toNat p m c hc hm]
    omega

end Chunk

/-! ## The list -/

/-- Entry `n` of the list. -/
abbrev entry (n : Fin 32) : S32.Idx := Shape.ofLane (d := ![32]) n

/-- The list after the candidates before `n`: the true ones among them in order, as row numbers from `b` on, and the
    stated word at the head while there is none. -/
def ListAt (p : ℕ → Prop) [DecidablePred p] (b sent : BitVec 32) (n : ℕ) (fl : S32.Idx → BitVec 32) : Prop :=
  (∀ k < n, p k → (h : Nat.count p k < 32) → fl (entry ⟨Nat.count p k, h⟩) = b + BitVec.ofNat 32 k)
    ∧ (Nat.count p n = 0 → fl (entry 0) = sent)

section Step

variable {F : FTy → Type} [FloatOps F] (p : ℕ → Prop) [DecidablePred p] (b sent : BitVec 32)

/-- One chunk takes the list sixteen candidates on. -/
theorem listAt_step (m : IVec S16 1) (c : ℕ) (hc : c < 64) (hm : ∀ j : Fin 16, m (lane j) = 1 ↔ p (16 * c + j.val))
    (fl : Vec F S32 .i32) (g : Vec F S16 .i32) (hg : ∀ j : Fin 16, g (lane j) = b + BitVec.ofNat 32 (16 * c + j.val))
    (hl : ListAt p b sent (16 * c) fl) (h) :
    ListAt p b sent (16 * (c + 1)) (storeIdx (F := F) (e := .i32) (d := ![16]) fl ![slot (offAt p (16 * c)) m] g (keep (offAt p (16 * c)) m) false h) := by
  have hname : ∀ (n : Fin 32) (j : Fin 16), (∀ a : Fin S32.rank, ((entry n) a).val = ((![slot (offAt p (16 * c)) m] : Fin 1 → IVec S16 32) a (lane j)).toNat)
      ↔ n.val = min (Nat.count p (16 * c + j.val)) 31 := fun n j => by
    rw [← slot_toNat p m c hc hm j]
    constructor
    · intro h; exact h 0
    · intro h a
      match a with
      | ⟨0, _⟩ => exact h
  have hinj : ∀ j j' : Fin 16, p (16 * c + j.val) → p (16 * c + j'.val) → Nat.count p (16 * c + j.val) = Nat.count p (16 * c + j'.val) → j = j' :=
    fun j j' h h' he => Fin.ext (by have := Nat.count_injective h h' he; omega)
  refine ⟨fun k hk hpk hlt => ?_, fun h0 => ?_⟩
  · by_cases hkc : k < 16 * c
    · rw [storeIdx_of_none]
      · exact hl.1 k hkc hpk hlt
      · intro j hkeep hnm
        have hk2 := (keep_lane p m c hc hm j).mp hkeep
        have h3 := (hname _ j).mp hnm
        have hmono : Nat.count p k < Nat.count p (16 * c + j.val) := Nat.count_strict_mono hpk (by omega)
        simp only at h3
        omega
    · obtain ⟨j, rfl⟩ : ∃ j : Fin 16, k = 16 * c + j.val := ⟨⟨k - 16 * c, by omega⟩, by simp; omega⟩
      refine storeIdx_of_some fl _ g _ h _ _ j ((keep_lane p m c hc hm j).mpr ⟨hpk, hlt⟩) ((hname _ j).mpr ?_) ?_
      · simp only; omega
      · intro j' hkeep' hnm'
        have hk2 := (keep_lane p m c hc hm j').mp hkeep'
        have h3 := (hname _ j').mp hnm'
        have h4 : Nat.count p (16 * c + j.val) = Nat.count p (16 * c + j'.val) := by simp only at h3; omega
        rw [hinj j j' hpk hk2.1 h4]
        exact hg j'
  · have h0' : Nat.count p (16 * c) = 0 := Nat.le_zero.mp (h0 ▸ Nat.count_monotone p (by omega))
    rw [storeIdx_of_none]
    · exact hl.2 h0'
    · intro j hkeep hnm
      have hk2 := (keep_lane p m c hc hm j).mp hkeep
      have h5 : Nat.count p (16 * c + j.val + 1) ≤ Nat.count p (16 * (c + 1)) := Nat.count_monotone p (by have : j.val < 16 := j.isLt; omega)
      rw [Nat.count_succ, if_pos hk2.1] at h5
      omega

end Step

/-! ## The picks -/

open Classical in
/-- The `n`-th true candidate. -/
def nth (p : ℕ → Prop) [DecidablePred p] (n : ℕ) : ℕ := if h : ∃ k, p k ∧ Nat.count p k = n then Nat.find h else 0

theorem nth_count (p : ℕ → Prop) [DecidablePred p] (k : ℕ) (h : p k) : nth p (Nat.count p k) = k := by
  classical
  have hex : ∃ k', p k' ∧ Nat.count p k' = Nat.count p k := ⟨k, h, rfl⟩
  unfold nth
  rw [dif_pos hex]
  have := Nat.find_spec hex
  exact Nat.count_injective this.1 h this.2

/-- The candidate that query slot `n` names: the `n`-th true one, the first true one past their number, the last
    candidate if there is none. -/
def sel (p : ℕ → Prop) [DecidablePred p] (n : ℕ) : ℕ :=
  if n < Nat.count p 1024 then nth p n else if 0 < Nat.count p 1024 then nth p 0 else 1023

theorem exists_of_lt_count (p : ℕ → Prop) [DecidablePred p] (n N : ℕ) (h : n < Nat.count p N) : ∃ k < N, p k ∧ Nat.count p k = n := by
  induction N with
  | zero => simp at h
  | succ N ih =>
    by_cases h2 : n < Nat.count p N
    · obtain ⟨k, hk, h3⟩ := ih h2
      exact ⟨k, by omega, h3⟩
    · rw [Nat.count_succ] at h
      by_cases hp : p N
      · rw [if_pos hp] at h
        exact ⟨N, by omega, hp, by omega⟩
      · rw [if_neg hp] at h; omega

theorem nth_lt (p : ℕ → Prop) [DecidablePred p] (n N : ℕ) (h : n < Nat.count p N) : nth p n < N := by
  obtain ⟨k, hk, hp, rfl⟩ := exists_of_lt_count p n N h
  rw [nth_count p k hp]; exact hk

theorem sel_lt (p : ℕ → Prop) [DecidablePred p] (n : ℕ) : sel p n < 1024 := by
  unfold sel
  split
  · next h => exact nth_lt p _ _ h
  · split
    · next h => exact nth_lt p _ _ h
    · omega

section Pick

variable (p : ℕ → Prop) [DecidablePred p] (b : BitVec 32)

/-- The list's entry for slot `n`, when it has one. -/
theorem list_entry (sent : BitVec 32) (fl : S32.Idx → BitVec 32) (hl : ListAt p b sent 1024 fl) (n : Fin 32) (h : n.val < Nat.count p 1024) :
    fl (entry n) = b + BitVec.ofNat 32 (nth p n.val) := by
  obtain ⟨k, hk, hpk, hcnt⟩ := exists_of_lt_count p n.val 1024 h
  have h1 := hl.1 k hk hpk (by omega)
  have h2 : nth p n.val = k := by rw [← hcnt, nth_count p k hpk]
  rw [h2, ← h1]
  congr 1
  exact congrArg entry (Fin.ext hcnt.symm)

/-- The head of the list. -/
theorem list_head (fl : S32.Idx → BitVec 32) (hl : ListAt p b (b + 1023#32) 1024 fl) :
    fl (entry 0) = b + BitVec.ofNat 32 (if 0 < Nat.count p 1024 then nth p 0 else 1023) := by
  split
  · next h => exact list_entry p b _ fl hl 0 h
  · next h => exact hl.2 (by omega)

/-- A pick in a lane. -/
theorem pick_lane (fl : S32.Idx → BitVec 32) (hl : ListAt p b (b + 1023#32) 1024 fl) (n : Fin 32) (ki kc first g : IVec S16 32) (x : S16.Idx)
    (hki : ki x = BitVec.ofNat 32 n.val) (hkc : kc x = BitVec.ofNat 32 (min (Nat.count p 1024) 32))
    (hg : g x = fl (entry n)) (hf : first x = fl (entry 0)) :
    pick ki kc first g x = b + BitVec.ofNat 32 (sel p n.val) := by
  have hn := n.isLt
  have hbit : extui 32 (cmpi .slt ki kc) natLt_1_32 x = if n.val < Nat.count p 1024 then 1#32 else 0#32 := by
    show (IntOp.cmpi .slt (ki x) (kc x)).setWidth 32 = _
    rw [hki, hkc, cmpi_slt_small _ _ (by omega) (by omega)]
    by_cases h : n.val < Nat.count p 1024
    · rw [if_pos h, if_pos (by omega)]; rfl
    · rw [if_neg h, if_neg (by omega)]; rfl
  show g x * extui 32 (cmpi .slt ki kc) natLt_1_32 x + first x * (1#32 - extui 32 (cmpi .slt ki kc) natLt_1_32 x) = _
  rw [hbit, hg, hf]
  unfold sel
  by_cases h : n.val < Nat.count p 1024
  · rw [if_pos h, if_pos h, list_entry p b _ fl hl n h]
    simp
  · rw [if_neg h, if_neg h, list_head p b fl hl]
    simp

end Pick

end Cert.Query
-- ==== Proof.Chunk.lean ====
/- One query point's list: the chunks of sixteen candidates, each appended. -/
module

public import proofs.«01_k».proof.Proof.Setup
public import proofs.«01_k».proof.Proof.Words
public import Idealize.ShloMosaic.Lib.Pipeline.Value

@[expose] public section

noncomputable section

namespace Cert.Query

open Cert.KernelIdeal
open Cert.KernelIdeal.Facts₀ Cert.KernelIdeal.Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid1.Coords)

/-- The sixteen distances a chunk reads decide its lanes. -/
theorem inBall_lane (D : Fin 1024 → F .f32) (dl : Vec F S1x16 .f32) (c : ℕ) (hc : c < 64)
    (h : ∀ j : Fin 16, dl (cell (a := 1) (b := 16) 0 j) = D ⟨16 * c + j.val, by omega⟩) (j : Fin 16) :
    inBall dl (lane j) = 1 ↔ near D (16 * c + j.val) := by
  have e : inBall dl (lane j) = FloatOps.cmpf .ole (D ⟨16 * c + j.val, by omega⟩) (radius (F := F)) := by
    show FloatOps.cmpf .ole (shapeCast S16 dl shapeCasts_S1x16_S16 (lane j)) (radius (F := F)) = _
    rw [shapeCast_apply dl shapeCasts_S1x16_S16 (lane j) (cell (a := 1) (b := 16) 0 j) ?_, h]
    rw [Shape.rowMajor_val_two, Shape.rowMajor_val_one]
    show 0 * 16 + j.val = j.val
    omega
  rw [e]
  constructor
  · exact fun h => ⟨by omega, h⟩
  · rintro ⟨_, h⟩; exact h

section Rules

theorem read_list (f : S32.Idx → BitVec 32) : (lstM.access (Rect.whole S32)).read (Elt F) f = f := Memref.read_access_whole (Elt F) cc1_scratch3 f
theorem write_list (f w : S32.Idx → BitVec 32) : (lstM.access (Rect.whole S32)).write (Elt F) f w Finset.univ = w :=
  Memref.write_access_whole_univ (Elt F) cc1_scratch3 f w
theorem set_list : (lstM.access (Rect.whole S32)).set = Finset.univ := Memref.set_access_whole cc1_scratch3
theorem read_cand (f : S1024.Idx → BitVec 32) : (canM.access (Rect.whole S1024)).read (Elt F) f = f := Memref.read_access_whole (Elt F) cc1_scratch2 f

variable {α : Type} {Q : α → sProp (MT nD τ sig (HIx 1) (Elt F) ℕ UU ℕ)}

/-- An indexed load of the list. -/
theorem wp_lookList {t : Shape} {idxs : Fin S32.rank → IVec t 32} {h : ∀ a x, (idxs a x).toNat < S32.size a} {hl : (lstM).view.Loads}
    {k : Vec F t .i32 → Prog (TpuEff nD τ sig (Elt F) Λ₀ (tile d L).2) α} {f : S32.Idx → BitVec 32} :
    ((lstM).view.loc (tile d L) ↦{fullShare} f : sProp 𝕄)
      ⊢ iprop(((lstM.view.loc (tile d L) ↦{fullShare} f) -∗ wp frame (wpE (defs₀ (F := F)) 𝒱₀ (tile d L) none) Set.univ (k (loadIdx (F := F) (e := .i32) f idxs h)) Q)
        -∗ wp frame (wpE (defs₀ (F := F)) 𝒱₀ (tile d L) none) Set.univ (SparseCore.vectorLoadIdx lstM idxs h hl >>= k) Q) := by
  have e := SparseCore.wp_vectorLoadIdx (defs := defs₀ (F := F)) 𝒱₀ (tile d L) none Set.univ (base := lstM) (idxs := idxs) (h := h) (hl := hl) (k := k)
    (S := Finset.univ) (q := fullShare) (f := f) (Q := Q) (Finset.subset_univ _)
  rw [read_list] at e
  exact e

/-- An indexed load of the candidates. -/
theorem wp_lookCand {t : Shape} {idxs : Fin S1024.rank → IVec t 32} {h : ∀ a x, (idxs a x).toNat < S1024.size a} {hl : (canM).view.Loads}
    {k : Vec F t .i32 → Prog (TpuEff nD τ sig (Elt F) Λ₀ (tile d L).2) α} {f : S1024.Idx → BitVec 32} :
    ((canM).view.loc (tile d L) ↦{fullShare} f : sProp 𝕄)
      ⊢ iprop(((canM.view.loc (tile d L) ↦{fullShare} f) -∗ wp frame (wpE (defs₀ (F := F)) 𝒱₀ (tile d L) none) Set.univ (k (loadIdx (F := F) (e := .i32) f idxs h)) Q)
        -∗ wp frame (wpE (defs₀ (F := F)) 𝒱₀ (tile d L) none) Set.univ (SparseCore.vectorLoadIdx canM idxs h hl >>= k) Q) := by
  have e := SparseCore.wp_vectorLoadIdx (defs := defs₀ (F := F)) 𝒱₀ (tile d L) none Set.univ (base := canM) (idxs := idxs) (h := h) (hl := hl) (k := k)
    (S := Finset.univ) (q := fullShare) (f := f) (Q := Q) (Finset.subset_univ _)
  rw [read_cand] at e
  exact e

/-- An indexed store to the list. -/
theorem wp_putList {idxs : Fin S32.rank → IVec S16 32} {v : Vec F S16 .i32} {mask : IVec S16 1}
    {h : ∀ a x, (idxs a x).toNat < S32.size a} {hs : (lstM.access (.whole S32)).Stores Finset.univ}
    {k : PUnit → Prog (TpuEff nD τ sig (Elt F) Λ₀ (tile d L).2) α} {f : S32.Idx → BitVec 32} :
    ((lstM).view.loc (tile d L) ↦{fullShare} f : sProp 𝕄)
      ⊢ iprop(((lstM.view.loc (tile d L) ↦{fullShare} storeIdx (F := F) (e := .i32) (d := ![16]) f idxs v mask false h)
          -∗ wp frame (wpE (defs₀ (F := F)) 𝒱₀ (tile d L) none) Set.univ (k ⟨⟩) Q)
        -∗ wp frame (wpE (defs₀ (F := F)) 𝒱₀ (tile d L) none) Set.univ (SparseCore.vectorStoreIdx lstM idxs v mask false h hs >>= k) Q) := by
  have e := SparseCore.wp_vectorStoreIdx (defs := defs₀ (F := F)) 𝒱₀ (tile d L) none Set.univ (base := lstM) (idxs := idxs) (v := v) (mask := mask)
    (add := false) (h := h) (hs := hs) (k := k) (f := f) (Q := Q)
  rw [read_list, write_list, set_list] at e
  exact e

end Rules

theorem wp_chunk (p : Fin 8) (c : Fin 64) (b sent : BitVec 32) (fD : S8x1024.Idx → F .f32) (fg : S1024.Idx → BitVec 32) (fl : S32.Idx → BitVec 32)
    (hg : ∀ k : Fin 1024, fg (Shape.ofLane (d := ![1024]) k) = b + BitVec.ofNat 32 k.val)
    (hl : ListAt (near fun k => fD (cell (a := 8) (b := 1024) p k)) b sent (16 * c.val) fl) :
    iprop((blkM.view.loc (tile d L) ↦{fullShare} fD) ∗ (canM.view.loc (tile d L) ↦{fullShare} fg) ∗ (lstM.view.loc (tile d L) ↦{fullShare} fl))
      ⊢ (wp frame (wpE (defs₀ (F := F)) 𝒱₀ (tile d L) none) Set.univ
          (chunk L blkM canM lstM p c (offAt (near fun k => fD (cell (a := 8) (b := 1024) p k)) (16 * c.val)))
          fun off => iprop(⌜off = offAt (near fun k => fD (cell (a := 8) (b := 1024) p k)) (16 * (c.val + 1))⌝
            ∗ (blkM.view.loc (tile d L) ↦{fullShare} fD) ∗ (canM.view.loc (tile d L) ↦{fullShare} fg)
            ∗ ∃ fl' : S32.Idx → BitVec 32, ⌜ListAt (near fun k => fD (cell (a := 8) (b := 1024) p k)) b sent (16 * (c.val + 1)) fl'⌝
              ∗ (lstM.view.loc (tile d L) ↦{fullShare} fl')) : sProp 𝕄) := by
  unfold chunk
  simp only [Prog.bind_lift]
  iintro ⟨HD, HG, HL⟩
  iapply (wp_load_rect 𝒱₀ (tile d L) none Set.univ (f := fD) (Finset.subset_univ _)) $$ [HD]; · iexact HD
  iintro HD
  have hm := inBall_lane (fun k => fD (cell (a := 8) (b := 1024) p k))
    ((blkM.access (Rect.unit (s := S8x1024) ![p.val, 16 * c.val] S1x16.size (inb_dis p c))).read (Elt F) fD) c.val c.isLt (fun j => by
      refine (View.read_apply _ _).trans ((cast_eq _ _).trans (congrArg fD ?_))
      funext a
      match a with
      | ⟨0, _⟩ => exact Fin.ext (show p.val + 1 * 0 = p.val by omega)
      | ⟨1, _⟩ => exact Fin.ext (show 16 * c.val + 1 * j.val = 16 * c.val + j.val by omega))
  iapply (wp_assume 𝒱₀ (tile d L) none Set.univ (slot_inb _ _ c.val c.isLt hm))
  iapply (wp_load_rect 𝒱₀ (tile d L) none Set.univ (f := fg) (Finset.subset_univ _)) $$ [HG]; · iexact HG
  iintro HG
  iapply (wp_putList d L (f := fl)) $$ HL
  iintro HL
  rw [wp_pure]
  imodintro
  isplitr
  · ipureintro; exact bump_eq _ _ c.val hm
  isplitl [HD]; · iexact HD
  isplitl [HG]; · iexact HG
  iexists _
  isplitr
  swap
  · iexact HL
  ipureintro
  refine listAt_step (F := F) _ b sent _ c.val c.isLt hm fl _ (fun j => ?_) hl _
  refine ((View.read_apply _ _).trans ((cast_eq _ _).trans (congrArg fg ?_))).trans (hg ⟨16 * c.val + j.val, by omega⟩)
  funext a
  match a with
  | ⟨0, _⟩ => exact Fin.ext (show 16 * c.val + 1 * j.val = 16 * c.val + j.val by omega)

/-- The chunks from `c` on complete the list. -/
theorem wp_chunks (p : Fin 8) (b sent : BitVec 32) (fD : S8x1024.Idx → F .f32) (fg : S1024.Idx → BitVec 32)
    (hg : ∀ k : Fin 1024, fg (Shape.ofLane (d := ![1024]) k) = b + BitVec.ofNat 32 k.val) :
    ∀ (n c : ℕ) (h : c + n = 64) (off : IVec S16 32) (fl : S32.Idx → BitVec 32),
    off = offAt (near fun k => fD (cell (a := 8) (b := 1024) p k)) (16 * c) →
    ListAt (near fun k => fD (cell (a := 8) (b := 1024) p k)) b sent (16 * c) fl →
    (iprop((blkM.view.loc (tile d L) ↦{fullShare} fD) ∗ (canM.view.loc (tile d L) ↦{fullShare} fg) ∗ (lstM.view.loc (tile d L) ↦{fullShare} fl))
      ⊢ (wp frame (wpE (defs₀ (F := F)) 𝒱₀ (tile d L) none) Set.univ (chunks L blkM canM lstM p n c h off)
          fun off => iprop(⌜off = offAt (near fun k => fD (cell (a := 8) (b := 1024) p k)) 1024⌝
            ∗ (blkM.view.loc (tile d L) ↦{fullShare} fD) ∗ (canM.view.loc (tile d L) ↦{fullShare} fg)
            ∗ ∃ fl' : S32.Idx → BitVec 32, ⌜ListAt (near fun k => fD (cell (a := 8) (b := 1024) p k)) b sent 1024 fl'⌝
              ∗ (lstM.view.loc (tile d L) ↦{fullShare} fl')) : sProp 𝕄))
  | 0, c, h, off, fl, ho, hl => by
    obtain rfl : c = 64 := h
    subst ho
    rw [chunks, wp_ret]
    iintro ⟨HD, HG, HL⟩
    imodintro
    isplitr; · ipureintro; rfl
    isplitl [HD]; · iexact HD
    isplitl [HG]; · iexact HG
    iexists fl
    isplitr; · ipureintro; exact hl
    iexact HL
  | n + 1, c, h, off, fl, ho, hl => by
    subst ho
    rw [chunks, wp_bind]
    refine (wp_chunk d L p ⟨c, by omega⟩ b sent fD fg fl hg hl).trans (wp_mono frame _ _ fun off => ?_)
    iintro ⟨%ho, HD, HG, %fl', %hl', HL⟩
    iapply (wp_chunks p b sent fD fg hg n (c + 1) _ off fl' ho hl')
    isplitl [HD]; · iexact HD
    isplitl [HG]; · iexact HG
    iexact HL

end Cert.Query
-- ==== Proof.Fill.lean ====
/- The candidates' row numbers, written once, and the list's head reset before each query point. -/
module

public import proofs.«01_k».proof.Proof.Chunk

@[expose] public section

noncomputable section

namespace Cert.Query

open Cert.KernelIdeal
open Cert.KernelIdeal.Facts₀ Cert.KernelIdeal.Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A store of sixteen words from `o` on, read back. -/
theorem write_seg {k : Kind} {sp : Space} {N : ℕ} (v : View sig k sp (⟨1, ![N]⟩ : Shape) .i32) (o : ℕ)
    (inb : ∀ a, (![o] : Fin 1 → Nat) a + S16.size a ≤ (⟨1, ![N]⟩ : Shape).size a) (f : v.ty.Contents (Elt F)) (w : S16.Idx → BitVec 32) (n : Fin N) :
    v.read (Elt F) ((v.slice (Rect.unit (s := (⟨1, ![N]⟩ : Shape)) ![o] S16.size inb)).write (Elt F) f w Finset.univ) (Shape.ofLane (d := ![N]) n)
      = if h : o ≤ n.val ∧ n.val < o + 16 then w (lane ⟨n.val - o, by omega⟩) else v.read (Elt F) f (Shape.ofLane (d := ![N]) n) := by
  split
  · next h =>
    have e : (Shape.ofLane (d := ![N]) n : (⟨1, ![N]⟩ : Shape).Idx)
        = (Rect.unit (s := (⟨1, ![N]⟩ : Shape)) ![o] S16.size inb).emb (lane ⟨n.val - o, by omega⟩) := by
      funext a
      match a with
      | ⟨0, _⟩ => exact Fin.ext (show n.val = o + 1 * (n.val - o) by omega)
    rw [e, View.read_slice_write_emb _ _ _ (Finset.mem_univ _)]
  · next h =>
    refine View.read_slice_write_of_not_mem _ _ _ _ fun hm => h ?_
    obtain ⟨x, -, hx⟩ := Finset.mem_map.mp hm
    have hx0 : o + 1 * (x 0).val = n.val := congrArg (fun y : (⟨1, ![N]⟩ : Shape).Idx => (y 0).val) hx
    have := (x 0).isLt
    have h16 : (x 0).val < 16 := this
    omega

variable (d : Dev nD) (L : grid1.Coords)

/-- The fill, from the `c`-th sixteen on. -/
theorem wp_fillFrom (b : BitVec 32) : ∀ (n c : ℕ) (h : c + n = 64) (f : S1024.Idx → BitVec 32),
    (∀ k : Fin 1024, k.val < 16 * c → f (Shape.ofLane (d := ![1024]) k) = b + BitVec.ofNat 32 k.val) →
    ((canM.view.loc (tile d L) ↦{fullShare} f : sProp 𝕄)
      ⊢ wp frame (wpE (defs₀ (F := F)) 𝒱₀ (tile d L) none) Set.univ (fillFrom L canM b n c h)
          fun _ => iprop(∃ f' : S1024.Idx → BitVec 32, ⌜∀ k : Fin 1024, f' (Shape.ofLane (d := ![1024]) k) = b + BitVec.ofNat 32 k.val⌝
            ∗ (canM.view.loc (tile d L) ↦{fullShare} f')))
  | 0, c, h, f, hf => by
    obtain rfl : c = 64 := h
    rw [fillFrom, wp_ret]
    iintro H
    imodintro
    iexists f
    isplitr; · ipureintro; exact fun k => hf k (by omega)
    iexact H
  | n + 1, c, h, f, hf => by
    rw [fillFrom]
    simp only [Prog.bind_lift]
    iintro H
    iapply (wp_load_rect 𝒱₀ (tile d L) none Set.univ (f := f) (Finset.subset_univ _)) $$ [H]; · iexact H
    iintro H
    iapply (wp_store 𝒱₀ (tile d L) none Set.univ (f := f) (Finset.subset_univ _)) $$ [H]; · iexact H
    iintro H
    iapply (wp_fillFrom b n (c + 1) _ _ ?_) $$ H
    intro k hk
    refine (write_seg (F := F) (canM.view) (16 * c) (inb_gidx ⟨c, by omega⟩) f _ k).trans ?_
    split
    · next hh =>
      show iota .scVector S16 32 [0] iota_S16_d0_w32_scVector (lane ⟨k.val - 16 * c, _⟩) + (b + BitVec.ofNat 32 (16 * c)) = _
      rw [iota_single_apply, lane_zero_val]
      dsimp only
      rw [BitVec.add_comm, BitVec.add_assoc, ← BitVec.ofNat_add]
      congr 2; omega
    · next hh => exact hf k (by omega)

end Cert.Query
-- ==== Proof.GatherBatch.lean ====
/- Several indirect fetches outstanding on one semaphore: each fetch is a run of row transfers of one batch, so issuing
   it takes the batch's next rows, and the batch's waits deliver them. -/
module

public import Idealize.ShloMosaic.Lib.Batch
public import Idealize.ShloMosaic.Lib.SparseCore.Stream

@[expose] public section

noncomputable section

namespace Cert.Query

open Idealize.ShloMosaic Idealize.ShloMosaic.SparseCore
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA
open Idealize.ShloMosaic.Transfers

section Peel

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Member `j + k` of `n`, for `k` among the next `o`. -/
def nextOf {n : ℕ} (o j : ℕ) (h : j + o ≤ n) : Fin o ↪ Fin n where
  toFun k := ⟨j + k.val, by have := k.isLt; omega⟩
  inj' := fun a b hab => Fin.ext (by have := congrArg Fin.val hab; simp only at this; omega)

/-- The members of a family from the `j`-th on are the next `o` and those after them. -/
theorem pending_run {n : ℕ} (Φ : Fin n → sProp 𝕄) (o j : ℕ) (h : j + o ≤ n) :
    bigSep (pending j) Φ = iprop((bigSep Finset.univ fun k : Fin o => Φ (nextOf o j h k)) ∗ bigSep (pending (j + o)) Φ) := by
  have hset : pending (n := n) j = (Finset.univ.map (nextOf o j h)) ∪ pending (j + o) := by
    ext t
    rw [Finset.mem_union, Finset.mem_map]
    unfold pending
    rw [Finset.mem_filter, Finset.mem_filter]
    constructor
    · rintro ⟨-, ht⟩
      by_cases h2 : j + o ≤ t.val
      · exact .inr ⟨Finset.mem_univ _, h2⟩
      · exact .inl ⟨⟨t.val - j, by omega⟩, Finset.mem_univ _, Fin.ext (by change j + (t.val - j) = t.val; omega)⟩
    · rintro (⟨k, -, rfl⟩ | ⟨-, h2⟩)
      · exact ⟨Finset.mem_univ _, Nat.le_add_right _ _⟩
      · exact ⟨Finset.mem_univ _, by omega⟩
  have hdis : Disjoint (Finset.univ.map (nextOf o j h)) (pending (n := n) (j + o)) := by
    refine Finset.disjoint_left.mpr fun t ht ht' => ?_
    unfold pending at ht'
    obtain ⟨k, -, rfl⟩ := Finset.mem_map.mp ht
    have h2 : j + o ≤ j + k.val := (Finset.mem_filter.mp ht').2
    have := k.isLt
    omega
  rw [hset, BI.bigSep_union hdis, BI.bigSep_map]
  rfl

end Peel

section Issue

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Issuing an indirect fetch of `o` rows on a semaphore whose batch has `j` of its `n` row transfers issued: the batch
    goes to `j + o` issued. Each row takes its own share of the source, its own row of the destination and its own entry
    of the list, and what it leaves (the row written with the source row that its entry names) must give that
    transfer's stated delivery. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qk : Fin (s.size hg.axis') → PosShare TreeShare} {qo : PosShare TreeShare} {fs : Buf (Elt F) (src.view.loc c)}
    {fd : Buf (Elt F) (dst.view.loc c)} {fo : Buf (Elt F) (offs.view.loc c)}
    {n : ℕ} {D : Fin n → sProp 𝕄} {j u : ℕ} (ι : Ix) (N : ℕ)
    (hN : ∀ x, (dst.slice (s.rowRect hg.axis' x) (s.stride_rowRect hg.axis' x)).view.dmaCredit = N)
    (hin : ∀ x, (offs.view.read (Elt F) fo x).toNat < s₀.size hg.axis)
    (hj : j + s.size hg.axis' ≤ n) (hu : u ≤ j * N)
    (hD : ∀ x : Fin (s.size hg.axis'),
      iprop(((dst.view.loc c ↦[(dst.view.slice (s.rowRect hg.axis' x)).set]{fullShare}
              ((dst.view.slice (s.rowRect hg.axis' x)).write (Elt F) fd
                (fun y => src.view.read (Elt F) fs (hg.rowIdx (rows (offs.view.read (Elt F) fo) hn hin x) y)) Finset.univ))
            ∗ (offs.view.loc c ↦[{offs.view.emb (si.rowMajor.symm (x.cast hn.symm))}]{qo} fo))
          ∗ (src.view.loc c ↦[src.view.set]{qk x} fs)) ⊢ D (nextOf _ j hj x)) :
    iprop((bigSep Finset.univ fun x => src.view.loc c ↦[src.view.set]{qk x} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun x => gatherRow c src dst hg sem hsrc he hsp hr x (r x)
  have hA : S.RowsAgree := by
    intro x y z ρ ρ' h h'
    obtain ⟨_, _, rfl⟩ := Option.map_eq_some_iff.mp h
    obtain ⟨_, _, rfl⟩ := Option.map_eq_some_iff.mp h'
    rfl
  have hrd : ∀ x, S.row x (S.word fo x) = some (rd x) := fun x => by
    change (rowOf (s₀.size hg.axis) (offs.view.read (Elt F) fo (S.entry x))).map _ = _
    rw [rowOf_of_lt (hin _)]; rfl
  have hen : Function.Bijective S.entry :=
    (si.rowMajor.symm.bijective.comp (finCongr hn.symm).bijective)
  have hsum : ∑ x, (rd x).dst.view.dmaCredit = s.size hg.axis' * N := by
    refine (Finset.sum_congr rfl (g := fun _ => N) fun x _ => hN x).trans ?_
    rw [Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_run (fun t => count EC (γ t) 0) (s.size hg.axis') j hj)) $$ HI
  icases HI' with ⟨Hnow, HI⟩
  ihave Hd' := (Entails.of_eq (pointsTo_rows c dst.view hg.axis' fullShare fd)) $$ Hd
  ihave Ho' := (Entails.of_eq (pointsTo_entries c offs.view S.entry hen qo fo)) $$ Ho
  iapply (wp_enqueueIndirectDma 𝒱 c bd Set.univ (qo := qo) (fo := fo) (rd := rd) ι (s.size hg.axis' * N) hA hrd hsum) $$ [Hd' Ho' Hs Hnow]
  · have hrow : ∀ x : Fin (s.size hg.axis'), iprop(inv κ (batchBody EC (c, SemLoc.dma sem) N D γ γ₀)
          ∗ ((((dst.view.loc c ↦[(dst.view.slice (s.rowRect hg.axis' x)).set]{fullShare} fd) ∗ S.heldEntry qo fo x)
          ∗ (src.view.loc c ↦[src.view.set]{qk x} fs)) ∗ count EC (γ (nextOf _ j hj x)) 0))
        ⊢ iprop(S.heldEntry qo fo x ∗ (S.heldEntry qo fo x -∗ rowRes c (rd x))) := fun x => by
      iintro ⟨#Hinv, ⟨⟨Hr, He⟩, Hsq⟩, Hγj⟩
      isplitl [He]; · iexact He
      iintro He
      unfold rowRes
      iexists qk x, fs, iprop((dst.view.loc c ↦[(dst.view.slice (s.rowRect hg.axis' x)).set]{fullShare} ((dst.view.slice (s.rowRect hg.axis' x)).write (Elt F) fd
                (fun y => src.view.read (Elt F) fs (hg.rowIdx (r x) y)) Finset.univ)) ∗ S.heldEntry qo fo x)
      isplitl [Hsq]; · iexact Hsq
      isplitl [Hr He]
      · iapply writeUpdate_frame
        isplitl [Hr]
        · iapply (pointsTo_writeUpdate c (v := dst.view.slice (s.rowRect hg.axis' x)) subset_rfl) $$ Hr
        · iexact He
      · have hc := batch_creditUpdate EC (g := (c, SemLoc.dma sem)) (N := N) (D := D) (γ := γ) (γ₀ := γ₀) (ι := κ)
          (nextOf _ j hj x) (hD x)
        rw [← hN x] at hc
        iapply hc
        rw [hN x]
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs]; · isplitl [H1] <;> iassumption
    ihave H3 := Transfers.bigSep_sep_in _ _ _ $$ [H2 Hnow]; · isplitl [H2] <;> iassumption
    iapply (Transfers.bigSep_mono_pers Finset.univ _ _ _ fun x _ => hrow x)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

/-- The same with the gather last in its program. -/
theorem wp_gatherBatch_last [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {Q : PUnit → sProp 𝕄}
    {qk : Fin (s.size hg.axis') → PosShare TreeShare} {qo : PosShare TreeShare} {fs : Buf (Elt F) (src.view.loc c)}
    {fd : Buf (Elt F) (dst.view.loc c)} {fo : Buf (Elt F) (offs.view.loc c)}
    {n : ℕ} {D : Fin n → sProp 𝕄} {j u : ℕ} (ι : Ix) (N : ℕ)
    (hN : ∀ x, (dst.slice (s.rowRect hg.axis' x) (s.stride_rowRect hg.axis' x)).view.dmaCredit = N)
    (hin : ∀ x, (offs.view.read (Elt F) fo x).toNat < s₀.size hg.axis)
    (hj : j + s.size hg.axis' ≤ n) (hu : u ≤ j * N)
    (hD : ∀ x : Fin (s.size hg.axis'),
      iprop(((dst.view.loc c ↦[(dst.view.slice (s.rowRect hg.axis' x)).set]{fullShare}
              ((dst.view.slice (s.rowRect hg.axis' x)).write (Elt F) fd
                (fun y => src.view.read (Elt F) fs (hg.rowIdx (rows (offs.view.read (Elt F) fo) hn hin x) y)) Finset.univ))
            ∗ (offs.view.loc c ↦[{offs.view.emb (si.rowMajor.symm (x.cast hn.symm))}]{qo} fo))
          ∗ (src.view.loc c ↦[src.view.set]{qk x} fs)) ⊢ D (nextOf _ j hj x)) :
    iprop((bigSep Finset.univ fun x => src.view.loc c ↦[src.view.set]{qk x} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ Q ⟨⟩)
          -∗ wp frame (wpE defs 𝒱 c bd) Set.univ (enqueueIndirectGather hp src dst hg offs hn sem hsrc he hsp hr) Q) := by
  have h := wp_gatherBatch (defs := defs) (sem := sem) EC 𝒱 c bd (k := pure) (Q := Q) (hp := hp) (hsrc := hsrc) (he := he) (hsp := hsp) (hr := hr) ι N hN hin hj hu hD
  rw [bind_pure] at h
  iintro H Hk
  iapply h $$ H
  iintro H
  rw [wp_pure]
  imodintro
  iapply Hk
  iexact H

end Issue

end Cert.Query
-- ==== Proof.Half.lean ====
/- One half of a query point: sixteen rows picked from the list, and the fetch of them issued. -/
module

public import proofs.«01_k».proof.Proof.Fill
public import proofs.«01_k».proof.Proof.GatherBatch

@[expose] public section

noncomputable section

namespace Cert.Query

open Cert.KernelIdeal
open Cert.KernelIdeal.Facts₀ Cert.KernelIdeal.Facts
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The candidate that entry `t` of a block's two hundred and fifty-six names. -/
def chosen (fD : S8x1024.Idx → F .f32) (t : Fin 256) : ℕ :=
  sel (near fun k => fD (cell (a := 8) (b := 1024) ⟨t.val / 32, by omega⟩ k)) (t.val % 32)

theorem chosen_lt (fD : S8x1024.Idx → F .f32) (t : Fin 256) : chosen fD t < 1024 := sel_lt _ _

/-- The row numbers of a block. -/
def finG (b : ℕ) (fD : S8x1024.Idx → F .f32) : S256.Idx → BitVec 32 := fun x => BitVec.ofNat 32 (b + chosen fD (x 0))

/-- The rows of a block. -/
def rowG (b : ℕ) (hb : b + 1024 ≤ 4096) (fD : S8x1024.Idx → F .f32) (fy : S4096x128.Idx → F .f32) : S256x128.Idx → F .f32 := fun x =>
  fy (cell (a := 4096) (b := 128) ⟨b + chosen fD (x 0), by have := chosen_lt fD (x 0); omega⟩ (x 1))

/-- Row `t` of the row buffer. -/
def rowSet (t : Fin 256) : Finset S256x128.Idx := Finset.univ.filter fun x => (x 0).val = t.val

variable (d : Dev nD) (L : grid1.Coords)

/-- What the transfer of row `t` brings: the row fetched, its entry of the index buffer and its share of the table. -/
def brought (b : ℕ) (hb : b + 1024 ≤ 4096) (fD : S8x1024.Idx → F .f32) (fy : S4096x128.Idx → F .f32) (qk : Fin 256 → PosShare TreeShare) (t : Fin 256) : sProp 𝕄 :=
  iprop(((rowM.view.loc (tile d L) ↦[rowSet t]{fullShare} rowG b hb fD fy) ∗ (finM.view.loc (tile d L) ↦[{Shape.ofLane (d := ![256]) t}]{fullShare} finG b fD))
    ∗ ((table tabM).view.loc (tile d L) ↦[(table tabM).view.set]{qk t} fy))

instance brought_storable (b : ℕ) (hb : b + 1024 ≤ 4096) (fD : S8x1024.Idx → F .f32) (fy : S4096x128.Idx → F .f32) (qk : Fin 256 → PosShare TreeShare) (t : Fin 256) :
    Storable (upEmb : UEmb _ 𝕄) (brought d L b hb fD fy qk t) := by
  have key : ∀ (ℓ : Loc nD τ sig) (I : Finset (Idx ℓ)) (q : PosShare TreeShare) (f : Buf (Elt F) ℓ), Storable (upEmb : UEmb _ 𝕄) (ℓ ↦[I]{q} f) := fun _ _ _ _ => inferInstance
  haveI h1 := key (rowM.view.loc (tile d L)) (rowSet t) fullShare (rowG b hb fD fy)
  haveI h2 := key (finM.view.loc (tile d L)) {Shape.ofLane (d := ![256]) t} fullShare (finG b fD)
  haveI h3 := key ((table tabM).view.loc (tile d L)) (table tabM).view.set (qk t) fy
  unfold brought
  infer_instance

/-- The transfers of one block on the row semaphore. -/
abbrev rowBatch (b : ℕ) (hb : b + 1024 ≤ 4096) (fD : S8x1024.Idx → F .f32) (fy : S4096x128.Idx → F .f32) (qk : Fin 256 → PosShare TreeShare) (j u : ℕ) : sProp 𝕄 :=
  Batch countersEmb (tile d L) (.dma cc1_scratch5.sem) (default : HIx 1) 4096 (brought d L b hb fD fy qk) j u

set_option maxRecDepth 16384 in
theorem row_credit (p : Fin 8) (h : Fin 2) (x : Fin 16) :
    ((rowPart rowM p h).slice (S16x128.rowRect 0 x) (S16x128.stride_rowRect 0 x)).view.dmaCredit = 4096 := by decide +revert

set_option maxRecDepth 16384 in
theorem wait_credit (p : Fin 8) (h : Fin 2) : (rowPart rowM p h).view.dmaCredit = 16 * 4096 := by decide +revert

/-- Entry `16h + x` of a point's thirty-two, as an entry of the block. -/
theorem half_inb (p : Fin 8) (h : Fin 2) : (32 * p.val + 16 * h.val) + 16 ≤ 256 := by have := p.isLt; have := h.isLt; omega

theorem chosen_half (fD : S8x1024.Idx → F .f32) (p : Fin 8) (h : Fin 2) (x : Fin 16) :
    chosen fD (nextOf 16 (32 * p.val + 16 * h.val) (half_inb p h) x) = sel (near fun k => fD (cell (a := 8) (b := 1024) p k)) (16 * h.val + x.val) := by
  have := x.isLt; have := h.isLt
  have e1 : (⟨(nextOf 16 (32 * p.val + 16 * h.val) (half_inb p h) x).val / 32, by have := (nextOf 16 (32 * p.val + 16 * h.val) (half_inb p h) x).isLt; omega⟩ : Fin 8) = p :=
    Fin.ext (show (32 * p.val + 16 * h.val + x.val) / 32 = p.val by omega)
  have e2 : (nextOf 16 (32 * p.val + 16 * h.val) (half_inb p h) x).val % 32 = 16 * h.val + x.val :=
    show (32 * p.val + 16 * h.val + x.val) % 32 = _ by omega
  unfold chosen
  rw [e2, e1]

theorem symm_lane (y : Fin S16.numel) : S16.rowMajor.symm y = lane ⟨y.val, y.isLt⟩ := by
  rw [Equiv.symm_apply_eq]
  refine Fin.ext ?_
  rw [Shape.rowMajor_val_one]
  rfl

/-- The row numbers of one half read as the row numbers of the block. -/
theorem pick_half (b : ℕ) (fD : S8x1024.Idx → F .f32) (p : Fin 8) (h : Fin 2) (fl : S32.Idx → BitVec 32)
    (hl : ListAt (near fun k => fD (cell (a := 8) (b := 1024) p k)) (BitVec.ofNat 32 b) (BitVec.ofNat 32 b + 1023#32) 1024 fl)
    (kc first : IVec S16 32) (hkc : ∀ x, kc x = BitVec.ofNat 32 (min (Nat.count (near fun k => fD (cell (a := 8) (b := 1024) p k)) 1024) 32))
    (hf : ∀ x, first x = fl (entry 0)) (hw) (x : Fin 16) :
    pick (addi (iota .scVector S16 32 [0] iota_S16_d0_w32_scVector) (broadcast S16 (BitVec.ofNat 32 (16 * h.val)))) kc first
      (loadIdx (F := F) (e := .i32) (s := S32) fl ![addi (iota .scVector S16 32 [0] iota_S16_d0_w32_scVector) (broadcast S16 (BitVec.ofNat 32 (16 * h.val)))] hw) (lane x)
      = BitVec.ofNat 32 (b + chosen fD (nextOf 16 (32 * p.val + 16 * h.val) (half_inb p h) x)) := by
  have h1 := h.isLt; have h2 := x.isLt
  have hki : (addi (iota .scVector S16 32 [0] iota_S16_d0_w32_scVector) (broadcast S16 (BitVec.ofNat 32 (16 * h.val)))) (lane x) = BitVec.ofNat 32 (16 * h.val + x.val) := by
    show iota .scVector S16 32 [0] iota_S16_d0_w32_scVector (lane x) + BitVec.ofNat 32 (16 * h.val) = _
    rw [iota_single_apply, lane_zero_val, ← BitVec.ofNat_add]
    congr 1; omega
  rw [pick_lane (near fun k => fD (cell (a := 8) (b := 1024) p k)) (BitVec.ofNat 32 b) fl hl ⟨16 * h.val + x.val, by omega⟩ _ kc first _ (lane x) hki (hkc _) ?_ (hf _),
    chosen_half, ← BitVec.ofNat_add]
  refine congrArg fl ?_
  funext a
  match a with
  | ⟨0, _⟩ =>
    refine Fin.ext ?_
    show ((addi (iota .scVector S16 32 [0] iota_S16_d0_w32_scVector) (broadcast S16 (BitVec.ofNat 32 (16 * h.val)))) (lane x)).toNat = 16 * h.val + x.val
    rw [hki, BitVec.toNat_ofNat, Nat.mod_eq_of_lt (by omega)]

theorem half_chk (h : Fin 2) : k1_chk2 (addi (iota .scVector S16 32 [0] iota_S16_d0_w32_scVector) (broadcast S16 (BitVec.ofNat 32 (16 * h.val)))) := by
  rw [k1_chk2.eq_1]
  intro a x
  match a with
  | ⟨0, _⟩ =>
    show (iota .scVector S16 32 [0] iota_S16_d0_w32_scVector x + BitVec.ofNat 32 (16 * h.val)).toNat < 32
    have h1 := h.isLt
    have h2 : (x 0).val < 16 := (x 0).isLt
    rw [iota_single_apply, ← BitVec.ofNat_add, BitVec.toNat_ofNat, Nat.mod_eq_of_lt (by omega)]
    omega

theorem set_fin (p : Fin 8) (h : Fin 2) (x : Fin 16) :
    (idxPart finM p h).view.emb (lane x) = Shape.ofLane (d := ![256]) (nextOf 16 (32 * p.val + 16 * h.val) (half_inb p h) x) := by
  funext a
  match a with
  | ⟨0, _⟩ => exact Fin.ext (show 32 * p.val + 16 * h.val + 1 * x.val = 32 * p.val + 16 * h.val + x.val by omega)

theorem set_row (p : Fin 8) (h : Fin 2) (x : Fin 16) :
    ((rowPart rowM p h).slice (S16x128.rowRect 0 x) (S16x128.stride_rowRect 0 x)).view.set = rowSet (nextOf 16 (32 * p.val + 16 * h.val) (half_inb p h) x) := by
  ext y
  unfold View.set rowSet
  rw [Finset.mem_map, Finset.mem_filter]
  constructor
  · rintro ⟨z, -, rfl⟩
    refine ⟨Finset.mem_univ _, ?_⟩
    show 32 * p.val + 16 * h.val + 1 * (x.val + 1 * (z 0).val) = 32 * p.val + 16 * h.val + x.val
    have : (z 0).val < 1 := (z 0).isLt
    omega
  · rintro ⟨-, hy⟩
    refine ⟨fun | ⟨0, _⟩ => (0 : Fin 1) | ⟨1, _⟩ => y 1, Finset.mem_univ _, ?_⟩
    have hy' : (y 0).val = 32 * p.val + 16 * h.val + x.val := hy
    funext a
    match a with
    | ⟨0, _⟩ => exact Fin.ext (show 32 * p.val + 16 * h.val + 1 * (x.val + 1 * 0) = (y 0).val by omega)
    | ⟨1, _⟩ => exact Fin.ext (show 0 + 1 * (0 + 1 * (y 1).val) = (y 1).val by omega)

/-- The fetch of one half, from its row numbers. -/
theorem wp_fetch (b : ℕ) (hb : b + 1024 ≤ 4096) (fD : S8x1024.Idx → F .f32) (fy : S4096x128.Idx → F .f32) (qk : Fin 256 → PosShare TreeShare)
    (p : Fin 8) (h : Fin 2) (fo : S256.Idx → BitVec 32) (fr : S256x128.Idx → F .f32)
    (hread : ∀ x : Fin 16, (idxPart finM p h).view.read (Elt F) fo (lane x) = BitVec.ofNat 32 (b + chosen fD (nextOf 16 (32 * p.val + 16 * h.val) (half_inb p h) x)))
    {hp hn he hsrc hsp hr} {Q : PUnit → sProp (MT nD τ sig (HIx 1) (Elt F) ℕ UU ℕ)} :
    (iprop(((idxPart finM p h).view.loc (tile d L) ↦[(idxPart finM p h).view.set]{fullShare} fo)
        ∗ ((rowPart rowM p h).view.loc (tile d L) ↦[(rowPart rowM p h).view.set]{fullShare} fr)
        ∗ (bigSep Finset.univ fun x : Fin 16 => (table tabM).view.loc (tile d L) ↦[(table tabM).view.set]{qk (nextOf 16 (32 * p.val + 16 * h.val) (half_inb p h) x)} fy)
        ∗ rowBatch d L b hb fD fy qk (32 * p.val + 16 * h.val) 0) : sProp 𝕄)
      ⊢ iprop((rowBatch d L b hb fD fy qk (32 * p.val + 16 * h.val + 16) 0 -∗ Q ⟨⟩)
        -∗ wp frame (wpE (defs₀ (F := F)) 𝒱₀ (tile d L) none) Set.univ
          (SparseCore.enqueueIndirectGather hp (table tabM) (rowPart rowM p h) gathers_S4096x128_S16x128 (idxPart finM p h) hn cc1_scratch5.sem hsrc he hsp hr) Q) := by
  have hc : ∀ t : Fin 256, chosen fD t < 1024 := chosen_lt fD
  have hin : ∀ x : S16.Idx, ((idxPart finM p h).view.read (Elt F) fo x).toNat < 4096 := fun x => by
    have := hc (nextOf 16 (32 * p.val + 16 * h.val) (half_inb p h) (x 0))
    refine lt_of_eq_of_lt ((congrArg (fun y => ((idxPart finM p h).view.read (Elt F) fo y).toNat) (eq_lane x)).trans ((congrArg BitVec.toNat (hread (x 0))).trans
      ((BitVec.toNat_ofNat _ _).trans (Nat.mod_eq_of_lt (by omega))))) ?_
    omega
  have hrow : ∀ x : Fin 16, (SparseCore.rows (F := F) ((idxPart finM p h).view.read (Elt F) fo) hn hin x).val = b + chosen fD (nextOf 16 (32 * p.val + 16 * h.val) (half_inb p h) x) := fun x => by
    have := hc (nextOf 16 (32 * p.val + 16 * h.val) (half_inb p h) x)
    show ((idxPart finM p h).view.read (Elt F) fo (S16.rowMajor.symm (x.cast hn.symm))).toNat = _
    refine (congrArg (fun y => ((idxPart finM p h).view.read (Elt F) fo y).toNat) (symm_lane _)).trans ((congrArg BitVec.toNat (hread x)).trans
      ((BitVec.toNat_ofNat _ _).trans (Nat.mod_eq_of_lt (by omega))))
  have h1 : ∀ x : Fin 16, ∀ y ∈ ((rowPart rowM p h).view.slice (S16x128.rowRect 0 x)).set,
      ((rowPart rowM p h).view.slice (S16x128.rowRect 0 x)).write (Elt F) fr
        (fun y => (table tabM).view.read (Elt F) fy (gathers_S4096x128_S16x128.rowIdx (SparseCore.rows (F := F) ((idxPart finM p h).view.read (Elt F) fo) hn hin x) y)) Finset.univ y
      = rowG b hb fD fy y := fun x y hy => by
    obtain ⟨z, -, rfl⟩ := Finset.mem_map.mp hy
    have hz : (z 0).val < 1 := (z 0).isLt
    refine (View.write_emb_of_mem _ _ (Finset.mem_univ z)).trans ((cast_eq _ _).trans ((View.read_apply _ _).trans ((cast_eq _ _).trans (congrArg fy ?_))))
    have ht : (⟨32 * p.val + 16 * h.val + 1 * (x.val + 1 * (z 0).val), by have := half_inb p h; have := x.isLt; omega⟩ : Fin 256)
        = nextOf 16 (32 * p.val + 16 * h.val) (half_inb p h) x := Fin.ext (show 32 * p.val + 16 * h.val + 1 * (x.val + 1 * (z 0).val) = 32 * p.val + 16 * h.val + x.val by omega)
    funext a
    match a with
    | ⟨0, _⟩ =>
      refine Fin.ext ?_
      show 0 + 1 * (gathers_S4096x128_S16x128.rowIdx (SparseCore.rows (F := F) ((idxPart finM p h).view.read (Elt F) fo) hn hin x) z 0).val
        = b + chosen fD (⟨32 * p.val + 16 * h.val + 1 * (x.val + 1 * (z 0).val), _⟩ : Fin 256)
      rw [ht, ← hrow x]
      have := congrArg Fin.val (gathers_S4096x128_S16x128.rowIdx_axis (SparseCore.rows (F := F) ((idxPart finM p h).view.read (Elt F) fo) hn hin x) z)
      refine ((Nat.zero_add _).trans (Nat.one_mul _)).trans this
    | ⟨1, _⟩ =>
      refine Fin.ext ?_
      show 0 + 1 * (gathers_S4096x128_S16x128.rowIdx (SparseCore.rows (F := F) ((idxPart finM p h).view.read (Elt F) fo) hn hin x) z 1).val = 0 + 1 * (0 + 1 * (z 1).val)
      have := gathers_S4096x128_S16x128.rowIdx_of_ne (SparseCore.rows (F := F) ((idxPart finM p h).view.read (Elt F) fo) hn hin x) z 1 (by decide)
      have e : (z (Fin.cast gathers_S4096x128_S16x128.1.symm 1)).val = (z 1).val := rfl
      have := this.trans e
      omega
  have h2 : ∀ x : Fin 16, fo (Shape.ofLane (d := ![256]) (nextOf 16 (32 * p.val + 16 * h.val) (half_inb p h) x))
      = finG b fD (Shape.ofLane (d := ![256]) (nextOf 16 (32 * p.val + 16 * h.val) (half_inb p h) x)) := fun x => by
    have e : fo ((idxPart finM p h).view.emb (lane x)) = BitVec.ofNat 32 (b + chosen fD (nextOf 16 (32 * p.val + 16 * h.val) (half_inb p h) x)) := hread x
    exact (congrArg fo (set_fin p h x)).symm.trans e
  iintro ⟨HF, HR, HT, HB⟩ Hk
  iapply (wp_gatherBatch_last countersEmb 𝒱₀ (tile d L) none (qk := fun x : Fin 16 => qk (nextOf 16 (32 * p.val + 16 * h.val) (half_inb p h) x)) (qo := fullShare)
    (D := brought d L b hb fD fy qk) (fs := fy) (fd := fr) (fo := fo) (u := 0) (default : HIx 1) 4096 (row_credit p h) hin (half_inb p h) (Nat.zero_le _) (fun x => ?_)) $$ [HF HR HT HB]
  · unfold brought
    refine BI.sep_mono (BI.sep_mono ?_ ?_) (BI.Entails.refl _)
    · exact BIBase.Entails.of_eq ((pointsTo_congr (h1 x)).trans (congrArg (fun I => ((rowM.view.loc (tile d L) ↦[I]{fullShare} rowG b hb fD fy : sProp 𝕄))) (set_row p h x)))
    · have e : (idxPart finM p h).view.emb (S16.rowMajor.symm (x.cast hn.symm)) = Shape.ofLane (d := ![256]) (nextOf 16 (32 * p.val + 16 * h.val) (half_inb p h) x) :=
        (congrArg _ (symm_lane _)).trans (set_fin p h x)
      refine (BIBase.Entails.of_eq (congrArg (fun y => ((finM.view.loc (tile d L) ↦[{y}]{fullShare} fo : sProp 𝕄))) e)).trans ?_
      refine BIBase.Entails.of_eq (pointsTo_congr fun y hy => ?_)
      rw [Finset.mem_singleton.mp hy]
      exact h2 x
  · isplitl [HT]; · iexact HT
    isplitl [HR]; · iexact HR
    isplitl [HF]; · iexact HF
    iexact HB
  iexact Hk

/-- One half of a point. -/
theorem wp_half (b : ℕ) (hb : b + 1024 ≤ 4096) (fD : S8x1024.Idx → F .f32) (fy : S4096x128.Idx → F .f32) (qk : Fin 256 → PosShare TreeShare)
    (p : Fin 8) (h : Fin 2) (fl : S32.Idx → BitVec 32) (ff : S256.Idx → BitVec 32) (fr : S256x128.Idx → F .f32)
    (hl : ListAt (near fun k => fD (cell (a := 8) (b := 1024) p k)) (BitVec.ofNat 32 b) (BitVec.ofNat 32 b + 1023#32) 1024 fl)
    (kc first : IVec S16 32) (hkc : ∀ x, kc x = BitVec.ofNat 32 (min (Nat.count (near fun k => fD (cell (a := 8) (b := 1024) p k)) 1024) 32))
    (hf : ∀ x, first x = fl (entry 0)) :
    iprop((lstM.view.loc (tile d L) ↦{fullShare} fl) ∗ ((idxPart finM p h).view.loc (tile d L) ↦[(idxPart finM p h).view.set]{fullShare} ff)
        ∗ ((rowPart rowM p h).view.loc (tile d L) ↦[(rowPart rowM p h).view.set]{fullShare} fr)
        ∗ (bigSep Finset.univ fun x : Fin 16 => (table tabM).view.loc (tile d L) ↦[(table tabM).view.set]{qk (nextOf 16 (32 * p.val + 16 * h.val) (half_inb p h) x)} fy)
        ∗ rowBatch d L b hb fD fy qk (32 * p.val + 16 * h.val) 0)
      ⊢ (wp frame (wpE (defs₀ (F := F)) 𝒱₀ (tile d L) none) Set.univ (half L tabM rowM lstM finM cc1_scratch5 p h kc first)
          fun _ => iprop((lstM.view.loc (tile d L) ↦{fullShare} fl) ∗ rowBatch d L b hb fD fy qk (32 * p.val + 16 * h.val + 16) 0) : sProp 𝕄) := by
  unfold half
  simp only [Prog.bind_lift]
  iintro ⟨HL, HF, HR, HT, HB⟩
  iapply (wp_assume 𝒱₀ (tile d L) none Set.univ (half_chk h))
  iapply (wp_lookList d L (f := fl)) $$ HL
  iintro HL
  iapply (wp_load_rect 𝒱₀ (tile d L) none Set.univ (S := (idxPart finM p h).view.set) (f := ff) (Finset.Subset.refl _)) $$ [HF]; · iexact HF
  iintro HF
  iapply (wp_store 𝒱₀ (tile d L) none Set.univ (S := (idxPart finM p h).view.set) (f := ff) (View.setOn_subset_set _ _)) $$ [HF]; · iexact HF
  iintro HF
  have hread : ∀ x : Fin 16, (idxPart finM p h).view.read (Elt F) ((finM.access (Rect.unit (s := S256) ![32 * p.val + 16 * h.val] S16.size (inb_half p h))).write (Elt F) ff
      (pick (addi (iota .scVector S16 32 [0] iota_S16_d0_w32_scVector) (broadcast S16 (BitVec.ofNat 32 (16 * h.val)))) kc first
      (loadIdx (F := F) (e := .i32) (s := S32) fl ![addi (iota .scVector S16 32 [0] iota_S16_d0_w32_scVector) (broadcast S16 (BitVec.ofNat 32 (16 * h.val)))] (k1_idx2_inb _ (half_chk h)))) Finset.univ) (lane x)
      = BitVec.ofNat 32 (b + chosen fD (nextOf 16 (32 * p.val + 16 * h.val) (half_inb p h) x)) := fun x => by
    refine (congrFun (View.read_write_univ _ _) (lane x)).trans ?_
    exact pick_half b fD p h fl hl kc first hkc hf _ x
  iapply (wp_fetch d L b hb fD fy qk p h _ fr hread) $$ [HF HR HT HB]
  · isplitl [HF]; · iexact HF
    isplitl [HR]; · iexact HR
    isplitl [HT]; · iexact HT
    iexact HB
  iintro HB
  isplitl [HL]; · iexact HL
  iexact HB

end Cert.Query
-- ==== Proof.Point.lean ====
/- One query point, and the eight of a block. -/
module

public import proofs.«01_k».proof.Proof.Half
public import proofs.«01_k».proof.Proof.Chunk

@[expose] public section

noncomputable section

namespace Cert.Query

open Cert.KernelIdeal
open Cert.KernelIdeal.Facts₀ Cert.KernelIdeal.Facts
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The entries of the index buffer from the `j`-th on. -/
def finRest (j : ℕ) : Finset S256.Idx := Finset.univ.filter fun x => j ≤ (x 0).val
/-- The rows of the row buffer from the `j`-th on. -/
def rowRest (j : ℕ) : Finset S256x128.Idx := Finset.univ.filter fun x => j ≤ (x 0).val

theorem mem_finPart (p : Fin 8) (h : Fin 2) (y : S256.Idx) :
    y ∈ (idxPart finM p h).view.set ↔ 32 * p.val + 16 * h.val ≤ (y 0).val ∧ (y 0).val < 32 * p.val + 16 * h.val + 16 := by
  refine Finset.mem_map.trans ⟨?_, ?_⟩
  · rintro ⟨z, -, rfl⟩
    have hz : (z 0).val < 16 := (z 0).isLt
    show 32 * p.val + 16 * h.val ≤ 32 * p.val + 16 * h.val + 1 * (z 0).val ∧ 32 * p.val + 16 * h.val + 1 * (z 0).val < _
    omega
  · rintro ⟨h1, h2⟩
    refine ⟨lane ⟨(y 0).val - (32 * p.val + 16 * h.val), by omega⟩, Finset.mem_univ _, ?_⟩
    funext a
    match a with
    | ⟨0, _⟩ => exact Fin.ext (show 32 * p.val + 16 * h.val + 1 * ((y 0).val - (32 * p.val + 16 * h.val)) = (y 0).val by omega)

theorem mem_rowPart (p : Fin 8) (h : Fin 2) (y : S256x128.Idx) :
    y ∈ (rowPart rowM p h).view.set ↔ 32 * p.val + 16 * h.val ≤ (y 0).val ∧ (y 0).val < 32 * p.val + 16 * h.val + 16 := by
  refine Finset.mem_map.trans ⟨?_, ?_⟩
  · rintro ⟨z, -, rfl⟩
    have hz : (z 0).val < 16 := (z 0).isLt
    show 32 * p.val + 16 * h.val ≤ 32 * p.val + 16 * h.val + 1 * (z 0).val ∧ 32 * p.val + 16 * h.val + 1 * (z 0).val < _
    omega
  · rintro ⟨h1, h2⟩
    refine ⟨cell (a := 16) (b := 128) ⟨(y 0).val - (32 * p.val + 16 * h.val), by omega⟩ (y 1), Finset.mem_univ _, ?_⟩
    funext a
    match a with
    | ⟨0, _⟩ => exact Fin.ext (show 32 * p.val + 16 * h.val + 1 * ((y 0).val - (32 * p.val + 16 * h.val)) = (y 0).val by omega)
    | ⟨1, _⟩ => exact Fin.ext (show 0 + 1 * (y 1).val = (y 1).val by omega)

theorem mem_finRest (j : ℕ) (y : S256.Idx) : y ∈ finRest j ↔ j ≤ (y 0).val := by simp [finRest]
theorem mem_rowRest (j : ℕ) (y : S256x128.Idx) : y ∈ rowRest j ↔ j ≤ (y 0).val := by simp [rowRest]

theorem finRest_sub (p : Fin 8) (h : Fin 2) : (idxPart finM p h).view.set ⊆ finRest (32 * p.val + 16 * h.val) :=
  fun y hy => (mem_finRest _ y).mpr ((mem_finPart p h y).mp hy).1
theorem rowRest_sub (p : Fin 8) (h : Fin 2) : (rowPart rowM p h).view.set ⊆ rowRest (32 * p.val + 16 * h.val) :=
  fun y hy => (mem_rowRest _ y).mpr ((mem_rowPart p h y).mp hy).1
theorem finRest_sdiff (p : Fin 8) (h : Fin 2) : finRest (32 * p.val + 16 * h.val) \ (idxPart finM p h).view.set = finRest (32 * p.val + 16 * h.val + 16) := by
  refine Finset.ext fun y => Finset.mem_sdiff.trans ?_
  rw [mem_finRest, mem_finRest]
  constructor
  · rintro ⟨h1, h2⟩
    by_contra hc
    exact h2 ((mem_finPart p h y).mpr ⟨h1, by omega⟩)
  · intro h1
    refine ⟨by omega, fun h2 => ?_⟩
    have := ((mem_finPart p h y).mp h2).2
    omega
theorem rowRest_sdiff (p : Fin 8) (h : Fin 2) : rowRest (32 * p.val + 16 * h.val) \ (rowPart rowM p h).view.set = rowRest (32 * p.val + 16 * h.val + 16) := by
  refine Finset.ext fun y => Finset.mem_sdiff.trans ?_
  rw [mem_rowRest, mem_rowRest]
  constructor
  · rintro ⟨h1, h2⟩
    by_contra hc
    exact h2 ((mem_rowPart p h y).mpr ⟨h1, by omega⟩)
  · intro h1
    refine ⟨by omega, fun h2 => ?_⟩
    have := ((mem_rowPart p h y).mp h2).2
    omega

variable (d : Dev nD) (L : grid1.Coords)

/-- What the fetches from the `j`-th on will use: their entries, their rows and their shares of the table. -/
def todo (fy : S4096x128.Idx → F .f32) (qk : Fin 256 → PosShare TreeShare) (j : ℕ) : sProp 𝕄 :=
  iprop((∃ ff : S256.Idx → BitVec 32, finM.view.loc (tile d L) ↦[finRest j]{fullShare} ff) ∗ (∃ fr : S256x128.Idx → F .f32, rowM.view.loc (tile d L) ↦[rowRest j]{fullShare} fr)
    ∗ bigSep (pending (n := 256) j) fun t => (table tabM).view.loc (tile d L) ↦[(table tabM).view.set]{qk t} fy)

theorem fin_split (p : Fin 8) (h : Fin 2) (ff : S256.Idx → BitVec 32) :
    (finM.view.loc (tile d L) ↦[finRest (32 * p.val + 16 * h.val)]{fullShare} ff : sProp 𝕄)
      ⊢ iprop(((idxPart finM p h).view.loc (tile d L) ↦[(idxPart finM p h).view.set]{fullShare} ff)
        ∗ (finM.view.loc (tile d L) ↦[finRest (32 * p.val + 16 * h.val + 16)]{fullShare} ff)) := by
  rw [← finRest_sdiff p h]
  exact (pointsTo_split_subset (finRest_sub p h)).1

theorem row_split (p : Fin 8) (h : Fin 2) (fr : S256x128.Idx → F .f32) :
    (rowM.view.loc (tile d L) ↦[rowRest (32 * p.val + 16 * h.val)]{fullShare} fr : sProp 𝕄)
      ⊢ iprop(((rowPart rowM p h).view.loc (tile d L) ↦[(rowPart rowM p h).view.set]{fullShare} fr)
        ∗ (rowM.view.loc (tile d L) ↦[rowRest (32 * p.val + 16 * h.val + 16)]{fullShare} fr)) := by
  rw [← rowRest_sdiff p h]
  exact (pointsTo_split_subset (rowRest_sub p h)).1

theorem wp_half_todo (b : ℕ) (hb : b + 1024 ≤ 4096) (fD : S8x1024.Idx → F .f32) (fy : S4096x128.Idx → F .f32) (qk : Fin 256 → PosShare TreeShare)
    (p : Fin 8) (h : Fin 2) (fl : S32.Idx → BitVec 32)
    (hl : ListAt (near fun k => fD (cell (a := 8) (b := 1024) p k)) (BitVec.ofNat 32 b) (BitVec.ofNat 32 b + 1023#32) 1024 fl)
    (kc first : IVec S16 32) (hkc : ∀ x, kc x = BitVec.ofNat 32 (min (Nat.count (near fun k => fD (cell (a := 8) (b := 1024) p k)) 1024) 32))
    (hf : ∀ x, first x = fl (entry 0)) :
    iprop((lstM.view.loc (tile d L) ↦{fullShare} fl) ∗ todo d L fy qk (32 * p.val + 16 * h.val)
        ∗ rowBatch d L b hb fD fy qk (32 * p.val + 16 * h.val) 0)
      ⊢ (wp frame (wpE (defs₀ (F := F)) 𝒱₀ (tile d L) none) Set.univ (half L tabM rowM lstM finM cc1_scratch5 p h kc first)
          fun _ => iprop((lstM.view.loc (tile d L) ↦{fullShare} fl) ∗ todo d L fy qk (32 * p.val + 16 * h.val + 16)
            ∗ rowBatch d L b hb fD fy qk (32 * p.val + 16 * h.val + 16) 0) : sProp 𝕄) := by
  unfold todo
  rw [pending_run _ 16 (32 * p.val + 16 * h.val) (half_inb p h)]
  iintro ⟨HL, ⟨⟨%ff, HF⟩, ⟨%fr, HR⟩, HT, HT'⟩, HB⟩
  ihave ⟨HF, HF'⟩ := (fin_split d L p h ff) $$ HF
  ihave ⟨HR, HR'⟩ := (row_split d L p h fr) $$ HR
  ihave HW := (wp_half d L b hb fD fy qk p h fl ff fr hl kc first hkc hf) $$ [HL HF HR HT HB]
  · isplitl [HL]; · iexact HL
    isplitl [HF]; · iexact HF
    isplitl [HR]; · iexact HR
    isplitl [HT]; · iexact HT
    iexact HB
  iapply (wp_wand _ _ _) $$ HW
  iintro %_ ⟨HL, HB⟩
  isplitl [HL]; · iexact HL
  isplitr [HB]
  swap
  · iexact HB
  isplitl [HF']; · iexists ff; iexact HF'
  isplitl [HR']; · iexists fr; iexact HR'
  iexact HT'

/-- The buffers a point works with. -/
def bench (b : ℕ) (fD : S8x1024.Idx → F .f32) (fg : S1024.Idx → BitVec 32) : sProp 𝕄 :=
  iprop((blkM.view.loc (tile d L) ↦{fullShare} fD) ∗ (canM.view.loc (tile d L) ↦{fullShare} fg) ∗ ∃ fl : S32.Idx → BitVec 32, lstM.view.loc (tile d L) ↦{fullShare} fl)

theorem list_fresh (p : ℕ → Prop) [DecidablePred p] (b : BitVec 32) (sent : IVec S16 32) (hs : ∀ x, sent x = b + 1023#32) (fl : S32.Idx → BitVec 32) (hi) :
    ListAt p b (b + 1023#32) (16 * 0)
      ((lstM.access (Rect.unit (s := S32) ![0] S16.size hi)).write (Elt F) fl sent Finset.univ) := by
  refine ⟨fun k hk => absurd hk (by omega), fun _ => ?_⟩
  have h := write_seg (F := F) lstM.view 0 hi fl sent 0
  rw [dif_pos ⟨by decide, by decide⟩, hs] at h
  exact h

theorem wp_point (b : ℕ) (hb : b + 1024 ≤ 4096) (fD : S8x1024.Idx → F .f32) (fy : S4096x128.Idx → F .f32) (qk : Fin 256 → PosShare TreeShare)
    (fg : S1024.Idx → BitVec 32) (hg : ∀ k : Fin 1024, fg (Shape.ofLane (d := ![1024]) k) = BitVec.ofNat 32 b + BitVec.ofNat 32 k.val)
    (sent : IVec S16 32) (hs : ∀ x, sent x = BitVec.ofNat 32 b + 1023#32) (hz : k1_chk2 (broadcast S16 0#32)) (p : Fin 8) :
    iprop(bench d L b fD fg ∗ todo d L fy qk (32 * p.val) ∗ rowBatch d L b hb fD fy qk (32 * p.val) 0)
      ⊢ (wp frame (wpE (defs₀ (F := F)) 𝒱₀ (tile d L) none) Set.univ
          (point L tabM blkM rowM canM lstM finM cc1_scratch5 sent (broadcast S16 0#32) hz p)
          fun _ => iprop(bench d L b fD fg ∗ todo d L fy qk (32 * (p.val + 1)) ∗ rowBatch d L b hb fD fy qk (32 * (p.val + 1)) 0) : sProp 𝕄) := by
  unfold point bench
  simp only [Prog.bind_lift]
  iintro ⟨⟨HD, HG, %fl, HL⟩, HT, HB⟩
  iapply (wp_load_rect 𝒱₀ (tile d L) none Set.univ (f := fl) (Finset.subset_univ _)) $$ [HL]; · iexact HL
  iintro HL
  iapply (wp_store 𝒱₀ (tile d L) none Set.univ (f := fl) (Finset.subset_univ _)) $$ [HL]; · iexact HL
  iintro HL
  rw [wp_bind]
  ihave HW := (wp_chunks d L p (BitVec.ofNat 32 b) (BitVec.ofNat 32 b + 1023#32) fD fg hg 64 0 rfl (broadcast S16 0#32) _ rfl (list_fresh (F := F) (near fun k => fD (cell (a := 8) (b := 1024) p k)) (BitVec.ofNat 32 b) sent hs fl inb_S32_S16_0)) $$ [HD HG HL]
  · isplitl [HD]; · iexact HD
    isplitl [HG]; · iexact HG
    iexact HL
  iapply (wp_wand _ _ _) $$ HW
  iintro %off ⟨%ho, HD, HG, %fl', %hl, HL⟩
  iapply (wp_lookList d L (f := fl')) $$ HL
  iintro HL
  have hkc : ∀ x, minsi off (broadcast S16 32#32) x = BitVec.ofNat 32 (min (Nat.count (near fun k => fD (cell (a := 8) (b := 1024) p k)) 1024) 32) := fun x => by
    subst ho
    have := count_le_self (near fun k => fD (cell (a := 8) (b := 1024) p k)) 1024
    exact minsi_small _ 32 (by omega) (by omega)
  have hf : ∀ x, loadIdx (F := F) (e := .i32) (s := S32) fl' ![broadcast S16 0#32] (k1_idx2_inb _ hz) x = fl' (entry 0) := fun x => by
    refine congrArg fl' ?_
    funext a
    match a with
    | ⟨0, _⟩ => rfl
  rw [wp_bind]
  ihave HW := (wp_half_todo d L b hb fD fy qk p 0 fl' hl _ _ hkc hf) $$ [HL HT HB]
  · isplitl [HL]; · iexact HL
    isplitl [HT]; · iexact HT
    iexact HB
  iapply (wp_wand _ _ _) $$ HW
  iintro %_ ⟨HL, HT, HB⟩
  ihave HW := (wp_half_todo d L b hb fD fy qk p 1 fl' hl _ _ hkc hf) $$ [HL HT HB]
  · isplitl [HL]; · iexact HL
    isplitl [HT]; · iexact HT
    iexact HB
  iapply (wp_wand _ _ _) $$ HW
  iintro %_ ⟨HL, HT, HB⟩
  isplitl [HD HG HL]
  · isplitl [HD]; · iexact HD
    isplitl [HG]; · iexact HG
    iexists fl'; iexact HL
  isplitl [HT]; · iexact HT
  iexact HB

/-- The points from `p` on. -/
theorem wp_points (b : ℕ) (hb : b + 1024 ≤ 4096) (fD : S8x1024.Idx → F .f32) (fy : S4096x128.Idx → F .f32) (qk : Fin 256 → PosShare TreeShare)
    (fg : S1024.Idx → BitVec 32) (hg : ∀ k : Fin 1024, fg (Shape.ofLane (d := ![1024]) k) = BitVec.ofNat 32 b + BitVec.ofNat 32 k.val)
    (sent : IVec S16 32) (hs : ∀ x, sent x = BitVec.ofNat 32 b + 1023#32) (hz : k1_chk2 (broadcast S16 0#32)) : ∀ (n p : ℕ) (h : p + n = 8),
    (iprop(bench d L b fD fg ∗ todo d L fy qk (32 * p) ∗ rowBatch d L b hb fD fy qk (32 * p) 0)
      ⊢ (wp frame (wpE (defs₀ (F := F)) 𝒱₀ (tile d L) none) Set.univ
          (points L tabM blkM rowM canM lstM finM cc1_scratch5 sent (broadcast S16 0#32) hz n p h)
          fun _ => iprop(bench d L b fD fg ∗ todo d L fy qk 256 ∗ rowBatch d L b hb fD fy qk 256 0) : sProp 𝕄))
  | 0, p, h => by
    obtain rfl : p = 8 := h
    rw [points, wp_ret]
    iintro H
    imodintro
    iexact H
  | n + 1, p, h => by
    rw [points, wp_bind]
    exact (wp_point d L b hb fD fy qk fg hg sent hs hz ⟨p, by omega⟩).trans (wp_mono frame _ _ fun _ => wp_points b hb fD fy qk fg hg sent hs hz n (p + 1) _)

end Cert.Query
-- ==== Proof.Block.lean ====
/- One block of eight query points: its distances copied in, its two hundred and fifty-six rows fetched, and the rows
   copied out. -/
module

public import proofs.«01_k».proof.Proof.Point

@[expose] public section

noncomputable section

namespace Cert.Query

open Cert.KernelIdeal
open Cert.KernelIdeal.Facts₀ Cert.KernelIdeal.Facts
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The rows gathered: row `r` is the table's row that entry `r % 32` of query point `r / 32` chooses in its batch. -/
def gathG (dis : S4096x1024.Idx → F .f32) (fy : S4096x128.Idx → F .f32) : S131072x128.Idx → F .f32 := fun x =>
  fy (cell (a := 4096) (b := 128)
    ⟨1024 * ((x 0).val / 32 / 1024) + sel (near fun k => dis (cell (a := 4096) (b := 1024) ⟨(x 0).val / 32, by have : (x 0).val < 131072 := (x 0).isLt; omega⟩ k)) ((x 0).val % 32),
      by have : (x 0).val < 131072 := (x 0).isLt
         have := sel_lt (near fun k => dis (cell (a := 4096) (b := 1024) ⟨(x 0).val / 32, by have : (x 0).val < 131072 := (x 0).isLt; omega⟩ k)) ((x 0).val % 32)
         omega⟩ (x 1))

/-- The first query point of a subcore. -/
def firstOf (L : grid1.Coords) : ℕ := 256 * (L 1).val + 128 * (L 0).val
/-- The first row of its batch. -/
def batchOf (L : grid1.Coords) : ℕ := 1024 * (firstOf L / 1024)

theorem firstOf_le (L : grid1.Coords) : firstOf L + 128 ≤ 4096 := by
  have h0 : (L 0).val < 2 := (L 0).isLt
  have h1 : (L 1).val < 16 := (L 1).isLt
  unfold firstOf; omega
theorem batchOf_le (L : grid1.Coords) : batchOf L + 1024 ≤ 4096 := by
  have := firstOf_le L
  unfold batchOf; omega

theorem trips_le (t : Fin k1_t1_loop.trips) : t.val < 16 := lt_of_lt_of_le t.isLt Gen.k1_t1_abs.2.1

/-- The rows a subcore writes. -/
def ownRows (L : grid1.Coords) : Finset S131072x128.Idx :=
  Finset.univ.filter fun x => 32 * firstOf L ≤ (x 0).val ∧ (x 0).val < 32 * firstOf L + 4096

abbrev disPart (L : grid1.Coords) (t : Fin k1_t1_loop.trips) : Memref sig .scVector .hbm S8x1024 .f32 :=
  disM.slice (Rect.unit (s := S4096x1024) (k1_off1 L t) S8x1024.size (k1_off1_inb L t)) (fun _ => rfl)
abbrev outPart (L : grid1.Coords) (t : Fin k1_t1_loop.trips) : Memref sig .scVector .hbm S256x128 .f32 :=
  outM.slice (Rect.unit (s := S131072x128) (k1_off2 L t) S256x128.size (k1_off2_inb L t)) (fun _ => rfl)

theorem off1_zero (L : grid1.Coords) (t : Fin k1_t1_loop.trips) : k1_off1 L t 0 = firstOf L + 8 * t.val := by rw [Gen.k1_off1_eq]; rfl
theorem off1_one (L : grid1.Coords) (t : Fin k1_t1_loop.trips) : k1_off1 L t 1 = 0 := by rw [Gen.k1_off1_eq]; rfl
theorem off2_zero (L : grid1.Coords) (t : Fin k1_t1_loop.trips) : k1_off2 L t 0 = 32 * firstOf L + 256 * t.val := by
  rw [Gen.k1_off2_eq]; show 8192 * (L 1).val + 4096 * (L 0).val + 256 * t.val = _; unfold firstOf; omega
theorem off2_one (L : grid1.Coords) (t : Fin k1_t1_loop.trips) : k1_off2 L t 1 = 0 := by rw [Gen.k1_off2_eq]; rfl

theorem mem_outPart (L : grid1.Coords) (t : Fin k1_t1_loop.trips) (y : S131072x128.Idx) :
    y ∈ (outPart L t).view.set ↔ 32 * firstOf L + 256 * t.val ≤ (y 0).val ∧ (y 0).val < 32 * firstOf L + 256 * t.val + 256 := by
  refine Finset.mem_map.trans ⟨?_, ?_⟩
  · rintro ⟨z, -, rfl⟩
    have hz : (z 0).val < 256 := (z 0).isLt
    have := off2_zero L t
    show 32 * firstOf L + 256 * t.val ≤ k1_off2 L t 0 + 1 * (z 0).val ∧ k1_off2 L t 0 + 1 * (z 0).val < _
    omega
  · rintro ⟨h1, h2⟩
    have e0 := off2_zero L t
    have e1 := off2_one L t
    refine ⟨cell (a := 256) (b := 128) ⟨(y 0).val - (32 * firstOf L + 256 * t.val), by omega⟩ (y 1), Finset.mem_univ _, ?_⟩
    funext a
    match a with
    | ⟨0, _⟩ => exact Fin.ext (show k1_off2 L t 0 + 1 * ((y 0).val - (32 * firstOf L + 256 * t.val)) = (y 0).val by omega)
    | ⟨1, _⟩ => exact Fin.ext (show k1_off2 L t 1 + 1 * (y 1).val = (y 1).val by omega)

theorem outPart_sub (L : grid1.Coords) (t : Fin k1_t1_loop.trips) : (outPart L t).view.set ⊆ ownRows L := fun y hy => by
  have h := (mem_outPart L t y).mp hy
  have := trips_le t
  exact Finset.mem_filter.mpr ⟨Finset.mem_univ _, by omega, by omega⟩

/-- The distances of a block, read from the matrix. -/
theorem read_dis (L : grid1.Coords) (t : Fin k1_t1_loop.trips) (dis : S4096x1024.Idx → F .f32) (p : Fin 8) (k : Fin 1024) :
    (disPart L t).view.read (Elt F) dis (cell (a := 8) (b := 1024) p k)
      = dis (cell (a := 4096) (b := 1024) ⟨firstOf L + 8 * t.val + p.val, by have := firstOf_le L; have := trips_le t; omega⟩ k) := by
  refine (View.read_apply _ _).trans ((cast_eq _ _).trans (congrArg dis ?_))
  have e0 := off1_zero L t
  have e1 := off1_one L t
  funext a
  match a with
  | ⟨0, _⟩ => exact Fin.ext (show k1_off1 L t 0 + 1 * p.val = firstOf L + 8 * t.val + p.val by omega)
  | ⟨1, _⟩ => exact Fin.ext (show k1_off1 L t 1 + 1 * k.val = k.val by omega)

/-- The block's rows are the rows gathered at the block's place. -/
theorem rowG_eq (L : grid1.Coords) (t : Fin k1_t1_loop.trips) (dis : S4096x1024.Idx → F .f32) (fy : S4096x128.Idx → F .f32) (z : S256x128.Idx) :
    rowG (batchOf L) (batchOf_le L) ((disPart L t).view.read (Elt F) dis) fy z = gathG dis fy ((outPart L t).view.emb z) := by
  have hz : (z 0).val < 256 := (z 0).isLt
  have e0 := off2_zero L t
  have e1 := off2_one L t
  have ht := trips_le t
  have hf := firstOf_le L
  have h8 : firstOf L % 128 = 0 := by unfold firstOf; omega
  have hr : (((outPart L t).view.emb z) 0).val = 32 * firstOf L + 256 * t.val + (z 0).val :=
    show k1_off2 L t 0 + 1 * (z 0).val = _ by omega
  unfold rowG gathG chosen
  refine congrArg fy ?_
  funext a
  match a with
  | ⟨0, _⟩ =>
    refine Fin.ext ?_
    show batchOf L + sel (near fun k => (disPart L t).view.read (Elt F) dis (cell (a := 8) (b := 1024) ⟨(z 0).val / 32, _⟩ k)) ((z 0).val % 32)
      = 1024 * ((((outPart L t).view.emb z) 0).val / 32 / 1024) + sel (near fun k => dis (cell (a := 4096) (b := 1024) ⟨(((outPart L t).view.emb z) 0).val / 32, _⟩ k)) ((((outPart L t).view.emb z) 0).val % 32)
    have hb : batchOf L = 1024 * ((((outPart L t).view.emb z) 0).val / 32 / 1024) := by
      rw [hr]; unfold batchOf; omega
    have hm : (z 0).val % 32 = (((outPart L t).view.emb z) 0).val % 32 := by rw [hr]; omega
    have hn : (fun k => (disPart L t).view.read (Elt F) dis (cell (a := 8) (b := 1024) ⟨(z 0).val / 32, by omega⟩ k))
        = fun k => dis (cell (a := 4096) (b := 1024) ⟨(((outPart L t).view.emb z) 0).val / 32, by rw [hr]; omega⟩ k) := by
      funext k
      rw [read_dis]
      refine congrArg dis (congrArg (fun r => cell (a := 4096) (b := 1024) r k) (Fin.ext ?_))
      show firstOf L + 8 * t.val + (z 0).val / 32 = (((outPart L t).view.emb z) 0).val / 32
      rw [hr]; omega
    rw [← hb, ← hm]
    congr 2
    exact congrArg near hn
  | ⟨1, _⟩ => exact Fin.ext (show (z 1).val = k1_off2 L t 1 + 1 * (z 1).val by omega)

variable (d : Dev nD) (L : grid1.Coords)

/-- The waits for the fetches from the `j`-th on. -/
theorem wp_waits (b : ℕ) (hb : b + 1024 ≤ 4096) (fD : S8x1024.Idx → F .f32) (fy : S4096x128.Idx → F .f32) (qk : Fin 256 → PosShare TreeShare)
    (O : CellTallies nD τ sig (HIx 1)) : ∀ (n j : ℕ) (h : j + n = 16) (W : Waits sig (HIx 1)),
    (iprop(MayWaits (tile d L) (default : HIx 1) O ∗ rowBatch d L b hb fD fy qk 256 (16 * 4096 * j) ∗ owes (tile d L) O W)
      ⊢ (wp frame (wpE (defs₀ (F := F)) 𝒱₀ (tile d L) none) Set.univ (waits L tabM rowM cc1_scratch5 n j h)
          fun _ => iprop(rowBatch d L b hb fD fy qk 256 (4096 * 256) ∗ ∃ W', ⌜∀ p ∈ W', p ∈ W ∨ p.2 = none⌝ ∗ owes (tile d L) O W') : sProp 𝕄))
  | 0, j, h, W => by
    obtain rfl : j = 16 := h
    rw [waits, wp_ret]
    iintro ⟨-, HB, HO⟩
    imodintro
    isplitl [HB]; · iexact HB
    iexists W
    isplit; · ipureintro; exact fun p hp => .inl hp
    iexact HO
  | n + 1, j, h, W => by
    rw [waits]
    simp only [SparseCore.waitIndirectGather, Prog.bind_lift]
    iintro ⟨#Hmw, HB, HO⟩
    iapply (Transfers.wp_waitBatchMulO countersEmb 𝒱₀ (tile d L) none (D := brought d L b hb fD fy qk) (j := 256) (u := 16 * 4096 * j) (default : HIx 1) 16 (wait_credit ⟨j / 2, by omega⟩ ⟨j % 2, by omega⟩) (by omega)) $$ [HB HO]
    · isplitl [HB]; · iexact HB
      isplitl [HO]; · iexact HO
      iapply (Transfers.MayWaits.elim (SemLoc.dma cc1_scratch5.sem)) $$ Hmw
    iintro ⟨HB, HO⟩
    rw [show 16 * 4096 * j + 16 * 4096 = 16 * 4096 * (j + 1) by omega]
    ihave HW := (wp_waits b hb fD fy qk O n (j + 1) _ _) $$ [HB HO]
    · isplitl []; · iexact Hmw
      isplitl [HB]; · iexact HB
      iexact HO
    iapply (wp_wand _ _ _) $$ HW
    iintro %_ ⟨HB, %W', %hW, HO⟩
    isplitl [HB]; · iexact HB
    iexists W'
    isplit
    · ipureintro
      intro p hp
      rcases hW p hp with hp | hp
      · rcases Finset.mem_insert.mp hp with hp | hp
        · exact .inr (hp ▸ rfl)
        · exact .inl hp
      · exact .inr hp
    iexact HO

theorem set_table : (table tabM).view.set = Finset.univ := by
  refine Finset.eq_univ_iff_forall.mpr fun y => Finset.mem_map.mpr ⟨y, Finset.mem_univ _, ?_⟩
  funext a
  match a with
  | ⟨0, _⟩ => exact Fin.ext (show 0 + 1 * (y 0).val = (y 0).val by omega)
  | ⟨1, _⟩ => exact Fin.ext (show 0 + 1 * (y 1).val = (y 1).val by omega)

/-- The share of the table that each row's fetch takes. -/
def tabShare (q : PosShare TreeShare) (t : Fin 256) : PosShare TreeShare := pieceOf q 256 (by decide) t

theorem tab_pieces (q : PosShare TreeShare) (fy : S4096x128.Idx → F .f32) :
    (tabM.view.loc (tile d L) ↦{q} fy : sProp 𝕄)
      = bigSep Finset.univ fun t : Fin 256 => (table tabM).view.loc (tile d L) ↦[(table tabM).view.set]{tabShare q t} fy :=
  (congrArg (fun I => (tabM.view.loc (tile d L) ↦[I]{q} fy : sProp 𝕄)) set_table.symm).trans (pointsTo_piecesOf _ _ (by decide) q)

theorem todo_intro (q : PosShare TreeShare) (fy : S4096x128.Idx → F .f32) :
    (iprop((∃ ff : S256.Idx → BitVec 32, finM.view.loc (tile d L) ↦{fullShare} ff) ∗ (∃ fr : S256x128.Idx → F .f32, rowM.view.loc (tile d L) ↦{fullShare} fr)
      ∗ (tabM.view.loc (tile d L) ↦{q} fy)) : sProp 𝕄) ⊢ todo d L fy (tabShare q) 0 := by
  have h1 : finRest 0 = Finset.univ := Finset.filter_true_of_mem fun _ _ => Nat.zero_le _
  have h2 : rowRest 0 = Finset.univ := Finset.filter_true_of_mem fun _ _ => Nat.zero_le _
  unfold todo
  rw [h1, h2, tab_pieces, bigSep_pending_zero]

theorem rows_union : (Finset.univ.biUnion rowSet : Finset S256x128.Idx) = Finset.univ :=
  Finset.eq_univ_iff_forall.mpr fun y => Finset.mem_biUnion.mpr ⟨y 0, Finset.mem_univ _, Finset.mem_filter.mpr ⟨Finset.mem_univ _, rfl⟩⟩

theorem fins_union : (Finset.univ.biUnion fun t : Fin 256 => ({Shape.ofLane (d := ![256]) t} : Finset S256.Idx)) = Finset.univ :=
  Finset.eq_univ_iff_forall.mpr fun y => Finset.mem_biUnion.mpr ⟨y 0, Finset.mem_univ _, Finset.mem_singleton.mpr (by
    funext a
    match a with
    | ⟨0, _⟩ => rfl)⟩

/-- All the fetches together: the row buffer filled, the index buffer and the table back. -/
theorem brought_all (b : ℕ) (hb : b + 1024 ≤ 4096) (fD : S8x1024.Idx → F .f32) (fy : S4096x128.Idx → F .f32) (q : PosShare TreeShare) :
    (bigSep Finset.univ (brought d L b hb fD fy (tabShare q)) : sProp 𝕄)
      ⊢ iprop(((rowM.view.loc (tile d L) ↦{fullShare} rowG b hb fD fy) ∗ (finM.view.loc (tile d L) ↦{fullShare} finG b fD)) ∗ (tabM.view.loc (tile d L) ↦{q} fy)) := by
  have e1 : (rowM.view.loc (tile d L) ↦{fullShare} rowG b hb fD fy : sProp 𝕄) = bigSep Finset.univ fun t => rowM.view.loc (tile d L) ↦[rowSet t]{fullShare} rowG b hb fD fy :=
    (congrArg (fun I => (rowM.view.loc (tile d L) ↦[I]{fullShare} rowG b hb fD fy : sProp 𝕄)) rows_union.symm).trans (pointsTo_biUnion _ _ fun t _ t' _ ht =>
      Finset.disjoint_left.mpr fun y hy hy' => ht (Fin.ext ((Finset.mem_filter.mp hy).2.symm.trans (Finset.mem_filter.mp hy').2)))
  have e2 : (finM.view.loc (tile d L) ↦{fullShare} finG b fD : sProp 𝕄) = bigSep Finset.univ fun t : Fin 256 => finM.view.loc (tile d L) ↦[{Shape.ofLane (d := ![256]) t}]{fullShare} finG b fD :=
    (congrArg (fun I => (finM.view.loc (tile d L) ↦[I]{fullShare} finG b fD : sProp 𝕄)) fins_union.symm).trans (pointsTo_biUnion _ _ fun t _ t' _ ht =>
      Finset.disjoint_left.mpr fun y hy hy' => ht (congrFun ((Finset.mem_singleton.mp hy).symm.trans (Finset.mem_singleton.mp hy')) 0))
  rw [e1, e2, tab_pieces]
  unfold brought
  rw [bigSep_sep', bigSep_sep']

/-- The state of a subcore before block `t`: the rows of the blocks before it are gathered. -/
def atBlock (qd qt : PosShare TreeShare) (dis : S4096x1024.Idx → F .f32) (fy : S4096x128.Idx → F .f32) (fg : S1024.Idx → BitVec 32)
    (O : CellTallies nD τ sig (HIx 1)) (W : Waits sig (HIx 1)) (t : ℕ) : sProp 𝕄 :=
  iprop(MayWaits (tile d L) (default : HIx 1) O ∗ (disM.view.loc (tile d L) ↦{qd} dis) ∗ (tabM.view.loc (tile d L) ↦{qt} fy)
    ∗ (∃ f : S131072x128.Idx → F .f32, ⌜∀ x ∈ ownRows L, (x 0).val < 32 * firstOf L + 256 * t → f x = gathG dis fy x⌝ ∗ (outM.view.loc (tile d L) ↦[ownRows L]{fullShare} f))
    ∗ (∃ fd : S8x1024.Idx → F .f32, blkM.view.loc (tile d L) ↦{fullShare} fd) ∗ (∃ fr : S256x128.Idx → F .f32, rowM.view.loc (tile d L) ↦{fullShare} fr)
    ∗ (canM.view.loc (tile d L) ↦{fullShare} fg) ∗ (∃ fl : S32.Idx → BitVec 32, lstM.view.loc (tile d L) ↦{fullShare} fl)
    ∗ (∃ ff : S256.Idx → BitVec 32, finM.view.loc (tile d L) ↦{fullShare} ff)
    ∗ semVal (tile d L, .dma cc1_scratch5.sem) 0 ∗ semVal (tile d L, .dma cc1_scoped0.sem) 0 ∗ semVal (tile d L, .dma cc1_scoped1.sem) 0
    ∗ ∃ W', ⌜∀ p ∈ W', p ∈ W ∨ p.2 = none⌝ ∗ owes (tile d L) O W')

theorem dis_split (qd : PosShare TreeShare) (dis : S4096x1024.Idx → F .f32) (t : Fin k1_t1_loop.trips) :
    (disM.view.loc (tile d L) ↦{qd} dis : sProp 𝕄) ⊣⊢ iprop(((disPart L t).view.loc (tile d L) ↦[(disPart L t).view.set]{qd} dis)
      ∗ (disM.view.loc (tile d L) ↦[Finset.univ \ (disPart L t).view.set]{qd} dis)) :=
  pointsTo_split_subset (Finset.subset_univ _)

/-- The rows gathered so far, after a block's rows are copied out. -/
theorem out_next (t : Fin k1_t1_loop.trips) (dis : S4096x1024.Idx → F .f32) (fy : S4096x128.Idx → F .f32) (f : S131072x128.Idx → F .f32)
    (hf : ∀ x ∈ ownRows L, (x 0).val < 32 * firstOf L + 256 * t.val → f x = gathG dis fy x) :
    ∀ x ∈ ownRows L, (x 0).val < 32 * firstOf L + 256 * (t.val + 1) →
      (outPart L t).view.write (Elt F) f (rowG (batchOf L) (batchOf_le L) ((disPart L t).view.read (Elt F) dis) fy) Finset.univ x = gathG dis fy x := by
  intro x hx hlt
  by_cases hm : x ∈ (outPart L t).view.set
  · obtain ⟨z, -, rfl⟩ := Finset.mem_map.mp hm
    exact (View.write_emb_of_mem _ _ (Finset.mem_univ z)).trans ((cast_eq _ _).trans (rowG_eq L t dis fy z))
  · refine (View.write_of_not_mem _ _ _ hm).trans (hf x hx ?_)
    by_contra hc
    exact hm ((mem_outPart L t x).mpr ⟨by omega, by omega⟩)

theorem blk_full (fd w : S8x1024.Idx → F .f32) :
    (blkM.view.loc (tile d L) ↦{fullShare} blkM.view.write (Elt F) fd w Finset.univ : sProp 𝕄) ⊢ (blkM.view.loc (tile d L) ↦{fullShare} w) :=
  BIBase.Entails.of_eq (congrArg (fun g => (blkM.view.loc (tile d L) ↦{fullShare} g : sProp 𝕄)) (View.write_whole_univ (Val := Elt F) cc1_scratch0 fd w))

theorem row_sub (fr : S256x128.Idx → F .f32) : (rowM.view.loc (tile d L) ↦{fullShare} fr : sProp 𝕄) ⊣⊢ (rowM.view.loc (tile d L) ↦[rowM.view.set]{fullShare} fr) :=
  have e := congrArg (fun I => (rowM.view.loc (tile d L) ↦[I]{fullShare} fr : sProp 𝕄)) (View.set_whole (cc1_scratch1 : Ref sig .scVector))
  ⟨BIBase.Entails.of_eq e.symm, BIBase.Entails.of_eq e⟩

theorem tallied {W W' : Waits sig (HIx 1)} {s : SemLoc sig} (h : ∀ p ∈ W', p ∈ W ∨ p.2 = none) : ∀ p ∈ insert (s, (default : HIx 1)) W', p ∈ W ∨ p.2 = none := fun p hp => by
  rcases Finset.mem_insert.mp hp with hp | hp
  · exact .inr (hp ▸ rfl)
  · exact h p hp

theorem tallied_trans {W W' W'' : Waits sig (HIx 1)} (h : ∀ p ∈ W', p ∈ W ∨ p.2 = none) (h' : ∀ p ∈ W'', p ∈ W' ∨ p.2 = none) : ∀ p ∈ W'', p ∈ W ∨ p.2 = none := fun p hp =>
  (h' p hp).elim (h p) .inr

set_option maxHeartbeats 1600000 in
/-- One block. -/
theorem wp_block (qd qt : PosShare TreeShare) (dis : S4096x1024.Idx → F .f32) (fy : S4096x128.Idx → F .f32) (fg : S1024.Idx → BitVec 32)
    (hg : ∀ k : Fin 1024, fg (Shape.ofLane (d := ![1024]) k) = BitVec.ofNat 32 (batchOf L) + BitVec.ofNat 32 k.val)
    (sent : IVec S16 32) (hs : ∀ x, sent x = BitVec.ofNat 32 (batchOf L) + 1023#32) (hz : k1_chk2 (broadcast S16 0#32))
    (O : CellTallies nD τ sig (HIx 1)) (W : Waits sig (HIx 1)) (t : Fin k1_t1_loop.trips) :
    (atBlock d L qd qt dis fy fg O W t.val : sProp 𝕄)
      ⊢ wp frame (wpE (defs₀ (F := F)) 𝒱₀ (tile d L) none) Set.univ
          (block L disM tabM outM blkM (Memref.isWhole_whole _) rowM (Memref.isWhole_whole _) canM lstM finM cc1_scratch5 cc1_scoped0 cc1_scoped1 sent (broadcast S16 0#32) hz t)
          fun _ => atBlock d L qd qt dis fy fg O W (t.val + 1) := by
  have hN0 : 0 < blkM.view.amount (.dma cc1_scoped0.sem) := View.amount_pos _ _ (by decide)
  have hN1 : 0 < (outPart L t).view.amount (.dma cc1_scoped1.sem) := View.amount_pos _ _ (by decide)
  unfold block atBlock
  simp only [Prog.bind_lift]
  iintro ⟨#Hmw, HD, HT, ⟨%f, %hf, HO⟩, ⟨%fd, HB⟩, HR, HC, HL, HF, Hs5, Hs0, Hs1, %W1, %hW1, HW⟩
  ihave ⟨HD, HD'⟩ := (dis_split d L qd dis t).1 $$ HD
  iapply (Transfers.wp_dmaLocal countersEmb 𝒱₀ (tile d L) none (q := qd) (fs := dis) (fd := fd) (Sd := Finset.univ) (default : HIx 1) _ rfl hN0 (Finset.subset_univ _)) $$ [HD HB Hs0]
  · isplitl [HD]; · iexact HD
    isplitl [HB]; · iexact HB
    iexact Hs0
  iintro Hfl
  iapply (Transfers.wp_waitLocalO countersEmb 𝒱₀ (tile d L) none (default : HIx 1) (rfl : _ = _)) $$ [Hfl HW]
  · isplitl [Hfl]; · iexact Hfl
    isplitl [HW]; · iexact HW
    iapply (Transfers.MayWaits.elim (SemLoc.dma cc1_scoped0.sem)) $$ Hmw
  iintro ⟨⟨HB, HD⟩, Hs0, HW⟩
  ihave HD := (dis_split d L qd dis t).2 $$ [HD HD']
  · isplitl [HD]; · iexact HD
    iexact HD'
  ihave HB := (blk_full d L fd _) $$ HB
  iapply (fupd_wp _ _ _ _)
  ihave HA := (Transfers.batch_alloc' countersEmb (tile d L) (sm := .dma cc1_scratch5.sem) (default : HIx 1) 4096
    (brought d L (batchOf L) (batchOf_le L) ((disPart L t).view.read (Elt F) dis) fy (tabShare qt)) (E := Set.univ)) $$ Hs5
  imod HA
  imodintro
  ihave HT := (todo_intro d L qt fy) $$ [HF HR HT]
  · isplitl [HF]; · iexact HF
    isplitl [HR]; · iexact HR
    iexact HT
  rw [wp_bind]
  ihave HP := (wp_points d L (batchOf L) (batchOf_le L) ((disPart L t).view.read (Elt F) dis) fy (tabShare qt) fg hg sent hs hz 8 0 rfl) $$ [HB HC HL HT HA]
  · isplitl [HB HC HL]
    · unfold bench
      isplitl [HB]; · iexact HB
      isplitl [HC]; · iexact HC
      iexact HL
    isplitl [HT]; · iexact HT
    iexact HA
  iapply (wp_wand _ _ _) $$ HP
  unfold bench
  iintro %_ ⟨⟨HB, HC, HL⟩, -, HA⟩
  rw [wp_bind]
  ihave HP := (wp_waits d L (batchOf L) (batchOf_le L) ((disPart L t).view.read (Elt F) dis) fy (tabShare qt) O 16 0 rfl _) $$ [HA HW]
  · isplitl []; · iexact Hmw
    isplitl [HA]; · iexact HA
    iexact HW
  iapply (wp_wand _ _ _) $$ HP
  iintro %_ ⟨HA, %W2, %hW2, HW⟩
  ihave HA := (Transfers.batch_collect' countersEmb (tile d L) (by decide)) $$ HA
  iapply (fupd_wp _ _ _ _)
  imod HA
  imodintro
  icases HA with ⟨HA, Hs5⟩
  ihave ⟨⟨HR, HF⟩, HT⟩ := (brought_all d L _ _ _ _ _) $$ HA
  ihave HR := (row_sub d L _).1 $$ HR
  iapply (Transfers.wp_dmaLocal countersEmb 𝒱₀ (tile d L) none (q := fullShare) (fd := f) (Sd := ownRows L) (default : HIx 1) _ rfl hN1 (outPart_sub L t)) $$ [HR HO Hs1]
  · isplitl [HR]; · iexact HR
    isplitl [HO]; · iexact HO
    iexact Hs1
  iintro Hfl
  iapply (Transfers.wp_waitLocalO countersEmb 𝒱₀ (tile d L) none (default : HIx 1) (rfl : _ = _)) $$ [Hfl HW]
  · isplitl [Hfl]; · iexact Hfl
    isplitl [HW]; · iexact HW
    iapply (Transfers.MayWaits.elim (SemLoc.dma cc1_scoped1.sem)) $$ Hmw
  iintro ⟨⟨HO, HR⟩, Hs1, HW⟩
  ihave HR := (row_sub d L _).2 $$ HR
  rw [wp_pure]
  imodintro
  isplitl []; · iexact Hmw
  isplitl [HD]; · iexact HD
  isplitl [HT]; · iexact HT
  isplitl [HO]
  · iexists _
    isplitr
    swap
    · iexact HO
    ipureintro
    exact out_next L t dis fy f hf
  isplitl [HB]; · iexists _; iexact HB
  isplitl [HR]; · iexists _; iexact HR
  isplitl [HC]; · iexact HC
  isplitl [HL]; · iexact HL
  isplitl [HF]; · iexists _; iexact HF
  isplitl [Hs5]; · iexact Hs5
  isplitl [Hs0]; · iexact Hs0
  isplitl [Hs1]; · iexact Hs1
  iexists _
  isplitr
  swap
  · iexact HW
  ipureintro
  exact tallied (tallied_trans (tallied hW1) hW2)

end Cert.Query
-- ==== Proof.Body.lean ====
module

public import proofs.«01_k».proof.Proof.Model
public import Idealize.ShloMosaic.Lib.Tactic

@[expose] public section
open Idealize.ShloMosaic.Tactic
noncomputable section
namespace Cert.Query
open Cert.KernelIdeal
open Idealize.ShloMosaic Idealize.SL.Sem
variable {F : FTy → Type} [FloatOps F]

set_option maxRecDepth 1000000 in
set_option maxHeartbeats 0 in
theorem body_eq (i : grid1.Coords)
  (arg2 : Memref sig .scVector .hbm S4096x1024 .f32) (harg2 : arg2.IsWhole) (arg3 : Memref sig .scVector .hbm S4096x128 .f32) (harg3 : arg3.IsWhole)
  (arg4 : Memref sig .scVector .hbm S131072x128 .f32) (harg4 : arg4.IsWhole) (arg5 : Memref sig .scVector .vmem S8x1024 .f32) (harg5 : arg5.IsWhole)
  (arg6 : Memref sig .scVector .vmem S256x128 .f32) (harg6 : arg6.IsWhole) (arg7 : Memref sig .scVector .vmem S1024 .i32) (harg7 : arg7.IsWhole)
  (arg8 : Memref sig .scVector .vmem S32 .i32) (harg8 : arg8.IsWhole) (arg9 : Memref sig .scVector .vmem S256 .i32) (harg9 : arg9.IsWhole)
  (arg10 r0 r1 : DmaSems sig S_) :
    cc1__sc_body (F := F) i arg2 harg2 arg3 harg3 arg4 harg4 arg5 harg5 arg6 harg6 arg7 harg7 arg8 harg8 arg9 harg9 arg10 r0 r1
      = body i arg2 arg3 arg4 arg5 harg5 arg6 harg6 arg7 arg8 arg9 arg10 r0 r1 := by sl_kernel_rfl

end Cert.Query
-- ==== Proof.Tile.lean ====
/- The whole body of a vector subcore: the candidates filled in, then the sixteen blocks. -/
module

public import proofs.«01_k».proof.Proof.Block
public import proofs.«01_k».proof.Proof.Body

@[expose] public section

noncomputable section

namespace Cert.Query

open Cert.KernelIdeal
open Cert.KernelIdeal.Facts₀ Cert.KernelIdeal.Facts
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

set_option maxRecDepth 16384 in
theorem bbase_val : ∀ (a : Fin 2) (c : Fin 16),
    (let w : BitVec 32 := Scalar.addi (Scalar.muli (BitVec.ofNat 32 c.val) 2#32) (BitVec.ofNat 32 a.val)
     Scalar.muli (Scalar.select
      (Scalar.andi
        (Scalar.cmpi .ne (Scalar.subi (Scalar.extui (Scalar.cmpi .sgt w 0#32) : BitVec 32) (Scalar.extui (Scalar.cmpi .slt w 0#32)))
          (Scalar.subi (Scalar.extui (Scalar.cmpi .sgt (8#32 : BitVec 32) 0#32)) (Scalar.extui (Scalar.cmpi .slt (8#32 : BitVec 32) 0#32))))
        (Scalar.cmpi .ne (Scalar.remsi w 8#32) 0#32))
      (Scalar.subi (Scalar.divsi w 8#32) 1#32) (Scalar.divsi w 8#32)) 1024#32) = BitVec.ofNat 32 (1024 * ((256 * c.val + 128 * a.val) / 1024)) := by
  decide

theorem bbase32_eq (L : grid1.Coords) : bbase32 L = BitVec.ofNat 32 (batchOf L) := bbase_val (L 0) (L 1)

theorem chk66_zero : k1_chk66 (broadcast S16 0#32) := by
  have h : ∀ (a : Fin 1) (x : S16.Idx), ((![broadcast S16 0#32] : Fin 1 → IVec S16 32) a x).toNat < S32.size a := fun a x =>
    match a with
    | ⟨0, _⟩ => (by decide : (0#32 : BitVec 32).toNat < 32)
  rw [k1_chk66.eq_1]
  exact ⟨h, h, h, h, h, h, h, h⟩

theorem chk1_last : k1_chk1 (broadcast S16 1023#32) := by
  rw [k1_chk1.eq_1]
  intro a x
  match a with
  | ⟨0, _⟩ => exact (by decide : (1023#32 : BitVec 32).toNat < 1024)

theorem trips_eq : Scf.trips k1_t1_loop.lb k1_t1_loop.ub k1_t1_loop.st = 16 := by decide

variable (d : Dev nD) (L : grid1.Coords)

/-- What a subcore starts from. -/
def atStart (qd qt : PosShare TreeShare) (dis : S4096x1024.Idx → F .f32) (fy : S4096x128.Idx → F .f32)
    (O : CellTallies nD τ sig (HIx 1)) (W : Waits sig (HIx 1)) : sProp 𝕄 :=
  iprop(MayWaits (tile d L) (default : HIx 1) O ∗ (disM.view.loc (tile d L) ↦{qd} dis) ∗ (tabM.view.loc (tile d L) ↦{qt} fy)
    ∗ (∃ f : S131072x128.Idx → F .f32, (outM.view.loc (tile d L) ↦[ownRows L]{fullShare} f))
    ∗ (∃ fd : S8x1024.Idx → F .f32, blkM.view.loc (tile d L) ↦{fullShare} fd) ∗ (∃ fr : S256x128.Idx → F .f32, rowM.view.loc (tile d L) ↦{fullShare} fr)
    ∗ (∃ fg : S1024.Idx → BitVec 32, canM.view.loc (tile d L) ↦{fullShare} fg) ∗ (∃ fl : S32.Idx → BitVec 32, lstM.view.loc (tile d L) ↦{fullShare} fl)
    ∗ (∃ ff : S256.Idx → BitVec 32, finM.view.loc (tile d L) ↦{fullShare} ff)
    ∗ semVal (tile d L, .dma cc1_scratch5.sem) 0 ∗ semVal (tile d L, .dma cc1_scoped0.sem) 0 ∗ semVal (tile d L, .dma cc1_scoped1.sem) 0
    ∗ owes (tile d L) O W)

/-- What it ends at. -/
def atEnd (qd qt : PosShare TreeShare) (dis : S4096x1024.Idx → F .f32) (fy : S4096x128.Idx → F .f32)
    (O : CellTallies nD τ sig (HIx 1)) (W : Waits sig (HIx 1)) : sProp 𝕄 :=
  iprop((disM.view.loc (tile d L) ↦{qd} dis) ∗ (tabM.view.loc (tile d L) ↦{qt} fy)
    ∗ (outM.view.loc (tile d L) ↦[ownRows L]{fullShare} gathG dis fy)
    ∗ (∃ fd : S8x1024.Idx → F .f32, blkM.view.loc (tile d L) ↦{fullShare} fd) ∗ (∃ fr : S256x128.Idx → F .f32, rowM.view.loc (tile d L) ↦{fullShare} fr)
    ∗ (∃ fg : S1024.Idx → BitVec 32, canM.view.loc (tile d L) ↦{fullShare} fg) ∗ (∃ fl : S32.Idx → BitVec 32, lstM.view.loc (tile d L) ↦{fullShare} fl)
    ∗ (∃ ff : S256.Idx → BitVec 32, finM.view.loc (tile d L) ↦{fullShare} ff)
    ∗ semVal (tile d L, .dma cc1_scratch5.sem) 0 ∗ semVal (tile d L, .dma cc1_scoped0.sem) 0 ∗ semVal (tile d L, .dma cc1_scoped1.sem) 0
    ∗ ∃ W', ⌜∀ p ∈ W', p ∈ W ∨ p.2 = none⌝ ∗ owes (tile d L) O W')

theorem atBlock_last (qd qt : PosShare TreeShare) (dis : S4096x1024.Idx → F .f32) (fy : S4096x128.Idx → F .f32) (fg : S1024.Idx → BitVec 32)
    (O : CellTallies nD τ sig (HIx 1)) (W : Waits sig (HIx 1)) :
    (atBlock d L qd qt dis fy fg O W 16 : sProp 𝕄) ⊢ atEnd d L qd qt dis fy O W := by
  unfold atBlock atEnd
  iintro ⟨-, HD, HT, ⟨%f, %hf, HO⟩, HB, HR, HC, HL, HF, Hs5, Hs0, Hs1, HW⟩
  isplitl [HD]; · iexact HD
  isplitl [HT]; · iexact HT
  isplitl [HO]
  · have e : (outM.view.loc (tile d L) ↦[ownRows L]{fullShare} f : sProp 𝕄) = (outM.view.loc (tile d L) ↦[ownRows L]{fullShare} gathG dis fy) :=
      pointsTo_congr fun x hx => hf x hx (by have := (Finset.mem_filter.mp hx).2.2; omega)
    iapply (BIBase.Entails.of_eq e)
    iexact HO
  isplitl [HB]; · iexact HB
  isplitl [HR]; · iexact HR
  isplitl [HC]; · iexists _; iexact HC
  isplitl [HL]; · iexact HL
  isplitl [HF]; · iexact HF
  isplitl [Hs5]; · iexact Hs5
  isplitl [Hs0]; · iexact Hs0
  isplitl [Hs1]; · iexact Hs1
  iexact HW

set_option maxHeartbeats 1600000 in
theorem wp_body (qd qt : PosShare TreeShare) (dis : S4096x1024.Idx → F .f32) (fy : S4096x128.Idx → F .f32)
    (O : CellTallies nD τ sig (HIx 1)) (W : Waits sig (HIx 1)) :
    (atStart d L qd qt dis fy O W : sProp 𝕄)
      ⊢ wp frame (wpE (defs₀ (F := F)) 𝒱₀ (tile d L) none) Set.univ
          (body L disM tabM outM blkM (Memref.isWhole_whole _) rowM (Memref.isWhole_whole _) canM lstM finM cc1_scratch5 cc1_scoped0 cc1_scoped1)
          fun _ => atEnd d L qd qt dis fy O W := by
  unfold body atStart
  rw [bbase32_eq, wp_bind]
  iintro ⟨Hmw, HD, HT, ⟨%f, HO⟩, HB, HR, ⟨%fg, HC⟩, HL, HF, Hs5, Hs0, Hs1, HW⟩
  ihave HP := (wp_fillFrom d L (BitVec.ofNat 32 (batchOf L)) 64 0 rfl fg (fun k hk => absurd hk (by omega))) $$ HC
  iapply (wp_wand _ _ _) $$ HP
  iintro %_ ⟨%fg', %hg, HC⟩
  simp only [Prog.bind_lift]
  iapply (wp_assume 𝒱₀ (tile d L) none Set.univ chk66_zero)
  iapply (wp_assume 𝒱₀ (tile d L) none Set.univ chk1_last)
  iapply (wp_lookCand d L (f := fg')) $$ HC
  iintro HC
  have hs : ∀ x, loadIdx (F := F) (e := .i32) (s := S1024) fg' ![broadcast S16 1023#32] (k1_idx1_inb _ chk1_last) x = BitVec.ofNat 32 (batchOf L) + 1023#32 := fun x => by
    refine (congrArg fg' ?_).trans (hg ⟨1023, by decide⟩)
    funext a
    match a with
    | ⟨0, _⟩ => rfl
  iapply (Scf.wp_for_bind frame (wpE (defs₀ (F := F)) 𝒱₀ (tile d L) none) Set.univ k1_t1_loop.lb k1_t1_loop.ub k1_t1_loop.st k1_t1_ok 0#32 _
    (fun t _ => atBlock d L qd qt dis fy fg' O W t) (fun t _ => wp_block d L qd qt dis fy fg' hg _ hs _ O W t)) $$ [Hmw HD HT HO HB HR HC HL HF Hs5 Hs0 Hs1 HW]
  · unfold atBlock
    isplitl [Hmw]; · iexact Hmw
    isplitl [HD]; · iexact HD
    isplitl [HT]; · iexact HT
    isplitl [HO]
    · iexists f
      isplitr
      swap
      · iexact HO
      ipureintro
      exact fun x hx hlt => absurd hlt (by have := (Finset.mem_filter.mp hx).2.1; omega)
    isplitl [HB]; · iexact HB
    isplitl [HR]; · iexact HR
    isplitl [HC]; · iexact HC
    isplitl [HL]; · iexact HL
    isplitl [HF]; · iexact HF
    isplitl [Hs5]; · iexact Hs5
    isplitl [Hs0]; · iexact Hs0
    isplitl [Hs1]; · iexact Hs1
    iexists W
    isplitr
    swap
    · iexact HW
    ipureintro
    exact fun p hp => .inl hp
  iintro %acc HI
  rw [trips_eq, wp_pure]
  imodintro
  iapply (atBlock_last d L qd qt dis fy fg' O W)
  iexact HI

end Cert.Query
-- ==== Proof.Launch.lean ====
/- The SparseCore call: what it takes and gives back, and each vector subcore's part of it. -/
module

public import proofs.«01_k».proof.Proof.Tile

@[expose] public section

noncomputable section

namespace Cert.Query

open Cert.KernelIdeal
open Cert.KernelIdeal.Facts₀ Cert.KernelIdeal.Facts
open Idealize.ShloMosaic
open Idealize.ShloMosaic.SparseCore (S V)
open Idealize.ShloMosaic.SparseCore.Cfg (HIx mem_ownCells ownCells ownSems0 ownBufs ownRefs)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The distances, the table and the gathered rows, as @main holds them. -/
abbrev disLoc (d : Dev nD) : Loc nD τ sig := (SparseCore.T d).loc main_v11
abbrev tabLoc (d : Dev nD) : Loc nD τ sig := (SparseCore.T d).loc main_v10
abbrev outLoc (d : Dev nD) : Loc nD τ sig := (SparseCore.T d).loc main_v12

/-- The grid point of vector subcore `i` of SparseCore `c`. -/
def spot (c : Fin 2) (i : Fin 16) : grid1.Coords := fun
  | 0 => c
  | 1 => i
  | ⟨_ + 2, h⟩ => absurd h (Nat.not_lt.2 (Nat.le_add_left _ _))

/-- Each subcore's share of the arrays that all of them read. -/
def sharing (c : Fin 2) (i : Fin 16) : PosShare TreeShare := pieceOf (pieceOf fullShare 2 (by decide) c) 16 (by decide) i

/-- What a subcore is handed and what it hands back. -/
def goP (dis : S4096x1024.Idx → F .f32) (fy : S4096x128.Idx → F .f32) (d : Dev nD) (c : Fin 2) (i : Fin 16) : sProp 𝕄 :=
  iprop((disLoc d ↦{sharing c i} dis) ∗ (tabLoc d ↦{sharing c i} fy) ∗ ∃ f : S131072x128.Idx → F .f32, outLoc d ↦[ownRows (spot c i)]{fullShare} f)
def tdP (dis : S4096x1024.Idx → F .f32) (fy : S4096x128.Idx → F .f32) (d : Dev nD) (c : Fin 2) (i : Fin 16) : sProp 𝕄 :=
  iprop((disLoc d ↦{sharing c i} dis) ∗ (tabLoc d ↦{sharing c i} fy) ∗ outLoc d ↦[ownRows (spot c i)]{fullShare} gathG dis fy)

instance goP_storable (dis : S4096x1024.Idx → F .f32) (fy : S4096x128.Idx → F .f32) (d : Dev nD) (c : Fin 2) (i : Fin 16) :
    BI.Storable (upEmb : UEmb _ 𝕄) (goP dis fy d c i) := by unfold goP; infer_instance
instance tdP_storable (dis : S4096x1024.Idx → F .f32) (fy : S4096x128.Idx → F .f32) (d : Dev nD) (c : Fin 2) (i : Fin 16) :
    BI.Storable (upEmb : UEmb _ 𝕄) (tdP dis fy d c i) := by unfold tdP; infer_instance

variable (vd : Dev nD → S4096x1024.Idx → F .f32) (vy : Dev nD → S4096x128.Idx → F .f32)

/-- The payloads of the one call. -/
def P : (K (F := F)).Pay (nD := nD) (Val := Elt F) (Name := ℕ) (U := UU) where
  st := fun q d c => match q with
    | 0 => bigSep Finset.univ fun i : Fin ((K (F := F)).nSub 0) => goP (vd d) (vy d) d (Fin.cast nCore_zero c) (Fin.cast nSub_zero i)
  dn := fun q d c => match q with
    | 0 => bigSep Finset.univ fun i : Fin ((K (F := F)).nSub 0) => tdP (vd d) (vy d) d (Fin.cast nCore_zero c) (Fin.cast nSub_zero i)
  go := fun q d c i => match q with
    | 0 => goP (vd d) (vy d) d (Fin.cast nCore_zero c) (Fin.cast nSub_zero i)
  td := fun q d c i => match q with
    | 0 => tdP (vd d) (vy d) d (Fin.cast nCore_zero c) (Fin.cast nSub_zero i)
  x := fun _ _ => iprop(emp)

instance P_storable : (P (F := F) vd vy).IsStorable where
  st q d c := match q with
    | 0 => (inferInstance : BI.Storable (upEmb : UEmb _ 𝕄)
      (bigSep Finset.univ fun i : Fin ((K (F := F)).nSub 0) => goP (vd d) (vy d) d (Fin.cast nCore_zero c) (Fin.cast nSub_zero i)))
  dn q d c := match q with
    | 0 => (inferInstance : BI.Storable (upEmb : UEmb _ 𝕄)
      (bigSep Finset.univ fun i : Fin ((K (F := F)).nSub 0) => tdP (vd d) (vy d) d (Fin.cast nCore_zero c) (Fin.cast nSub_zero i)))
  go q d c i := match q with
    | 0 => (inferInstance : BI.Storable (upEmb : UEmb _ 𝕄) (goP (vd d) (vy d) d (Fin.cast nCore_zero c) (Fin.cast nSub_zero i)))
  td q d c i := match q with
    | 0 => (inferInstance : BI.Storable (upEmb : UEmb _ 𝕄) (tdP (vd d) (vy d) d (Fin.cast nCore_zero c) (Fin.cast nSub_zero i)))

section Task

variable (d : Dev nD) (L : grid1.Coords)

abbrev cellA (d : Dev nD) (c : Fin τ.nSC) (i : Fin τ.nSub) : GSem nD τ sig := (V d c i, .dma cc1_scratch5.sem)
abbrev cellB (d : Dev nD) (c : Fin τ.nSC) (i : Fin τ.nSub) : GSem nD τ sig := (V d c i, .dma cc1_scoped0.sem)
abbrev cellC (d : Dev nD) (c : Fin τ.nSC) (i : Fin τ.nSub) : GSem nD τ sig := (V d c i, .dma cc1_scoped1.sem)

omit [FloatOps F] in
theorem ownSems0_tile :
    (ownSems0 (tile d L) : sProp 𝕄)
      = iprop(semVal (cellA d (cV L) (jV L)) 0 ∗ semVal (cellB d (cV L) (jV L)) 0 ∗ semVal (cellC d (cV L) (jV L)) 0
          ∗ bigSep ((((ownCells (tile d L)).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc1_scratch5.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc1_scoped0.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc1_scoped1.sem : SemLoc sig).isScoped .scVector = true; decide⟩⟩⟩)]

/-- A scratch buffer of the subcore, at some contents. -/
abbrev anyOf (r : Ref sig .scVector) : sProp 𝕄 := iprop(∃ f, (tile d L).loc r ↦{fullShare} f)
abbrev devOf (r : Ref sig .scVector) : DevRef τ sig := (Proc.scVector (cV L) (jV L)).devRef r

omit [FloatOps F] in
theorem devOf_ne {r r' : Ref sig .scVector} (h : r ≠ r') : devOf L r ≠ devOf L r' := fun e => absurd (Proc.devRef_injective _ e) h

omit [FloatOps F] in
theorem ownBufs_tile :
    (ownBufs (tile d L) : sProp 𝕄)
      = iprop(anyOf d L cc1_scratch0 ∗ anyOf d L cc1_scratch1 ∗ anyOf d L cc1_scratch2 ∗ anyOf d L cc1_scratch3 ∗ anyOf d L cc1_scratch4
          ∗ bigSep ((((((ownRefs (τ := τ) (.scVector (cV L) (jV L))).erase (devOf L cc1_scratch0)).erase (devOf L cc1_scratch1)).erase (devOf L cc1_scratch2)).erase
              (devOf L cc1_scratch3)).erase (devOf L cc1_scratch4))
              fun b => iprop(∃ f, ((d, b) : Loc nD τ sig) ↦{fullShare} f)) := by
  have m0 : devOf L cc1_scratch0 ∈ ownRefs (τ := τ) (.scVector (cV L) (jV L)) := SparseCore.Cfg.mem_ownRefs_of_owner (p := Proc.scVector (cV L) (jV L)) rfl
  have m1 : devOf L cc1_scratch1 ∈ ownRefs (τ := τ) (.scVector (cV L) (jV L)) := SparseCore.Cfg.mem_ownRefs_of_owner (p := Proc.scVector (cV L) (jV L)) rfl
  have m2 : devOf L cc1_scratch2 ∈ ownRefs (τ := τ) (.scVector (cV L) (jV L)) := SparseCore.Cfg.mem_ownRefs_of_owner (p := Proc.scVector (cV L) (jV L)) rfl
  have m3 : devOf L cc1_scratch3 ∈ ownRefs (τ := τ) (.scVector (cV L) (jV L)) := SparseCore.Cfg.mem_ownRefs_of_owner (p := Proc.scVector (cV L) (jV L)) rfl
  have m4 : devOf L cc1_scratch4 ∈ ownRefs (τ := τ) (.scVector (cV L) (jV L)) := SparseCore.Cfg.mem_ownRefs_of_owner (p := Proc.scVector (cV L) (jV L)) rfl
  unfold SparseCore.Cfg.ownBufs
  refine (SparseCore.bigSep_erase' m0).trans ?_
  rw [SparseCore.bigSep_erase' (Finset.mem_erase.mpr ⟨devOf_ne L (by decide), m1⟩),
    SparseCore.bigSep_erase' (Finset.mem_erase.mpr ⟨devOf_ne L (by decide), Finset.mem_erase.mpr ⟨devOf_ne L (by decide), m2⟩⟩),
    SparseCore.bigSep_erase' (Finset.mem_erase.mpr ⟨devOf_ne L (by decide), Finset.mem_erase.mpr ⟨devOf_ne L (by decide), Finset.mem_erase.mpr ⟨devOf_ne L (by decide), m3⟩⟩⟩),
    SparseCore.bigSep_erase' (Finset.mem_erase.mpr ⟨devOf_ne L (by decide), Finset.mem_erase.mpr ⟨devOf_ne L (by decide), Finset.mem_erase.mpr ⟨devOf_ne L (by decide),
      Finset.mem_erase.mpr ⟨devOf_ne L (by decide), m4⟩⟩⟩⟩)]

theorem tile_body (hF : (K (F := F)).Facts) (q : PosShare TreeShare) (dis : S4096x1024.Idx → F .f32) (fy : S4096x128.Idx → F .f32)
    (O : CellTallies nD τ sig (HIx 1)) (W : Waits sig (HIx 1)) (hO : ∀ g, O g none = 0) :
    iprop(levAts (K (F := F)).L (K (F := F)).lev ∗ emp
        ∗ ((disLoc d ↦{q} dis) ∗ (tabLoc d ↦{q} fy) ∗ ∃ f : S131072x128.Idx → F .f32, outLoc d ↦[ownRows L]{fullShare} f)
        ∗ scopedBufs (tile d L) ∗ scopedSems0 (tile d L) ∗ owes (tile d L) O W)
      ⊢ (wp frame (wpE (defs₀ (F := F)) 𝒱₀ (tile d L) none) Set.univ
          (cc1__sc_body L disM (Memref.isWhole_whole _) tabM (Memref.isWhole_whole _) outM (Memref.isWhole_whole _) blkM (Memref.isWhole_whole _)
            rowM (Memref.isWhole_whole _) canM (Memref.isWhole_whole _) lstM (Memref.isWhole_whole _) finM (Memref.isWhole_whole _)
            cc1_scratch5 cc1_scoped0 cc1_scoped1)
          fun _ => iprop(((disLoc d ↦{q} dis) ∗ (tabLoc d ↦{q} fy) ∗ outLoc d ↦[ownRows L]{fullShare} gathG dis fy)
            ∗ scopedBufs (tile d L) ∗ scopedSems0 (tile d L)
            ∗ ∃ W', ⌜∀ p ∈ W', p ∈ W ∨ p.2 = none⌝ ∗ owes (tile d L) O W') : sProp 𝕄) := by
  rw [body_eq, (K (F := F)).scopedBufs_V hF d (cV L) (jV L), SparseCore.Cfg.scopedSems0_V (Val := Elt F) d (cV L) (jV L), ownSems0_tile, ownBufs_tile]
  iintro ⟨#Hlv, -, ⟨HD, HT, HO⟩, ⟨H0, H1, H2, H3, H4, Hbufs⟩, ⟨HA, HB, HC, Hsems⟩, HW⟩
  ihave Hmw := (show levAts (K (F := F)).L (K (F := F)).lev ⊢ (MayWaits (tile d L) (default : HIx 1) O : sProp 𝕄) from
    (K (F := F)).mayWaits_none (thr := tile d L) hO) $$ Hlv
  ihave HX := (wp_body d L q q dis fy O W) $$ [HD HT HO H0 H1 H2 H3 H4 HA HB HC HW Hmw]
  · unfold atStart
    isplitl [Hmw]; · iexact Hmw
    isplitl [HD]; · iexact HD
    isplitl [HT]; · iexact HT
    isplitl [HO]; · iexact HO
    isplitl [H0]; · iexact H0
    isplitl [H1]; · iexact H1
    isplitl [H2]; · iexact H2
    isplitl [H3]; · iexact H3
    isplitl [H4]; · iexact H4
    isplitl [HA]; · iexact HA
    isplitl [HB]; · iexact HB
    isplitl [HC]; · iexact HC
    iexact HW
  iapply (wp_wand _ _ _) $$ HX
  unfold atEnd
  iintro %_ ⟨HD, HT, HO, H0, H1, H2, H3, H4, HA, HB, HC, HW⟩
  isplitl [HD HT HO]
  · isplitl [HD]; · iexact HD
    isplitl [HT]; · iexact HT
    iexact HO
  isplitl [H0 H1 H2 H3 H4 Hbufs]
  · isplitl [H0]; · iexact H0
    isplitl [H1]; · iexact H1
    isplitl [H2]; · iexact H2
    isplitl [H3]; · iexact H3
    isplitl [H4]; · iexact H4
    iexact Hbufs
  isplitl [HA HB HC Hsems]
  · isplitl [HA]; · iexact HA
    isplitl [HB]; · iexact HB
    isplitl [HC]; · iexact HC
    iexact Hsems
  iexact HW

end Task

theorem defs₀_vector (c : Fin τ.nSC) (s : Fin τ.nSub) :
    defs₀ (F := F) (.scVector c s) 1 ()
      = SparseCore.onTile hcore1 hsub1 (fun c s => cc1__sc_body (spot c s) disM (Memref.isWhole_whole _) tabM (Memref.isWhole_whole _) outM (Memref.isWhole_whole _)
          blkM (Memref.isWhole_whole _) rowM (Memref.isWhole_whole _) canM (Memref.isWhole_whole _) lstM (Memref.isWhole_whole _) finM (Memref.isWhole_whole _)
          cc1_scratch5 cc1_scoped0 cc1_scoped1) ⟨⟩ c s := rfl

omit [FloatOps F] in
theorem recorded_mono {thr : Thread nD τ} {A B C : sProp 𝕄} {O : CellTallies nD τ sig (HIx 1)} {W : Waits sig (HIx 1)} {q : Fin 1} :
    (iprop(A ∗ B ∗ C ∗ ∃ W', ⌜∀ p ∈ W', p ∈ W ∨ p.2 = none⌝ ∗ owes thr O W') : sProp 𝕄)
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

set_option maxRecDepth 16384 in
theorem tileObl (hF : (K (F := F)).Facts) : (K (F := F)).TileObl (D (F := F)) 𝒱 (P vd vy) v₀ 0 := by
  intro d c i O W hO _ _
  simp only [show (P vd vy).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (spot ⟨_, hci.1⟩ ⟨_, hci.2⟩) hF (sharing (Fin.cast nCore_zero c) (Fin.cast nSub_zero i)) (vd d) (vy d) O W hO).trans
    (wp_mono frame _ _ fun _ => recorded_mono)

/-- A core's payload is its subcores' payloads. -/
theorem vecSplit : (K (F := F)).VecSplit' (P vd vy) 0 := by
  intro d c
  show (bigSep Finset.univ fun i : Fin ((K (F := F)).nSub 0) => goP (vd d) (vy d) d (Fin.cast nCore_zero c) (Fin.cast nSub_zero i)) ⊢ |={Set.univ}=> iprop(
      (bigSep Finset.univ fun i : Fin ((K (F := F)).nSub 0) => goP (vd d) (vy d) d (Fin.cast nCore_zero c) (Fin.cast nSub_zero i))
      ∗ ((bigSep Finset.univ fun i : Fin ((K (F := F)).nSub 0) => tdP (vd d) (vy d) d (Fin.cast nCore_zero c) (Fin.cast nSub_zero i))
          -∗ (bigSep Finset.univ fun i : Fin ((K (F := F)).nSub 0) => tdP (vd d) (vy d) d (Fin.cast nCore_zero c) (Fin.cast nSub_zero i))))
  iintro H; imodintro
  isplitl [H]; · iexact H
  iintro H; iexact H

end Cert.Query
-- ==== Proof.Deal.lean ====
/- The arrays of the SparseCore call dealt to the subcores, and put together again. -/
module

public import proofs.«01_k».proof.Proof.Launch

@[expose] public section

noncomputable section

namespace Cert.Query

open Cert.KernelIdeal
open Cert.KernelIdeal.Facts₀ Cert.KernelIdeal.Facts
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem firstOf_spot (c : Fin 2) (i : Fin 16) : firstOf (spot c i) = 256 * i.val + 128 * c.val := rfl

theorem mem_ownRows (c : Fin 2) (i : Fin 16) (x : S131072x128.Idx) :
    x ∈ ownRows (spot c i) ↔ 8192 * i.val + 4096 * c.val ≤ (x 0).val ∧ (x 0).val < 8192 * i.val + 4096 * c.val + 4096 := by
  unfold ownRows
  rw [Finset.mem_filter, firstOf_spot]
  have := Finset.mem_univ x
  constructor
  · rintro ⟨-, h1, h2⟩; omega
  · rintro ⟨h1, h2⟩; exact ⟨this, by omega, by omega⟩

/-- The rows of one SparseCore. -/
def coreRows (c : Fin 2) : Finset S131072x128.Idx := Finset.univ.biUnion fun i : Fin 16 => ownRows (spot c i)

theorem mem_coreRows (c : Fin 2) (x : S131072x128.Idx) : x ∈ coreRows c ↔ ((x 0).val / 4096) % 2 = c.val := by
  have hx : (x 0).val < 131072 := (x 0).isLt
  have hc := c.isLt
  unfold coreRows
  rw [Finset.mem_biUnion]
  constructor
  · rintro ⟨i, -, hi⟩
    rw [mem_ownRows] at hi
    omega
  · intro h
    refine ⟨⟨(x 0).val / 8192, by omega⟩, Finset.mem_univ _, (mem_ownRows _ _ _).mpr ?_⟩
    show 8192 * ((x 0).val / 8192) + 4096 * c.val ≤ (x 0).val ∧ (x 0).val < 8192 * ((x 0).val / 8192) + 4096 * c.val + 4096
    omega

theorem rows_disjoint (c : Fin 2) : ∀ i ∈ (Finset.univ : Finset (Fin 16)), ∀ j ∈ (Finset.univ : Finset (Fin 16)), i ≠ j →
    Disjoint (ownRows (spot c i)) (ownRows (spot c j)) := fun i _ j _ h =>
  Finset.disjoint_left.mpr fun x hx hy => h (Fin.ext (by
    rw [mem_ownRows] at hx hy
    omega))

theorem cores_disjoint : ∀ c ∈ (Finset.univ : Finset (Fin 2)), ∀ c' ∈ (Finset.univ : Finset (Fin 2)), c ≠ c' → Disjoint (coreRows c) (coreRows c') := fun c _ c' _ h =>
  Finset.disjoint_left.mpr fun x hx hy => h (Fin.ext (by
    rw [mem_coreRows] at hx hy
    omega))

theorem cores_cover : (Finset.univ : Finset (Fin 2)).biUnion coreRows = Finset.univ :=
  Finset.eq_univ_iff_forall.mpr fun x => Finset.mem_biUnion.mpr
    ⟨⟨((x 0).val / 4096) % 2, Nat.mod_lt _ (by decide)⟩, Finset.mem_univ _, (mem_coreRows _ _).mpr rfl⟩

variable (d : Dev nD)

theorem out_dealt (f : S131072x128.Idx → F .f32) :
    (outLoc d ↦{fullShare} f : sProp 𝕄)
      = bigSep Finset.univ fun c : Fin 2 => bigSep Finset.univ fun i : Fin 16 => outLoc d ↦[ownRows (spot c i)]{fullShare} f :=
  ((congrArg (fun I => (outLoc d ↦[I]{fullShare} f : sProp 𝕄)) cores_cover.symm).trans (pointsTo_biUnion _ _ cores_disjoint)).trans
    (bigSep_congr fun c _ => pointsTo_biUnion _ _ (rows_disjoint c))

theorem dis_dealt (f : S4096x1024.Idx → F .f32) :
    (disLoc d ↦{fullShare} f : sProp 𝕄) = bigSep Finset.univ fun c : Fin 2 => bigSep Finset.univ fun i : Fin 16 => disLoc d ↦{sharing c i} f :=
  (pointsTo_piecesOf _ _ (by decide) fullShare).trans (bigSep_congr fun _ _ => pointsTo_piecesOf _ _ (by decide) _)

theorem tab_dealt (f : S4096x128.Idx → F .f32) :
    (tabLoc d ↦{fullShare} f : sProp 𝕄) = bigSep Finset.univ fun c : Fin 2 => bigSep Finset.univ fun i : Fin 16 => tabLoc d ↦{sharing c i} f :=
  (pointsTo_piecesOf _ _ (by decide) fullShare).trans (bigSep_congr fun _ _ => pointsTo_piecesOf _ _ (by decide) _)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (vd : Dev nD → S4096x1024.Idx → F .f32) (vy : Dev nD → S4096x128.Idx → F .f32)

theorem st_eq : (bigSep Finset.univ fun c : Fin ((K (F := F)).nCore 0) => (P vd vy).st 0 d c : sProp 𝕄)
    = bigSep Finset.univ fun c : Fin 2 => bigSep Finset.univ fun i : Fin 16 => goP (vd d) (vy d) d c i :=
  (bigSep_congr fun c _ => bigSep_tasks (fun i => goP (vd d) (vy d) d (Fin.cast nCore_zero c) i)).trans
    (bigSep_cores fun c => bigSep Finset.univ fun i : Fin 16 => goP (vd d) (vy d) d c i)

theorem dn_eq : (bigSep Finset.univ fun c : Fin ((K (F := F)).nCore 0) => (P vd vy).dn 0 d c : sProp 𝕄)
    = bigSep Finset.univ fun c : Fin 2 => bigSep Finset.univ fun i : Fin 16 => tdP (vd d) (vy d) d c i :=
  (bigSep_congr fun c _ => bigSep_tasks (fun i => tdP (vd d) (vy d) d (Fin.cast nCore_zero c) i)).trans
    (bigSep_cores fun c => bigSep Finset.univ fun i : Fin 16 => tdP (vd d) (vy d) d c i)

theorem some_rows (f : S131072x128.Idx → F .f32) :
    (bigSep Finset.univ fun c : Fin 2 => bigSep Finset.univ fun i : Fin 16 => outLoc d ↦[ownRows (spot c i)]{fullShare} f : sProp 𝕄)
      ⊢ bigSep Finset.univ fun c : Fin 2 => bigSep Finset.univ fun i : Fin 16 =>
          iprop(∃ f : S131072x128.Idx → F .f32, outLoc d ↦[ownRows (spot c i)]{fullShare} f) :=
  bigSep_mono fun c _ => bigSep_mono fun i _ =>
    show (outLoc d ↦[ownRows (spot c i)]{fullShare} f : sProp 𝕄) ⊢ iprop(∃ f : S131072x128.Idx → F .f32, outLoc d ↦[ownRows (spot c i)]{fullShare} f) from by
      iintro H; iexists f; iexact H

/-- The arrays are what the call takes. -/
theorem st_intro (f : S131072x128.Idx → F .f32) :
    (iprop((disLoc d ↦{fullShare} vd d) ∗ (tabLoc d ↦{fullShare} vy d) ∗ outLoc d ↦{fullShare} f) : sProp 𝕄)
      ⊢ bigSep Finset.univ fun c : Fin ((K (F := F)).nCore 0) => (P vd vy).st 0 d c := by
  rw [st_eq]
  unfold goP
  simp only [bigSep_sep']
  rw [dis_dealt, tab_dealt, out_dealt]
  iintro ⟨H1, H2, H3⟩
  isplitl [H1]; · iexact H1
  isplitl [H2]; · iexact H2
  iapply (some_rows d f); iexact H3

/-- What the call gives back is the arrays, with the rows gathered. -/
theorem dn_elim :
    (bigSep Finset.univ fun c : Fin ((K (F := F)).nCore 0) => (P vd vy).dn 0 d c : sProp 𝕄)
      ⊢ iprop((disLoc d ↦{fullShare} vd d) ∗ (tabLoc d ↦{fullShare} vy d) ∗ outLoc d ↦{fullShare} gathG (vd d) (vy d)) := by
  rw [dn_eq]
  unfold tdP
  simp only [bigSep_sep']
  rw [dis_dealt, tab_dealt, out_dealt]

end Cert.Query
-- ==== Proof.Chain.lean ====
/- The contents of a device's buffers between the steps of @main. -/
module

public import proofs.«01_k».proof.Proof.Segments
public import proofs.«01_k».proof.Proof.Deal
public import Idealize.ShloMosaic.Lib.Pipeline.Frame

@[expose] public section

noncomputable section

namespace Cert.Query

open Cert.KernelIdeal Cert.KernelIdeal.Facts₀ Cert.KernelIdeal.Facts
open Idealize.ShloMosaic
open Idealize.ShloMosaic.TcCoe
open Idealize.ShloMosaic.SparseCore.Cfg (HIx)
open Idealize.ShloMosaic.StableHlo (after)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The host operations, in three runs -/

/-- The weights and the bias of the fused projection, on the host. -/
def hostA : List (HloOp τ sig (Elt F)) :=
  [StableHlo.unary main_arg7 main_v0 ((extractStridedSlice S256x128 ![0, 0] · slices_S512x128_S256x128_0_0) : (⟨S512x128, .f32⟩ : BufTy).Contents (Elt F) → (⟨S256x128, .f32⟩ : BufTy).Contents (Elt F)),
    StableHlo.unary main_arg7 main_v1 ((extractStridedSlice S256x128 ![256, 0] · slices_S512x128_S256x128_256_0) : (⟨S512x128, .f32⟩ : BufTy).Contents (Elt F) → (⟨S256x128, .f32⟩ : BufTy).Contents (Elt F)),
    StableHlo.binary main_v0 main_v1 main_v2 (addf : (⟨S256x128, .f32⟩ : BufTy).Contents (Elt F) → (⟨S256x128, .f32⟩ : BufTy).Contents (Elt F) → (⟨S256x128, .f32⟩ : BufTy).Contents (Elt F)),
    StableHlo.binary main_v2 main_v1 main_v3 ((fun a b => concatenate S256x256 1 [⟨S256x128, a⟩, ⟨S256x128, b⟩] concatenates_S256x128_S256x128_S256x256_d1) : (⟨S256x128, .f32⟩ : BufTy).Contents (Elt F) → (⟨S256x128, .f32⟩ : BufTy).Contents (Elt F) → (⟨S256x256, .f32⟩ : BufTy).Contents (Elt F)),
    StableHlo.nullary main_cst (constant S_ .f32 0x00000000#32),
    StableHlo.unary main_cst main_v4 (broadcastInDim S128 ![] bcast_S_S128 : (⟨S_, .f32⟩ : BufTy).Contents (Elt F) → (⟨S128, .f32⟩ : BufTy).Contents (Elt F)),
    StableHlo.binary main_arg8 main_v4 main_v5 ((fun a b => concatenate S256 0 [⟨S128, a⟩, ⟨S128, b⟩] concatenates_S128_S128_S256_d0) : (⟨S128, .f32⟩ : BufTy).Contents (Elt F) → (⟨S128, .f32⟩ : BufTy).Contents (Elt F) → (⟨S256, .f32⟩ : BufTy).Contents (Elt F))]

/-- The two halves of the projection and the distances, flattened. -/
def hostB : List (HloOp τ sig (Elt F)) :=
  [StableHlo.unary main_v6 main_v7 ((extractStridedSlice S4x1024x128 ![0, 0, 0] · slices_S4x1024x256_S4x1024x128_0_0_0) : (⟨S4x1024x256, .f32⟩ : BufTy).Contents (Elt F) → (⟨S4x1024x128, .f32⟩ : BufTy).Contents (Elt F)),
    StableHlo.reshape main_v7 main_v8 (rfl : (.f32 : EltTy) = .f32) shapeCasts_S4x1024x128_S4096x128,
    StableHlo.unary main_v6 main_v9 ((extractStridedSlice S4x1024x128 ![0, 0, 128] · slices_S4x1024x256_S4x1024x128_0_0_128) : (⟨S4x1024x256, .f32⟩ : BufTy).Contents (Elt F) → (⟨S4x1024x128, .f32⟩ : BufTy).Contents (Elt F)),
    StableHlo.reshape main_v9 main_v10 (rfl : (.f32 : EltTy) = .f32) shapeCasts_S4x1024x128_S4096x128,
    StableHlo.reshape main_arg2 main_v11 (rfl : (.f32 : EltTy) = .f32) shapeCasts_S4x1024x1024_S4096x1024]

/-- The result, in its final shape. -/
def hostC : List (HloOp τ sig (Elt F)) :=
  [StableHlo.reshape main_v13 main_v14 (rfl : (.f32 : EltTy) = .f32) shapeCasts_S4096x256_S4x1024x256]

theorem main_eq (d : Dev nD) : main (F := F) d =
    (StableHlo.seq hostA >>= fun _ => Prog.lift (.customCall (SparseCore.inner (Pipeline.entry 0)) ()) >>= fun _ =>
      StableHlo.seq hostB >>= fun _ => sc.run d 0 >>= fun _ =>
      Prog.lift (.customCall (SparseCore.inner (Pipeline.entry 1)) ()) >>= fun _ =>
      StableHlo.seq hostC >>= fun _ => pure ⟨⟩) := by
  simp only [main, hostA, hostB, hostC, StableHlo.seq, bind_assoc, pure_bind]

theorem hostA_sub : (hostA : List (HloOp τ sig (Elt F))).Forall fun op => op.bufs ⊆ StableHlo.tcRefs τ sig := by
  simp only [hostA, List.Forall, StableHlo.nullary_bufs_sub, StableHlo.unary_bufs_sub, StableHlo.binary_bufs_sub, StableHlo.reshape_bufs_sub, and_self]

theorem hostB_sub : (hostB : List (HloOp τ sig (Elt F))).Forall fun op => op.bufs ⊆ StableHlo.tcRefs τ sig := by
  simp only [hostB, List.Forall, StableHlo.nullary_bufs_sub, StableHlo.unary_bufs_sub, StableHlo.binary_bufs_sub, StableHlo.reshape_bufs_sub, and_self]

theorem hostC_sub : (hostC : List (HloOp τ sig (Elt F))).Forall fun op => op.bufs ⊆ StableHlo.tcRefs τ sig := by
  simp only [hostC, List.Forall, StableHlo.nullary_bufs_sub, StableHlo.unary_bufs_sub, StableHlo.binary_bufs_sub, StableHlo.reshape_bufs_sub, and_self]

theorem hostA_fresh : (hostA : List (HloOp τ sig (Elt F))).Forall fun op => op.fresh = ∅ := by
  simp only [hostA, List.Forall]; repeat' constructor

theorem hostB_fresh : (hostB : List (HloOp τ sig (Elt F))).Forall fun op => op.fresh = ∅ := by
  simp only [hostB, List.Forall]; repeat' constructor

theorem hostC_fresh : (hostC : List (HloOp τ sig (Elt F))).Forall fun op => op.fresh = ∅ := by
  simp only [hostC, List.Forall]; repeat' constructor

/-! ## The contents after each step -/

/-- A valuation, read at the TensorCore's references. -/
abbrev vals (V : Valuation τ sig (Elt F)) : Vals (F := F) := fun b => V (Proc.devRef .tc b)

/-- A valuation with one buffer replaced. -/
def put (V : Valuation τ sig (Elt F)) (b : Ref sig .tc) (x : b.ty.Contents (Elt F)) : Valuation τ sig (Elt F) :=
  Function.update V (Proc.devRef .tc b) x

theorem put_self (V : Valuation τ sig (Elt F)) (b : Ref sig .tc) (x : b.ty.Contents (Elt F)) : put V b x (Proc.devRef .tc b) = x :=
  Function.update_self _ _ _

theorem put_ne (V : Valuation τ sig (Elt F)) (b : Ref sig .tc) (x : b.ty.Contents (Elt F)) {r : DevRef τ sig} (h : r ≠ Proc.devRef .tc b) :
    put V b x r = V r := Function.update_of_ne h _ _

theorem put_ne' (V : Valuation τ sig (Elt F)) (b : Ref sig .tc) (x : b.ty.Contents (Elt F)) {r : Ref sig .tc} (h : r ≠ b) :
    put V b x (Proc.devRef .tc r) = V (Proc.devRef .tc r) := put_ne V b x fun e => h (Proc.devRef_injective _ e)

variable (m : (ℓ : Loc nD τ sig) → Buf (Elt F) ℓ)

/-- Before call 0. -/
def atA (d : Dev nD) : Valuation τ sig (Elt F) := after hostA (StableHlo.launchContents m d)
/-- After call 0. -/
def atB (d : Dev nD) : Valuation τ sig (Elt F) := put (atA m d) main_v6 ((dat0 (vals (atA m d)) d).arrAt 7 cfg0.N)
/-- Before call 1. -/
def atC (d : Dev nD) : Valuation τ sig (Elt F) := after hostB (atB m d)
/-- The rows that call 1 gathers. -/
def rowsOf (d : Dev nD) : S131072x128.Idx → F .f32 := gathG (atC m d (Proc.devRef .tc main_v11)) (atC m d (Proc.devRef .tc main_v10))
/-- After call 1. -/
def atD (d : Dev nD) : Valuation τ sig (Elt F) := put (atC m d) main_v12 (rowsOf m d)
/-- After call 2. -/
def atE (d : Dev nD) : Valuation τ sig (Elt F) := put (atD m d) main_v13 ((dat2 (vals (atD m d)) d).arrAt 4 cfg2.N)
/-- At the end. -/
def atF (d : Dev nD) : Valuation τ sig (Elt F) := after hostC (atE m d)

/-- What @main writes. -/
def written : List (Ref sig .tc) :=
  [main_v0, main_v1, main_v2, main_v3, main_cst, main_v4, main_v5, main_v6, main_v7, main_v8, main_v9, main_v10, main_v11, main_v12, main_v13, main_v14]

theorem hostA_writes : (hostA : List (HloOp τ sig (Elt F))).Forall fun op => op.writes ⊆ (written.map (Proc.devRef (τ := τ) .tc)).toFinset := by
  simp only [hostA, List.Forall, StableHlo.nullary_writes, StableHlo.unary_writes, StableHlo.binary_writes, StableHlo.reshape_writes, Finset.singleton_subset_iff, List.mem_toFinset]
  refine ⟨?_, ?_, ?_, ?_, ?_, ?_, ?_⟩ <;> exact List.mem_map_of_mem (by decide)

theorem hostB_writes : (hostB : List (HloOp τ sig (Elt F))).Forall fun op => op.writes ⊆ (written.map (Proc.devRef (τ := τ) .tc)).toFinset := by
  simp only [hostB, List.Forall, StableHlo.nullary_writes, StableHlo.unary_writes, StableHlo.binary_writes, StableHlo.reshape_writes, Finset.singleton_subset_iff, List.mem_toFinset]
  refine ⟨?_, ?_, ?_, ?_, ?_⟩ <;> exact List.mem_map_of_mem (by decide)

theorem hostC_writes : (hostC : List (HloOp τ sig (Elt F))).Forall fun op => op.writes ⊆ (written.map (Proc.devRef (τ := τ) .tc)).toFinset := by
  simp only [hostC, List.Forall, StableHlo.reshape_writes, Finset.singleton_subset_iff, List.mem_toFinset]
  exact List.mem_map_of_mem (by decide)

/-- Up to call 0, a buffer that @main does not write holds what it held at launch. -/
theorem atA_keeps (d : Dev nD) (b : Ref sig .tc) (h : b ∉ written) : atA m d (Proc.devRef .tc b) = m (d, Proc.devRef .tc b) :=
  StableHlo.after_of_writes_sub hostA _ hostA_writes h

theorem atB_keeps (d : Dev nD) (b : Ref sig .tc) (h : b ∉ written) : atB m d (Proc.devRef .tc b) = m (d, Proc.devRef .tc b) :=
  (put_ne' _ _ _ fun e => h (by rw [e]; decide)).trans (atA_keeps m d b h)

theorem atC_keeps (d : Dev nD) (b : Ref sig .tc) (h : b ∉ written) : atC m d (Proc.devRef .tc b) = m (d, Proc.devRef .tc b) :=
  (StableHlo.after_of_writes_sub hostB _ hostB_writes h).trans (atB_keeps m d b h)

theorem atD_keeps (d : Dev nD) (b : Ref sig .tc) (h : b ∉ written) : atD m d (Proc.devRef .tc b) = m (d, Proc.devRef .tc b) :=
  (put_ne' _ _ _ fun e => h (by rw [e]; decide)).trans (atC_keeps m d b h)

theorem atE_keeps (d : Dev nD) (b : Ref sig .tc) (h : b ∉ written) : atE m d (Proc.devRef .tc b) = m (d, Proc.devRef .tc b) :=
  (put_ne' _ _ _ fun e => h (by rw [e]; decide)).trans (atD_keeps m d b h)

/-- At the end, a buffer that @main does not write holds what it held at launch. -/
theorem atF_keeps (d : Dev nD) (b : Ref sig .tc) (h : b ∉ written) : atF m d (Proc.devRef .tc b) = m (d, Proc.devRef .tc b) :=
  (StableHlo.after_of_writes_sub hostC _ hostC_writes h).trans (atE_keeps m d b h)

end Cert.Query

end
-- ==== Proof.Main.lean ====
/- @main on a device's TensorCore: the host operations, the two TensorCore calls and the SparseCore call, and the program's run. -/
module

public import proofs.«01_k».proof.Proof.Chain

@[expose] public section

noncomputable section

namespace Cert.Query

open Cert.KernelIdeal Cert.KernelIdeal.Gen
open Idealize.ShloMosaic
open Idealize.ShloMosaic.TcCoe
open Idealize.ShloMosaic.SparseCore.Cfg (HIx)
open Idealize.ShloMosaic.StableHlo (after held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pipelines' ghost state, per device and pipeline. -/
abbrev ghost (d : Dev nD) (p : Fin 2) : sProp 𝕄 :=
  iprop(Pipeline.cellsGhost (Pipeline.pin (pcfgs (F := F)) adm) EP p d ∗ Pipeline.toksInit (Pipeline.pin (pcfgs (F := F)) adm) EP p d)

abbrev 𝕂 : Defs nD τ sig (Elt F) (SparseCore.Sig (ΛP (F := F)) 1) := (K (F := F)).defs (D (F := F))

/-- All of the device's unscoped buffers, at a valuation. -/
abbrev bufs (d : Dev nD) (V : Valuation τ sig (Elt F)) : sProp 𝕄 := held (SparseCore.T d) (Pipeline.ucRefs τ sig) V

theorem bufs_eq (d : Dev nD) (V : Valuation τ sig (Elt F)) : (unscopedBufs d (vals V) : sProp 𝕄) = bufs d V :=
  Pipeline.unscopedBufs_held d V

/-- A run of host operations. -/
theorem host_run (d : Dev nD) (ops : List (HloOp τ sig (Elt F))) (hS : ops.Forall fun op => op.bufs ⊆ StableHlo.tcRefs τ sig)
    (hf : ops.Forall fun op => op.fresh = ∅) (V V' : Valuation τ sig (Elt F)) (hV : after ops V = V') :
    (iprop(boundary (SparseCore.T d) ∗ bufs d V) : sProp 𝕄)
      ⊢ wp frame (wpE (𝕂 (F := F)) 𝒱 (SparseCore.T d) none) Set.univ (StableHlo.seq ops)
          fun _ => iprop(boundary (SparseCore.T d) ∗ bufs d V') := by
  subst hV
  have h := StableHlo.wp_seq (defs := 𝕂 (F := F)) (Ix := HIx 1) (Name := ℕ) (U := UU) (Lvl := ℕ) 𝒱 none Set.univ d (Pipeline.ucRefs τ sig) (fun u => Pure.pure u)
    (K := fun _ => iprop(boundary (SparseCore.T d) ∗ bufs d (after ops V))) ops
    (fun op ho => Pipeline.sub_ucRefs op (List.forall_iff_forall_mem.1 hS op ho)) (List.forall_iff_forall_mem.1 hf) V
  rw [show (StableHlo.seq ops : Prog (TpuEff nD τ sig (Elt F) (SparseCore.Sig (ΛP (F := F)) 1) .tc) PUnit) = (StableHlo.seq ops >>= fun u => Pure.pure u) from (bind_pure _).symm]
  iintro H
  iapply h $$ H
  iintro H
  rw [wp_pure]
  imodintro; iexact H

variable [∀ e, Nonempty (Elt F e)]

set_option backward.isDefEq.respectTransparency.types false in
/-- A TensorCore call, by its region. -/
theorem call_run (d : Dev nD) (p : Fin 2) (v v' : Dev nD → Vals (F := F))
    (R : Pipeline.RegionSeg (pcfgs (F := F)) adm (pdats v v') none defs₀ Variants.none (K (F := F)).L (K (F := F)).lev p) :
    (iprop(boundary (SparseCore.T d) ∗ R.pre d ∗ levAts (K (F := F)).L (K (F := F)).lev ∗ ghost d p) : sProp 𝕄)
      ⊢ wp frame (wpE (𝕂 (F := F)) 𝒱 (SparseCore.T d) none) Set.univ (Prog.lift (.customCall (SparseCore.inner (Pipeline.entry p)) ()))
          fun _ => iprop(boundary (SparseCore.T d) ∗ R.post d) := by
  have h := Pipeline.RegionSeg.wp (pcfgs (F := F)) adm (pdats v v') none cellOf_inj EP defs₀ Variants.none (K (F := F)).L (K (F := F)).lev R d none
    (fun _ hu => nomatch hu) (fun _ => (.ret PUnit.unit : Prog (TpuEff nD τ sig (Elt F) (ΛP (F := F)) .tc) PUnit)) (fun _ => iprop(boundary (SparseCore.T d) ∗ R.post d))
  have h' := (K (F := F)).wp_liftProg (D (F := F)) 𝒱 (SparseCore.T d) Set.univ none
    (.op (.customCall (Pipeline.entry p) ()) fun _ => (.ret PUnit.unit : Prog (TpuEff nD τ sig (Elt F) (ΛP (F := F)) .tc) PUnit)) (fun _ : PUnit => (iprop(boundary (SparseCore.T d) ∗ R.post d) : sProp 𝕄))
  refine BIBase.Entails.trans ?_ h'
  refine BIBase.Entails.trans ?_ h
  iintro ⟨Hb, Hpre, Hl, Hg, Ht⟩
  isplitr
  · iintro H
    rw [wp_ret]; imodintro; iexact H
  isplitl [Hb]; · iexact Hb
  isplitl [Hpre]; · iexact Hpre
  isplitl [Hl]; · iexact Hl
  isplitl [Hg] <;> iassumption

end Cert.Query

end
-- ==== Proof.Run.lean ====
/- The program's run: from any memory it ends, with every buffer at what the steps of @main leave. -/
module

public import proofs.«01_k».proof.Proof.Main

@[expose] public section

noncomputable section

namespace Cert.Query

open Cert.KernelIdeal Cert.KernelIdeal.Gen
open Idealize.ShloMosaic
open Idealize.ShloMosaic.TcCoe
open Idealize.ShloMosaic.SparseCore.Cfg (HIx)
open Idealize.ShloMosaic.StableHlo (after held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- What the SparseCore call takes and gives back in this run. -/
abbrev pay : (K (F := F)).Pay (nD := nD) (Val := Elt F) (Name := ℕ) (U := UU) :=
  P (fun d => atC m d (Proc.devRef .tc main_v11)) (fun d => atC m d (Proc.devRef .tc main_v10))

/-- The three arrays of the SparseCore call. -/
def trio : Finset (DevRef τ sig) := {Proc.devRef .tc main_v11, Proc.devRef .tc main_v10, Proc.devRef .tc main_v12}

theorem trio_sub : trio ⊆ Pipeline.ucRefs τ sig := by decide

theorem held_trio (d : Dev nD) (V : Valuation τ sig (Elt F)) : (held (SparseCore.T d) trio V : sProp 𝕄)
    = iprop((disLoc d ↦{fullShare} V (Proc.devRef .tc main_v11)) ∗ (tabLoc d ↦{fullShare} V (Proc.devRef .tc main_v10))
        ∗ outLoc d ↦{fullShare} V (Proc.devRef .tc main_v12)) := by
  unfold held trio
  rw [SparseCore.bigSep_insert' (by decide), SparseCore.bigSep_insert' (by decide), bigSep_singleton]

/-- The buffers at the call's entry, as its three arrays and the rest. -/
theorem take_trio (d : Dev nD) : (bufs d (atC m d) : sProp 𝕄)
    ⊢ iprop((bigSep Finset.univ fun c : Fin ((K (F := F)).nCore 0) => (pay m).st 0 d c) ∗ held (SparseCore.T d) (Pipeline.ucRefs τ sig \ trio) (atC m d)) := by
  unfold bufs
  rw [StableHlo.held_sub_split (SparseCore.T d) trio_sub, held_trio]
  iintro ⟨H, Hr⟩
  isplitl [H]
  · iapply (st_intro d (fun d => atC m d (Proc.devRef .tc main_v11)) (fun d => atC m d (Proc.devRef .tc main_v10)) (atC m d (Proc.devRef .tc main_v12))) $$ H
  iexact Hr

/-- The buffers at the call's end. -/
theorem give_trio (d : Dev nD) :
    (iprop((bigSep Finset.univ fun c : Fin ((K (F := F)).nCore 0) => (pay m).dn 0 d c) ∗ held (SparseCore.T d) (Pipeline.ucRefs τ sig \ trio) (atC m d)) : sProp 𝕄)
    ⊢ bufs d (atD m d) := by
  unfold bufs
  rw [StableHlo.held_sub_split (SparseCore.T d) trio_sub (atD m d), held_trio,
    StableHlo.held_congr (SparseCore.T d) (S := Pipeline.ucRefs τ sig \ trio) (V := atD m d) (V' := atC m d) (fun b hb => put_ne _ _ _ fun e => by
      subst e; exact (Finset.mem_sdiff.mp hb).2 (by decide)),
    show atD m d (Proc.devRef .tc main_v11) = atC m d (Proc.devRef .tc main_v11) from put_ne' _ _ _ (by decide),
    show atD m d (Proc.devRef .tc main_v10) = atC m d (Proc.devRef .tc main_v10) from put_ne' _ _ _ (by decide),
    show atD m d (Proc.devRef .tc main_v12) = rowsOf m d from put_self _ _ _]
  iintro ⟨H, Hr⟩
  isplitl [H]
  · iapply (dn_elim d (fun d => atC m d (Proc.devRef .tc main_v11)) (fun d => atC m d (Proc.devRef .tc main_v10))) $$ H
  iexact Hr

/-- The regions of the two TensorCore calls in this run. -/
def regA : Pipeline.RegionSeg (pcfgs (F := F)) adm (pdats (fun d => vals (atA m d)) fun d => vals (atD m d)) none defs₀ Variants.none (K (F := F)).L (K (F := F)).lev 0 :=
  reg0 _ _ (fun d => vals (atB m d)) (fun _ => put_self _ _ _) fun _ _ h => put_ne' _ _ _ h
def regD : Pipeline.RegionSeg (pcfgs (F := F)) adm (pdats (fun d => vals (atA m d)) fun d => vals (atD m d)) none defs₀ Variants.none (K (F := F)).L (K (F := F)).lev 1 :=
  reg2 _ _ (fun d => vals (atE m d)) (fun _ => put_self _ _ _) fun _ _ h => put_ne' _ _ _ h

theorem regA_pre (d : Dev nD) : (regA m).pre d = iprop(bufs d (atA m d) ∗ debt d 0) := congrArg (fun X => iprop(X ∗ debt d 0)) (bufs_eq d _)
theorem regA_post (d : Dev nD) : (regA m).post d = iprop(bufs d (atB m d) ∗ debt d 0) := congrArg (fun X => iprop(X ∗ debt d 0)) (bufs_eq d _)
theorem regD_pre (d : Dev nD) : (regD m).pre d = iprop(bufs d (atD m d) ∗ debt d 1) := congrArg (fun X => iprop(X ∗ debt d 1)) (bufs_eq d _)
theorem regD_post (d : Dev nD) : (regD m).post d = iprop(bufs d (atE m d) ∗ debt d 1) := congrArg (fun X => iprop(X ∗ debt d 1)) (bufs_eq d _)

/-- What the TensorCore holds of the handshakes: its debt and the rest. -/
theorem tcSt_split (d : Dev nD) (n : ℕ) : ∃ R : sProp 𝕄, ((K (F := F)).tcSt EH d n : sProp 𝕄) = iprop(debt d n ∗ R) := by
  unfold SparseCore.Cfg.tcSt
  exact ⟨_, rfl⟩

variable [∀ e, Nonempty (Elt F e)]

/-- What @main leaves on a device. -/
abbrev fin (d : Dev nD) : sProp 𝕄 := bufs d (atF m d)

theorem hmain (κ : GSem nD τ sig → ℕ) (d : Dev nD) :
    (iprop((K (F := F)).ctx EH (pay m) κ ∗ (K (F := F)).tcSt EH d 0 ∗ (K (F := F)).tcRes m ρ d ∗ (ghost d 0 ∗ ghost d 1)) : sProp 𝕄)
      ⊢ wp frame (wpE (𝕂 (F := F)) 𝒱 (SparseCore.T d) none) Set.univ (main d)
          fun _ => iprop((K (F := F)).tcSt EH d 1 ∗ fin m d ∗ (K (F := F)).tcEnd d) := by
  obtain ⟨R0, e0⟩ := tcSt_split (F := F) d 0
  obtain ⟨R1, e1⟩ := tcSt_split (F := F) d 1
  unfold SparseCore.Cfg.tcRes SparseCore.Cfg.tcEnd
  rw [main_eq, show (unscopedBufs d (fun b => m ((SparseCore.T d).loc b)) : sProp 𝕄) = bufs d (StableHlo.launchContents m d) from
    bufs_eq d (StableHlo.launchContents m d)]
  iintro ⟨#Hctx, Hst, ⟨Hb, Hu, Hts, -⟩, Hg0, Hg1⟩
  rw [wp_bind]
  ihave Hw := (host_run d hostA hostA_sub hostA_fresh (StableHlo.launchContents m d) (atA m d) rfl) $$ [Hb Hu]
  · isplitl [Hb] <;> iassumption
  iapply (wp_wand _ _ _) $$ Hw
  iintro %_ ⟨Hb, Hu⟩
  rw [wp_bind]
  ihave Hst' := (Entails.of_eq e0) $$ Hst
  icases Hst' with ⟨Hd, HR⟩
  ihave Hl := (SparseCore.Cfg.ctx_levAts κ) $$ Hctx
  ihave Hw := (call_run d 0 _ _ (regA m)) $$ [Hb Hu Hd Hl Hg0]
  · rw [regA_pre]
    isplitl [Hb]; · iexact Hb
    isplitl [Hu Hd]; · isplitl [Hu] <;> iassumption
    isplitl [Hl] <;> iassumption
  iapply (wp_wand _ _ _) $$ Hw
  rw [regA_post]
  iintro %_ ⟨Hb, Hu, Hd⟩
  rw [wp_bind]
  ihave Hw := (host_run d hostB hostB_sub hostB_fresh (atB m d) (atC m d) rfl) $$ [Hb Hu]
  · isplitl [Hb] <;> iassumption
  iapply (wp_wand _ _ _) $$ Hw
  iintro %_ ⟨Hb, Hu⟩
  rw [wp_bind]
  ihave Hst := (Entails.of_eq e0.symm) $$ [Hd HR]
  · isplitl [Hd] <;> iassumption
  ihave Hu' := (take_trio m d) $$ Hu
  icases Hu' with ⟨Hin, Hrest⟩
  iapply ((K (F := F)).wp_run (D (F := F)) 𝒱 (EH := EH) (P := pay m) κ d 0)
  isplitr; · iexact Hctx
  isplitl [Hst]; · iexact Hst
  isplitl [Hin]; · iexact Hin
  iintro ⟨Hst, Hdn⟩
  ihave Hst := (show ((K (F := F)).tcSt EH d ((0 : Fin 1).val + 1) : sProp 𝕄) ⊢ (K (F := F)).tcSt EH d 1 from BI.Entails.refl _) $$ Hst
  ihave Hu := (give_trio m d) $$ [Hdn Hrest]
  · isplitl [Hdn] <;> iassumption
  rw [wp_bind]
  ihave Hst' := (Entails.of_eq e1) $$ Hst
  icases Hst' with ⟨Hd, HR⟩
  ihave Hl := (SparseCore.Cfg.ctx_levAts κ) $$ Hctx
  ihave Hw := (call_run d 1 _ _ (regD m)) $$ [Hb Hu Hd Hl Hg1]
  · rw [regD_pre]
    isplitl [Hb]; · iexact Hb
    isplitl [Hu Hd]; · isplitl [Hu] <;> iassumption
    isplitl [Hl] <;> iassumption
  iapply (wp_wand _ _ _) $$ Hw
  rw [regD_post]
  iintro %_ ⟨Hb, Hu, Hd⟩
  rw [wp_bind]
  ihave Hw := (host_run d hostC hostC_sub hostC_fresh (atE m d) (atF m d) rfl) $$ [Hb Hu]
  · isplitl [Hb] <;> iassumption
  iapply (wp_wand _ _ _) $$ Hw
  iintro %_ ⟨Hb, Hu⟩
  rw [wp_pure]
  imodintro
  isplitl [Hd HR]
  · iapply (Entails.of_eq e1.symm)
    isplitl [Hd] <;> iassumption
  isplitl [Hu]; · iexact Hu
  isplitl [Hb] <;> iassumption

/-- The launch's ghost state: the handshakes' rounds, the pipelines' rounds and no counters. -/
def u₀ : UU := (initOf (K (F := F)).hsCells (K (F := F)).hsToks,
  initOf (Pipeline.cells (nD := nD) (τ := τ) cfgs cellOf_inj) (Pipeline.launchToks (nD := nD) (τ := τ) cfgs cellOf_inj), (1 : Counters))

theorem ghost_pair : (bigSep Finset.univ fun c : Dev nD => iprop((bigSep Finset.univ fun p => Pipeline.cellsGhost cfgs EP p c)
      ∗ bigSep Finset.univ fun p => Pipeline.toksInit cfgs EP p c) : sProp 𝕄) = bigSep Finset.univ fun d : Dev nD => iprop(ghost d 0 ∗ ghost d 1) := by
  refine bigSep_congr fun c _ => ?_
  rw [← bigSep_sep', bigSep_univ_two]

theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => iprop(ghost d 0 ∗ ghost d 1))
        ∗ bigSep Finset.univ fun thr : Thread nD τ => bigSep Finset.univ fun q : Fin 1 => (pay m).x q thr) := by
  unfold u₀
  iintro Hu
  ihave H := (ownU_pair (initOf (K (F := F)).hsCells (K (F := F)).hsToks) _) $$ Hu
  icases H with ⟨HH, HP⟩
  ihave H := (own_pair_emb embR _ _) $$ HP
  icases H with ⟨HP, -⟩
  ihave HP := (show (BI.own ((((Emb.inl : Emb UP (UP × Counters)).trans embR : Emb UP 𝕄)) (initOf (Pipeline.cells (nD := nD) (τ := τ) cfgs cellOf_inj)
      (Pipeline.launchToks (nD := nD) (τ := τ) cfgs cellOf_inj))) : sProp 𝕄) ⊢ BI.own (EP (initOf (Pipeline.cells (nD := nD) (τ := τ) cfgs cellOf_inj)
      (Pipeline.launchToks (nD := nD) (τ := τ) cfgs cellOf_inj))) from BI.Entails.refl _) $$ HP
  imod (Pipeline.fund_ghost cfgs EP cellOf_inj) $$ HP with ⟨Hc, Ht⟩
  imodintro
  isplitl [HH]; · iexact HH
  isplitl [Hc Ht]
  · ihave H := (Entails.of_eq (bigSep_sep' (Finset.univ : Finset (Dev nD)) (fun c => bigSep Finset.univ fun p => Pipeline.cellsGhost cfgs EP p c)
      (fun c => bigSep Finset.univ fun p => Pipeline.toksInit cfgs EP p c)).symm) $$ [Hc Ht]
    · isplitl [Hc] <;> iassumption
    iapply (Entails.of_eq ghost_pair) $$ H
  rw [show (bigSep Finset.univ fun thr : Thread nD τ => bigSep Finset.univ fun q : Fin 1 => (pay (F := F) m).x q thr) = bigSep Finset.univ fun _ => iprop(emp) from
    bigSep_congr fun _ _ => bigSep_univ_of_subsingleton (0 : Fin 1), all_emp]
  iempintro

def fq (d : Dev nD) (s' : Phys nD τ sig (Elt F)) : Prop := ∀ b : Ref sig .tc, b.isScoped = false → s'.mem.mem ((SparseCore.T d).loc b) = atF m d (Proc.devRef .tc b)

theorem hfin (d : Dev nD) (s' : Phys nD τ sig (Elt F)) : (iprop(fin m d ∗ SI s') : sProp 𝕄) ⊢ (⌜fq m d s'⌝ : sProp 𝕄) := by
  unfold fin bufs held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h _ (Finset.mem_filter.mpr ⟨StableHlo.devRef_mem_tcRefs b, by
    intro e; exact Bool.false_ne_true (hb.symm.trans e)⟩)

/-- Every execution ends, with every unscoped buffer at what @main leaves and every semaphore at zero. -/
theorem run_main :
    θ_run (Cert.KernelIdeal.defs (F := F)) (Cert.KernelIdeal.threads (F := F)) ⟨m, fun _ => 0, ρ⟩ fun r =>
      (∀ (d : Dev nD) (b : Ref sig .tc), b.isScoped = false → r.2.mem ((SparseCore.T d).loc b) = atF m d (Proc.devRef .tc b)) ∧ r.2.sem = fun _ => 0 :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl _ _ facts)
    (fun q _ => match q with | 0 => SparseCore.Cfg.VecSplit.of_plain (vecSplit _ _))
    m ρ main (fun d => iprop(ghost d 0 ∗ ghost d 1)) (fin m) (u₀ (F := F)) (sep_elim_left.trans (hu₀ m)) (hmain m ρ) (fq m) (hfin m) _ (fun _ h hz => ⟨h, hz⟩)

end Cert.Query

end
-- ==== Proof.Same.lean ====
/- The two printings of the kernel are one program.

   No rewrite was offered, so the idealization is the kernel's own text. Each body is compared with its
   copy, then the tables of bodies, then the threads. -/
module

public import proofs.«01_k».proof.Defs
public import proofs.«01_k».proof.Proof.Run
public import proofs.«01_k».proof.Proof.Gen.Kernel

@[expose] public section

noncomputable section

namespace Cert.Query

open Idealize.ShloMosaic Idealize.SL.Sem

attribute [local instance] Cert.Kernel.Gen.facts Cert.KernelIdeal.Gen.facts
variable {F : FTy → Type} [FloatOps F]

set_option maxHeartbeats 4000000 in
/-- The SparseCore body. -/
theorem sc_same : Cert.Kernel.cc1__sc_body (F := F) = Cert.KernelIdeal.cc1__sc_body (F := F) := rfl

set_option maxHeartbeats 1000000 in
/-- The first TensorCore body in the table. -/
theorem first_same (a) : Cert.Kernel.defs₀ (F := F) .tc 0 a = Cert.KernelIdeal.defs₀ (F := F) .tc 0 a := rfl
set_option maxHeartbeats 1000000 in
/-- The last TensorCore body in the table. -/
theorem last_same (a) : Cert.Kernel.defs₀ (F := F) .tc 2 a = Cert.KernelIdeal.defs₀ (F := F) .tc 2 a := rfl
set_option maxHeartbeats 1000000 in
/-- The SparseCore body in the table, on each tile. -/
theorem query_same (c s a) : Cert.Kernel.defs₀ (F := F) (.scVector c s) 1 a = Cert.KernelIdeal.defs₀ (F := F) (.scVector c s) 1 a := by
  exact congrArg (fun b => SparseCore.onTile (Cert.KernelIdeal.Facts₀.hcore1) (Cert.KernelIdeal.Facts₀.hsub1) (fun c s => b (fun | 0 => c | 1 => s | ⟨_ + 2, h⟩ => absurd h (Nat.not_lt.2 (Nat.le_add_left _ _))) (Memref.whole Cert.KernelIdeal.main_v11_scv) (Memref.isWhole_whole _) (Memref.whole Cert.KernelIdeal.main_v10_scv) (Memref.isWhole_whole _) (Memref.whole Cert.KernelIdeal.main_v12_scv) (Memref.isWhole_whole _) (Memref.whole Cert.KernelIdeal.cc1_scratch0) (Memref.isWhole_whole _) (Memref.whole Cert.KernelIdeal.cc1_scratch1) (Memref.isWhole_whole _) (Memref.whole Cert.KernelIdeal.cc1_scratch2) (Memref.isWhole_whole _) (Memref.whole Cert.KernelIdeal.cc1_scratch3) (Memref.isWhole_whole _) (Memref.whole Cert.KernelIdeal.cc1_scratch4) (Memref.isWhole_whole _) Cert.KernelIdeal.cc1_scratch5 Cert.KernelIdeal.cc1_scoped0 Cert.KernelIdeal.cc1_scoped1) ⟨⟩ c s) (sc_same (F := F))
set_option maxHeartbeats 1000000 in
/-- The table of bodies. -/
theorem bodies_same : Cert.Kernel.defs₀ (F := F) = Cert.KernelIdeal.defs₀ (F := F) := by
  funext p ℓ a
  match p, ℓ, a with
  | .tc, 0, a => exact first_same a
  | .tc, 1, a => rfl
  | .tc, 2, a => exact last_same a
  | .scVector c s, 0, a => rfl
  | .scVector c s, 1, a => exact query_same c s a
  | .scVector c s, 2, a => rfl
  | .scScalar c, 0, a => rfl
  | .scScalar c, 1, a => rfl
  | .scScalar c, 2, a => rfl

/-- The table with the pipelines and the dispatch. -/
theorem defs_same : Cert.Kernel.defs (F := F) = Cert.KernelIdeal.defs (F := F) :=
  congrArg (fun d => Cert.KernelIdeal.sc.defs (Pipeline.defs Cert.KernelIdeal.pcfgs d)) (bodies_same (F := F))
/-- The threads. -/
theorem threads_same : Cert.Kernel.threads (F := F) = Cert.KernelIdeal.threads (F := F) := rfl
end Cert.Query

end
-- ==== Proof.Frames.lean ====
/- Each program leaves its arguments as they were and its counters at zero.

   The kernel's run is one theorem for every reading of the floats (Run.lean); it is read here at the
   eleven arguments, once bit for bit and once over the extended reals. The reference is a straight line
   of host operations with no semaphore. -/
module

public import proofs.«01_k».proof.Defs
public import proofs.«01_k».proof.Proof.Run
public import proofs.«01_k».proof.Proof.Same
public import proofs.«01_k».proof.Proof.Gen.ReferenceIdeal
public import proofs.«01_k».proof.Proof.Gen.ReferenceIdeal.Run

@[expose] public section

noncomputable section

namespace Cert.Query

open Idealize.ShloMosaic Idealize.SL.Sem
open Cert.KernelIdeal

attribute [local instance] Cert.Kernel.Gen.facts Cert.KernelIdeal.Gen.facts Cert.ReferenceIdeal.Gen.facts

variable {F : FTy → Type} [FloatOps F]

/-- An argument is as the run found it, given what every unscoped buffer holds at the end. -/
theorem arg_kept (m : (ℓ : Loc nD τ sig) → Buf (Elt F) ℓ) (mem : (ℓ : Loc nD τ sig) → Buf (Elt F) ℓ)
    (h : ∀ (d : Dev nD) (b : Ref sig .tc), b.isScoped = false →
      mem ((SparseCore.T d).loc b) = atF m d (Proc.devRef .tc b))
    (d : Dev nD) (b : Ref sig .tc) (hs : b.isScoped = false) (hw : b ∉ written) :
    mem ((SparseCore.T d).loc b) = m ((SparseCore.T d).loc b) :=
  (h d b hs).trans (atF_keeps m d b hw)

/-- The kernel's run, read at its arguments and counters. -/
theorem args_run (m : (ℓ : Loc nD τ sig) → Buf (Elt F) ℓ) (ρ : Dev nD → PrngReg) [∀ e, Nonempty (Elt F e)] :
    θ_run (defs (F := F)) (threads (F := F)) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10))
      ∧ r.2.sem = fun _ => 0 :=
  (θ_run defs _ _).mono (fun r h => ⟨fun c =>
    ⟨arg_kept m r.2.mem h.1 c main_arg0 rfl (by decide), arg_kept m r.2.mem h.1 c main_arg1 rfl (by decide),
     arg_kept m r.2.mem h.1 c main_arg2 rfl (by decide), arg_kept m r.2.mem h.1 c main_arg3 rfl (by decide),
     arg_kept m r.2.mem h.1 c main_arg4 rfl (by decide), arg_kept m r.2.mem h.1 c main_arg5 rfl (by decide),
     arg_kept m r.2.mem h.1 c main_arg6 rfl (by decide), arg_kept m r.2.mem h.1 c main_arg7 rfl (by decide),
     arg_kept m r.2.mem h.1 c main_arg8 rfl (by decide), arg_kept m r.2.mem h.1 c main_arg9 rfl (by decide),
     arg_kept m r.2.mem h.1 c main_arg10 rfl (by decide)⟩, h.2⟩) (run_main m ρ)

/-- The kernel bit for bit: its text is the one the run above was proved of. -/
theorem frame_kernel : Cert.quiescent_Kernel := fun m ρ _ =>
  Eq.mpr (congrArg (fun d => θ_run d (Cert.KernelIdeal.threads (F := Bits)) ⟨m, fun _ => 0, ρ⟩ _) (defs_same (F := Bits)))
    (args_run (F := Bits) m ρ)

/-- The kernel over the extended reals. -/
theorem frame_ideal : Cert.quiescent_KernelIdeal := fun m ρ _ => args_run (F := Ideal) m ρ

/-- The reference over the extended reals. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Query

end
-- ==== Proof.Arrays.lean ====
/- What the two TensorCore calls leave in their result arrays, index by index. -/
module

public import proofs.«01_k».proof.Proof.Regions
public import Idealize.ShloMosaic.Lib.Pipeline.ValueKit
public import Idealize.ShloMosaic.Lib.Pointwise

@[expose] public section

noncomputable section

namespace Cert.Query

open Cert.KernelIdeal Cert.KernelIdeal.Gen
open Idealize.ShloMosaic
open Idealize.ShloMosaic.TcCoe
open Idealize.ShloMosaic.SparseCore.Cfg (HIx)
open Idealize.ShloMosaic.Pipeline (Dat Cfg Window cellOf)

variable {F : FTy → Type} [FloatOps F]

/-- The grid point that works on batch `b`. -/
def point0 (b : Fin 4) : Fin cfg0.N := ⟨b.val, by rw [show cfg0.N = 4 from N_0]; exact b.isLt⟩

/-- The grid point that works on block `t` of 128 query rows. -/
def point2 (t : Fin 32) : Fin cfg2.N := ⟨t.val, by rw [show cfg2.N = 32 from N_2]; exact t.isLt⟩

theorem index0_7 : ∀ t : Fin cfg0.N, win0_7.index t = ![t.val, 0, 0] := by decide +kernel
theorem index0_0 : ∀ t : Fin cfg0.N, win0_0.index t = ![t.val, 0, 0] := by decide +kernel
theorem index2_4 : ∀ t : Fin cfg2.N, win2_4.index t = ![t.val, 0] := by decide +kernel
theorem index2_0 : ∀ t : Fin cfg2.N, win2_0.index t = ![t.val, 0] := by decide +kernel
theorem index2_1 : ∀ t : Fin cfg2.N, win2_1.index t = ![t.val, 0] := by decide +kernel

/-- The first call's result array: batch by batch, the embedding of that batch's block. -/
def embedArr (v : Vals (F := F)) : S4x1024x256.Idx → Elt F .f32 := fun i =>
  embedOf (blk0_0 v (point0 (i 0))) (blk0_1 v (point0 (i 0))) (blk0_2 v (point0 (i 0))) (blk0_3 v (point0 (i 0))) (blk0_4 v (point0 (i 0))) (blk0_5 v (point0 (i 0))) (blk0_6 v (point0 (i 0))) (ix3 0 (i 1) (i 2))

theorem arr0 (v : Vals (F := F)) (c : Dev nD) : (dat0 v c).arrAt 7 cfg0.N = embedArr v := by
  refine (dat0 v c).arrAt_eq_of_covers 7 _ (by decide +kernel) fun t hf y => ?_
  blk_simp
  have e : ∀ i : S4x1024x256.Idx, (i 0).val = t.val → (i 1).val = (y 1).val → (i 2).val = (y 2).val →
      embedArr v i = (dat0 v c).after 7 t y := fun i h0 h1 h2 => by
    have ht : point0 (i 0) = t := Fin.ext h0
    have hy : (ix3 0 (i 1) (i 2) : S1x1024x256.Idx) = y := by
      funext a
      match a with
      | ⟨0, _⟩ => exact Subsingleton.elim (α := Fin 1) _ _
      | ⟨1, _⟩ => exact Fin.ext h1
      | ⟨2, _⟩ => exact Fin.ext h2
    unfold embedArr
    rw [ht, hy]
    rfl
  refine (e _ ?_ ?_ ?_).symm
  all_goals
    have h0 : (y 0).val < 1 := (y 0).isLt
    blk_simp [index0_7]
    try omega

/-- The second call's result array: block by block of 128 rows, the pooling of that block. -/
def poolArr (v : Vals (F := F)) : S4096x256.Idx → Elt F .f32 := fun i =>
  poolOf (blk2_0 v (point2 ⟨(i 0).val / 128, by have := (i 0).isLt; change _ < 4096 at this; omega⟩))
    (blk2_1 v (point2 ⟨(i 0).val / 128, by have := (i 0).isLt; change _ < 4096 at this; omega⟩))
    (blk2_2 v (point2 ⟨(i 0).val / 128, by have := (i 0).isLt; change _ < 4096 at this; omega⟩))
    (blk2_3 v (point2 ⟨(i 0).val / 128, by have := (i 0).isLt; change _ < 4096 at this; omega⟩))
    (ix2 ⟨(i 0).val % 128, Nat.mod_lt _ (by omega)⟩ (i 1))

theorem arr2 (v : Vals (F := F)) (c : Dev nD) : (dat2 v c).arrAt 4 cfg2.N = poolArr v := by
  refine (dat2 v c).arrAt_eq_of_covers 4 _ (by decide +kernel) fun t hf y => ?_
  blk_simp
  have e : ∀ i : S4096x256.Idx, (i 0).val = t.val * 128 + (y 0).val → (i 1).val = (y 1).val →
      poolArr v i = (dat2 v c).after 4 t y := fun i h0 h1 => by
    have hy0 : (y 0).val < 128 := (y 0).isLt
    have ht : ∀ h, point2 ⟨(i 0).val / 128, h⟩ = t := fun h => Fin.ext (by show (i 0).val / 128 = _; omega)
    have hy : ∀ h, (ix2 ⟨(i 0).val % 128, h⟩ (i 1) : S128x256.Idx) = y := fun h => by
      funext a
      match a with
      | ⟨0, _⟩ => exact Fin.ext (by show (i 0).val % 128 = (y 0).val; omega)
      | ⟨1, _⟩ => exact Fin.ext h1
    unfold poolArr
    rw [ht, hy]
    rfl
  refine (e _ ?_ ?_).symm
  all_goals
    blk_simp [index2_4]
    try omega

/-! ## The operands' blocks -/

theorem read0_0 (v : Vals (F := F)) (b : Fin 4) (n : Fin 1024) (y : Fin 512) :
    blk0_0 v (point0 b) (ix3 0 n y) = v main_arg0 (ix3 b n y) := by
  show v main_arg0 (((cfg0.win 0).blk (point0 b)).view.emb (ix3 0 n y)) = _
  blk_ext [index0_0, point0]

theorem index0_1 : ∀ t : Fin cfg0.N, win0_1.index t = ![0, 0] := by decide +kernel

theorem read0_1 (v : Vals (F := F)) (t : Fin cfg0.N) : blk0_1 v t = v main_arg3 := by
  funext i
  show v main_arg3 (((cfg0.win 1).blk t).view.emb i) = _
  blk_ext [index0_1]

theorem index0_2 : ∀ t : Fin cfg0.N, win0_2.index t = ![0] := by decide +kernel

theorem read0_2 (v : Vals (F := F)) (t : Fin cfg0.N) : blk0_2 v t = v main_arg4 := by
  funext i
  show v main_arg4 (((cfg0.win 2).blk t).view.emb i) = _
  blk_ext [index0_2]

theorem index0_3 : ∀ t : Fin cfg0.N, win0_3.index t = ![0] := by decide +kernel

theorem read0_3 (v : Vals (F := F)) (t : Fin cfg0.N) : blk0_3 v t = v main_arg5 := by
  funext i
  show v main_arg5 (((cfg0.win 3).blk t).view.emb i) = _
  blk_ext [index0_3]

theorem index0_4 : ∀ t : Fin cfg0.N, win0_4.index t = ![0] := by decide +kernel

theorem read0_4 (v : Vals (F := F)) (t : Fin cfg0.N) : blk0_4 v t = v main_arg6 := by
  funext i
  show v main_arg6 (((cfg0.win 4).blk t).view.emb i) = _
  blk_ext [index0_4]

theorem index0_5 : ∀ t : Fin cfg0.N, win0_5.index t = ![0, 0] := by decide +kernel

theorem read0_5 (v : Vals (F := F)) (t : Fin cfg0.N) : blk0_5 v t = v main_v3 := by
  funext i
  show v main_v3 (((cfg0.win 5).blk t).view.emb i) = _
  blk_ext [index0_5]

theorem index0_6 : ∀ t : Fin cfg0.N, win0_6.index t = ![0] := by decide +kernel

theorem read0_6 (v : Vals (F := F)) (t : Fin cfg0.N) : blk0_6 v t = v main_v5 := by
  funext i
  show v main_v5 (((cfg0.win 6).blk t).view.emb i) = _
  blk_ext [index0_6]

theorem read2_0 (v : Vals (F := F)) (t : Fin 32) (r : Fin 128) (k : Fin 128) :
    blk2_0 v (point2 t) (ix2 r k) = v main_v8 (ix2 ⟨t.val * 128 + r.val, by omega⟩ k) := by
  show v main_v8 (((cfg2.win 0).blk (point2 t)).view.emb (ix2 r k)) = _
  blk_ext [index2_0, point2]

theorem read2_1 (v : Vals (F := F)) (t : Fin 32) (q : Fin 4096) (k : Fin 128) :
    blk2_1 v (point2 t) (ix2 q k) = v main_v12 (ix2 ⟨t.val * 4096 + q.val, by omega⟩ k) := by
  show v main_v12 (((cfg2.win 1).blk (point2 t)).view.emb (ix2 q k)) = _
  blk_ext [index2_1, point2]

theorem index2_2 : ∀ t : Fin cfg2.N, win2_2.index t = ![0] := by decide +kernel

theorem read2_2 (v : Vals (F := F)) (t : Fin cfg2.N) : blk2_2 v t = v main_arg9 := by
  funext i
  show v main_arg9 (((cfg2.win 2).blk t).view.emb i) = _
  blk_ext [index2_2]

theorem index2_3 : ∀ t : Fin cfg2.N, win2_3.index t = ![0] := by decide +kernel

theorem read2_3 (v : Vals (F := F)) (t : Fin cfg2.N) : blk2_3 v t = v main_arg10 := by
  funext i
  show v main_arg10 (((cfg2.win 3).blk t).view.emb i) = _
  blk_ext [index2_3]

end Cert.Query

end
-- ==== Proof.HostAt.lean ====
/- What the host's operations compute, index by index. -/
module

public import proofs.«01_k».proof.Proof.Chain
public import Idealize.ShloMosaic.Lib.Pointwise
public import Idealize.ShloMosaic.Lib.StableHlo.ReadAt

@[expose] public section

set_option maxRecDepth 16384

noncomputable section

namespace Cert.Query

open Cert.KernelIdeal Cert.KernelIdeal.Facts₀ Cert.KernelIdeal.Facts Cert.KernelIdeal.Gen
open Idealize.ShloMosaic
open Idealize.ShloMosaic.TcCoe
open Idealize.ShloMosaic.StableHlo (after)

variable (V : Valuation τ sig (Elt Ideal))

/-- The second layer's weights. -/
abbrev kW2 : FVec Ideal S512x128 .f32 := V (Proc.devRef .tc main_arg7)

/-- The left half of the projection's weights: the upper part of `W2` plus its lower part. -/
theorem hostA_left (x : Fin 256) (k : Fin 128) (h : k.val < 256) :
    after hostA V (Proc.devRef .tc main_v3) (ix2 x ⟨k.val, h⟩)
      = kW2 V (ix2 ⟨x.val, by omega⟩ k) + kW2 V (ix2 ⟨256 + x.val, by omega⟩ k) := by
  unfold hostA
  after_reads_at

/-- The right half: the lower part. -/
theorem hostA_right (x : Fin 256) (k : Fin 128) (h : 128 + k.val < 256) :
    after hostA V (Proc.devRef .tc main_v3) (ix2 x ⟨128 + k.val, h⟩) = kW2 V (ix2 ⟨256 + x.val, by omega⟩ k) := by
  unfold hostA
  after_reads_at

theorem hostA_bias_left (k : Fin 128) (h : k.val < 256) :
    after hostA V (Proc.devRef .tc main_v5) (ix1 ⟨k.val, h⟩) = V (Proc.devRef .tc main_arg8) (ix1 k) := by
  unfold hostA
  after_reads_at

theorem hostA_bias_right (k : Fin 128) (h : 128 + k.val < 256) :
    after hostA V (Proc.devRef .tc main_v5) (ix1 ⟨128 + k.val, h⟩) = (0 : EReal) := by
  unfold hostA
  after_reads_at

theorem hostB_left (b : Fin 4) (n : Fin 1024) (k : Fin 128) (h : b.val * 1024 + n.val < 4096) :
    after hostB V (Proc.devRef .tc main_v8) (ix2 ⟨b.val * 1024 + n.val, h⟩ k) = V (Proc.devRef .tc main_v6) (ix3 b n ⟨k.val, by omega⟩) := by
  unfold hostB
  after_reads_at

theorem hostB_right (b : Fin 4) (n : Fin 1024) (k : Fin 128) (h : b.val * 1024 + n.val < 4096) :
    after hostB V (Proc.devRef .tc main_v10) (ix2 ⟨b.val * 1024 + n.val, h⟩ k) = V (Proc.devRef .tc main_v6) (ix3 b n ⟨128 + k.val, by omega⟩) := by
  unfold hostB
  after_reads_at

theorem hostB_dis (b : Fin 4) (n : Fin 1024) (k : Fin 1024) (h : b.val * 1024 + n.val < 4096) :
    after hostB V (Proc.devRef .tc main_v11) (ix2 ⟨b.val * 1024 + n.val, h⟩ k) = V (Proc.devRef .tc main_arg2) (ix3 b n k) := by
  unfold hostB
  after_reads_at

theorem hostC_at (b : Fin 4) (n : Fin 1024) (c : Fin 256) :
    after hostC V (Proc.devRef .tc main_v14) (ix3 b n c) = V (Proc.devRef .tc main_v13) (ix2 ⟨b.val * 1024 + n.val, by omega⟩ c) := by
  unfold hostC
  after_reads_at

end Cert.Query

end
-- ==== Proof.Row.lean ====
/- One row's arithmetic over the extended reals: the layer norm in the two forms that the programs use, and the
   projection of a row beside its difference from another, as one product or as two. -/
module

public import Idealize.ShloMosaic.PureOps.Ideal

@[expose] public section

noncomputable section

namespace Cert.Query

open Idealize.ShloMosaic

/-- The mean of a row, `c` being its length. -/
def mean (N : ℕ) (c : EReal) (h : Fin N → EReal) : EReal := Ideal.div (∑ x, h x) c

/-- The variance of a row. -/
def vari (N : ℕ) (c : EReal) (h : Fin N → EReal) : EReal := Ideal.div (∑ x, (h x - mean N c h) * (h x - mean N c h)) c

/-- The norm of a row by the reciprocal of the root, then the greater of it and zero. -/
def normA (N : ℕ) (c e : EReal) (h g be : Fin N → EReal) (k : Fin N) : EReal :=
  max ((h k - mean N c h) * Ideal.rsqrt (vari N c h + e) * g k + be k) 0

/-- The same by the quotient by the root. -/
def normB (N : ℕ) (c e : EReal) (h g be : Fin N → EReal) (k : Fin N) : EReal :=
  max (Ideal.div (h k - mean N c h) (Ideal.sqrt (vari N c h + e)) * g k + be k) 0

theorem sq_nonneg' (d : EReal) : 0 ≤ d * d := by
  induction d with
  | bot => simp
  | top => simp
  | coe r => exact_mod_cast mul_self_nonneg r

theorem sum_sq_nonneg {N : ℕ} (d : Fin N → EReal) : 0 ≤ ∑ x, d x * d x := Finset.sum_nonneg fun _ _ => sq_nonneg' _

/-- A variance is zero, a positive real or infinite. -/
theorem vari_cases (N : ℕ) (c : ℝ) (hc : 0 < c) (h : Fin N → EReal) :
    vari N c h = ⊤ ∨ ∃ v : ℝ, 0 ≤ v ∧ vari N c h = v ∧ ∑ x, (h x - mean N c h) * (h x - mean N c h) ≠ ⊤ := by
  have hS := sum_sq_nonneg fun x => h x - mean N c h
  have hc' : (0 : ℝ) < 1 / c := by positivity
  unfold vari
  rw [Ideal.div_coe hc.ne']
  generalize (∑ x, (h x - mean N c h) * (h x - mean N c h)) = S at *
  induction S with
  | bot => simp at hS
  | top => left; exact EReal.top_mul_coe_of_pos hc'
  | coe r =>
    right
    refine ⟨r * (1 / c), ?_, by rw [EReal.coe_mul], EReal.coe_ne_top r⟩
    have : (0 : ℝ) ≤ r := by exact_mod_cast hS
    positivity

/-- The two forms are one. -/
theorem quot_root (c e : ℝ) (hc : 0 < c) (he : 0 < e) (N : ℕ) (h : Fin N → EReal) (a : EReal) :
    Ideal.div a (Ideal.sqrt (vari N c h + e)) = a * Ideal.rsqrt (vari N c h + e) := by
  rcases vari_cases N c hc h with hv | ⟨v, hv, e1, -⟩
  · rw [hv, EReal.top_add_coe, Ideal.sqrt_top, Ideal.rsqrt_top, Ideal.div, if_neg (by simp), EReal.inv_top]
  · have hp : 0 < v + e := by positivity
    rw [e1, ← EReal.coe_add, Ideal.sqrt_coe, Ideal.rsqrt_coe, if_neg (not_lt.mpr hp.le), if_neg (not_lt.mpr hp.le), if_neg hp.ne',
      Ideal.div_coe (Real.sqrt_pos.mpr hp).ne', one_div]

theorem normB_eq (c e : ℝ) (hc : 0 < c) (he : 0 < e) (N : ℕ) (h g be : Fin N → EReal) (k : Fin N) :
    normB N c e h g be k = normA N c e h g be k := by
  unfold normB normA
  rw [quot_root c e hc he]

/-- A row over its root is real, whatever the row. -/
theorem scaled_real (c e : ℝ) (hc : 0 < c) (he : 0 < e) (N : ℕ) (h : Fin N → EReal) (k : Fin N) :
    ∃ r : ℝ, (h k - mean N c h) * Ideal.rsqrt (vari N c h + e) = r := by
  rcases vari_cases N c hc h with hv | ⟨v, hv, e1, hS⟩
  · refine ⟨0, ?_⟩
    rw [hv, EReal.top_add_coe, Ideal.rsqrt_top, mul_zero]; rfl
  · have hp : 0 < v + e := by positivity
    have hk : (h k - mean N c h) * (h k - mean N c h) ≠ ⊤ := fun ht => hS (top_le_iff.mp (ht ▸
      Finset.single_le_sum (f := fun x => (h x - mean N c h) * (h x - mean N c h)) (fun _ _ => sq_nonneg' _) (Finset.mem_univ k)))
    rw [e1, ← EReal.coe_add, Ideal.rsqrt_coe, if_neg (not_lt.mpr hp.le), if_neg hp.ne']
    generalize h k - mean N c h = d at hk
    induction d with
    | bot => simp at hk
    | top => simp at hk
    | coe r => exact ⟨r * (Real.sqrt (v + e))⁻¹, by rw [EReal.coe_mul]⟩

/-- A sum of products of reals. -/
theorem sum_real {N : ℕ} (x w : Fin N → ℝ) : ∑ k, (x k : EReal) * (w k : EReal) = ((∑ k, x k * w k : ℝ) : EReal) := by
  simp only [← EReal.coe_mul]
  exact (map_sum (⟨⟨Real.toEReal, EReal.coe_zero⟩, EReal.coe_add⟩ : ℝ →+ EReal) _ _).symm

/-- The projection of a row by the sum of two weights, less that of another row by the second weight, is the first
    row's by the first weight and the rows' difference's by the second. -/
theorem proj {N : ℕ} (X Y A B : Fin N → EReal) (b : EReal) (hX : ∀ k, ∃ r : ℝ, 0 ≤ r ∧ X k = r) (hY : ∀ k, ∃ r : ℝ, 0 ≤ r ∧ Y k = r) (hB : ∀ k, ∃ r : ℝ, B k = r) :
    (∑ k, X k * (A k + B k) + b) - ∑ k, Y k * B k = ∑ k, X k * A k + ∑ k, (X k - Y k) * B k + b := by
  choose x hx0 hx using hX
  choose y hy0 hy using hY
  choose w hw using hB
  have e1 : ∑ k, X k * (A k + B k) = ∑ k, X k * A k + ((∑ k, x k * w k : ℝ) : EReal) := by
    rw [← sum_real, ← Finset.sum_add_distrib]
    refine Finset.sum_congr rfl fun k _ => ?_
    rw [hx, hw, EReal.left_distrib_of_nonneg_of_ne_top (by exact_mod_cast hx0 k) (EReal.coe_ne_top _)]
  have e2 : ∑ k, Y k * B k = ((∑ k, y k * w k : ℝ) : EReal) := by
    rw [← sum_real]; exact Finset.sum_congr rfl fun k _ => by rw [hy, hw]
  have e3 : ∑ k, (X k - Y k) * B k = ((∑ k, x k * w k : ℝ) : EReal) - ((∑ k, y k * w k : ℝ) : EReal) := by
    rw [← EReal.coe_sub, ← Finset.sum_sub_distrib]
    simp only [← sub_mul]
    rw [← sum_real]
    exact Finset.sum_congr rfl fun k _ => by rw [hx, hy, hw, EReal.coe_sub]
  rw [e1, e2, e3, sub_eq_add_neg, sub_eq_add_neg]
  generalize (∑ k, X k * A k) = S
  generalize (((∑ k, x k * w k : ℝ)) : EReal) = P
  generalize -(((∑ k, y k * w k : ℝ)) : EReal) = Q
  ac_rfl

end Cert.Query

end
-- ==== Proof.Consts.lean ====
/- The constants of the programs, as the extended reals that their bits denote. -/
module

public import Idealize.ShloMosaic.PureOps.Ideal

@[expose] public section

noncomputable section

namespace Cert.Query

open Idealize.ShloMosaic

/-- The number of features in the first norm. -/
theorem ofBits_256 : Ideal.ofBits .f32 0x43800000#32 = ((256 : ℝ) : EReal) := by
  simp [Ideal.ofBits, Ideal.ieee, -EReal.coe_mul]; norm_num

/-- The number of features in the second norm. -/
theorem ofBits_128 : Ideal.ofBits .f32 0x43000000#32 = ((128 : ℝ) : EReal) := by
  simp [Ideal.ofBits, Ideal.ieee, -EReal.coe_mul]; norm_num

/-- The number added to a variance is a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- Infinity. -/
theorem ofBits_inf : Ideal.ofBits .f32 0x7F800000#32 = (⊤ : EReal) := by
  simp [Ideal.ofBits, Ideal.ieee]

end Cert.Query

end
-- ==== Proof.KernelAt.lean ====
/- The two TensorCore calls' values, element by element, over the extended reals. -/
module

public import proofs.«01_k».proof.Proof.Embed
public import proofs.«01_k».proof.Proof.Row
public import proofs.«01_k».proof.Proof.Consts
public import Idealize.ShloMosaic.Lib.Pointwise
public import Idealize.ShloMosaic.Lib.Tactic.CleanTypes

@[expose] public section

set_option maxRecDepth 16384

noncomputable section

namespace Cert.Query

open Cert.KernelIdeal Cert.KernelIdeal.Gen
open Idealize.ShloMosaic

/-- The first norm's length, the second's, the number added to a variance, the number of neighbours, and the value
    under every other: the constants of both programs. -/
abbrev c256 : EReal := Ideal.ofBits .f32 0x43800000#32
abbrev c128 : EReal := Ideal.ofBits .f32 0x43000000#32
abbrev cEps : EReal := Ideal.ofBits .f32 0x3727C5AC#32
abbrev c32 : EReal := Ideal.ofBits .f32 0x42000000#32
abbrev cBot : EReal := Ideal.ofBits .f32 0xFF800000#32

theorem dense_at (f : FVec Ideal S1x1024x512 .f32) (w : FVec Ideal S512x256 .f32) (b : FVec Ideal S256 .f32) (n : Fin 1024) (k : Fin 256) :
    denseOf f w b (ix2 n k) = ∑ x : Fin 512, f (ix3 0 n x) * w (ix2 x k) + b (ix1 k) := by
  pointwise [denseOf]

theorem mean256_at (h : FVec Ideal S1024x256 .f32) (n : Fin 1024) : mean256 h (ix2 n 0) = mean 256 c256 fun k => h (ix2 n k) := by
  pointwise [mean256, mean]

theorem centred256_at (h : FVec Ideal S1024x256 .f32) (n : Fin 1024) (k : Fin 256) :
    centred256 h (ix2 n k) = h (ix2 n k) - mean 256 c256 fun k => h (ix2 n k) := by
  pointwise [centred256]
  rw [mean256_at]

theorem normed256_at (h : FVec Ideal S1024x256 .f32) (g be : FVec Ideal S256 .f32) (n : Fin 1024) (k : Fin 256) :
    normed256 h g be (ix2 n k) = normA 256 c256 cEps (fun k => h (ix2 n k)) (fun k => g (ix1 k)) (fun k => be (ix1 k)) k := by
  have hv : mean256 (mulf (centred256 h) (centred256 h)) (ix2 n 0) = vari 256 c256 fun k => h (ix2 n k) := by
    rw [mean256_at]
    unfold vari
    conv_lhs => unfold mean
    pointwise
    simp only [centred256_at]
  pointwise [normed256]
  rw [hv, centred256_at]
  rfl

theorem embed_at (f : FVec Ideal S1x1024x512 .f32) (w : FVec Ideal S512x256 .f32) (b g be : FVec Ideal S256 .f32) (wzy : FVec Ideal S256x256 .f32) (bzy : FVec Ideal S256 .f32)
    (n : Fin 1024) (k : Fin 256) :
    embedOf f w b g be wzy bzy (ix3 0 n k)
      = ∑ x : Fin 256, normA 256 c256 cEps (fun k => ∑ y : Fin 512, f (ix3 0 n y) * w (ix2 y k) + b (ix1 k)) (fun k => g (ix1 k)) (fun k => be (ix1 k)) x * wzy (ix2 x k) + bzy (ix1 k) := by
  pointwise [embedOf]
  simp only [normed256_at, dense_at]

theorem diff_at (z : FVec Ideal S128x128 .f32) (g : FVec Ideal S4096x128 .f32) (r : Fin 128) (j : Fin 32) (c : Fin 128) :
    diffOf z g (ix3 r j c) = z (ix2 r c) - g (ix2 ⟨r.val * 32 + j.val, by omega⟩ c) := by
  pointwise [diffOf]

theorem normed32_at (x : FVec Ideal S128x32x128 .f32) (g be : FVec Ideal S128 .f32) (r : Fin 128) (j : Fin 32) (c : Fin 128) :
    normed32 x g be (ix3 r j c) = normA 128 c128 cEps (fun k => x (ix3 r j k)) (fun k => g (ix1 k)) (fun k => be (ix1 k)) c := by
  pointwise [normed32, centred32, mean32]
  unfold normA vari mean
  rfl

/-- The last call's value: the mean over the neighbours in the first half, the greatest in the second. -/
theorem pool_at (z : FVec Ideal S128x128 .f32) (g : FVec Ideal S4096x128 .f32) (g2 be2 : FVec Ideal S128 .f32) (r : Fin 128) (c : Fin 256) :
    poolOf z g g2 be2 (ix2 r c)
      = if h : c.val < 128 then
          Ideal.div (∑ j : Fin 32, normA 128 c128 cEps (fun k => z (ix2 r k) - g (ix2 ⟨r.val * 32 + j.val, by omega⟩ k)) (fun k => g2 (ix1 k)) (fun k => be2 (ix1 k)) ⟨c.val, h⟩) c32
        else
          Finset.univ.fold max cBot fun j : Fin 32 =>
            normA 128 c128 cEps (fun k => z (ix2 r k) - g (ix2 ⟨r.val * 32 + j.val, by omega⟩ k)) (fun k => g2 (ix1 k)) (fun k => be2 (ix1 k)) ⟨c.val - 128, by omega⟩ := by
  pointwise [poolOf]
  simp only [normed32_at, diff_at]

end Cert.Query

end
-- ==== Proof.Sorted.lean ====
/- The first places of a sorted row whose near candidates hold their own numbers and whose others hold 1024. -/
module

public import proofs.«01_k».proof.Proof.Words
public import Idealize.ShloMosaic.Lib.SortFacts
public import Idealize.ShloMosaic.Lib.Routing.Count

@[expose] public section

noncomputable section

namespace Cert.Query

open Idealize.ShloMosaic

variable (p : ℕ → Prop) [DecidablePred p]

/-- A candidate's number if it is near, 1024 if not. -/
def mark (k : ℕ) : ℕ := if p k then k else 1024

theorem mark_lt_iff (t : ℕ) (ht : t ≤ 1024) (k : ℕ) : mark p k < t ↔ p k ∧ k < t := by
  unfold mark
  split <;> simp [*]

theorem mark_le (k : ℕ) (hk : k < 1024) : mark p k ≤ 1024 := by
  unfold mark; split <;> omega

theorem count_and_lt (N t : ℕ) (ht : t ≤ N) : Nat.count (fun k => p k ∧ k < t) N = Nat.count p t := by
  obtain ⟨d, rfl⟩ := Nat.exists_eq_add_of_le ht
  rw [Nat.count_add, Routing.count_congr_of_lt (P := fun k => p k ∧ k < t) (Q := p) t fun i hi => ⟨fun h => h.1, fun h => ⟨h, hi⟩⟩]
  have : Nat.count (fun k => p (t + k) ∧ t + k < t) d = 0 := by
    rw [Nat.count_iff_forall_not]; intro k _ h; omega
  omega

/-- Place `n` of the sorted row is below `t` exactly when more than `n` near candidates are. -/
theorem place_lt (σ : Fin 1024 → Fin 1024) (hσ : Function.Bijective σ) (hm : ∀ i j : Fin 1024, i < j → mark p (σ i).val ≤ mark p (σ j).val)
    (n : Fin 1024) (t : ℕ) (ht : t ≤ 1024) : mark p (σ n).val < t ↔ n.val < Nat.count p t := by
  have hc : Nat.count p t = (Finset.univ.filter fun i : Fin 1024 => mark p (σ i).val < t).card := by
    rw [← count_and_lt p 1024 t ht, ← Routing.card_filter_fin]
    refine (Finset.card_bij (fun i _ => σ i) ?_ (fun a _ b _ h => hσ.1 h) ?_).symm
    · intro i hi
      rw [Finset.mem_filter] at hi ⊢
      exact ⟨Finset.mem_univ _, (mark_lt_iff p t ht _).mp hi.2⟩
    · intro j hj
      obtain ⟨i, rfl⟩ := hσ.2 j
      rw [Finset.mem_filter] at hj
      exact ⟨i, Finset.mem_filter.mpr ⟨Finset.mem_univ _, (mark_lt_iff p t ht _).mpr hj.2⟩, rfl⟩
  let w : ℕ → ℕ := fun i => if h : i < 1024 then mark p (σ ⟨i, h⟩).val else 0
  have hw : ∀ i : Fin 1024, w i.val = mark p (σ i).val := fun i => dif_pos i.isLt
  have h1 : Nat.count (fun i => w i < t) 1024 = Nat.count p t := by
    rw [hc, ← Routing.card_filter_fin]; simp only [hw]
  rw [← h1, ← hw n]
  refine Routing.lt_count_iff (Q := fun i => w i < t) (fun a b hab hb h => ?_) n.isLt
  rcases Nat.lt_or_eq_of_le hab with hlt | rfl
  · have := hm ⟨a, by omega⟩ ⟨b, hb⟩ hlt
    have e1 := hw ⟨a, by omega⟩
    have e2 := hw ⟨b, hb⟩
    simp only at e1 e2 h ⊢
    omega
  · exact h

/-- What place `n` holds. -/
theorem place_eq (σ : Fin 1024 → Fin 1024) (hσ : Function.Bijective σ) (hm : ∀ i j : Fin 1024, i < j → mark p (σ i).val ≤ mark p (σ j).val)
    (n : Fin 1024) : mark p (σ n).val = if n.val < Nat.count p 1024 then nth p n.val else 1024 := by
  split
  · next h =>
    obtain ⟨k, hk, hp, hcnt⟩ := exists_of_lt_count p n.val 1024 h
    rw [show nth p n.val = k by rw [← hcnt, nth_count p k hp]]
    have h1 := place_lt p σ hσ hm n k (by omega)
    have h2 := place_lt p σ hσ hm n (k + 1) (by omega)
    rw [Nat.count_succ, if_pos hp] at h2
    omega
  · next h =>
    have h1 := place_lt p σ hσ hm n 1024 (by omega)
    have h2 := mark_le p (σ n).val (σ n).isLt
    omega

/-- The sorted row, as words: near candidates' numbers in order, then 1024. -/
theorem sorted_word (v : Fin 1024 → BitVec 32) (hv : ∀ k, v k = BitVec.ofNat 32 (mark p k.val)) (n : Fin 1024) :
    v (sortedFrom (fun k k' => IntOp.cmpi .slt (v k) (v k') == 1#1) n) = BitVec.ofNat 32 (if n.val < Nat.count p 1024 then nth p n.val else 1024) := by
  have hcmp : (fun k k' => IntOp.cmpi .slt (v k) (v k') == 1#1) = fun k k' : Fin 1024 => decide (mark p k.val < mark p k'.val) := by
    funext k k'
    have h1 := mark_le p k.val k.isLt
    have h2 := mark_le p k'.val k'.isLt
    rw [hv, hv, cmpi_slt_small _ _ (by omega) (by omega)]
    split <;> simp [*]
  rw [hcmp, hv, place_eq p _ ⟨sortedFrom_injective _, sortedFrom_surjective _⟩]
  intro i j hij
  have := sortedFrom_noInversion (fun k k' : Fin 1024 => decide (mark p k.val < mark p k'.val)) (fun k k' : Fin 1024 => decide (mark p k.val < mark p k'.val))
    (fun a b h => by simp only [decide_eq_true_eq, decide_eq_false_iff_not] at *; omega) (fun _ _ h => h)
    (fun a b c h1 h2 => by simp only [decide_eq_false_iff_not] at *; omega) i j hij
  simp only [decide_eq_false_iff_not] at this
  omega

/-- A row with a near candidate: what the thirty-two places hold, 1024 being replaced by the first place. -/
theorem place_sel (n : ℕ) (h : 0 < Nat.count p 1024) :
    (if (if n < Nat.count p 1024 then nth p n else 1024) = 1024 then (if 0 < Nat.count p 1024 then nth p 0 else 1024) else if n < Nat.count p 1024 then nth p n else 1024) = sel p n := by
  unfold sel
  by_cases hn : n < Nat.count p 1024
  · have := nth_lt p n 1024 hn
    rw [if_pos hn, if_pos hn, if_neg (by omega)]
  · rw [if_neg hn, if_neg hn, if_pos rfl, if_pos h, if_pos h]

end Cert.Query

end
-- ==== Proof.RefAt.lean ====
/- The reference's values, element by element, over the extended reals. -/
module

public import proofs.«01_k».proof.Proof.KernelAt
public import proofs.«01_k».proof.Proof.Sorted
public import proofs.«01_k».proof.Proof.Setup
public import Idealize.ShloMosaic.Lib.StableHlo.Predicate
public import Idealize.ShloMosaic.Lib.Routing.OpsPair
public import proofs.«01_k».proof.Proof.Gen.ReferenceIdeal.Run

@[expose] public section

set_option maxRecDepth 16384

noncomputable section

namespace Cert.Query

open Cert.ReferenceIdeal Cert.ReferenceIdeal.Gen Cert.ReferenceIdeal.Value
open Idealize.ShloMosaic

attribute [local instance] Cert.ReferenceIdeal.Gen.facts

/-- The row that the gather reads for a neighbour. -/
theorem gather_at (x : FVec Ideal S4x1024x256 .f32) (idx : IVec S4x1024x32x1 32) (b : Fin 4) (n : Fin 1024) (j : Fin 32) (k : Fin 256) (s : Fin 1024)
    (hs : idx (ix4 b n j 0) = BitVec.ofNat 32 s.val) :
    Host.gather gather_S4x1024x256_S4x1024x32x1_S4x1024x32x256_3_1_0_0_1_3_11256 x idx (ix4 b n j k) = x (ix3 b s k) := by
  unfold Host.gather
  congr 1
  have h1 : ((gather_S4x1024x256_S4x1024x32x1_S4x1024x32x256_3_1_0_0_1_3_11256).siIdx (ix4 b n j k) ⟨0, by decide⟩) = ix4 b n j 0 := by
    funext a
    match a with
    | ⟨0, _⟩ => rfl
    | ⟨1, _⟩ => rfl
    | ⟨2, _⟩ => rfl
    | ⟨3, _⟩ => rfl
  funext a
  match a with
  | ⟨0, _⟩ => apply Fin.ext; show 0 + b.val + 0 = b.val; omega
  | ⟨1, _⟩ =>
    apply Fin.ext
    show min (idx ((gather_S4x1024x256_S4x1024x32x1_S4x1024x32x256_3_1_0_0_1_3_11256).siIdx (ix4 b n j k) ⟨0, by decide⟩)).toInt.toNat (1024 - 1) + 0 + 0 = s.val
    have := s.isLt
    rw [h1, hs, StableHlo.Predicate.toInt_ofNat_small _ (by omega)]
    omega
  | ⟨2, _⟩ => apply Fin.ext; show 0 + 0 + k.val = k.val; omega

variable (V : Valuation τ sig (Elt Ideal))

/-- The arguments. -/
abbrev rFeat : FVec Ideal S4x1024x512 .f32 := V (Proc.devRef .tc main_arg0)
abbrev rDis : FVec Ideal S4x1024x1024 .f32 := V (Proc.devRef .tc main_arg2)
abbrev rW1 : FVec Ideal S512x256 .f32 := V (Proc.devRef .tc main_arg3)
abbrev rB1 : FVec Ideal S256 .f32 := V (Proc.devRef .tc main_arg4)
abbrev rG1 : FVec Ideal S256 .f32 := V (Proc.devRef .tc main_arg5)
abbrev rBe1 : FVec Ideal S256 .f32 := V (Proc.devRef .tc main_arg6)
abbrev rW2 : FVec Ideal S512x128 .f32 := V (Proc.devRef .tc main_arg7)
abbrev rB2 : FVec Ideal S128 .f32 := V (Proc.devRef .tc main_arg8)
abbrev rG2 : FVec Ideal S128 .f32 := V (Proc.devRef .tc main_arg9)
abbrev rBe2 : FVec Ideal S128 .f32 := V (Proc.devRef .tc main_arg10)

/-- The dense layer of a point. -/
def dense (b : Fin 4) (n : Fin 1024) (k : Fin 256) : EReal := ∑ x : Fin 512, rFeat V (ix3 b n x) * rW1 V (ix2 x k) + rB1 V (ix1 k)

theorem v3_at (b : Fin 4) (n : Fin 1024) (k : Fin 256) : (res_main_v3 V : FVec Ideal S4x1024x256 .f32) (ix3 b n k) = dense V b n k := by
  unfold res_main_v3
  clean_types
  pointwise [dense]

theorem v7_at (b : Fin 4) (n : Fin 1024) : (res_main_v7 V : FVec Ideal S4x1024x1 .f32) (ix3 b n 0) = mean 256 c256 (dense V b n) := by
  unfold res_main_v7
  clean_types
  pointwise
  simp only [v3_at]
  rfl

theorem v9_at (b : Fin 4) (n : Fin 1024) (k : Fin 256) : (res_main_v9 V : FVec Ideal S4x1024x256 .f32) (ix3 b n k) = dense V b n k - mean 256 c256 (dense V b n) := by
  unfold res_main_v9
  clean_types
  pointwise
  rw [v3_at, v7_at]

/-- A point's features after the first layer. -/
def feat (b : Fin 4) (n : Fin 1024) (k : Fin 256) : EReal := normA 256 c256 cEps (dense V b n) (fun k => rG1 V (ix1 k)) (fun k => rBe1 V (ix1 k)) k

theorem v28_at (b : Fin 4) (n : Fin 1024) (k : Fin 256) : (res_main_v28 V : FVec Ideal S4x1024x256 .f32) (ix3 b n k) = feat V b n k := by
  obtain ⟨e, he, h⟩ := ofBits_eps
  unfold feat
  rw [show cEps = (e : EReal) from h, show c256 = ((256 : ℝ) : EReal) from ofBits_256, ← normB_eq 256 e (by norm_num) he, ← ofBits_256, ← h]
  unfold res_main_v28
  clean_types
  pointwise
  simp only [v3_at, v7_at, v9_at]
  rfl

/-! ## The neighbours -/

/-- Within the radius, by a point's row of distances. -/
abbrev nearOf (b : Fin 4) (n : Fin 1024) : ℕ → Prop := near (F := Ideal) fun k => rDis V (ix3 b n k)

theorem near_iff (b : Fin 4) (n k : Fin 1024) : nearOf V b n k.val ↔ ¬ Ideal.ofBits .f32 0x3D04B5DD#32 < rDis V (ix3 b n k) := by
  unfold nearOf near
  rw [not_lt]
  constructor
  · rintro ⟨h, e⟩
    have e' : BitVec.ofBool (decide ((rDis V (ix3 b n k) : EReal) ≤ Ideal.ofBits .f32 0x3D04B5DD#32)) = 1#1 := e
    by_contra hn
    rw [decide_eq_false hn] at e'
    exact absurd e' (by decide)
  · intro h
    refine ⟨k.isLt, ?_⟩
    show BitVec.ofBool (decide ((rDis V (ix3 b n k) : EReal) ≤ Ideal.ofBits .f32 0x3D04B5DD#32)) = 1#1
    rw [decide_eq_true h]; rfl

/-- A sorted row, read at a place. -/
theorem sort_at (x : IVec S4x1024x1024 32) (b : Fin 4) (n j : Fin 1024) :
    Host.sort S4x1024x1024 2 comparator_i32_d2 x (ix3 b n j)
      = (fun k => x (ix3 b n k)) (sortedFrom (fun k k' => IntOp.cmpi .slt ((fun k => x (ix3 b n k)) k) ((fun k => x (ix3 b n k)) k') == 1#1) j) := by
  have ha : ∀ k : Fin 1024, Shape.Idx.along (s := S4x1024x1024) (ix3 b n j) ⟨2, Nat.lt_succ_self 2⟩ k = ix3 b n k := by
    intro k; funext a
    match a with
    | ⟨0, _⟩ => rfl
    | ⟨1, _⟩ => rfl
    | ⟨2, _⟩ => rfl
  unfold Host.sort
  rw [dif_pos (Nat.lt_succ_self 2)]
  show x (Shape.Idx.along (s := S4x1024x1024) (ix3 b n j) ⟨2, Nat.lt_succ_self 2⟩ (sortedFrom (fun k k' : Fin 1024 =>
    comparator_i32_d2 (x (Shape.Idx.along (s := S4x1024x1024) (ix3 b n j) ⟨2, Nat.lt_succ_self 2⟩ k)) (x (Shape.Idx.along (s := S4x1024x1024) (ix3 b n j) ⟨2, Nat.lt_succ_self 2⟩ k')) == 1#1) j)) = _
  simp only [ha]
  exact congrArg x (ha (sortedFrom (fun k k' : Fin 1024 => IntOp.cmpi .slt (x (ix3 b n k)) (x (ix3 b n k')) == 1#1) j))

/-- A row of marks, sorted. -/
theorem sort_marks (p : ℕ → Prop) [DecidablePred p] (x : IVec S4x1024x1024 32) (b : Fin 4) (n : Fin 1024)
    (hx : ∀ k : Fin 1024, x (ix3 b n k) = BitVec.ofNat 32 (mark p k.val)) (j : Fin 1024) :
    Host.sort S4x1024x1024 2 comparator_i32_d2 x (ix3 b n j) = BitVec.ofNat 32 (if j.val < Nat.count p 1024 then nth p j.val else 1024) := by
  rw [sort_at]
  exact sorted_word p (fun k => x (ix3 b n k)) hx j

/-- A small word against a bound, signed. -/
theorem within (s : ℕ) (h : s < 1024) : IntOp.andi (IntOp.cmpi .sge (BitVec.ofNat 32 s) 0#32) (IntOp.cmpi .sle (BitVec.ofNat 32 s) 1023#32) = 1#1 := by
  have h1 : (0#32).sle (BitVec.ofNat 32 s) = true := by
    rw [BitVec.sle_eq_decide, StableHlo.Predicate.toInt_ofNat_small s (by omega)]; simp
  have h2 : (BitVec.ofNat 32 s).sle 1023#32 = true := by
    rw [BitVec.sle_eq_decide, StableHlo.Predicate.toInt_ofNat_small s (by omega)]; simp; omega
  show IntOp.andi (BitVec.ofBool ((0#32).sle (BitVec.ofNat 32 s))) (BitVec.ofBool ((BitVec.ofNat 32 s).sle 1023#32)) = 1#1
  rw [h1, h2]; rfl

/-- A small word, replaced where it is 1024. -/
theorem pad_word (w f : ℕ) (hw : w ≤ 1024) : Scalar.select (IntOp.cmpi .eq (BitVec.ofNat 32 w) 1024#32) (BitVec.ofNat 32 f) (BitVec.ofNat 32 w) = BitVec.ofNat 32 (if w = 1024 then f else w) := by
  show (if BitVec.ofBool (BitVec.ofNat 32 w == 1024#32) = 1 then _ else _) = _
  by_cases h : w = 1024
  · subst h; rw [if_pos rfl]; rfl
  · have : (BitVec.ofNat 32 w == 1024#32) = false := by
      rw [beq_eq_false_iff_ne]
      intro e
      have := congrArg BitVec.toNat e
      simp at this
      omega
    rw [this, if_neg h]; rfl

theorem v36_at (b : Fin 4) (n : Fin 1024) (j : Fin 32) :
    (res_main_v36 V : IVec S4x1024x32 32) (ix3 b n j) = BitVec.ofNat 32 (if j.val < Nat.count (nearOf V b n) 1024 then nth (nearOf V b n) j.val else 1024) := by
  unfold res_main_v36
  clean_types
  have hj := j.isLt
  pointwise
  refine sort_marks (nearOf V b n) _ b n (fun k => ?_) ⟨j.val, by omega⟩
  pointwise
  unfold mark
  have := near_iff V b n k
  by_cases h : nearOf V b n k.val
  · rw [if_pos h, if_neg (this.mp h)]
  · rw [if_neg h, if_pos (by by_contra hc; exact h (this.mpr hc))]; rfl

/-- With a near candidate in the row, the neighbours' row numbers. -/
theorem v41_at (b : Fin 4) (n : Fin 1024) (j : Fin 32) (h : 0 < Nat.count (nearOf V b n) 1024) :
    (res_main_v41 V : IVec S4x1024x32 32) (ix3 b n j) = BitVec.ofNat 32 (sel (nearOf V b n) j.val) := by
  rw [← place_sel (nearOf V b n) j.val h]
  unfold res_main_v41
  clean_types
  pointwise
  rw [v36_at, v36_at]
  refine pad_word _ _ ?_
  split
  · next h' => exact (nth_lt _ _ _ h').le
  · exact le_rfl

theorem call4_v5_at (b : Fin 4) (n : Fin 1024) (j : Fin 32) (h : 0 < Nat.count (nearOf V b n) 1024) :
    (res_main_call4_v5 V : IVec S4x1024x32x1 32) (ix4 b n j 0) = BitVec.ofNat 32 (sel (nearOf V b n) j.val) := by
  have hs := sel_lt (nearOf V b n) j.val
  unfold res_main_call4_v5
  clean_types
  pointwise
  rw [v41_at V b n j h]
  refine Routing.wrap_of_lt _ _ ?_
  rw [BitVec.toNat_ofNat]
  omega

/-- The row number of a neighbour. -/
abbrev nb (b : Fin 4) (n : Fin 1024) (j : Fin 32) : Fin 1024 := ⟨sel (nearOf V b n) j.val, sel_lt _ _⟩

/-- The projection of a point's features beside their difference from a neighbour's. -/
def rel (b : Fin 4) (n : Fin 1024) (j : Fin 32) (c : Fin 128) : EReal :=
  ∑ x : Fin 256, feat V b n x * rW2 V (ix2 ⟨x.val, by omega⟩ c) + ∑ x : Fin 256, (feat V b n x - feat V b (nb V b n j) x) * rW2 V (ix2 ⟨256 + x.val, by omega⟩ c)
    + rB2 V (ix1 c)

theorem v52_at (b : Fin 4) (n : Fin 1024) (j : Fin 32) (c : Fin 128) (h : 0 < Nat.count (nearOf V b n) 1024) :
    (res_main_v52 V : FVec Ideal S4x1024x32x128 .f32) (ix4 b n j c) = rel V b n j c := by
  have hi := call4_v5_at V b n j h
  unfold res_main_v52
  clean_types
  pointwise
  have hm : Finset.fold IntOp.andi (1#1) (fun x : Fin 1 => IntOp.andi (IntOp.cmpi .sge ((res_main_call4_v5 V : IVec S4x1024x32x1 32) (ix4 b n j x)) 0#32)
      (IntOp.cmpi .sle ((res_main_call4_v5 V : IVec S4x1024x32x1 32) (ix4 b n j x)) 1023#32)) Finset.univ = 1#1 := by
    rw [Finset.univ_unique, Finset.fold_singleton]
    show IntOp.andi (IntOp.andi (IntOp.cmpi .sge ((res_main_call4_v5 V : IVec S4x1024x32x1 32) (ix4 b n j 0)) 0#32)
      (IntOp.cmpi .sle ((res_main_call4_v5 V : IVec S4x1024x32x1 32) (ix4 b n j 0)) 1023#32)) 1#1 = 1#1
    rw [hi, within _ (sel_lt _ _)]; rfl
  unfold rel
  simp only [v28_at]
  refine congrArg₂ (· + ·) (congrArg₂ (· + ·) rfl (Finset.sum_congr rfl fun x _ => congrArg₂ (· * ·) (congrArg₂ (· - ·) rfl ?_) rfl)) rfl
  refine (congrArg (fun c => Scalar.select c _ _) hm).trans ?_
  show Host.gather gather_S4x1024x256_S4x1024x32x1_S4x1024x32x256_3_1_0_0_1_3_11256 (res_main_v28 V) (res_main_call4_v5 V) (ix4 b n j x) = _
  rw [gather_at _ _ b n j x (nb V b n j) hi, v28_at]

theorem v56_at (b : Fin 4) (n : Fin 1024) (j : Fin 32) (h : 0 < Nat.count (nearOf V b n) 1024) : (res_main_v56 V : FVec Ideal S4x1024x32x1 .f32) (ix4 b n j 0) = mean 128 c128 (rel V b n j) := by
  unfold res_main_v56
  clean_types
  pointwise
  simp only [v52_at V _ _ _ _ h]
  rfl

theorem v58_at (b : Fin 4) (n : Fin 1024) (j : Fin 32) (c : Fin 128) (h : 0 < Nat.count (nearOf V b n) 1024) :
    (res_main_v58 V : FVec Ideal S4x1024x32x128 .f32) (ix4 b n j c) = rel V b n j c - mean 128 c128 (rel V b n j) := by
  unfold res_main_v58
  clean_types
  pointwise
  rw [v52_at V _ _ _ _ h, v56_at V _ _ _ h]

/-- A pair's features after the second layer. -/
def pair (b : Fin 4) (n : Fin 1024) (j : Fin 32) (c : Fin 128) : EReal := normA 128 c128 cEps (rel V b n j) (fun k => rG2 V (ix1 k)) (fun k => rBe2 V (ix1 k)) c

theorem v77_at (b : Fin 4) (n : Fin 1024) (j : Fin 32) (c : Fin 128) (hn : 0 < Nat.count (nearOf V b n) 1024) :
    (res_main_v77 V : FVec Ideal S4x1024x32x128 .f32) (ix4 b n j c) = pair V b n j c := by
  obtain ⟨e, he, h⟩ := ofBits_eps
  unfold pair
  rw [show cEps = (e : EReal) from h, show c128 = ((128 : ℝ) : EReal) from ofBits_128, ← normB_eq 128 e (by norm_num) he, ← ofBits_128, ← h]
  unfold res_main_v77
  clean_types
  pointwise
  simp only [v52_at V _ _ _ _ hn, v56_at V _ _ _ hn, v58_at V _ _ _ _ hn]
  rfl

/-- What the reference leaves as its result. -/
def refOut : FVec Ideal S4x1024x256 .f32 :=
  concatenate S4x1024x256 2 [⟨S4x1024x128, (Host.divf (Host.reduceAdd (res_main_v77 V) (constant S_ .f32 0x00000000#32) reducesTo_S4x1024x32x128_S4x1024x128_d2 h_S_) (broadcastInDim S4x1024x128 ![] bcast_S_S4x1024x128 (constant S_ .f32 0x42000000#32)))⟩, ⟨S4x1024x128, (Host.reduce FloatOps.maximumf (res_main_v77 V) (constant S_ .f32 0xFF800000#32) reducesTo_S4x1024x32x128_S4x1024x128_d2 h_S_)⟩] concatenates_S4x1024x128_S4x1024x128_S4x1024x256_d2

theorem refOut_at (b : Fin 4) (n : Fin 1024) (c : Fin 256) (hn : 0 < Nat.count (nearOf V b n) 1024) :
    refOut V (ix3 b n c)
      = if h : c.val < 128 then Ideal.div (∑ j : Fin 32, pair V b n j ⟨c.val, h⟩) c32
        else Finset.univ.fold max cBot fun j : Fin 32 => pair V b n j ⟨c.val - 128, by omega⟩ := by
  unfold refOut
  clean_types
  pointwise
  simp only [v77_at V _ _ _ _ hn]

end Cert.Query

end
-- ==== Proof.Wild.lean ====
/- Rows with infinite entries: the norm of such a row does not depend on the row, and the two forms of the projection
   are infinite together. -/
module

public import proofs.«01_k».proof.Proof.Row

@[expose] public section

noncomputable section

namespace Cert.Query

open Idealize.ShloMosaic

/-- An infinite number. -/
def Wild (x : EReal) : Prop := x = ⊤ ∨ x = ⊥

theorem wild_add (a b : EReal) : Wild (a + b) ↔ Wild a ∨ Wild b := by
  unfold Wild
  induction a <;> induction b <;> simp [← EReal.coe_add]

theorem wild_neg (a : EReal) : Wild (-a) ↔ Wild a := by
  unfold Wild
  induction a <;> simp [← EReal.coe_neg]

theorem wild_sub (a b : EReal) : Wild (a - b) ↔ Wild a ∨ Wild b := by
  rw [sub_eq_add_neg, wild_add, wild_neg]

theorem wild_sum {N : ℕ} (f : Fin N → EReal) (k : Fin N) (h : Wild (f k)) : Wild (∑ k, f k) := by
  rw [← Finset.add_sum_erase _ _ (Finset.mem_univ k), wild_add]
  exact Or.inl h

theorem wild_top_mul (a : EReal) (h : a ≠ 0) : Wild (⊤ * a) := by
  unfold Wild
  induction a with
  | bot => simp
  | top => simp
  | coe r =>
    have hr : r ≠ 0 := fun e => h (by rw [e]; rfl)
    rcases lt_or_gt_of_ne hr with h | h
    · exact Or.inr (EReal.top_mul_coe_of_neg h)
    · exact Or.inl (EReal.top_mul_coe_of_pos h)

theorem wild_bot_mul (a : EReal) (h : a ≠ 0) : Wild (⊥ * a) := by
  rw [show (⊥ : EReal) = -⊤ from rfl, neg_mul, wild_neg]
  exact wild_top_mul a h

/-- The norm of a row with an infinite entry: zero times the scale, plus the shift. -/
theorem normA_wild (c e : ℝ) (hc : 0 < c) (N : ℕ) (h g be : Fin N → EReal) (j k : Fin N) (hj : Wild (h j)) :
    normA N c e h g be k = max (0 * g k + be k) 0 := by
  rcases vari_cases N c hc h with hv | ⟨v, -, -, hS⟩
  · unfold normA
    rw [hv, EReal.top_add_coe, Ideal.rsqrt_top, mul_zero]
  · exfalso
    have hk : (h j - mean N c h) * (h j - mean N c h) ≠ ⊤ := fun ht => hS (top_le_iff.mp (ht ▸
      Finset.single_le_sum (f := fun x => (h x - mean N c h) * (h x - mean N c h)) (fun _ _ => sq_nonneg' _) (Finset.mem_univ j)))
    have hd := (wild_sub (h j) (mean N c h)).mpr (Or.inl hj)
    rcases hd with hd | hd <;> rw [hd] at hk <;> simp at hk

/-- Rows that agree, entry by entry, or are infinite together have one norm. -/
theorem normA_same (c e : ℝ) (hc : 0 < c) (N : ℕ) (h h' g be : Fin N → EReal) (hh : ∀ k, h k = h' k ∨ Wild (h k) ∧ Wild (h' k)) (k : Fin N) :
    normA N c e h g be k = normA N c e h' g be k := by
  by_cases hj : ∃ j, Wild (h j) ∧ Wild (h' j)
  · obtain ⟨j, h1, h2⟩ := hj
    rw [normA_wild c e hc N h g be j k h1, normA_wild c e hc N h' g be j k h2]
  · rw [show h = h' from funext fun k => (hh k).resolve_right fun hw => hj ⟨k, hw⟩]

/-- With a real scale the norm is infinite where the shift is, and elsewhere a real, not negative. -/
theorem normA_cases (c e : ℝ) (hc : 0 < c) (he : 0 < e) (N : ℕ) (h g be : Fin N → EReal) (k : Fin N) (hg : ∃ r : ℝ, g k = r) :
    if be k = ⊤ then normA N c e h g be k = ⊤ else ∃ r : ℝ, 0 ≤ r ∧ normA N c e h g be k = r := by
  obtain ⟨a, ha⟩ := scaled_real c e hc he N h k
  obtain ⟨g', hg⟩ := hg
  unfold normA
  rw [ha, hg, ← EReal.coe_mul]
  generalize be k = z
  induction z with
  | bot => rw [if_neg (by simp)]; exact ⟨0, le_rfl, by simp⟩
  | top => rw [if_pos rfl, EReal.coe_add_top]; simp
  | coe b' =>
    rw [if_neg (EReal.coe_ne_top b')]
    refine ⟨max (a * g' + b') 0, le_max_right _ _, ?_⟩
    push_cast
    rfl

/-- The two forms of the projection, where the rows may be infinite together: equal, or both infinite. -/
theorem proj_or {N : ℕ} (X Y A B : Fin N → EReal) (b : EReal)
    (hXY : ∀ k, X k = ⊤ ∧ Y k = ⊤ ∨ (∃ r : ℝ, 0 ≤ r ∧ X k = r) ∧ ∃ r : ℝ, 0 ≤ r ∧ Y k = r) (hB : ∀ k, ∃ r : ℝ, B k = r) :
    (∑ k, X k * (A k + B k) + b) - ∑ k, Y k * B k = ∑ k, X k * A k + ∑ k, (X k - Y k) * B k + b
      ∨ Wild ((∑ k, X k * (A k + B k) + b) - ∑ k, Y k * B k) ∧ Wild (∑ k, X k * A k + ∑ k, (X k - Y k) * B k + b) := by
  by_cases hT : ∃ k, (X k = ⊤ ∧ Y k = ⊤) ∧ (A k ≠ 0 ∨ B k ≠ 0)
  · obtain ⟨k, ⟨hX, hY⟩, hAB⟩ := hT
    right
    by_cases hb : B k = 0
    · have hA : A k ≠ 0 := hAB.resolve_right (not_not.mpr hb)
      refine ⟨(wild_sub _ _).mpr (Or.inl ((wild_add _ _).mpr (Or.inl (wild_sum _ k ?_)))),
        (wild_add _ _).mpr (Or.inl ((wild_add _ _).mpr (Or.inl (wild_sum _ k ?_))))⟩
      · rw [hX, hb, add_zero]; exact wild_top_mul _ hA
      · rw [hX]; exact wild_top_mul _ hA
    · refine ⟨(wild_sub _ _).mpr (Or.inr (wild_sum _ k ?_)), (wild_add _ _).mpr (Or.inl ((wild_add _ _).mpr (Or.inr (wild_sum _ k ?_))))⟩
      · rw [hY]; exact wild_top_mul _ hb
      · rw [hX, hY, show (⊤ : EReal) - ⊤ = ⊥ from rfl]; exact wild_bot_mul _ hb
  · left
    have h0 : ∀ k, X k = ⊤ → Y k = ⊤ → A k = 0 ∧ B k = 0 := fun k hX hY => by
      by_contra hn
      exact hT ⟨k, ⟨hX, hY⟩, by by_contra h; exact hn ⟨by by_contra hA; exact h (Or.inl hA), by by_contra hB; exact h (Or.inr hB)⟩⟩
    classical
    have key := proj (fun k => if X k = ⊤ ∧ Y k = ⊤ then 0 else X k) (fun k => if X k = ⊤ ∧ Y k = ⊤ then 0 else Y k) A B b
      (fun k => by
        by_cases h : X k = ⊤ ∧ Y k = ⊤
        · rw [if_pos h]; exact ⟨0, le_rfl, rfl⟩
        · rw [if_neg h]; exact ((hXY k).resolve_left h).1)
      (fun k => by
        by_cases h : X k = ⊤ ∧ Y k = ⊤
        · rw [if_pos h]; exact ⟨0, le_rfl, rfl⟩
        · rw [if_neg h]; exact ((hXY k).resolve_left h).2) hB
    have t1 : ∀ k, (if X k = ⊤ ∧ Y k = ⊤ then 0 else X k) * (A k + B k) = X k * (A k + B k) := fun k => by
      by_cases h : X k = ⊤ ∧ Y k = ⊤
      · rw [if_pos h, (h0 k h.1 h.2).1, (h0 k h.1 h.2).2]; simp
      · rw [if_neg h]
    have t2 : ∀ k, (if X k = ⊤ ∧ Y k = ⊤ then 0 else Y k) * B k = Y k * B k := fun k => by
      by_cases h : X k = ⊤ ∧ Y k = ⊤
      · rw [if_pos h, (h0 k h.1 h.2).2]; simp
      · rw [if_neg h]
    have t3 : ∀ k, (if X k = ⊤ ∧ Y k = ⊤ then 0 else X k) * A k = X k * A k := fun k => by
      by_cases h : X k = ⊤ ∧ Y k = ⊤
      · rw [if_pos h, (h0 k h.1 h.2).1]; simp
      · rw [if_neg h]
    have t4 : ∀ k, ((if X k = ⊤ ∧ Y k = ⊤ then 0 else X k) - (if X k = ⊤ ∧ Y k = ⊤ then 0 else Y k)) * B k = (X k - Y k) * B k := fun k => by
      by_cases h : X k = ⊤ ∧ Y k = ⊤
      · rw [(h0 k h.1 h.2).2]; simp
      · rw [if_neg h, if_neg h]
    simp only [t1, t2, t3, t4] at key
    exact key

end Cert.Query

end
-- ==== Proof.Values.lean ====
/- The kernel's result, index by index, in the terms of the reference's values. -/
module

public import proofs.«01_k».proof.Proof.Arrays
public import proofs.«01_k».proof.Proof.HostAt
public import proofs.«01_k».proof.Proof.RefAt
public import proofs.«01_k».proof.Proof.Wild

@[expose] public section

set_option maxRecDepth 16384

noncomputable section

namespace Cert.Query

open Cert.KernelIdeal Cert.KernelIdeal.Gen
open Idealize.ShloMosaic
open Idealize.ShloMosaic.TcCoe
open Idealize.ShloMosaic.StableHlo (after)

/-! ## The two TensorCore calls, from their operands -/

section Calls

variable (v : Vals (F := Ideal))

abbrev kFeat : FVec Ideal S4x1024x512 .f32 := v main_arg0
abbrev kW1 : FVec Ideal S512x256 .f32 := v main_arg3
abbrev kB1 : FVec Ideal S256 .f32 := v main_arg4
abbrev kG1 : FVec Ideal S256 .f32 := v main_arg5
abbrev kBe1 : FVec Ideal S256 .f32 := v main_arg6
abbrev kWzy : FVec Ideal S256x256 .f32 := v main_v3
abbrev kBzy : FVec Ideal S256 .f32 := v main_v5
abbrev kZ : FVec Ideal S4096x128 .f32 := v main_v8
abbrev kRows : FVec Ideal S131072x128 .f32 := v main_v12
abbrev kG2 : FVec Ideal S128 .f32 := v main_arg9
abbrev kBe2 : FVec Ideal S128 .f32 := v main_arg10

theorem embedArr_at (b : Fin 4) (n : Fin 1024) (k : Fin 256) :
    embedArr v (ix3 b n k)
      = ∑ x : Fin 256, normA 256 c256 cEps (fun k => ∑ y : Fin 512, kFeat v (ix3 b n y) * kW1 v (ix2 y k) + kB1 v (ix1 k)) (fun k => kG1 v (ix1 k)) (fun k => kBe1 v (ix1 k)) x * kWzy v (ix2 x k) + kBzy v (ix1 k) := by
  show embedOf (blk0_0 v (point0 b)) (blk0_1 v (point0 b)) (blk0_2 v (point0 b)) (blk0_3 v (point0 b)) (blk0_4 v (point0 b)) (blk0_5 v (point0 b)) (blk0_6 v (point0 b)) (ix3 0 n k) = _
  rw [embed_at, read0_1, read0_2, read0_3, read0_4, read0_5, read0_6]
  simp only [read0_0]

theorem poolArr_at (q : Fin 4096) (c : Fin 256) :
    poolArr v (ix2 q c)
      = if h : c.val < 128 then
          Ideal.div (∑ j : Fin 32, normA 128 c128 cEps (fun k => kZ v (ix2 q k) - kRows v (ix2 ⟨q.val * 32 + j.val, by omega⟩ k)) (fun k => kG2 v (ix1 k)) (fun k => kBe2 v (ix1 k)) ⟨c.val, h⟩) c32
        else
          Finset.univ.fold max cBot fun j : Fin 32 =>
            normA 128 c128 cEps (fun k => kZ v (ix2 q k) - kRows v (ix2 ⟨q.val * 32 + j.val, by omega⟩ k)) (fun k => kG2 v (ix1 k)) (fun k => kBe2 v (ix1 k)) ⟨c.val - 128, by omega⟩ := by
  obtain ⟨t, r, hq⟩ : ∃ (t : Fin 32) (r : Fin 128), q.val = t.val * 128 + r.val :=
    ⟨⟨q.val / 128, by omega⟩, ⟨q.val % 128, by omega⟩, by show q.val = q.val / 128 * 128 + q.val % 128; omega⟩
  have ht : ∀ h, point2 ⟨q.val / 128, h⟩ = point2 t := fun h => congrArg point2 (Fin.ext (by show q.val / 128 = _; omega))
  have hr : ∀ h, (⟨q.val % 128, h⟩ : Fin 128) = r := fun h => Fin.ext (by show q.val % 128 = _; omega)
  have e : poolArr v (ix2 q c) = poolOf (blk2_0 v (point2 t)) (blk2_1 v (point2 t)) (blk2_2 v (point2 t)) (blk2_3 v (point2 t)) (ix2 r c) := by
    have key : ∀ s, s = point2 t → ∀ r', r' = r →
        poolOf (blk2_0 v s) (blk2_1 v s) (blk2_2 v s) (blk2_3 v s) (ix2 r' c) = poolOf (blk2_0 v (point2 t)) (blk2_1 v (point2 t)) (blk2_2 v (point2 t)) (blk2_3 v (point2 t)) (ix2 r c) := by
      rintro _ rfl _ rfl; rfl
    exact key _ (ht (by omega)) _ (hr (by omega))
  have hz : ∀ k : Fin 128, blk2_0 v (point2 t) (ix2 r k) = kZ v (ix2 q k) := fun k => by
    rw [read2_0]
    exact congrArg (fun p => kZ v (ix2 p k)) (Fin.ext hq.symm)
  have hg : ∀ (j : Fin 32) (k : Fin 128) (h), blk2_1 v (point2 t) (ix2 ⟨r.val * 32 + j.val, h⟩ k) = kRows v (ix2 ⟨q.val * 32 + j.val, by omega⟩ k) := fun j k h => by
    rw [read2_1]
    exact congrArg (fun p => kRows v (ix2 p k)) (Fin.ext (by show t.val * 4096 + (r.val * 32 + j.val) = q.val * 32 + j.val; omega))
  rw [e, pool_at, read2_2, read2_3]
  simp only [hz, hg]

end Calls

/-- The gathered row, by batch, query and neighbour. -/
theorem gath_at (dis : FVec Ideal S4096x1024 .f32) (fy : FVec Ideal S4096x128 .f32) (b : Fin 4) (n : Fin 1024) (j : Fin 32) (k : Fin 128) (D : Fin 1024 → Ideal .f32)
    (hD : ∀ k, dis (ix2 ⟨b.val * 1024 + n.val, by omega⟩ k) = D k) :
    gathG dis fy (ix2 ⟨(b.val * 1024 + n.val) * 32 + j.val, by omega⟩ k)
      = fy (ix2 ⟨b.val * 1024 + sel (near (F := Ideal) D) j.val, by have := sel_lt (near (F := Ideal) D) j.val; omega⟩ k) := by
  unfold gathG
  congr 1
  have hdiv : ((b.val * 1024 + n.val) * 32 + j.val) / 32 = b.val * 1024 + n.val := by omega
  have hrow : ∀ h : ((b.val * 1024 + n.val) * 32 + j.val) / 32 < 4096,
      (fun k => dis (cell (a := 4096) (b := 1024) ⟨((b.val * 1024 + n.val) * 32 + j.val) / 32, h⟩ k)) = D := fun h => by
    funext k
    rw [← hD k]
    congr 1
    funext a
    match a with
    | ⟨0, _⟩ => exact Fin.ext hdiv
    | ⟨1, _⟩ => rfl
  funext a
  match a with
  | ⟨0, _⟩ =>
    apply Fin.ext
    have key : ∀ D' : Fin 1024 → Ideal .f32, D' = D → ∀ i, i = j.val →
        1024 * (((b.val * 1024 + n.val) * 32 + j.val) / 32 / 1024) + sel (near D') i = b.val * 1024 + sel (near D) j.val := by
      rintro _ rfl _ rfl; omega
    exact key _ (hrow (by omega)) _ (by show ((b.val * 1024 + n.val) * 32 + j.val) % 32 = j.val; omega)
  | ⟨1, _⟩ => rfl

/-! ## The kernel's arrays -/

/-- The two programs are launched on the same arguments. -/
structure Agree (m : (ℓ : Loc nD τ sig) → Buf (Elt Ideal) ℓ) (d : Dev nD) (V : Valuation Cert.ReferenceIdeal.τ Cert.ReferenceIdeal.sig (Elt Ideal)) : Prop where
  feat : m (d, Proc.devRef .tc main_arg0) = rFeat V
  dis : m (d, Proc.devRef .tc main_arg2) = rDis V
  w1 : m (d, Proc.devRef .tc main_arg3) = rW1 V
  b1 : m (d, Proc.devRef .tc main_arg4) = rB1 V
  g1 : m (d, Proc.devRef .tc main_arg5) = rG1 V
  be1 : m (d, Proc.devRef .tc main_arg6) = rBe1 V
  w2 : m (d, Proc.devRef .tc main_arg7) = rW2 V
  b2 : m (d, Proc.devRef .tc main_arg8) = rB2 V
  g2 : m (d, Proc.devRef .tc main_arg9) = rG2 V
  be2 : m (d, Proc.devRef .tc main_arg10) = rBe2 V

variable (m : (ℓ : Loc nD τ sig) → Buf (Elt Ideal) ℓ) (d : Dev nD) (V : Valuation Cert.ReferenceIdeal.τ Cert.ReferenceIdeal.sig (Elt Ideal))

include V in
theorem atB_at (h : Agree m d V) (b : Fin 4) (n : Fin 1024) (k : Fin 256) :
    atB m d (Proc.devRef .tc main_v6) (ix3 b n k)
      = ∑ x : Fin 256, feat V b n x * kWzy (vals (atA m d)) (ix2 x k) + kBzy (vals (atA m d)) (ix1 k) := by
  unfold atB
  rw [put_self, arr0, embedArr_at]
  have e0 : kFeat (vals (atA m d)) = rFeat V := (atA_keeps m d main_arg0 (by decide)).trans h.feat
  have e3 : kW1 (vals (atA m d)) = rW1 V := (atA_keeps m d main_arg3 (by decide)).trans h.w1
  have e4 : kB1 (vals (atA m d)) = rB1 V := (atA_keeps m d main_arg4 (by decide)).trans h.b1
  have e5 : kG1 (vals (atA m d)) = rG1 V := (atA_keeps m d main_arg5 (by decide)).trans h.g1
  have e6 : kBe1 (vals (atA m d)) = rBe1 V := (atA_keeps m d main_arg6 (by decide)).trans h.be1
  rw [e0, e3, e4, e5, e6]
  rfl

/-- A query's own part of the projection. -/
theorem z_at (h : Agree m d V) (b : Fin 4) (n : Fin 1024) (k : Fin 128) :
    kZ (vals (atC m d)) (ix2 ⟨b.val * 1024 + n.val, by omega⟩ k)
      = ∑ x : Fin 256, feat V b n x * (rW2 V (ix2 ⟨x.val, by omega⟩ k) + rW2 V (ix2 ⟨256 + x.val, by omega⟩ k)) + rB2 V (ix1 k) := by
  have e7 : kW2 (StableHlo.launchContents m d) = rW2 V := h.w2
  show atC m d (Proc.devRef .tc main_v8) _ = _
  unfold atC
  rw [hostB_left, atB_at m d V h]
  have hw : ∀ x : Fin 256, kWzy (vals (atA m d)) (ix2 x ⟨k.val, by omega⟩) = rW2 V (ix2 ⟨x.val, by omega⟩ k) + rW2 V (ix2 ⟨256 + x.val, by omega⟩ k) := fun x => by
    rw [← e7]; exact hostA_left _ x k _
  have hb : kBzy (vals (atA m d)) (ix1 ⟨k.val, by omega⟩) = rB2 V (ix1 k) :=
    (hostA_bias_left _ k _).trans (congrFun h.b2 (ix1 k))
  simp only [hw, hb]

/-- A neighbour's part. -/
theorem y_at (h : Agree m d V) (b : Fin 4) (n : Fin 1024) (k : Fin 128) :
    atC m d (Proc.devRef .tc main_v10) (ix2 ⟨b.val * 1024 + n.val, by omega⟩ k)
      = ∑ x : Fin 256, feat V b n x * rW2 V (ix2 ⟨256 + x.val, by omega⟩ k) := by
  have e7 : kW2 (StableHlo.launchContents m d) = rW2 V := h.w2
  unfold atC
  rw [hostB_right, atB_at m d V h]
  have hw : ∀ x : Fin 256, kWzy (vals (atA m d)) (ix2 x ⟨128 + k.val, by omega⟩) = rW2 V (ix2 ⟨256 + x.val, by omega⟩ k) := fun x => by
    rw [← e7]; exact hostA_right _ x k _
  have hb : kBzy (vals (atA m d)) (ix1 ⟨128 + k.val, by omega⟩) = 0 := hostA_bias_right _ k _
  simp only [hw, hb, add_zero]

theorem dis_at (h : Agree m d V) (b : Fin 4) (n k : Fin 1024) :
    atC m d (Proc.devRef .tc main_v11) (ix2 ⟨b.val * 1024 + n.val, by omega⟩ k) = rDis V (ix3 b n k) := by
  unfold atC
  rw [hostB_dis]
  exact congrFun ((atB_keeps m d main_arg2 (by decide)).trans h.dis) (ix3 b n k)

/-- The row gathered for a neighbour of a query. -/
theorem rows_at (h : Agree m d V) (b : Fin 4) (n : Fin 1024) (j : Fin 32) (k : Fin 128) :
    kRows (vals (atD m d)) (ix2 ⟨(b.val * 1024 + n.val) * 32 + j.val, by omega⟩ k)
      = ∑ x : Fin 256, feat V b (nb V b n j) x * rW2 V (ix2 ⟨256 + x.val, by omega⟩ k) := by
  show atD m d (Proc.devRef .tc main_v12) _ = _
  unfold atD
  rw [put_self]
  unfold rowsOf
  rw [gath_at _ _ b n j k (fun k => rDis V (ix3 b n k)) fun k => dis_at m d V h b n k]
  exact y_at m d V h b (nb V b n j) k

/-- What the kernel takes the norm of, for a pair, is what the reference does, or both are infinite. -/
theorem rel_at (h : Agree m d V) (hg : ∀ k : Fin 256, ∃ r : ℝ, rG1 V (ix1 k) = (r : EReal))
    (hw : ∀ (x : Fin 256) (k : Fin 128), ∃ r : ℝ, rW2 V (ix2 ⟨256 + x.val, by omega⟩ k) = (r : EReal))
    (b : Fin 4) (n : Fin 1024) (j : Fin 32) (k : Fin 128) :
    kZ (vals (atD m d)) (ix2 ⟨b.val * 1024 + n.val, by omega⟩ k) - kRows (vals (atD m d)) (ix2 ⟨(b.val * 1024 + n.val) * 32 + j.val, by omega⟩ k) = rel V b n j k
      ∨ Wild (kZ (vals (atD m d)) (ix2 ⟨b.val * 1024 + n.val, by omega⟩ k) - kRows (vals (atD m d)) (ix2 ⟨(b.val * 1024 + n.val) * 32 + j.val, by omega⟩ k))
        ∧ Wild (rel V b n j k) := by
  have e8 : kZ (vals (atD m d)) = kZ (vals (atC m d)) := put_ne' _ _ _ (by decide)
  obtain ⟨e, he, hE⟩ := ofBits_eps
  have hf : ∀ b n x, if rBe1 V (ix1 x) = (⊤ : EReal) then feat V b n x = ⊤ else ∃ r : ℝ, 0 ≤ r ∧ feat V b n x = (r : EReal) := fun b n x => by
    unfold feat
    rw [show cEps = (e : EReal) from hE, show c256 = ((256 : ℝ) : EReal) from ofBits_256]
    exact normA_cases 256 e (by norm_num) he 256 (dense V b n) (fun k => rG1 V (ix1 k)) (fun k => rBe1 V (ix1 k)) x (hg x)
  rw [e8, z_at m d V h, rows_at m d V h]
  refine proj_or _ _ _ _ _ (fun x => ?_) fun x => hw x k
  have h1 := hf b n x
  have h2 := hf b (nb V b n j) x
  by_cases ht : rBe1 V (ix1 x) = (⊤ : EReal)
  · rw [if_pos ht] at h1 h2; exact Or.inl ⟨h1, h2⟩
  · rw [if_neg ht] at h1 h2; exact Or.inr ⟨h1, h2⟩

/-- So the norms of the pair agree. -/
theorem pair_at (h : Agree m d V) (hg : ∀ k : Fin 256, ∃ r : ℝ, rG1 V (ix1 k) = (r : EReal))
    (hw : ∀ (x : Fin 256) (k : Fin 128), ∃ r : ℝ, rW2 V (ix2 ⟨256 + x.val, by omega⟩ k) = (r : EReal))
    (b : Fin 4) (n : Fin 1024) (j : Fin 32) (c : Fin 128) :
    normA 128 c128 cEps (fun k => kZ (vals (atD m d)) (ix2 ⟨b.val * 1024 + n.val, by omega⟩ k) - kRows (vals (atD m d)) (ix2 ⟨(b.val * 1024 + n.val) * 32 + j.val, by omega⟩ k))
        (fun k => rG2 V (ix1 k)) (fun k => rBe2 V (ix1 k)) c
      = pair V b n j c := by
  obtain ⟨e, he, hE⟩ := ofBits_eps
  unfold pair
  rw [show cEps = (e : EReal) from hE, show c128 = ((128 : ℝ) : EReal) from ofBits_128]
  exact normA_same 128 e (by norm_num) _ _ _ _ _ (fun k => rel_at m d V h hg hw b n j k) c

/-- The kernel's result is the reference's. -/
theorem out_at (h : Agree m d V) (hg : ∀ k : Fin 256, ∃ r : ℝ, rG1 V (ix1 k) = (r : EReal))
    (hw : ∀ (x : Fin 256) (k : Fin 128), ∃ r : ℝ, rW2 V (ix2 ⟨256 + x.val, by omega⟩ k) = (r : EReal))
    (b : Fin 4) (n : Fin 1024) (hn : 0 < Nat.count (nearOf V b n) 1024) (c : Fin 256) :
    atF m d (Proc.devRef .tc main_v14) (ix3 b n c) = refOut V (ix3 b n c) := by
  have e9 : kG2 (vals (atD m d)) = rG2 V := (atD_keeps m d main_arg9 (by decide)).trans h.g2
  have e10 : kBe2 (vals (atD m d)) = rBe2 V := (atD_keeps m d main_arg10 (by decide)).trans h.be2
  unfold atF
  rw [hostC_at]
  unfold atE
  rw [put_self, arr2, poolArr_at, refOut_at V b n c hn, e9, e10]
  simp only [pair_at m d V h hg hw]

end Cert.Query

end
-- ==== Proof.Precond.lean ====
/- What the precondition says: every row of distances has an entry within the radius, and the first norm's scale and
   the lower part of the second layer's weights are reals. -/
module

public import proofs.«01_k».proof.Proof.Consts
public import proofs.«01_k».proof.Pre_real_and_near
public import proofs.«01_k».proof.Proof.Gen.Pre_real_and_near
public import Idealize.ShloMosaic.Lib.Pointwise
public import Idealize.ShloMosaic.Lib.ReduceAll
public import Idealize.ShloMosaic.Lib.Routing.OpsOrder
public import Idealize.ShloMosaic.Lib.Tactic.CleanTypes

@[expose] public section

set_option maxRecDepth 16384

noncomputable section

namespace Cert.Query

open Cert.Pre_real_and_near Cert.Pre_real_and_near.Facts
open Idealize.ShloMosaic

attribute [local instance] Cert.Pre_real_and_near.Gen.facts

/-- A number whose magnitude is below infinity is a real. -/
theorem real_of_abs_lt (x : EReal) (h : BitVec.ofBool (decide (max x (-x) < Ideal.ofBits .f32 0x7F800000#32)) = 1#1) : ∃ r : ℝ, x = r := by
  rw [ofBits_inf] at h
  have h' : max x (-x) < ⊤ := by
    by_contra hn
    rw [decide_eq_false hn] at h
    exact absurd h (by decide)
  rw [max_lt_iff] at h'
  induction x with
  | bot => simp at h'
  | top => simp at h'
  | coe r => exact ⟨r, rfl⟩

theorem ori_at (x : IVec S4x1024x1024 1) (b : Fin 4) (n : Fin 1024)
    (h : Host.reduce IntOp.ori x (constantI S_ 1 0#1) reducesTo_S4x1024x1024_S4x1024_d2 h_S_ (ix2 b n) = 1#1) : ∃ k : Fin 1024, x (ix3 b n k) = 1#1 := by
  revert h
  pointwise
  intro h
  obtain ⟨k, _, hk⟩ := (Routing.fold_ori _ _).1 h
  exact ⟨k, hk⟩

theorem pre_reads (a0 : FVec Ideal S4x1024x512 .f32) (a1 : FVec Ideal S4x1024x3 .f32) (a2 : FVec Ideal S4x1024x1024 .f32) (a3 : FVec Ideal S512x256 .f32)
    (a4 a5 a6 : FVec Ideal S256 .f32) (a7 : FVec Ideal S512x128 .f32) (a8 a9 a10 : FVec Ideal S128 .f32)
    (h : fn (F := Ideal) a0 a1 a2 a3 a4 a5 a6 a7 a8 a9 a10 = fun _ => 1#1) :
    (∀ (b : Fin 4) (n : Fin 1024), ∃ k : Fin 1024, (a2 (ix3 b n k) : EReal) ≤ Ideal.ofBits .f32 0x3D04B5DD#32)
      ∧ (∀ k : Fin 256, ∃ r : ℝ, (a5 (ix1 k) : EReal) = r)
      ∧ ∀ (x : Fin 256) (k : Fin 128), ∃ r : ℝ, (a7 (ix2 ⟨256 + x.val, by omega⟩ k) : EReal) = r := by
  have hall : ∀ (b : Fin 4) (n : Fin 1024), _ := fun b n => IntOp.andi_eq_one.1 (congrFun h (ix2 b n))
  have hr := IntOp.andi_eq_one.1 (hall 0 0).2
  refine ⟨fun b n => ?_, fun k => ?_, fun x k => ?_⟩
  · obtain ⟨k, hk⟩ := ori_at _ b n (hall b n).1
    refine ⟨k, ?_⟩
    have hk' : BitVec.ofBool (decide ((a2 (ix3 b n k) : EReal) ≤ Ideal.ofBits .f32 0x3D04B5DD#32)) = 1#1 := hk
    by_contra hn
    rw [decide_eq_false hn] at hk'
    exact absurd hk' (by decide)
  · exact real_of_abs_lt _ (Host.reduce_andi_all _ _ _ _ _ hr.1 (ix1 k))
  · have e := Host.reduce_andi_all _ _ _ _ _ hr.2 (ix2 x k)
    revert e
    pointwise
    exact fun e => real_of_abs_lt _ e

end Cert.Query

end
-- ==== Proof.Algebra.lean ====
/- Over the extended reals, the kernel and the reference leave the same result. -/
module

public import proofs.«01_k».proof.Proof.Frames
public import proofs.«01_k».proof.Proof.Values
public import proofs.«01_k».proof.Proof.Precond

@[expose] public section

noncomputable section

namespace Cert.Query

open Idealize.ShloMosaic Idealize.SL.Sem
open Cert.KernelIdeal

attribute [local instance] Cert.Kernel.Gen.facts Cert.KernelIdeal.Gen.facts Cert.ReferenceIdeal.Gen.facts Cert.Pre_real_and_near.Gen.facts

/-- A row with an entry within the radius counts one at least. -/
theorem count_pos (V : Valuation Cert.ReferenceIdeal.τ Cert.ReferenceIdeal.sig (Elt Ideal)) (b : Fin 4) (n k : Fin 1024)
    (h : (rDis V (ix3 b n k) : EReal) ≤ Ideal.ofBits .f32 0x3D04B5DD#32) : 0 < Nat.count (nearOf V b n) 1024 := by
  have hk : nearOf V b n k.val := (near_iff V b n k).mpr (not_lt.mpr h)
  have h1 : Nat.count (nearOf V b n) (k.val + 1) = Nat.count (nearOf V b n) k.val + 1 := by rw [Nat.count_succ, if_pos hk]
  have h2 : Nat.count (nearOf V b n) (k.val + 1) ≤ Nat.count (nearOf V b n) 1024 := Nat.count_monotone _ k.isLt
  omega

/-- Under the precondition, the results of two launches on the same arguments agree. -/
theorem out_eq (m : (ℓ : Loc nD τ sig) → Buf (Elt Ideal) ℓ) (d : Dev nD) (V : Valuation Cert.ReferenceIdeal.τ Cert.ReferenceIdeal.sig (Elt Ideal))
    (hpre : Cert.Pre_KernelIdeal_real_and_near m) (h : Agree m d V) : atF m d (Proc.devRef .tc main_v14) = refOut V := by
  obtain ⟨hd, hg, hw⟩ := pre_reads _ _ _ _ _ _ _ _ _ _ _ (hpre d)
  funext i
  obtain ⟨b, n, c, rfl⟩ : ∃ (b : Fin 4) (n : Fin 1024) (c : Fin 256), i = ix3 b n c := ⟨i 0, i 1, i 2, by
    funext a
    match a with
    | ⟨0, _⟩ => rfl
    | ⟨1, _⟩ => rfl
    | ⟨2, _⟩ => rfl⟩
  obtain ⟨k, hk⟩ := hd b n
  exact out_at m d V h (fun k => by rw [← h.g1]; exact hg k) (fun x k => by rw [← h.w2]; exact hw x k) b n
    (count_pos V b n k (by rw [← h.dis]; exact hk)) c

/-- The value claim. -/
theorem algebra : Cert.algebraic_KernelIdeal_ReferenceIdeal_pre_real_and_near := fun m g m' g' hpre hargs => by
  have hagree : ∀ c : Dev nD, Agree m c (StableHlo.launchContents m' c) := fun c => by
    obtain ⟨h0, _, h2, h3, h4, h5, h6, h7, h8, h9, h10⟩ := hargs c
    exact ⟨h0.symm, h2.symm, h3.symm, h4.symm, h5.symm, h6.symm, h7.symm, h8.symm, h9.symm, h10.symm⟩
  refine ⟨fun c => refOut (StableHlo.launchContents m' c), ?_, ?_⟩
  · exact (θ_run defs _ _).mono (fun r h c => ⟨(h.1 c main_v14 rfl).trans (out_eq m c _ hpre (hagree c)),
      arg_kept m r.2.mem h.1 c main_arg0 rfl (by decide), arg_kept m r.2.mem h.1 c main_arg1 rfl (by decide),
      arg_kept m r.2.mem h.1 c main_arg2 rfl (by decide), arg_kept m r.2.mem h.1 c main_arg3 rfl (by decide),
      arg_kept m r.2.mem h.1 c main_arg4 rfl (by decide), arg_kept m r.2.mem h.1 c main_arg5 rfl (by decide),
      arg_kept m r.2.mem h.1 c main_arg6 rfl (by decide), arg_kept m r.2.mem h.1 c main_arg7 rfl (by decide),
      arg_kept m r.2.mem h.1 c main_arg8 rfl (by decide), arg_kept m r.2.mem h.1 c main_arg9 rfl (by decide),
      arg_kept m r.2.mem h.1 c main_arg10 rfl (by decide)⟩) (run_main m g)
  · exact Cert.ReferenceIdeal.Value.run (F := Ideal) m' g'

end Cert.Query

end
-- ==== Proof.lean ====
/- The claim: the frames of the kernel bit for bit, of the kernel over the extended reals and of the
   reference (Proof/Frames.lean); the idealization rewrote nothing; over the extended reals the kernel and the
   reference leave the same result (Proof/Algebra.lean). -/
module

public import proofs.«01_k».proof.Defs
public import proofs.«01_k».proof.Proof.Frames
public import proofs.«01_k».proof.Proof.Algebra
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_real_and_near
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_real_and_near.Gen.facts,
  Cert.Query.frame_kernel, Cert.Query.frame_ideal, fun m ρ _ => Cert.Query.frame_ideal m ρ trivial,
  Cert.Query.frame_reference, fun m ρ _ => Cert.Query.frame_reference m ρ trivial, trivial, Cert.Query.algebra⟩

end Cert.Proof

end
